-- ==== Defs.lean ====
def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InLn (m : (ℓ : Loc Cert.InLn.nD Cert.InLn.τ Cert.InLn.sig) → Buf (Elt Bits) ℓ) : Prop :=
  True

def Pre_InLnIdeal (m : (ℓ : Loc Cert.InLnIdeal.nD Cert.InLnIdeal.τ Cert.InLnIdeal.sig) → Buf (Elt Ideal) ℓ) : Prop :=
  True

def Pre_InLnRefIdeal (m : (ℓ : Loc Cert.InLnRefIdeal.nD Cert.InLnRefIdeal.τ Cert.InLnRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamBAda (m : (ℓ : Loc Cert.AdamBAda.nD Cert.AdamBAda.τ Cert.AdamBAda.sig) → Buf (Elt Bits) ℓ) : Prop :=
  True

def Pre_AdamBAdaIdeal (m : (ℓ : Loc Cert.AdamBAdaIdeal.nD Cert.AdamBAdaIdeal.τ Cert.AdamBAdaIdeal.sig) → Buf (Elt Ideal) ℓ) : Prop :=
  True

def Pre_AdamBAdaRefIdeal (m : (ℓ : Loc Cert.AdamBAdaRefIdeal.nD Cert.AdamBAdaRefIdeal.τ Cert.AdamBAdaRefIdeal.sig) → Buf (Elt Ideal) ℓ) : Prop :=
  True

def Pre_AdamBIn (m : (ℓ : Loc Cert.AdamBIn.nD Cert.AdamBIn.τ Cert.AdamBIn.sig) → Buf (Elt Bits) ℓ) : Prop :=
  True

def Pre_AdamBInIdeal (m : (ℓ : Loc Cert.AdamBInIdeal.nD Cert.AdamBInIdeal.τ Cert.AdamBInIdeal.sig) → Buf (Elt Ideal) ℓ) : Prop :=
  True

def Pre_AdamBInRefIdeal (m : (ℓ : Loc Cert.AdamBInRefIdeal.nD Cert.AdamBInRefIdeal.τ Cert.AdamBInRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamLam (m : (ℓ : Loc Cert.AdamLam.nD Cert.AdamLam.τ Cert.AdamLam.sig) → Buf (Elt Bits) ℓ) : Prop :=
  True

def Pre_AdamLamIdeal (m : (ℓ : Loc Cert.AdamLamIdeal.nD Cert.AdamLamIdeal.τ Cert.AdamLamIdeal.sig) → Buf (Elt Ideal) ℓ) : Prop :=
  True

def Pre_AdamLamRefIdeal (m : (ℓ : Loc Cert.AdamLamRefIdeal.nD Cert.AdamLamRefIdeal.τ Cert.AdamLamRefIdeal.sig) → Buf (Elt Ideal) ℓ) : Prop :=
  True

def Pre_AdamDt (m : (ℓ : Loc Cert.AdamDt.nD Cert.AdamDt.τ Cert.AdamDt.sig) → Buf (Elt Bits) ℓ) : Prop :=
  True

def Pre_AdamDtIdeal (m : (ℓ : Loc Cert.AdamDtIdeal.nD Cert.AdamDtIdeal.τ Cert.AdamDtIdeal.sig) → Buf (Elt Ideal) ℓ) : Prop :=
  True

def Pre_AdamDtRefIdeal (m : (ℓ : Loc Cert.AdamDtRefIdeal.nD Cert.AdamDtRefIdeal.τ Cert.AdamDtRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnRefIdeal (m : (ℓ : Loc Cert.AdamLnRefIdeal.nD Cert.AdamLnRefIdeal.τ Cert.AdamLnRefIdeal.sig) → Buf (Elt Ideal) ℓ) : Prop :=
  True

def Pre_AdamSc (m : (ℓ : Loc Cert.AdamSc.nD Cert.AdamSc.τ Cert.AdamSc.sig) → Buf (Elt Bits) ℓ) : Prop :=
  True

def Pre_AdamScIdeal (m : (ℓ : Loc Cert.AdamScIdeal.nD Cert.AdamScIdeal.τ Cert.AdamScIdeal.sig) → Buf (Elt Ideal) ℓ) : Prop :=
  True

def Pre_AdamScRefIdeal (m : (ℓ : Loc Cert.AdamScRefIdeal.nD Cert.AdamScRefIdeal.τ Cert.AdamScRefIdeal.sig) → Buf (Elt Ideal) ℓ) : Prop :=
  True

def Pre_AdamCf (m : (ℓ : Loc Cert.AdamCf.nD Cert.AdamCf.τ Cert.AdamCf.sig) → Buf (Elt Bits) ℓ) : Prop :=
  True

def Pre_AdamCfIdeal (m : (ℓ : Loc Cert.AdamCfIdeal.nD Cert.AdamCfIdeal.τ Cert.AdamCfIdeal.sig) → Buf (Elt Ideal) ℓ) : Prop :=
  True

def Pre_AdamCfRefIdeal (m : (ℓ : Loc Cert.AdamCfRefIdeal.nD Cert.AdamCfRefIdeal.τ Cert.AdamCfRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_SumGateRefIdeal (m : (ℓ : Loc Cert.SumGateRefIdeal.nD Cert.SumGateRefIdeal.τ Cert.SumGateRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_GateUp0 (m : (ℓ : Loc Cert.GateUp0.nD Cert.GateUp0.τ Cert.GateUp0.sig) → Buf (Elt Bits) ℓ) : Prop :=
  True

def Pre_GateUp0Ideal (m : (ℓ : Loc Cert.GateUp0Ideal.nD Cert.GateUp0Ideal.τ Cert.GateUp0Ideal.sig) → Buf (Elt Ideal) ℓ) : Prop :=
  True

def Pre_GateUp0RefIdeal (m : (ℓ : Loc Cert.GateUp0RefIdeal.nD Cert.GateUp0RefIdeal.τ Cert.GateUp0RefIdeal.sig) → Buf (Elt Ideal) ℓ) : Prop :=
  True

def Pre_GateUp1 (m : (ℓ : Loc Cert.GateUp1.nD Cert.GateUp1.τ Cert.GateUp1.sig) → Buf (Elt Bits) ℓ) : Prop :=
  True

def Pre_GateUp1Ideal (m : (ℓ : Loc Cert.GateUp1Ideal.nD Cert.GateUp1Ideal.τ Cert.GateUp1Ideal.sig) → Buf (Elt Ideal) ℓ) : Prop :=
  True

def Pre_GateUp1RefIdeal (m : (ℓ : Loc Cert.GateUp1RefIdeal.nD Cert.GateUp1RefIdeal.τ Cert.GateUp1RefIdeal.sig) → Buf (Elt Ideal) ℓ) : Prop :=
  True

def Pre_GateUp2 (m : (ℓ : Loc Cert.GateUp2.nD Cert.GateUp2.τ Cert.GateUp2.sig) → Buf (Elt Bits) ℓ) : Prop :=
  True

def Pre_GateUp2Ideal (m : (ℓ : Loc Cert.GateUp2Ideal.nD Cert.GateUp2Ideal.τ Cert.GateUp2Ideal.sig) → Buf (Elt Ideal) ℓ) : Prop :=
  True

def Pre_GateUp2RefIdeal (m : (ℓ : Loc Cert.GateUp2RefIdeal.nD Cert.GateUp2RefIdeal.τ Cert.GateUp2RefIdeal.sig) → Buf (Elt Ideal) ℓ) : Prop :=
  True

def Pre_GateUp3 (m : (ℓ : Loc Cert.GateUp3.nD Cert.GateUp3.τ Cert.GateUp3.sig) → Buf (Elt Bits) ℓ) : Prop :=
  True

def Pre_GateUp3Ideal (m : (ℓ : Loc Cert.GateUp3Ideal.nD Cert.GateUp3Ideal.τ Cert.GateUp3Ideal.sig) → Buf (Elt Ideal) ℓ) : Prop :=
  True

def Pre_GateUp3RefIdeal (m : (ℓ : Loc Cert.GateUp3RefIdeal.nD Cert.GateUp3RefIdeal.τ Cert.GateUp3RefIdeal.sig) → Buf (Elt Ideal) ℓ) : Prop :=
  True

def Pre_DownLn0 (m : (ℓ : Loc Cert.DownLn0.nD Cert.DownLn0.τ Cert.DownLn0.sig) → Buf (Elt Bits) ℓ) : Prop :=
  True

def Pre_DownLn0Ideal (m : (ℓ : Loc Cert.DownLn0Ideal.nD Cert.DownLn0Ideal.τ Cert.DownLn0Ideal.sig) → Buf (Elt Ideal) ℓ) : Prop :=
  True

def Pre_DownLn0RefIdeal (m : (ℓ : Loc Cert.DownLn0RefIdeal.nD Cert.DownLn0RefIdeal.τ Cert.DownLn0RefIdeal.sig) → Buf (Elt Ideal) ℓ) : Prop :=
  True

def Pre_DownLn1 (m : (ℓ : Loc Cert.DownLn1.nD Cert.DownLn1.τ Cert.DownLn1.sig) → Buf (Elt Bits) ℓ) : Prop :=
  True

def Pre_DownLn1Ideal (m : (ℓ : Loc Cert.DownLn1Ideal.nD Cert.DownLn1Ideal.τ Cert.DownLn1Ideal.sig) → Buf (Elt Ideal) ℓ) : Prop :=
  True

def Pre_DownLn1RefIdeal (m : (ℓ : Loc Cert.DownLn1RefIdeal.nD Cert.DownLn1RefIdeal.τ Cert.DownLn1RefIdeal.sig) → Buf (Elt Ideal) ℓ) : Prop :=
  True

def Pre_DownLn2 (m : (ℓ : Loc Cert.DownLn2.nD Cert.DownLn2.τ Cert.DownLn2.sig) → Buf (Elt Bits) ℓ) : Prop :=
  True

def Pre_DownLn2Ideal (m : (ℓ : Loc Cert.DownLn2Ideal.nD Cert.DownLn2Ideal.τ Cert.DownLn2Ideal.sig) → Buf (Elt Ideal) ℓ) : Prop :=
  True

def Pre_DownLn2RefIdeal (m : (ℓ : Loc Cert.DownLn2RefIdeal.nD Cert.DownLn2RefIdeal.τ Cert.DownLn2RefIdeal.sig) → Buf (Elt Ideal) ℓ) : Prop :=
  True

def Pre_DownLn3 (m : (ℓ : Loc Cert.DownLn3.nD Cert.DownLn3.τ Cert.DownLn3.sig) → Buf (Elt Bits) ℓ) : Prop :=
  True

def Pre_DownLn3Ideal (m : (ℓ : Loc Cert.DownLn3Ideal.nD Cert.DownLn3Ideal.τ Cert.DownLn3Ideal.sig) → Buf (Elt Ideal) ℓ) : Prop :=
  True

def Pre_DownLn3RefIdeal (m : (ℓ : Loc Cert.DownLn3RefIdeal.nD Cert.DownLn3RefIdeal.τ Cert.DownLn3RefIdeal.sig) → Buf (Elt Ideal) ℓ) : Prop :=
  True

def Pre_OutLn0 (m : (ℓ : Loc Cert.OutLn0.nD Cert.OutLn0.τ Cert.OutLn0.sig) → Buf (Elt Bits) ℓ) : Prop :=
  True

def Pre_OutLn0Ideal (m : (ℓ : Loc Cert.OutLn0Ideal.nD Cert.OutLn0Ideal.τ Cert.OutLn0Ideal.sig) → Buf (Elt Ideal) ℓ) : Prop :=
  True

def Pre_OutLn0RefIdeal (m : (ℓ : Loc Cert.OutLn0RefIdeal.nD Cert.OutLn0RefIdeal.τ Cert.OutLn0RefIdeal.sig) → Buf (Elt Ideal) ℓ) : Prop :=
  True

def Pre_OutLn1 (m : (ℓ : Loc Cert.OutLn1.nD Cert.OutLn1.τ Cert.OutLn1.sig) → Buf (Elt Bits) ℓ) : Prop :=
  True

def Pre_OutLn1Ideal (m : (ℓ : Loc Cert.OutLn1Ideal.nD Cert.OutLn1Ideal.τ Cert.OutLn1Ideal.sig) → Buf (Elt Ideal) ℓ) : Prop :=
  True

def Pre_OutLn1RefIdeal (m : (ℓ : Loc Cert.OutLn1RefIdeal.nD Cert.OutLn1RefIdeal.τ Cert.OutLn1RefIdeal.sig) → Buf (Elt Ideal) ℓ) : Prop :=
  True

def Pre_OutLn2 (m : (ℓ : Loc Cert.OutLn2.nD Cert.OutLn2.τ Cert.OutLn2.sig) → Buf (Elt Bits) ℓ) : Prop :=
  True

def Pre_OutLn2Ideal (m : (ℓ : Loc Cert.OutLn2Ideal.nD Cert.OutLn2Ideal.τ Cert.OutLn2Ideal.sig) → Buf (Elt Ideal) ℓ) : Prop :=
  True

def Pre_OutLn2RefIdeal (m : (ℓ : Loc Cert.OutLn2RefIdeal.nD Cert.OutLn2RefIdeal.τ Cert.OutLn2RefIdeal.sig) → Buf (Elt Ideal) ℓ) : Prop :=
  True

def Pre_OutLn3 (m : (ℓ : Loc Cert.OutLn3.nD Cert.OutLn3.τ Cert.OutLn3.sig) → Buf (Elt Bits) ℓ) : Prop :=
  True

def Pre_OutLn3Ideal (m : (ℓ : Loc Cert.OutLn3Ideal.nD Cert.OutLn3Ideal.τ Cert.OutLn3Ideal.sig) → Buf (Elt Ideal) ℓ) : Prop :=
  True

def Pre_OutLn3RefIdeal (m : (ℓ : Loc Cert.OutLn3RefIdeal.nD Cert.OutLn3RefIdeal.τ Cert.OutLn3RefIdeal.sig) → Buf (Elt Ideal) ℓ) : Prop :=
  True

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4))
      ∧ r.2.sem = fun _ => 0)

def quiescent_InLn [hInLn : Cert.InLn.Facts] : Prop :=
  ∀ (m : (ℓ : Loc Cert.InLn.nD Cert.InLn.τ Cert.InLn.sig) → Buf (Elt Bits) ℓ) (g : Dev Cert.InLn.nD → PrngReg), Pre_InLn m →
    θ_run (Cert.InLn.defs (F := Bits)) (onTc (τ := Cert.InLn.τ) (Cert.InLn.main (F := Bits))) ⟨m, fun _ => 0, g⟩ (fun r => (∀ c : Dev Cert.InLn.nD,
      r.2.mem ((c.tc : Thread Cert.InLn.nD Cert.InLn.τ).loc Cert.InLn.main_arg0) = m ((c.tc : Thread Cert.InLn.nD Cert.InLn.τ).loc Cert.InLn.main_arg0)
      ∧ r.2.mem ((c.tc : Thread Cert.InLn.nD Cert.InLn.τ).loc Cert.InLn.main_arg1) = m ((c.tc : Thread Cert.InLn.nD Cert.InLn.τ).loc Cert.InLn.main_arg1)
      ∧ r.2.mem ((c.tc : Thread Cert.InLn.nD Cert.InLn.τ).loc Cert.InLn.main_arg2) = m ((c.tc : Thread Cert.InLn.nD Cert.InLn.τ).loc Cert.InLn.main_arg2)
      ∧ r.2.mem ((c.tc : Thread Cert.InLn.nD Cert.InLn.τ).loc Cert.InLn.main_arg3) = m ((c.tc : Thread Cert.InLn.nD Cert.InLn.τ).loc Cert.InLn.main_arg3)
      ∧ r.2.mem ((c.tc : Thread Cert.InLn.nD Cert.InLn.τ).loc Cert.InLn.main_arg4) = m ((c.tc : Thread Cert.InLn.nD Cert.InLn.τ).loc Cert.InLn.main_arg4)
      ∧ r.2.mem ((c.tc : Thread Cert.InLn.nD Cert.InLn.τ).loc Cert.InLn.main_arg5) = m ((c.tc : Thread Cert.InLn.nD Cert.InLn.τ).loc Cert.InLn.main_arg5)
      ∧ r.2.mem ((c.tc : Thread Cert.InLn.nD Cert.InLn.τ).loc Cert.InLn.main_arg6) = m ((c.tc : Thread Cert.InLn.nD Cert.InLn.τ).loc Cert.InLn.main_arg6)
      ∧ r.2.mem ((c.tc : Thread Cert.InLn.nD Cert.InLn.τ).loc Cert.InLn.main_arg7) = m ((c.tc : Thread Cert.InLn.nD Cert.InLn.τ).loc Cert.InLn.main_arg7))
      ∧ r.2.sem = fun _ => 0)

def quiescent_InLnIdeal [hInLnIdeal : Cert.InLnIdeal.Facts] : Prop :=
  ∀ (m : (ℓ : Loc Cert.InLnIdeal.nD Cert.InLnIdeal.τ Cert.InLnIdeal.sig) → Buf (Elt Ideal) ℓ) (g : Dev Cert.InLnIdeal.nD → PrngReg), Pre_InLnIdeal m →
    θ_run (Cert.InLnIdeal.defs (F := Ideal)) (onTc (τ := Cert.InLnIdeal.τ) (Cert.InLnIdeal.main (F := Ideal))) ⟨m, fun _ => 0, g⟩ (fun r => (∀ c : Dev Cert.InLnIdeal.nD,
      r.2.mem ((c.tc : Thread Cert.InLnIdeal.nD Cert.InLnIdeal.τ).loc Cert.InLnIdeal.main_arg0) = m ((c.tc : Thread Cert.InLnIdeal.nD Cert.InLnIdeal.τ).loc Cert.InLnIdeal.main_arg0)
      ∧ r.2.mem ((c.tc : Thread Cert.InLnIdeal.nD Cert.InLnIdeal.τ).loc Cert.InLnIdeal.main_arg1) = m ((c.tc : Thread Cert.InLnIdeal.nD Cert.InLnIdeal.τ).loc Cert.InLnIdeal.main_arg1)
      ∧ r.2.mem ((c.tc : Thread Cert.InLnIdeal.nD Cert.InLnIdeal.τ).loc Cert.InLnIdeal.main_arg2) = m ((c.tc : Thread Cert.InLnIdeal.nD Cert.InLnIdeal.τ).loc Cert.InLnIdeal.main_arg2)
      ∧ r.2.mem ((c.tc : Thread Cert.InLnIdeal.nD Cert.InLnIdeal.τ).loc Cert.InLnIdeal.main_arg3) = m ((c.tc : Thread Cert.InLnIdeal.nD Cert.InLnIdeal.τ).loc Cert.InLnIdeal.main_arg3)
      ∧ r.2.mem ((c.tc : Thread Cert.InLnIdeal.nD Cert.InLnIdeal.τ).loc Cert.InLnIdeal.main_arg4) = m ((c.tc : Thread Cert.InLnIdeal.nD Cert.InLnIdeal.τ).loc Cert.InLnIdeal.main_arg4)
      ∧ r.2.mem ((c.tc : Thread Cert.InLnIdeal.nD Cert.InLnIdeal.τ).loc Cert.InLnIdeal.main_arg5) = m ((c.tc : Thread Cert.InLnIdeal.nD Cert.InLnIdeal.τ).loc Cert.InLnIdeal.main_arg5)
      ∧ r.2.mem ((c.tc : Thread Cert.InLnIdeal.nD Cert.InLnIdeal.τ).loc Cert.InLnIdeal.main_arg6) = m ((c.tc : Thread Cert.InLnIdeal.nD Cert.InLnIdeal.τ).loc Cert.InLnIdeal.main_arg6)
      ∧ r.2.mem ((c.tc : Thread Cert.InLnIdeal.nD Cert.InLnIdeal.τ).loc Cert.InLnIdeal.main_arg7) = m ((c.tc : Thread Cert.InLnIdeal.nD Cert.InLnIdeal.τ).loc Cert.InLnIdeal.main_arg7))
      ∧ r.2.sem = fun _ => 0)

def quiescent_InLnRefIdeal [hInLnRefIdeal : Cert.InLnRefIdeal.Facts] : Prop :=
  ∀ (m : (ℓ : Loc Cert.InLnRefIdeal.nD Cert.InLnRefIdeal.τ Cert.InLnRefIdeal.sig) → Buf (Elt Ideal) ℓ) (g : Dev Cert.InLnRefIdeal.nD → PrngReg), Pre_InLnRefIdeal m →
    θ_run (Cert.InLnRefIdeal.defs (F := Ideal)) (onTc (τ := Cert.InLnRefIdeal.τ) (Cert.InLnRefIdeal.main (F := Ideal))) ⟨m, fun _ => 0, g⟩ (fun r => (∀ c : Dev Cert.InLnRefIdeal.nD,
      r.2.mem ((c.tc : Thread Cert.InLnRefIdeal.nD Cert.InLnRefIdeal.τ).loc Cert.InLnRefIdeal.main_arg0) = m ((c.tc : Thread Cert.InLnRefIdeal.nD Cert.InLnRefIdeal.τ).loc Cert.InLnRefIdeal.main_arg0)
      ∧ r.2.mem ((c.tc : Thread Cert.InLnRefIdeal.nD Cert.InLnRefIdeal.τ).loc Cert.InLnRefIdeal.main_arg1) = m ((c.tc : Thread Cert.InLnRefIdeal.nD Cert.InLnRefIdeal.τ).loc Cert.InLnRefIdeal.main_arg1)
      ∧ r.2.mem ((c.tc : Thread Cert.InLnRefIdeal.nD Cert.InLnRefIdeal.τ).loc Cert.InLnRefIdeal.main_arg2) = m ((c.tc : Thread Cert.InLnRefIdeal.nD Cert.InLnRefIdeal.τ).loc Cert.InLnRefIdeal.main_arg2)
      ∧ r.2.mem ((c.tc : Thread Cert.InLnRefIdeal.nD Cert.InLnRefIdeal.τ).loc Cert.InLnRefIdeal.main_arg3) = m ((c.tc : Thread Cert.InLnRefIdeal.nD Cert.InLnRefIdeal.τ).loc Cert.InLnRefIdeal.main_arg3)
      ∧ r.2.mem ((c.tc : Thread Cert.InLnRefIdeal.nD Cert.InLnRefIdeal.τ).loc Cert.InLnRefIdeal.main_arg4) = m ((c.tc : Thread Cert.InLnRefIdeal.nD Cert.InLnRefIdeal.τ).loc Cert.InLnRefIdeal.main_arg4)
      ∧ r.2.mem ((c.tc : Thread Cert.InLnRefIdeal.nD Cert.InLnRefIdeal.τ).loc Cert.InLnRefIdeal.main_arg5) = m ((c.tc : Thread Cert.InLnRefIdeal.nD Cert.InLnRefIdeal.τ).loc Cert.InLnRefIdeal.main_arg5)
      ∧ r.2.mem ((c.tc : Thread Cert.InLnRefIdeal.nD Cert.InLnRefIdeal.τ).loc Cert.InLnRefIdeal.main_arg6) = m ((c.tc : Thread Cert.InLnRefIdeal.nD Cert.InLnRefIdeal.τ).loc Cert.InLnRefIdeal.main_arg6)
      ∧ r.2.mem ((c.tc : Thread Cert.InLnRefIdeal.nD Cert.InLnRefIdeal.τ).loc Cert.InLnRefIdeal.main_arg7) = m ((c.tc : Thread Cert.InLnRefIdeal.nD Cert.InLnRefIdeal.τ).loc Cert.InLnRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamBAda [hAdamBAda : Cert.AdamBAda.Facts] : Prop :=
  ∀ (m : (ℓ : Loc Cert.AdamBAda.nD Cert.AdamBAda.τ Cert.AdamBAda.sig) → Buf (Elt Bits) ℓ) (g : Dev Cert.AdamBAda.nD → PrngReg), Pre_AdamBAda m →
    θ_run (Cert.AdamBAda.defs (F := Bits)) (onTc (τ := Cert.AdamBAda.τ) (Cert.AdamBAda.main (F := Bits))) ⟨m, fun _ => 0, g⟩ (fun r => (∀ c : Dev Cert.AdamBAda.nD,
      r.2.mem ((c.tc : Thread Cert.AdamBAda.nD Cert.AdamBAda.τ).loc Cert.AdamBAda.main_arg0) = m ((c.tc : Thread Cert.AdamBAda.nD Cert.AdamBAda.τ).loc Cert.AdamBAda.main_arg0)
      ∧ r.2.mem ((c.tc : Thread Cert.AdamBAda.nD Cert.AdamBAda.τ).loc Cert.AdamBAda.main_arg1) = m ((c.tc : Thread Cert.AdamBAda.nD Cert.AdamBAda.τ).loc Cert.AdamBAda.main_arg1)
      ∧ r.2.mem ((c.tc : Thread Cert.AdamBAda.nD Cert.AdamBAda.τ).loc Cert.AdamBAda.main_arg2) = m ((c.tc : Thread Cert.AdamBAda.nD Cert.AdamBAda.τ).loc Cert.AdamBAda.main_arg2)
      ∧ r.2.mem ((c.tc : Thread Cert.AdamBAda.nD Cert.AdamBAda.τ).loc Cert.AdamBAda.main_arg3) = m ((c.tc : Thread Cert.AdamBAda.nD Cert.AdamBAda.τ).loc Cert.AdamBAda.main_arg3))
      ∧ r.2.sem = fun _ => 0)

def quiescent_AdamBAdaIdeal [hAdamBAdaIdeal : Cert.AdamBAdaIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg), Pre_AdamBAdaIdeal m →
    θ_run (Cert.AdamBAdaIdeal.defs (F := Ideal)) (onTc (τ := Cert.AdamBAdaIdeal.τ) (Cert.AdamBAdaIdeal.main (F := Ideal))) ⟨m, fun _ => 0, g⟩ (fun r => (∀ c : Dev Cert.AdamBAdaIdeal.nD,
      r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
      ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
      ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
      ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ r.2.sem = fun _ => 0)

def quiescent_AdamBAdaRefIdeal [hAdamBAdaRefIdeal : Cert.AdamBAdaRefIdeal.Facts] : Prop :=
  ∀ (m : (ℓ : Loc Cert.AdamBAdaRefIdeal.nD Cert.AdamBAdaRefIdeal.τ Cert.AdamBAdaRefIdeal.sig) → Buf (Elt Ideal) ℓ) (g : Dev Cert.AdamBAdaRefIdeal.nD → PrngReg), Pre_AdamBAdaRefIdeal m →
    θ_run (Cert.AdamBAdaRefIdeal.defs (F := Ideal)) (onTc (τ := Cert.AdamBAdaRefIdeal.τ) (Cert.AdamBAdaRefIdeal.main (F := Ideal))) ⟨m, fun _ => 0, g⟩ (fun r => (∀ c : Dev Cert.AdamBAdaRefIdeal.nD,
      r.2.mem ((c.tc : Thread Cert.AdamBAdaRefIdeal.nD Cert.AdamBAdaRefIdeal.τ).loc Cert.AdamBAdaRefIdeal.main_arg0) = m ((c.tc : Thread Cert.AdamBAdaRefIdeal.nD Cert.AdamBAdaRefIdeal.τ).loc Cert.AdamBAdaRefIdeal.main_arg0)
      ∧ r.2.mem ((c.tc : Thread Cert.AdamBAdaRefIdeal.nD Cert.AdamBAdaRefIdeal.τ).loc Cert.AdamBAdaRefIdeal.main_arg1) = m ((c.tc : Thread Cert.AdamBAdaRefIdeal.nD Cert.AdamBAdaRefIdeal.τ).loc Cert.AdamBAdaRefIdeal.main_arg1)
      ∧ r.2.mem ((c.tc : Thread Cert.AdamBAdaRefIdeal.nD Cert.AdamBAdaRefIdeal.τ).loc Cert.AdamBAdaRefIdeal.main_arg2) = m ((c.tc : Thread Cert.AdamBAdaRefIdeal.nD Cert.AdamBAdaRefIdeal.τ).loc Cert.AdamBAdaRefIdeal.main_arg2)
      ∧ r.2.mem ((c.tc : Thread Cert.AdamBAdaRefIdeal.nD Cert.AdamBAdaRefIdeal.τ).loc Cert.AdamBAdaRefIdeal.main_arg3) = m ((c.tc : Thread Cert.AdamBAdaRefIdeal.nD Cert.AdamBAdaRefIdeal.τ).loc Cert.AdamBAdaRefIdeal.main_arg3))
      ∧ r.2.sem = fun _ => 0)

def quiescent_AdamBIn [hAdamBIn : Cert.AdamBIn.Facts] : Prop :=
  ∀ (m : (ℓ : Loc Cert.AdamBIn.nD Cert.AdamBIn.τ Cert.AdamBIn.sig) → Buf (Elt Bits) ℓ) (g : Dev Cert.AdamBIn.nD → PrngReg), Pre_AdamBIn m →
    θ_run (Cert.AdamBIn.defs (F := Bits)) (onTc (τ := Cert.AdamBIn.τ) (Cert.AdamBIn.main (F := Bits))) ⟨m, fun _ => 0, g⟩ (fun r => (∀ c : Dev Cert.AdamBIn.nD,
      r.2.mem ((c.tc : Thread Cert.AdamBIn.nD Cert.AdamBIn.τ).loc Cert.AdamBIn.main_arg0) = m ((c.tc : Thread Cert.AdamBIn.nD Cert.AdamBIn.τ).loc Cert.AdamBIn.main_arg0)
      ∧ r.2.mem ((c.tc : Thread Cert.AdamBIn.nD Cert.AdamBIn.τ).loc Cert.AdamBIn.main_arg1) = m ((c.tc : Thread Cert.AdamBIn.nD Cert.AdamBIn.τ).loc Cert.AdamBIn.main_arg1)
      ∧ r.2.mem ((c.tc : Thread Cert.AdamBIn.nD Cert.AdamBIn.τ).loc Cert.AdamBIn.main_arg2) = m ((c.tc : Thread Cert.AdamBIn.nD Cert.AdamBIn.τ).loc Cert.AdamBIn.main_arg2)
      ∧ r.2.mem ((c.tc : Thread Cert.AdamBIn.nD Cert.AdamBIn.τ).loc Cert.AdamBIn.main_arg3) = m ((c.tc : Thread Cert.AdamBIn.nD Cert.AdamBIn.τ).loc Cert.AdamBIn.main_arg3))
      ∧ r.2.sem = fun _ => 0)

def quiescent_AdamBInIdeal [hAdamBInIdeal : Cert.AdamBInIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg), Pre_AdamBInIdeal m →
    θ_run (Cert.AdamBInIdeal.defs (F := Ideal)) (onTc (τ := Cert.AdamBInIdeal.τ) (Cert.AdamBInIdeal.main (F := Ideal))) ⟨m, fun _ => 0, g⟩ (fun r => (∀ c : Dev Cert.AdamBInIdeal.nD,
      r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
      ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
      ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
      ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ r.2.sem = fun _ => 0)

def quiescent_AdamBInRefIdeal [hAdamBInRefIdeal : Cert.AdamBInRefIdeal.Facts] : Prop :=
  ∀ (m : (ℓ : Loc Cert.AdamBInRefIdeal.nD Cert.AdamBInRefIdeal.τ Cert.AdamBInRefIdeal.sig) → Buf (Elt Ideal) ℓ) (g : Dev Cert.AdamBInRefIdeal.nD → PrngReg), Pre_AdamBInRefIdeal m →
    θ_run (Cert.AdamBInRefIdeal.defs (F := Ideal)) (onTc (τ := Cert.AdamBInRefIdeal.τ) (Cert.AdamBInRefIdeal.main (F := Ideal))) ⟨m, fun _ => 0, g⟩ (fun r => (∀ c : Dev Cert.AdamBInRefIdeal.nD,
      r.2.mem ((c.tc : Thread Cert.AdamBInRefIdeal.nD Cert.AdamBInRefIdeal.τ).loc Cert.AdamBInRefIdeal.main_arg0) = m ((c.tc : Thread Cert.AdamBInRefIdeal.nD Cert.AdamBInRefIdeal.τ).loc Cert.AdamBInRefIdeal.main_arg0)
      ∧ r.2.mem ((c.tc : Thread Cert.AdamBInRefIdeal.nD Cert.AdamBInRefIdeal.τ).loc Cert.AdamBInRefIdeal.main_arg1) = m ((c.tc : Thread Cert.AdamBInRefIdeal.nD Cert.AdamBInRefIdeal.τ).loc Cert.AdamBInRefIdeal.main_arg1)
      ∧ r.2.mem ((c.tc : Thread Cert.AdamBInRefIdeal.nD Cert.AdamBInRefIdeal.τ).loc Cert.AdamBInRefIdeal.main_arg2) = m ((c.tc : Thread Cert.AdamBInRefIdeal.nD Cert.AdamBInRefIdeal.τ).loc Cert.AdamBInRefIdeal.main_arg2)
      ∧ r.2.mem ((c.tc : Thread Cert.AdamBInRefIdeal.nD Cert.AdamBInRefIdeal.τ).loc Cert.AdamBInRefIdeal.main_arg3) = m ((c.tc : Thread Cert.AdamBInRefIdeal.nD Cert.AdamBInRefIdeal.τ).loc Cert.AdamBInRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamLam [hAdamLam : Cert.AdamLam.Facts] : Prop :=
  ∀ (m : (ℓ : Loc Cert.AdamLam.nD Cert.AdamLam.τ Cert.AdamLam.sig) → Buf (Elt Bits) ℓ) (g : Dev Cert.AdamLam.nD → PrngReg), Pre_AdamLam m →
    θ_run (Cert.AdamLam.defs (F := Bits)) (onTc (τ := Cert.AdamLam.τ) (Cert.AdamLam.main (F := Bits))) ⟨m, fun _ => 0, g⟩ (fun r => (∀ c : Dev Cert.AdamLam.nD,
      r.2.mem ((c.tc : Thread Cert.AdamLam.nD Cert.AdamLam.τ).loc Cert.AdamLam.main_arg0) = m ((c.tc : Thread Cert.AdamLam.nD Cert.AdamLam.τ).loc Cert.AdamLam.main_arg0)
      ∧ r.2.mem ((c.tc : Thread Cert.AdamLam.nD Cert.AdamLam.τ).loc Cert.AdamLam.main_arg1) = m ((c.tc : Thread Cert.AdamLam.nD Cert.AdamLam.τ).loc Cert.AdamLam.main_arg1)
      ∧ r.2.mem ((c.tc : Thread Cert.AdamLam.nD Cert.AdamLam.τ).loc Cert.AdamLam.main_arg2) = m ((c.tc : Thread Cert.AdamLam.nD Cert.AdamLam.τ).loc Cert.AdamLam.main_arg2)
      ∧ r.2.mem ((c.tc : Thread Cert.AdamLam.nD Cert.AdamLam.τ).loc Cert.AdamLam.main_arg3) = m ((c.tc : Thread Cert.AdamLam.nD Cert.AdamLam.τ).loc Cert.AdamLam.main_arg3))
      ∧ r.2.sem = fun _ => 0)

def quiescent_AdamLamIdeal [hAdamLamIdeal : Cert.AdamLamIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg), Pre_AdamLamIdeal m →
    θ_run (Cert.AdamLamIdeal.defs (F := Ideal)) (onTc (τ := Cert.AdamLamIdeal.τ) (Cert.AdamLamIdeal.main (F := Ideal))) ⟨m, fun _ => 0, g⟩ (fun r => (∀ c : Dev Cert.AdamLamIdeal.nD,
      r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
      ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
      ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
      ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ r.2.sem = fun _ => 0)

def quiescent_AdamLamRefIdeal [hAdamLamRefIdeal : Cert.AdamLamRefIdeal.Facts] : Prop :=
  ∀ (m : (ℓ : Loc Cert.AdamLamRefIdeal.nD Cert.AdamLamRefIdeal.τ Cert.AdamLamRefIdeal.sig) → Buf (Elt Ideal) ℓ) (g : Dev Cert.AdamLamRefIdeal.nD → PrngReg), Pre_AdamLamRefIdeal m →
    θ_run (Cert.AdamLamRefIdeal.defs (F := Ideal)) (onTc (τ := Cert.AdamLamRefIdeal.τ) (Cert.AdamLamRefIdeal.main (F := Ideal))) ⟨m, fun _ => 0, g⟩ (fun r => (∀ c : Dev Cert.AdamLamRefIdeal.nD,
      r.2.mem ((c.tc : Thread Cert.AdamLamRefIdeal.nD Cert.AdamLamRefIdeal.τ).loc Cert.AdamLamRefIdeal.main_arg0) = m ((c.tc : Thread Cert.AdamLamRefIdeal.nD Cert.AdamLamRefIdeal.τ).loc Cert.AdamLamRefIdeal.main_arg0)
      ∧ r.2.mem ((c.tc : Thread Cert.AdamLamRefIdeal.nD Cert.AdamLamRefIdeal.τ).loc Cert.AdamLamRefIdeal.main_arg1) = m ((c.tc : Thread Cert.AdamLamRefIdeal.nD Cert.AdamLamRefIdeal.τ).loc Cert.AdamLamRefIdeal.main_arg1)
      ∧ r.2.mem ((c.tc : Thread Cert.AdamLamRefIdeal.nD Cert.AdamLamRefIdeal.τ).loc Cert.AdamLamRefIdeal.main_arg2) = m ((c.tc : Thread Cert.AdamLamRefIdeal.nD Cert.AdamLamRefIdeal.τ).loc Cert.AdamLamRefIdeal.main_arg2)
      ∧ r.2.mem ((c.tc : Thread Cert.AdamLamRefIdeal.nD Cert.AdamLamRefIdeal.τ).loc Cert.AdamLamRefIdeal.main_arg3) = m ((c.tc : Thread Cert.AdamLamRefIdeal.nD Cert.AdamLamRefIdeal.τ).loc Cert.AdamLamRefIdeal.main_arg3))
      ∧ r.2.sem = fun _ => 0)

def quiescent_AdamDt [hAdamDt : Cert.AdamDt.Facts] : Prop :=
  ∀ (m : (ℓ : Loc Cert.AdamDt.nD Cert.AdamDt.τ Cert.AdamDt.sig) → Buf (Elt Bits) ℓ) (g : Dev Cert.AdamDt.nD → PrngReg), Pre_AdamDt m →
    θ_run (Cert.AdamDt.defs (F := Bits)) (onTc (τ := Cert.AdamDt.τ) (Cert.AdamDt.main (F := Bits))) ⟨m, fun _ => 0, g⟩ (fun r => (∀ c : Dev Cert.AdamDt.nD,
      r.2.mem ((c.tc : Thread Cert.AdamDt.nD Cert.AdamDt.τ).loc Cert.AdamDt.main_arg0) = m ((c.tc : Thread Cert.AdamDt.nD Cert.AdamDt.τ).loc Cert.AdamDt.main_arg0)
      ∧ r.2.mem ((c.tc : Thread Cert.AdamDt.nD Cert.AdamDt.τ).loc Cert.AdamDt.main_arg1) = m ((c.tc : Thread Cert.AdamDt.nD Cert.AdamDt.τ).loc Cert.AdamDt.main_arg1)
      ∧ r.2.mem ((c.tc : Thread Cert.AdamDt.nD Cert.AdamDt.τ).loc Cert.AdamDt.main_arg2) = m ((c.tc : Thread Cert.AdamDt.nD Cert.AdamDt.τ).loc Cert.AdamDt.main_arg2)
      ∧ r.2.mem ((c.tc : Thread Cert.AdamDt.nD Cert.AdamDt.τ).loc Cert.AdamDt.main_arg3) = m ((c.tc : Thread Cert.AdamDt.nD Cert.AdamDt.τ).loc Cert.AdamDt.main_arg3))
      ∧ r.2.sem = fun _ => 0)

def quiescent_AdamDtIdeal [hAdamDtIdeal : Cert.AdamDtIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg), Pre_AdamDtIdeal m →
    θ_run (Cert.AdamDtIdeal.defs (F := Ideal)) (onTc (τ := Cert.AdamDtIdeal.τ) (Cert.AdamDtIdeal.main (F := Ideal))) ⟨m, fun _ => 0, g⟩ (fun r => (∀ c : Dev Cert.AdamDtIdeal.nD,
      r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
      ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
      ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
      ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ r.2.sem = fun _ => 0)

def quiescent_AdamDtRefIdeal [hAdamDtRefIdeal : Cert.AdamDtRefIdeal.Facts] : Prop :=
  ∀ (m : (ℓ : Loc Cert.AdamDtRefIdeal.nD Cert.AdamDtRefIdeal.τ Cert.AdamDtRefIdeal.sig) → Buf (Elt Ideal) ℓ) (g : Dev Cert.AdamDtRefIdeal.nD → PrngReg), Pre_AdamDtRefIdeal m →
    θ_run (Cert.AdamDtRefIdeal.defs (F := Ideal)) (onTc (τ := Cert.AdamDtRefIdeal.τ) (Cert.AdamDtRefIdeal.main (F := Ideal))) ⟨m, fun _ => 0, g⟩ (fun r => (∀ c : Dev Cert.AdamDtRefIdeal.nD,
      r.2.mem ((c.tc : Thread Cert.AdamDtRefIdeal.nD Cert.AdamDtRefIdeal.τ).loc Cert.AdamDtRefIdeal.main_arg0) = m ((c.tc : Thread Cert.AdamDtRefIdeal.nD Cert.AdamDtRefIdeal.τ).loc Cert.AdamDtRefIdeal.main_arg0)
      ∧ r.2.mem ((c.tc : Thread Cert.AdamDtRefIdeal.nD Cert.AdamDtRefIdeal.τ).loc Cert.AdamDtRefIdeal.main_arg1) = m ((c.tc : Thread Cert.AdamDtRefIdeal.nD Cert.AdamDtRefIdeal.τ).loc Cert.AdamDtRefIdeal.main_arg1)
      ∧ r.2.mem ((c.tc : Thread Cert.AdamDtRefIdeal.nD Cert.AdamDtRefIdeal.τ).loc Cert.AdamDtRefIdeal.main_arg2) = m ((c.tc : Thread Cert.AdamDtRefIdeal.nD Cert.AdamDtRefIdeal.τ).loc Cert.AdamDtRefIdeal.main_arg2)
      ∧ r.2.mem ((c.tc : Thread Cert.AdamDtRefIdeal.nD Cert.AdamDtRefIdeal.τ).loc Cert.AdamDtRefIdeal.main_arg3) = m ((c.tc : Thread Cert.AdamDtRefIdeal.nD Cert.AdamDtRefIdeal.τ).loc Cert.AdamDtRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnRefIdeal [hAdamLnRefIdeal : Cert.AdamLnRefIdeal.Facts] : Prop :=
  ∀ (m : (ℓ : Loc Cert.AdamLnRefIdeal.nD Cert.AdamLnRefIdeal.τ Cert.AdamLnRefIdeal.sig) → Buf (Elt Ideal) ℓ) (g : Dev Cert.AdamLnRefIdeal.nD → PrngReg), Pre_AdamLnRefIdeal m →
    θ_run (Cert.AdamLnRefIdeal.defs (F := Ideal)) (onTc (τ := Cert.AdamLnRefIdeal.τ) (Cert.AdamLnRefIdeal.main (F := Ideal))) ⟨m, fun _ => 0, g⟩ (fun r => (∀ c : Dev Cert.AdamLnRefIdeal.nD,
      r.2.mem ((c.tc : Thread Cert.AdamLnRefIdeal.nD Cert.AdamLnRefIdeal.τ).loc Cert.AdamLnRefIdeal.main_arg0) = m ((c.tc : Thread Cert.AdamLnRefIdeal.nD Cert.AdamLnRefIdeal.τ).loc Cert.AdamLnRefIdeal.main_arg0)
      ∧ r.2.mem ((c.tc : Thread Cert.AdamLnRefIdeal.nD Cert.AdamLnRefIdeal.τ).loc Cert.AdamLnRefIdeal.main_arg1) = m ((c.tc : Thread Cert.AdamLnRefIdeal.nD Cert.AdamLnRefIdeal.τ).loc Cert.AdamLnRefIdeal.main_arg1)
      ∧ r.2.mem ((c.tc : Thread Cert.AdamLnRefIdeal.nD Cert.AdamLnRefIdeal.τ).loc Cert.AdamLnRefIdeal.main_arg2) = m ((c.tc : Thread Cert.AdamLnRefIdeal.nD Cert.AdamLnRefIdeal.τ).loc Cert.AdamLnRefIdeal.main_arg2)
      ∧ r.2.mem ((c.tc : Thread Cert.AdamLnRefIdeal.nD Cert.AdamLnRefIdeal.τ).loc Cert.AdamLnRefIdeal.main_arg3) = m ((c.tc : Thread Cert.AdamLnRefIdeal.nD Cert.AdamLnRefIdeal.τ).loc Cert.AdamLnRefIdeal.main_arg3))
      ∧ r.2.sem = fun _ => 0)

def quiescent_AdamSc [hAdamSc : Cert.AdamSc.Facts] : Prop :=
  ∀ (m : (ℓ : Loc Cert.AdamSc.nD Cert.AdamSc.τ Cert.AdamSc.sig) → Buf (Elt Bits) ℓ) (g : Dev Cert.AdamSc.nD → PrngReg), Pre_AdamSc m →
    θ_run (Cert.AdamSc.defs (F := Bits)) (onTc (τ := Cert.AdamSc.τ) (Cert.AdamSc.main (F := Bits))) ⟨m, fun _ => 0, g⟩ (fun r => (∀ c : Dev Cert.AdamSc.nD,
      r.2.mem ((c.tc : Thread Cert.AdamSc.nD Cert.AdamSc.τ).loc Cert.AdamSc.main_arg0) = m ((c.tc : Thread Cert.AdamSc.nD Cert.AdamSc.τ).loc Cert.AdamSc.main_arg0)
      ∧ r.2.mem ((c.tc : Thread Cert.AdamSc.nD Cert.AdamSc.τ).loc Cert.AdamSc.main_arg1) = m ((c.tc : Thread Cert.AdamSc.nD Cert.AdamSc.τ).loc Cert.AdamSc.main_arg1)
      ∧ r.2.mem ((c.tc : Thread Cert.AdamSc.nD Cert.AdamSc.τ).loc Cert.AdamSc.main_arg2) = m ((c.tc : Thread Cert.AdamSc.nD Cert.AdamSc.τ).loc Cert.AdamSc.main_arg2)
      ∧ r.2.mem ((c.tc : Thread Cert.AdamSc.nD Cert.AdamSc.τ).loc Cert.AdamSc.main_arg3) = m ((c.tc : Thread Cert.AdamSc.nD Cert.AdamSc.τ).loc Cert.AdamSc.main_arg3))
      ∧ r.2.sem = fun _ => 0)

def quiescent_AdamScIdeal [hAdamScIdeal : Cert.AdamScIdeal.Facts] : Prop :=
  ∀ (m : (ℓ : Loc Cert.AdamScIdeal.nD Cert.AdamScIdeal.τ Cert.AdamScIdeal.sig) → Buf (Elt Ideal) ℓ) (g : Dev Cert.AdamScIdeal.nD → PrngReg), Pre_AdamScIdeal m →
    θ_run (Cert.AdamScIdeal.defs (F := Ideal)) (onTc (τ := Cert.AdamScIdeal.τ) (Cert.AdamScIdeal.main (F := Ideal))) ⟨m, fun _ => 0, g⟩ (fun r => (∀ c : Dev Cert.AdamScIdeal.nD,
      r.2.mem ((c.tc : Thread Cert.AdamScIdeal.nD Cert.AdamScIdeal.τ).loc Cert.AdamScIdeal.main_arg0) = m ((c.tc : Thread Cert.AdamScIdeal.nD Cert.AdamScIdeal.τ).loc Cert.AdamScIdeal.main_arg0)
      ∧ r.2.mem ((c.tc : Thread Cert.AdamScIdeal.nD Cert.AdamScIdeal.τ).loc Cert.AdamScIdeal.main_arg1) = m ((c.tc : Thread Cert.AdamScIdeal.nD Cert.AdamScIdeal.τ).loc Cert.AdamScIdeal.main_arg1)
      ∧ r.2.mem ((c.tc : Thread Cert.AdamScIdeal.nD Cert.AdamScIdeal.τ).loc Cert.AdamScIdeal.main_arg2) = m ((c.tc : Thread Cert.AdamScIdeal.nD Cert.AdamScIdeal.τ).loc Cert.AdamScIdeal.main_arg2)
      ∧ r.2.mem ((c.tc : Thread Cert.AdamScIdeal.nD Cert.AdamScIdeal.τ).loc Cert.AdamScIdeal.main_arg3) = m ((c.tc : Thread Cert.AdamScIdeal.nD Cert.AdamScIdeal.τ).loc Cert.AdamScIdeal.main_arg3))
      ∧ r.2.sem = fun _ => 0)

def quiescent_AdamScRefIdeal [hAdamScRefIdeal : Cert.AdamScRefIdeal.Facts] : Prop :=
  ∀ (m : (ℓ : Loc Cert.AdamScRefIdeal.nD Cert.AdamScRefIdeal.τ Cert.AdamScRefIdeal.sig) → Buf (Elt Ideal) ℓ) (g : Dev Cert.AdamScRefIdeal.nD → PrngReg), Pre_AdamScRefIdeal m →
    θ_run (Cert.AdamScRefIdeal.defs (F := Ideal)) (onTc (τ := Cert.AdamScRefIdeal.τ) (Cert.AdamScRefIdeal.main (F := Ideal))) ⟨m, fun _ => 0, g⟩ (fun r => (∀ c : Dev Cert.AdamScRefIdeal.nD,
      r.2.mem ((c.tc : Thread Cert.AdamScRefIdeal.nD Cert.AdamScRefIdeal.τ).loc Cert.AdamScRefIdeal.main_arg0) = m ((c.tc : Thread Cert.AdamScRefIdeal.nD Cert.AdamScRefIdeal.τ).loc Cert.AdamScRefIdeal.main_arg0)
      ∧ r.2.mem ((c.tc : Thread Cert.AdamScRefIdeal.nD Cert.AdamScRefIdeal.τ).loc Cert.AdamScRefIdeal.main_arg1) = m ((c.tc : Thread Cert.AdamScRefIdeal.nD Cert.AdamScRefIdeal.τ).loc Cert.AdamScRefIdeal.main_arg1)
      ∧ r.2.mem ((c.tc : Thread Cert.AdamScRefIdeal.nD Cert.AdamScRefIdeal.τ).loc Cert.AdamScRefIdeal.main_arg2) = m ((c.tc : Thread Cert.AdamScRefIdeal.nD Cert.AdamScRefIdeal.τ).loc Cert.AdamScRefIdeal.main_arg2)
      ∧ r.2.mem ((c.tc : Thread Cert.AdamScRefIdeal.nD Cert.AdamScRefIdeal.τ).loc Cert.AdamScRefIdeal.main_arg3) = m ((c.tc : Thread Cert.AdamScRefIdeal.nD Cert.AdamScRefIdeal.τ).loc Cert.AdamScRefIdeal.main_arg3))
      ∧ r.2.sem = fun _ => 0)

def quiescent_AdamCf [hAdamCf : Cert.AdamCf.Facts] : Prop :=
  ∀ (m : (ℓ : Loc Cert.AdamCf.nD Cert.AdamCf.τ Cert.AdamCf.sig) → Buf (Elt Bits) ℓ) (g : Dev Cert.AdamCf.nD → PrngReg), Pre_AdamCf m →
    θ_run (Cert.AdamCf.defs (F := Bits)) (onTc (τ := Cert.AdamCf.τ) (Cert.AdamCf.main (F := Bits))) ⟨m, fun _ => 0, g⟩ (fun r => (∀ c : Dev Cert.AdamCf.nD,
      r.2.mem ((c.tc : Thread Cert.AdamCf.nD Cert.AdamCf.τ).loc Cert.AdamCf.main_arg0) = m ((c.tc : Thread Cert.AdamCf.nD Cert.AdamCf.τ).loc Cert.AdamCf.main_arg0)
      ∧ r.2.mem ((c.tc : Thread Cert.AdamCf.nD Cert.AdamCf.τ).loc Cert.AdamCf.main_arg1) = m ((c.tc : Thread Cert.AdamCf.nD Cert.AdamCf.τ).loc Cert.AdamCf.main_arg1)
      ∧ r.2.mem ((c.tc : Thread Cert.AdamCf.nD Cert.AdamCf.τ).loc Cert.AdamCf.main_arg2) = m ((c.tc : Thread Cert.AdamCf.nD Cert.AdamCf.τ).loc Cert.AdamCf.main_arg2)
      ∧ r.2.mem ((c.tc : Thread Cert.AdamCf.nD Cert.AdamCf.τ).loc Cert.AdamCf.main_arg3) = m ((c.tc : Thread Cert.AdamCf.nD Cert.AdamCf.τ).loc Cert.AdamCf.main_arg3))
      ∧ r.2.sem = fun _ => 0)

def quiescent_AdamCfIdeal [hAdamCfIdeal : Cert.AdamCfIdeal.Facts] : Prop :=
  ∀ (m : (ℓ : Loc Cert.AdamCfIdeal.nD Cert.AdamCfIdeal.τ Cert.AdamCfIdeal.sig) → Buf (Elt Ideal) ℓ) (g : Dev Cert.AdamCfIdeal.nD → PrngReg), Pre_AdamCfIdeal m →
    θ_run (Cert.AdamCfIdeal.defs (F := Ideal)) (onTc (τ := Cert.AdamCfIdeal.τ) (Cert.AdamCfIdeal.main (F := Ideal))) ⟨m, fun _ => 0, g⟩ (fun r => (∀ c : Dev Cert.AdamCfIdeal.nD,
      r.2.mem ((c.tc : Thread Cert.AdamCfIdeal.nD Cert.AdamCfIdeal.τ).loc Cert.AdamCfIdeal.main_arg0) = m ((c.tc : Thread Cert.AdamCfIdeal.nD Cert.AdamCfIdeal.τ).loc Cert.AdamCfIdeal.main_arg0)
      ∧ r.2.mem ((c.tc : Thread Cert.AdamCfIdeal.nD Cert.AdamCfIdeal.τ).loc Cert.AdamCfIdeal.main_arg1) = m ((c.tc : Thread Cert.AdamCfIdeal.nD Cert.AdamCfIdeal.τ).loc Cert.AdamCfIdeal.main_arg1)
      ∧ r.2.mem ((c.tc : Thread Cert.AdamCfIdeal.nD Cert.AdamCfIdeal.τ).loc Cert.AdamCfIdeal.main_arg2) = m ((c.tc : Thread Cert.AdamCfIdeal.nD Cert.AdamCfIdeal.τ).loc Cert.AdamCfIdeal.main_arg2)
      ∧ r.2.mem ((c.tc : Thread Cert.AdamCfIdeal.nD Cert.AdamCfIdeal.τ).loc Cert.AdamCfIdeal.main_arg3) = m ((c.tc : Thread Cert.AdamCfIdeal.nD Cert.AdamCfIdeal.τ).loc Cert.AdamCfIdeal.main_arg3))
      ∧ r.2.sem = fun _ => 0)

def quiescent_AdamCfRefIdeal [hAdamCfRefIdeal : Cert.AdamCfRefIdeal.Facts] : Prop :=
  ∀ (m : (ℓ : Loc Cert.AdamCfRefIdeal.nD Cert.AdamCfRefIdeal.τ Cert.AdamCfRefIdeal.sig) → Buf (Elt Ideal) ℓ) (g : Dev Cert.AdamCfRefIdeal.nD → PrngReg), Pre_AdamCfRefIdeal m →
    θ_run (Cert.AdamCfRefIdeal.defs (F := Ideal)) (onTc (τ := Cert.AdamCfRefIdeal.τ) (Cert.AdamCfRefIdeal.main (F := Ideal))) ⟨m, fun _ => 0, g⟩ (fun r => (∀ c : Dev Cert.AdamCfRefIdeal.nD,
      r.2.mem ((c.tc : Thread Cert.AdamCfRefIdeal.nD Cert.AdamCfRefIdeal.τ).loc Cert.AdamCfRefIdeal.main_arg0) = m ((c.tc : Thread Cert.AdamCfRefIdeal.nD Cert.AdamCfRefIdeal.τ).loc Cert.AdamCfRefIdeal.main_arg0)
      ∧ r.2.mem ((c.tc : Thread Cert.AdamCfRefIdeal.nD Cert.AdamCfRefIdeal.τ).loc Cert.AdamCfRefIdeal.main_arg1) = m ((c.tc : Thread Cert.AdamCfRefIdeal.nD Cert.AdamCfRefIdeal.τ).loc Cert.AdamCfRefIdeal.main_arg1)
      ∧ r.2.mem ((c.tc : Thread Cert.AdamCfRefIdeal.nD Cert.AdamCfRefIdeal.τ).loc Cert.AdamCfRefIdeal.main_arg2) = m ((c.tc : Thread Cert.AdamCfRefIdeal.nD Cert.AdamCfRefIdeal.τ).loc Cert.AdamCfRefIdeal.main_arg2)
      ∧ r.2.mem ((c.tc : Thread Cert.AdamCfRefIdeal.nD Cert.AdamCfRefIdeal.τ).loc Cert.AdamCfRefIdeal.main_arg3) = m ((c.tc : Thread Cert.AdamCfRefIdeal.nD Cert.AdamCfRefIdeal.τ).loc Cert.AdamCfRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2)
      ∧ r.2.mem ((c.tc : Thread Cert.SumIn.nD Cert.SumIn.τ).loc Cert.SumIn.main_arg3) = m ((c.tc : Thread Cert.SumIn.nD Cert.SumIn.τ).loc Cert.SumIn.main_arg3))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
      ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2)
      ∧ r.2.mem ((c.tc : Thread Cert.SumInRefIdeal.nD Cert.SumInRefIdeal.τ).loc Cert.SumInRefIdeal.main_arg3) = m ((c.tc : Thread Cert.SumInRefIdeal.nD Cert.SumInRefIdeal.τ).loc Cert.SumInRefIdeal.main_arg3))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0)
      ∧ r.2.mem ((c.tc : Thread Cert.SumGate.nD Cert.SumGate.τ).loc Cert.SumGate.main_arg1) = m ((c.tc : Thread Cert.SumGate.nD Cert.SumGate.τ).loc Cert.SumGate.main_arg1)
      ∧ r.2.mem ((c.tc : Thread Cert.SumGate.nD Cert.SumGate.τ).loc Cert.SumGate.main_arg2) = m ((c.tc : Thread Cert.SumGate.nD Cert.SumGate.τ).loc Cert.SumGate.main_arg2)
      ∧ r.2.mem ((c.tc : Thread Cert.SumGate.nD Cert.SumGate.τ).loc Cert.SumGate.main_arg3) = m ((c.tc : Thread Cert.SumGate.nD Cert.SumGate.τ).loc Cert.SumGate.main_arg3))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0)
      ∧ r.2.mem ((c.tc : Thread Cert.SumGateIdeal.nD Cert.SumGateIdeal.τ).loc Cert.SumGateIdeal.main_arg1) = m ((c.tc : Thread Cert.SumGateIdeal.nD Cert.SumGateIdeal.τ).loc Cert.SumGateIdeal.main_arg1)
      ∧ r.2.mem ((c.tc : Thread Cert.SumGateIdeal.nD Cert.SumGateIdeal.τ).loc Cert.SumGateIdeal.main_arg2) = m ((c.tc : Thread Cert.SumGateIdeal.nD Cert.SumGateIdeal.τ).loc Cert.SumGateIdeal.main_arg2)
      ∧ r.2.mem ((c.tc : Thread Cert.SumGateIdeal.nD Cert.SumGateIdeal.τ).loc Cert.SumGateIdeal.main_arg3) = m ((c.tc : Thread Cert.SumGateIdeal.nD Cert.SumGateIdeal.τ).loc Cert.SumGateIdeal.main_arg3))
      ∧ r.2.sem = fun _ => 0)

def quiescent_SumGateRefIdeal [hSumGateRefIdeal : Cert.SumGateRefIdeal.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0)
      ∧ r.2.mem ((c.tc : Thread Cert.SumGateRefIdeal.nD Cert.SumGateRefIdeal.τ).loc Cert.SumGateRefIdeal.main_arg1) = m ((c.tc : Thread Cert.SumGateRefIdeal.nD Cert.SumGateRefIdeal.τ).loc Cert.SumGateRefIdeal.main_arg1)
      ∧ r.2.mem ((c.tc : Thread Cert.SumGateRefIdeal.nD Cert.SumGateRefIdeal.τ).loc Cert.SumGateRefIdeal.main_arg2) = m ((c.tc : Thread Cert.SumGateRefIdeal.nD Cert.SumGateRefIdeal.τ).loc Cert.SumGateRefIdeal.main_arg2)
      ∧ r.2.mem ((c.tc : Thread Cert.SumGateRefIdeal.nD Cert.SumGateRefIdeal.τ).loc Cert.SumGateRefIdeal.main_arg3) = m ((c.tc : Thread Cert.SumGateRefIdeal.nD Cert.SumGateRefIdeal.τ).loc Cert.SumGateRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4)
      ∧ r.2.mem ((c.tc : Thread Cert.AdamO.nD Cert.AdamO.τ).loc Cert.AdamO.main_arg5) = m ((c.tc : Thread Cert.AdamO.nD Cert.AdamO.τ).loc Cert.AdamO.main_arg5)
      ∧ r.2.mem ((c.tc : Thread Cert.AdamO.nD Cert.AdamO.τ).loc Cert.AdamO.main_arg6) = m ((c.tc : Thread Cert.AdamO.nD Cert.AdamO.τ).loc Cert.AdamO.main_arg6))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
      ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
      ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3)
      ∧ r.2.mem ((c.tc : Thread Cert.AdamORefIdeal.nD Cert.AdamORefIdeal.τ).loc Cert.AdamORefIdeal.main_arg4) = m ((c.tc : Thread Cert.AdamORefIdeal.nD Cert.AdamORefIdeal.τ).loc Cert.AdamORefIdeal.main_arg4)
      ∧ r.2.mem ((c.tc : Thread Cert.AdamORefIdeal.nD Cert.AdamORefIdeal.τ).loc Cert.AdamORefIdeal.main_arg5) = m ((c.tc : Thread Cert.AdamORefIdeal.nD Cert.AdamORefIdeal.τ).loc Cert.AdamORefIdeal.main_arg5)
      ∧ r.2.mem ((c.tc : Thread Cert.AdamORefIdeal.nD Cert.AdamORefIdeal.τ).loc Cert.AdamORefIdeal.main_arg6) = m ((c.tc : Thread Cert.AdamORefIdeal.nD Cert.AdamORefIdeal.τ).loc Cert.AdamORefIdeal.main_arg6))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def quiescent_GateUp0 [hGateUp0 : Cert.GateUp0.Facts] : Prop :=
  ∀ (m : (ℓ : Loc Cert.GateUp0.nD Cert.GateUp0.τ Cert.GateUp0.sig) → Buf (Elt Bits) ℓ) (g : Dev Cert.GateUp0.nD → PrngReg), Pre_GateUp0 m →
    θ_run (Cert.GateUp0.defs (F := Bits)) (onTc (τ := Cert.GateUp0.τ) (Cert.GateUp0.main (F := Bits))) ⟨m, fun _ => 0, g⟩ (fun r => (∀ c : Dev Cert.GateUp0.nD,
      r.2.mem ((c.tc : Thread Cert.GateUp0.nD Cert.GateUp0.τ).loc Cert.GateUp0.main_arg0) = m ((c.tc : Thread Cert.GateUp0.nD Cert.GateUp0.τ).loc Cert.GateUp0.main_arg0)
      ∧ r.2.mem ((c.tc : Thread Cert.GateUp0.nD Cert.GateUp0.τ).loc Cert.GateUp0.main_arg1) = m ((c.tc : Thread Cert.GateUp0.nD Cert.GateUp0.τ).loc Cert.GateUp0.main_arg1)
      ∧ r.2.mem ((c.tc : Thread Cert.GateUp0.nD Cert.GateUp0.τ).loc Cert.GateUp0.main_arg2) = m ((c.tc : Thread Cert.GateUp0.nD Cert.GateUp0.τ).loc Cert.GateUp0.main_arg2)
      ∧ r.2.mem ((c.tc : Thread Cert.GateUp0.nD Cert.GateUp0.τ).loc Cert.GateUp0.main_arg3) = m ((c.tc : Thread Cert.GateUp0.nD Cert.GateUp0.τ).loc Cert.GateUp0.main_arg3))
      ∧ r.2.sem = fun _ => 0)

def quiescent_GateUp0Ideal [hGateUp0Ideal : Cert.GateUp0Ideal.Facts] : Prop :=
  ∀ (m : (ℓ : Loc Cert.GateUp0Ideal.nD Cert.GateUp0Ideal.τ Cert.GateUp0Ideal.sig) → Buf (Elt Ideal) ℓ) (g : Dev Cert.GateUp0Ideal.nD → PrngReg), Pre_GateUp0Ideal m →
    θ_run (Cert.GateUp0Ideal.defs (F := Ideal)) (onTc (τ := Cert.GateUp0Ideal.τ) (Cert.GateUp0Ideal.main (F := Ideal))) ⟨m, fun _ => 0, g⟩ (fun r => (∀ c : Dev Cert.GateUp0Ideal.nD,
      r.2.mem ((c.tc : Thread Cert.GateUp0Ideal.nD Cert.GateUp0Ideal.τ).loc Cert.GateUp0Ideal.main_arg0) = m ((c.tc : Thread Cert.GateUp0Ideal.nD Cert.GateUp0Ideal.τ).loc Cert.GateUp0Ideal.main_arg0)
      ∧ r.2.mem ((c.tc : Thread Cert.GateUp0Ideal.nD Cert.GateUp0Ideal.τ).loc Cert.GateUp0Ideal.main_arg1) = m ((c.tc : Thread Cert.GateUp0Ideal.nD Cert.GateUp0Ideal.τ).loc Cert.GateUp0Ideal.main_arg1)
      ∧ r.2.mem ((c.tc : Thread Cert.GateUp0Ideal.nD Cert.GateUp0Ideal.τ).loc Cert.GateUp0Ideal.main_arg2) = m ((c.tc : Thread Cert.GateUp0Ideal.nD Cert.GateUp0Ideal.τ).loc Cert.GateUp0Ideal.main_arg2)
      ∧ r.2.mem ((c.tc : Thread Cert.GateUp0Ideal.nD Cert.GateUp0Ideal.τ).loc Cert.GateUp0Ideal.main_arg3) = m ((c.tc : Thread Cert.GateUp0Ideal.nD Cert.GateUp0Ideal.τ).loc Cert.GateUp0Ideal.main_arg3))
      ∧ r.2.sem = fun _ => 0)

def quiescent_GateUp0RefIdeal [hGateUp0RefIdeal : Cert.GateUp0RefIdeal.Facts] : Prop :=
  ∀ (m : (ℓ : Loc Cert.GateUp0RefIdeal.nD Cert.GateUp0RefIdeal.τ Cert.GateUp0RefIdeal.sig) → Buf (Elt Ideal) ℓ) (g : Dev Cert.GateUp0RefIdeal.nD → PrngReg), Pre_GateUp0RefIdeal m →
    θ_run (Cert.GateUp0RefIdeal.defs (F := Ideal)) (onTc (τ := Cert.GateUp0RefIdeal.τ) (Cert.GateUp0RefIdeal.main (F := Ideal))) ⟨m, fun _ => 0, g⟩ (fun r => (∀ c : Dev Cert.GateUp0RefIdeal.nD,
      r.2.mem ((c.tc : Thread Cert.GateUp0RefIdeal.nD Cert.GateUp0RefIdeal.τ).loc Cert.GateUp0RefIdeal.main_arg0) = m ((c.tc : Thread Cert.GateUp0RefIdeal.nD Cert.GateUp0RefIdeal.τ).loc Cert.GateUp0RefIdeal.main_arg0)
      ∧ r.2.mem ((c.tc : Thread Cert.GateUp0RefIdeal.nD Cert.GateUp0RefIdeal.τ).loc Cert.GateUp0RefIdeal.main_arg1) = m ((c.tc : Thread Cert.GateUp0RefIdeal.nD Cert.GateUp0RefIdeal.τ).loc Cert.GateUp0RefIdeal.main_arg1)
      ∧ r.2.mem ((c.tc : Thread Cert.GateUp0RefIdeal.nD Cert.GateUp0RefIdeal.τ).loc Cert.GateUp0RefIdeal.main_arg2) = m ((c.tc : Thread Cert.GateUp0RefIdeal.nD Cert.GateUp0RefIdeal.τ).loc Cert.GateUp0RefIdeal.main_arg2)
      ∧ r.2.mem ((c.tc : Thread Cert.GateUp0RefIdeal.nD Cert.GateUp0RefIdeal.τ).loc Cert.GateUp0RefIdeal.main_arg3) = m ((c.tc : Thread Cert.GateUp0RefIdeal.nD Cert.GateUp0RefIdeal.τ).loc Cert.GateUp0RefIdeal.main_arg3))
      ∧ r.2.sem = fun _ => 0)

def quiescent_GateUp1 [hGateUp1 : Cert.GateUp1.Facts] : Prop :=
  ∀ (m : (ℓ : Loc Cert.GateUp1.nD Cert.GateUp1.τ Cert.GateUp1.sig) → Buf (Elt Bits) ℓ) (g : Dev Cert.GateUp1.nD → PrngReg), Pre_GateUp1 m →
    θ_run (Cert.GateUp1.defs (F := Bits)) (onTc (τ := Cert.GateUp1.τ) (Cert.GateUp1.main (F := Bits))) ⟨m, fun _ => 0, g⟩ (fun r => (∀ c : Dev Cert.GateUp1.nD,
      r.2.mem ((c.tc : Thread Cert.GateUp1.nD Cert.GateUp1.τ).loc Cert.GateUp1.main_arg0) = m ((c.tc : Thread Cert.GateUp1.nD Cert.GateUp1.τ).loc Cert.GateUp1.main_arg0)
      ∧ r.2.mem ((c.tc : Thread Cert.GateUp1.nD Cert.GateUp1.τ).loc Cert.GateUp1.main_arg1) = m ((c.tc : Thread Cert.GateUp1.nD Cert.GateUp1.τ).loc Cert.GateUp1.main_arg1)
      ∧ r.2.mem ((c.tc : Thread Cert.GateUp1.nD Cert.GateUp1.τ).loc Cert.GateUp1.main_arg2) = m ((c.tc : Thread Cert.GateUp1.nD Cert.GateUp1.τ).loc Cert.GateUp1.main_arg2)
      ∧ r.2.mem ((c.tc : Thread Cert.GateUp1.nD Cert.GateUp1.τ).loc Cert.GateUp1.main_arg3) = m ((c.tc : Thread Cert.GateUp1.nD Cert.GateUp1.τ).loc Cert.GateUp1.main_arg3))
      ∧ r.2.sem = fun _ => 0)

def quiescent_GateUp1Ideal [hGateUp1Ideal : Cert.GateUp1Ideal.Facts] : Prop :=
  ∀ (m : (ℓ : Loc Cert.GateUp1Ideal.nD Cert.GateUp1Ideal.τ Cert.GateUp1Ideal.sig) → Buf (Elt Ideal) ℓ) (g : Dev Cert.GateUp1Ideal.nD → PrngReg), Pre_GateUp1Ideal m →
    θ_run (Cert.GateUp1Ideal.defs (F := Ideal)) (onTc (τ := Cert.GateUp1Ideal.τ) (Cert.GateUp1Ideal.main (F := Ideal))) ⟨m, fun _ => 0, g⟩ (fun r => (∀ c : Dev Cert.GateUp1Ideal.nD,
      r.2.mem ((c.tc : Thread Cert.GateUp1Ideal.nD Cert.GateUp1Ideal.τ).loc Cert.GateUp1Ideal.main_arg0) = m ((c.tc : Thread Cert.GateUp1Ideal.nD Cert.GateUp1Ideal.τ).loc Cert.GateUp1Ideal.main_arg0)
      ∧ r.2.mem ((c.tc : Thread Cert.GateUp1Ideal.nD Cert.GateUp1Ideal.τ).loc Cert.GateUp1Ideal.main_arg1) = m ((c.tc : Thread Cert.GateUp1Ideal.nD Cert.GateUp1Ideal.τ).loc Cert.GateUp1Ideal.main_arg1)
      ∧ r.2.mem ((c.tc : Thread Cert.GateUp1Ideal.nD Cert.GateUp1Ideal.τ).loc Cert.GateUp1Ideal.main_arg2) = m ((c.tc : Thread Cert.GateUp1Ideal.nD Cert.GateUp1Ideal.τ).loc Cert.GateUp1Ideal.main_arg2)
      ∧ r.2.mem ((c.tc : Thread Cert.GateUp1Ideal.nD Cert.GateUp1Ideal.τ).loc Cert.GateUp1Ideal.main_arg3) = m ((c.tc : Thread Cert.GateUp1Ideal.nD Cert.GateUp1Ideal.τ).loc Cert.GateUp1Ideal.main_arg3))
      ∧ r.2.sem = fun _ => 0)

def quiescent_GateUp1RefIdeal [hGateUp1RefIdeal : Cert.GateUp1RefIdeal.Facts] : Prop :=
  ∀ (m : (ℓ : Loc Cert.GateUp1RefIdeal.nD Cert.GateUp1RefIdeal.τ Cert.GateUp1RefIdeal.sig) → Buf (Elt Ideal) ℓ) (g : Dev Cert.GateUp1RefIdeal.nD → PrngReg), Pre_GateUp1RefIdeal m →
    θ_run (Cert.GateUp1RefIdeal.defs (F := Ideal)) (onTc (τ := Cert.GateUp1RefIdeal.τ) (Cert.GateUp1RefIdeal.main (F := Ideal))) ⟨m, fun _ => 0, g⟩ (fun r => (∀ c : Dev Cert.GateUp1RefIdeal.nD,
      r.2.mem ((c.tc : Thread Cert.GateUp1RefIdeal.nD Cert.GateUp1RefIdeal.τ).loc Cert.GateUp1RefIdeal.main_arg0) = m ((c.tc : Thread Cert.GateUp1RefIdeal.nD Cert.GateUp1RefIdeal.τ).loc Cert.GateUp1RefIdeal.main_arg0)
      ∧ r.2.mem ((c.tc : Thread Cert.GateUp1RefIdeal.nD Cert.GateUp1RefIdeal.τ).loc Cert.GateUp1RefIdeal.main_arg1) = m ((c.tc : Thread Cert.GateUp1RefIdeal.nD Cert.GateUp1RefIdeal.τ).loc Cert.GateUp1RefIdeal.main_arg1)
      ∧ r.2.mem ((c.tc : Thread Cert.GateUp1RefIdeal.nD Cert.GateUp1RefIdeal.τ).loc Cert.GateUp1RefIdeal.main_arg2) = m ((c.tc : Thread Cert.GateUp1RefIdeal.nD Cert.GateUp1RefIdeal.τ).loc Cert.GateUp1RefIdeal.main_arg2)
      ∧ r.2.mem ((c.tc : Thread Cert.GateUp1RefIdeal.nD Cert.GateUp1RefIdeal.τ).loc Cert.GateUp1RefIdeal.main_arg3) = m ((c.tc : Thread Cert.GateUp1RefIdeal.nD Cert.GateUp1RefIdeal.τ).loc Cert.GateUp1RefIdeal.main_arg3))
      ∧ r.2.sem = fun _ => 0)

def quiescent_GateUp2 [hGateUp2 : Cert.GateUp2.Facts] : Prop :=
  ∀ (m : (ℓ : Loc Cert.GateUp2.nD Cert.GateUp2.τ Cert.GateUp2.sig) → Buf (Elt Bits) ℓ) (g : Dev Cert.GateUp2.nD → PrngReg), Pre_GateUp2 m →
    θ_run (Cert.GateUp2.defs (F := Bits)) (onTc (τ := Cert.GateUp2.τ) (Cert.GateUp2.main (F := Bits))) ⟨m, fun _ => 0, g⟩ (fun r => (∀ c : Dev Cert.GateUp2.nD,
      r.2.mem ((c.tc : Thread Cert.GateUp2.nD Cert.GateUp2.τ).loc Cert.GateUp2.main_arg0) = m ((c.tc : Thread Cert.GateUp2.nD Cert.GateUp2.τ).loc Cert.GateUp2.main_arg0)
      ∧ r.2.mem ((c.tc : Thread Cert.GateUp2.nD Cert.GateUp2.τ).loc Cert.GateUp2.main_arg1) = m ((c.tc : Thread Cert.GateUp2.nD Cert.GateUp2.τ).loc Cert.GateUp2.main_arg1)
      ∧ r.2.mem ((c.tc : Thread Cert.GateUp2.nD Cert.GateUp2.τ).loc Cert.GateUp2.main_arg2) = m ((c.tc : Thread Cert.GateUp2.nD Cert.GateUp2.τ).loc Cert.GateUp2.main_arg2)
      ∧ r.2.mem ((c.tc : Thread Cert.GateUp2.nD Cert.GateUp2.τ).loc Cert.GateUp2.main_arg3) = m ((c.tc : Thread Cert.GateUp2.nD Cert.GateUp2.τ).loc Cert.GateUp2.main_arg3))
      ∧ r.2.sem = fun _ => 0)

def quiescent_GateUp2Ideal [hGateUp2Ideal : Cert.GateUp2Ideal.Facts] : Prop :=
  ∀ (m : (ℓ : Loc Cert.GateUp2Ideal.nD Cert.GateUp2Ideal.τ Cert.GateUp2Ideal.sig) → Buf (Elt Ideal) ℓ) (g : Dev Cert.GateUp2Ideal.nD → PrngReg), Pre_GateUp2Ideal m →
    θ_run (Cert.GateUp2Ideal.defs (F := Ideal)) (onTc (τ := Cert.GateUp2Ideal.τ) (Cert.GateUp2Ideal.main (F := Ideal))) ⟨m, fun _ => 0, g⟩ (fun r => (∀ c : Dev Cert.GateUp2Ideal.nD,
      r.2.mem ((c.tc : Thread Cert.GateUp2Ideal.nD Cert.GateUp2Ideal.τ).loc Cert.GateUp2Ideal.main_arg0) = m ((c.tc : Thread Cert.GateUp2Ideal.nD Cert.GateUp2Ideal.τ).loc Cert.GateUp2Ideal.main_arg0)
      ∧ r.2.mem ((c.tc : Thread Cert.GateUp2Ideal.nD Cert.GateUp2Ideal.τ).loc Cert.GateUp2Ideal.main_arg1) = m ((c.tc : Thread Cert.GateUp2Ideal.nD Cert.GateUp2Ideal.τ).loc Cert.GateUp2Ideal.main_arg1)
      ∧ r.2.mem ((c.tc : Thread Cert.GateUp2Ideal.nD Cert.GateUp2Ideal.τ).loc Cert.GateUp2Ideal.main_arg2) = m ((c.tc : Thread Cert.GateUp2Ideal.nD Cert.GateUp2Ideal.τ).loc Cert.GateUp2Ideal.main_arg2)
      ∧ r.2.mem ((c.tc : Thread Cert.GateUp2Ideal.nD Cert.GateUp2Ideal.τ).loc Cert.GateUp2Ideal.main_arg3) = m ((c.tc : Thread Cert.GateUp2Ideal.nD Cert.GateUp2Ideal.τ).loc Cert.GateUp2Ideal.main_arg3))
      ∧ r.2.sem = fun _ => 0)

def quiescent_GateUp2RefIdeal [hGateUp2RefIdeal : Cert.GateUp2RefIdeal.Facts] : Prop :=
  ∀ (m : (ℓ : Loc Cert.GateUp2RefIdeal.nD Cert.GateUp2RefIdeal.τ Cert.GateUp2RefIdeal.sig) → Buf (Elt Ideal) ℓ) (g : Dev Cert.GateUp2RefIdeal.nD → PrngReg), Pre_GateUp2RefIdeal m →
    θ_run (Cert.GateUp2RefIdeal.defs (F := Ideal)) (onTc (τ := Cert.GateUp2RefIdeal.τ) (Cert.GateUp2RefIdeal.main (F := Ideal))) ⟨m, fun _ => 0, g⟩ (fun r => (∀ c : Dev Cert.GateUp2RefIdeal.nD,
      r.2.mem ((c.tc : Thread Cert.GateUp2RefIdeal.nD Cert.GateUp2RefIdeal.τ).loc Cert.GateUp2RefIdeal.main_arg0) = m ((c.tc : Thread Cert.GateUp2RefIdeal.nD Cert.GateUp2RefIdeal.τ).loc Cert.GateUp2RefIdeal.main_arg0)
      ∧ r.2.mem ((c.tc : Thread Cert.GateUp2RefIdeal.nD Cert.GateUp2RefIdeal.τ).loc Cert.GateUp2RefIdeal.main_arg1) = m ((c.tc : Thread Cert.GateUp2RefIdeal.nD Cert.GateUp2RefIdeal.τ).loc Cert.GateUp2RefIdeal.main_arg1)
      ∧ r.2.mem ((c.tc : Thread Cert.GateUp2RefIdeal.nD Cert.GateUp2RefIdeal.τ).loc Cert.GateUp2RefIdeal.main_arg2) = m ((c.tc : Thread Cert.GateUp2RefIdeal.nD Cert.GateUp2RefIdeal.τ).loc Cert.GateUp2RefIdeal.main_arg2)
      ∧ r.2.mem ((c.tc : Thread Cert.GateUp2RefIdeal.nD Cert.GateUp2RefIdeal.τ).loc Cert.GateUp2RefIdeal.main_arg3) = m ((c.tc : Thread Cert.GateUp2RefIdeal.nD Cert.GateUp2RefIdeal.τ).loc Cert.GateUp2RefIdeal.main_arg3))
      ∧ r.2.sem = fun _ => 0)

def quiescent_GateUp3 [hGateUp3 : Cert.GateUp3.Facts] : Prop :=
  ∀ (m : (ℓ : Loc Cert.GateUp3.nD Cert.GateUp3.τ Cert.GateUp3.sig) → Buf (Elt Bits) ℓ) (g : Dev Cert.GateUp3.nD → PrngReg), Pre_GateUp3 m →
    θ_run (Cert.GateUp3.defs (F := Bits)) (onTc (τ := Cert.GateUp3.τ) (Cert.GateUp3.main (F := Bits))) ⟨m, fun _ => 0, g⟩ (fun r => (∀ c : Dev Cert.GateUp3.nD,
      r.2.mem ((c.tc : Thread Cert.GateUp3.nD Cert.GateUp3.τ).loc Cert.GateUp3.main_arg0) = m ((c.tc : Thread Cert.GateUp3.nD Cert.GateUp3.τ).loc Cert.GateUp3.main_arg0)
      ∧ r.2.mem ((c.tc : Thread Cert.GateUp3.nD Cert.GateUp3.τ).loc Cert.GateUp3.main_arg1) = m ((c.tc : Thread Cert.GateUp3.nD Cert.GateUp3.τ).loc Cert.GateUp3.main_arg1)
      ∧ r.2.mem ((c.tc : Thread Cert.GateUp3.nD Cert.GateUp3.τ).loc Cert.GateUp3.main_arg2) = m ((c.tc : Thread Cert.GateUp3.nD Cert.GateUp3.τ).loc Cert.GateUp3.main_arg2)
      ∧ r.2.mem ((c.tc : Thread Cert.GateUp3.nD Cert.GateUp3.τ).loc Cert.GateUp3.main_arg3) = m ((c.tc : Thread Cert.GateUp3.nD Cert.GateUp3.τ).loc Cert.GateUp3.main_arg3))
      ∧ r.2.sem = fun _ => 0)

def quiescent_GateUp3Ideal [hGateUp3Ideal : Cert.GateUp3Ideal.Facts] : Prop :=
  ∀ (m : (ℓ : Loc Cert.GateUp3Ideal.nD Cert.GateUp3Ideal.τ Cert.GateUp3Ideal.sig) → Buf (Elt Ideal) ℓ) (g : Dev Cert.GateUp3Ideal.nD → PrngReg), Pre_GateUp3Ideal m →
    θ_run (Cert.GateUp3Ideal.defs (F := Ideal)) (onTc (τ := Cert.GateUp3Ideal.τ) (Cert.GateUp3Ideal.main (F := Ideal))) ⟨m, fun _ => 0, g⟩ (fun r => (∀ c : Dev Cert.GateUp3Ideal.nD,
      r.2.mem ((c.tc : Thread Cert.GateUp3Ideal.nD Cert.GateUp3Ideal.τ).loc Cert.GateUp3Ideal.main_arg0) = m ((c.tc : Thread Cert.GateUp3Ideal.nD Cert.GateUp3Ideal.τ).loc Cert.GateUp3Ideal.main_arg0)
      ∧ r.2.mem ((c.tc : Thread Cert.GateUp3Ideal.nD Cert.GateUp3Ideal.τ).loc Cert.GateUp3Ideal.main_arg1) = m ((c.tc : Thread Cert.GateUp3Ideal.nD Cert.GateUp3Ideal.τ).loc Cert.GateUp3Ideal.main_arg1)
      ∧ r.2.mem ((c.tc : Thread Cert.GateUp3Ideal.nD Cert.GateUp3Ideal.τ).loc Cert.GateUp3Ideal.main_arg2) = m ((c.tc : Thread Cert.GateUp3Ideal.nD Cert.GateUp3Ideal.τ).loc Cert.GateUp3Ideal.main_arg2)
      ∧ r.2.mem ((c.tc : Thread Cert.GateUp3Ideal.nD Cert.GateUp3Ideal.τ).loc Cert.GateUp3Ideal.main_arg3) = m ((c.tc : Thread Cert.GateUp3Ideal.nD Cert.GateUp3Ideal.τ).loc Cert.GateUp3Ideal.main_arg3))
      ∧ r.2.sem = fun _ => 0)

def quiescent_GateUp3RefIdeal [hGateUp3RefIdeal : Cert.GateUp3RefIdeal.Facts] : Prop :=
  ∀ (m : (ℓ : Loc Cert.GateUp3RefIdeal.nD Cert.GateUp3RefIdeal.τ Cert.GateUp3RefIdeal.sig) → Buf (Elt Ideal) ℓ) (g : Dev Cert.GateUp3RefIdeal.nD → PrngReg), Pre_GateUp3RefIdeal m →
    θ_run (Cert.GateUp3RefIdeal.defs (F := Ideal)) (onTc (τ := Cert.GateUp3RefIdeal.τ) (Cert.GateUp3RefIdeal.main (F := Ideal))) ⟨m, fun _ => 0, g⟩ (fun r => (∀ c : Dev Cert.GateUp3RefIdeal.nD,
      r.2.mem ((c.tc : Thread Cert.GateUp3RefIdeal.nD Cert.GateUp3RefIdeal.τ).loc Cert.GateUp3RefIdeal.main_arg0) = m ((c.tc : Thread Cert.GateUp3RefIdeal.nD Cert.GateUp3RefIdeal.τ).loc Cert.GateUp3RefIdeal.main_arg0)
      ∧ r.2.mem ((c.tc : Thread Cert.GateUp3RefIdeal.nD Cert.GateUp3RefIdeal.τ).loc Cert.GateUp3RefIdeal.main_arg1) = m ((c.tc : Thread Cert.GateUp3RefIdeal.nD Cert.GateUp3RefIdeal.τ).loc Cert.GateUp3RefIdeal.main_arg1)
      ∧ r.2.mem ((c.tc : Thread Cert.GateUp3RefIdeal.nD Cert.GateUp3RefIdeal.τ).loc Cert.GateUp3RefIdeal.main_arg2) = m ((c.tc : Thread Cert.GateUp3RefIdeal.nD Cert.GateUp3RefIdeal.τ).loc Cert.GateUp3RefIdeal.main_arg2)
      ∧ r.2.mem ((c.tc : Thread Cert.GateUp3RefIdeal.nD Cert.GateUp3RefIdeal.τ).loc Cert.GateUp3RefIdeal.main_arg3) = m ((c.tc : Thread Cert.GateUp3RefIdeal.nD Cert.GateUp3RefIdeal.τ).loc Cert.GateUp3RefIdeal.main_arg3))
      ∧ r.2.sem = fun _ => 0)

def quiescent_DownLn0 [hDownLn0 : Cert.DownLn0.Facts] : Prop :=
  ∀ (m : (ℓ : Loc Cert.DownLn0.nD Cert.DownLn0.τ Cert.DownLn0.sig) → Buf (Elt Bits) ℓ) (g : Dev Cert.DownLn0.nD → PrngReg), Pre_DownLn0 m →
    θ_run (Cert.DownLn0.defs (F := Bits)) (onTc (τ := Cert.DownLn0.τ) (Cert.DownLn0.main (F := Bits))) ⟨m, fun _ => 0, g⟩ (fun r => (∀ c : Dev Cert.DownLn0.nD,
      r.2.mem ((c.tc : Thread Cert.DownLn0.nD Cert.DownLn0.τ).loc Cert.DownLn0.main_arg0) = m ((c.tc : Thread Cert.DownLn0.nD Cert.DownLn0.τ).loc Cert.DownLn0.main_arg0)
      ∧ r.2.mem ((c.tc : Thread Cert.DownLn0.nD Cert.DownLn0.τ).loc Cert.DownLn0.main_arg1) = m ((c.tc : Thread Cert.DownLn0.nD Cert.DownLn0.τ).loc Cert.DownLn0.main_arg1)
      ∧ r.2.mem ((c.tc : Thread Cert.DownLn0.nD Cert.DownLn0.τ).loc Cert.DownLn0.main_arg2) = m ((c.tc : Thread Cert.DownLn0.nD Cert.DownLn0.τ).loc Cert.DownLn0.main_arg2)
      ∧ r.2.mem ((c.tc : Thread Cert.DownLn0.nD Cert.DownLn0.τ).loc Cert.DownLn0.main_arg3) = m ((c.tc : Thread Cert.DownLn0.nD Cert.DownLn0.τ).loc Cert.DownLn0.main_arg3)
      ∧ r.2.mem ((c.tc : Thread Cert.DownLn0.nD Cert.DownLn0.τ).loc Cert.DownLn0.main_arg4) = m ((c.tc : Thread Cert.DownLn0.nD Cert.DownLn0.τ).loc Cert.DownLn0.main_arg4)
      ∧ r.2.mem ((c.tc : Thread Cert.DownLn0.nD Cert.DownLn0.τ).loc Cert.DownLn0.main_arg5) = m ((c.tc : Thread Cert.DownLn0.nD Cert.DownLn0.τ).loc Cert.DownLn0.main_arg5))
      ∧ r.2.sem = fun _ => 0)

def quiescent_DownLn0Ideal [hDownLn0Ideal : Cert.DownLn0Ideal.Facts] : Prop :=
  ∀ (m : (ℓ : Loc Cert.DownLn0Ideal.nD Cert.DownLn0Ideal.τ Cert.DownLn0Ideal.sig) → Buf (Elt Ideal) ℓ) (g : Dev Cert.DownLn0Ideal.nD → PrngReg), Pre_DownLn0Ideal m →
    θ_run (Cert.DownLn0Ideal.defs (F := Ideal)) (onTc (τ := Cert.DownLn0Ideal.τ) (Cert.DownLn0Ideal.main (F := Ideal))) ⟨m, fun _ => 0, g⟩ (fun r => (∀ c : Dev Cert.DownLn0Ideal.nD,
      r.2.mem ((c.tc : Thread Cert.DownLn0Ideal.nD Cert.DownLn0Ideal.τ).loc Cert.DownLn0Ideal.main_arg0) = m ((c.tc : Thread Cert.DownLn0Ideal.nD Cert.DownLn0Ideal.τ).loc Cert.DownLn0Ideal.main_arg0)
      ∧ r.2.mem ((c.tc : Thread Cert.DownLn0Ideal.nD Cert.DownLn0Ideal.τ).loc Cert.DownLn0Ideal.main_arg1) = m ((c.tc : Thread Cert.DownLn0Ideal.nD Cert.DownLn0Ideal.τ).loc Cert.DownLn0Ideal.main_arg1)
      ∧ r.2.mem ((c.tc : Thread Cert.DownLn0Ideal.nD Cert.DownLn0Ideal.τ).loc Cert.DownLn0Ideal.main_arg2) = m ((c.tc : Thread Cert.DownLn0Ideal.nD Cert.DownLn0Ideal.τ).loc Cert.DownLn0Ideal.main_arg2)
      ∧ r.2.mem ((c.tc : Thread Cert.DownLn0Ideal.nD Cert.DownLn0Ideal.τ).loc Cert.DownLn0Ideal.main_arg3) = m ((c.tc : Thread Cert.DownLn0Ideal.nD Cert.DownLn0Ideal.τ).loc Cert.DownLn0Ideal.main_arg3)
      ∧ r.2.mem ((c.tc : Thread Cert.DownLn0Ideal.nD Cert.DownLn0Ideal.τ).loc Cert.DownLn0Ideal.main_arg4) = m ((c.tc : Thread Cert.DownLn0Ideal.nD Cert.DownLn0Ideal.τ).loc Cert.DownLn0Ideal.main_arg4)
      ∧ r.2.mem ((c.tc : Thread Cert.DownLn0Ideal.nD Cert.DownLn0Ideal.τ).loc Cert.DownLn0Ideal.main_arg5) = m ((c.tc : Thread Cert.DownLn0Ideal.nD Cert.DownLn0Ideal.τ).loc Cert.DownLn0Ideal.main_arg5))
      ∧ r.2.sem = fun _ => 0)

def quiescent_DownLn0RefIdeal [hDownLn0RefIdeal : Cert.DownLn0RefIdeal.Facts] : Prop :=
  ∀ (m : (ℓ : Loc Cert.DownLn0RefIdeal.nD Cert.DownLn0RefIdeal.τ Cert.DownLn0RefIdeal.sig) → Buf (Elt Ideal) ℓ) (g : Dev Cert.DownLn0RefIdeal.nD → PrngReg), Pre_DownLn0RefIdeal m →
    θ_run (Cert.DownLn0RefIdeal.defs (F := Ideal)) (onTc (τ := Cert.DownLn0RefIdeal.τ) (Cert.DownLn0RefIdeal.main (F := Ideal))) ⟨m, fun _ => 0, g⟩ (fun r => (∀ c : Dev Cert.DownLn0RefIdeal.nD,
      r.2.mem ((c.tc : Thread Cert.DownLn0RefIdeal.nD Cert.DownLn0RefIdeal.τ).loc Cert.DownLn0RefIdeal.main_arg0) = m ((c.tc : Thread Cert.DownLn0RefIdeal.nD Cert.DownLn0RefIdeal.τ).loc Cert.DownLn0RefIdeal.main_arg0)
      ∧ r.2.mem ((c.tc : Thread Cert.DownLn0RefIdeal.nD Cert.DownLn0RefIdeal.τ).loc Cert.DownLn0RefIdeal.main_arg1) = m ((c.tc : Thread Cert.DownLn0RefIdeal.nD Cert.DownLn0RefIdeal.τ).loc Cert.DownLn0RefIdeal.main_arg1)
      ∧ r.2.mem ((c.tc : Thread Cert.DownLn0RefIdeal.nD Cert.DownLn0RefIdeal.τ).loc Cert.DownLn0RefIdeal.main_arg2) = m ((c.tc : Thread Cert.DownLn0RefIdeal.nD Cert.DownLn0RefIdeal.τ).loc Cert.DownLn0RefIdeal.main_arg2)
      ∧ r.2.mem ((c.tc : Thread Cert.DownLn0RefIdeal.nD Cert.DownLn0RefIdeal.τ).loc Cert.DownLn0RefIdeal.main_arg3) = m ((c.tc : Thread Cert.DownLn0RefIdeal.nD Cert.DownLn0RefIdeal.τ).loc Cert.DownLn0RefIdeal.main_arg3)
      ∧ r.2.mem ((c.tc : Thread Cert.DownLn0RefIdeal.nD Cert.DownLn0RefIdeal.τ).loc Cert.DownLn0RefIdeal.main_arg4) = m ((c.tc : Thread Cert.DownLn0RefIdeal.nD Cert.DownLn0RefIdeal.τ).loc Cert.DownLn0RefIdeal.main_arg4)
      ∧ r.2.mem ((c.tc : Thread Cert.DownLn0RefIdeal.nD Cert.DownLn0RefIdeal.τ).loc Cert.DownLn0RefIdeal.main_arg5) = m ((c.tc : Thread Cert.DownLn0RefIdeal.nD Cert.DownLn0RefIdeal.τ).loc Cert.DownLn0RefIdeal.main_arg5))
      ∧ r.2.sem = fun _ => 0)

def quiescent_DownLn1 [hDownLn1 : Cert.DownLn1.Facts] : Prop :=
  ∀ (m : (ℓ : Loc Cert.DownLn1.nD Cert.DownLn1.τ Cert.DownLn1.sig) → Buf (Elt Bits) ℓ) (g : Dev Cert.DownLn1.nD → PrngReg), Pre_DownLn1 m →
    θ_run (Cert.DownLn1.defs (F := Bits)) (onTc (τ := Cert.DownLn1.τ) (Cert.DownLn1.main (F := Bits))) ⟨m, fun _ => 0, g⟩ (fun r => (∀ c : Dev Cert.DownLn1.nD,
      r.2.mem ((c.tc : Thread Cert.DownLn1.nD Cert.DownLn1.τ).loc Cert.DownLn1.main_arg0) = m ((c.tc : Thread Cert.DownLn1.nD Cert.DownLn1.τ).loc Cert.DownLn1.main_arg0)
      ∧ r.2.mem ((c.tc : Thread Cert.DownLn1.nD Cert.DownLn1.τ).loc Cert.DownLn1.main_arg1) = m ((c.tc : Thread Cert.DownLn1.nD Cert.DownLn1.τ).loc Cert.DownLn1.main_arg1)
      ∧ r.2.mem ((c.tc : Thread Cert.DownLn1.nD Cert.DownLn1.τ).loc Cert.DownLn1.main_arg2) = m ((c.tc : Thread Cert.DownLn1.nD Cert.DownLn1.τ).loc Cert.DownLn1.main_arg2)
      ∧ r.2.mem ((c.tc : Thread Cert.DownLn1.nD Cert.DownLn1.τ).loc Cert.DownLn1.main_arg3) = m ((c.tc : Thread Cert.DownLn1.nD Cert.DownLn1.τ).loc Cert.DownLn1.main_arg3)
      ∧ r.2.mem ((c.tc : Thread Cert.DownLn1.nD Cert.DownLn1.τ).loc Cert.DownLn1.main_arg4) = m ((c.tc : Thread Cert.DownLn1.nD Cert.DownLn1.τ).loc Cert.DownLn1.main_arg4)
      ∧ r.2.mem ((c.tc : Thread Cert.DownLn1.nD Cert.DownLn1.τ).loc Cert.DownLn1.main_arg5) = m ((c.tc : Thread Cert.DownLn1.nD Cert.DownLn1.τ).loc Cert.DownLn1.main_arg5))
      ∧ r.2.sem = fun _ => 0)

def quiescent_DownLn1Ideal [hDownLn1Ideal : Cert.DownLn1Ideal.Facts] : Prop :=
  ∀ (m : (ℓ : Loc Cert.DownLn1Ideal.nD Cert.DownLn1Ideal.τ Cert.DownLn1Ideal.sig) → Buf (Elt Ideal) ℓ) (g : Dev Cert.DownLn1Ideal.nD → PrngReg), Pre_DownLn1Ideal m →
    θ_run (Cert.DownLn1Ideal.defs (F := Ideal)) (onTc (τ := Cert.DownLn1Ideal.τ) (Cert.DownLn1Ideal.main (F := Ideal))) ⟨m, fun _ => 0, g⟩ (fun r => (∀ c : Dev Cert.DownLn1Ideal.nD,
      r.2.mem ((c.tc : Thread Cert.DownLn1Ideal.nD Cert.DownLn1Ideal.τ).loc Cert.DownLn1Ideal.main_arg0) = m ((c.tc : Thread Cert.DownLn1Ideal.nD Cert.DownLn1Ideal.τ).loc Cert.DownLn1Ideal.main_arg0)
      ∧ r.2.mem ((c.tc : Thread Cert.DownLn1Ideal.nD Cert.DownLn1Ideal.τ).loc Cert.DownLn1Ideal.main_arg1) = m ((c.tc : Thread Cert.DownLn1Ideal.nD Cert.DownLn1Ideal.τ).loc Cert.DownLn1Ideal.main_arg1)
      ∧ r.2.mem ((c.tc : Thread Cert.DownLn1Ideal.nD Cert.DownLn1Ideal.τ).loc Cert.DownLn1Ideal.main_arg2) = m ((c.tc : Thread Cert.DownLn1Ideal.nD Cert.DownLn1Ideal.τ).loc Cert.DownLn1Ideal.main_arg2)
      ∧ r.2.mem ((c.tc : Thread Cert.DownLn1Ideal.nD Cert.DownLn1Ideal.τ).loc Cert.DownLn1Ideal.main_arg3) = m ((c.tc : Thread Cert.DownLn1Ideal.nD Cert.DownLn1Ideal.τ).loc Cert.DownLn1Ideal.main_arg3)
      ∧ r.2.mem ((c.tc : Thread Cert.DownLn1Ideal.nD Cert.DownLn1Ideal.τ).loc Cert.DownLn1Ideal.main_arg4) = m ((c.tc : Thread Cert.DownLn1Ideal.nD Cert.DownLn1Ideal.τ).loc Cert.DownLn1Ideal.main_arg4)
      ∧ r.2.mem ((c.tc : Thread Cert.DownLn1Ideal.nD Cert.DownLn1Ideal.τ).loc Cert.DownLn1Ideal.main_arg5) = m ((c.tc : Thread Cert.DownLn1Ideal.nD Cert.DownLn1Ideal.τ).loc Cert.DownLn1Ideal.main_arg5))
      ∧ r.2.sem = fun _ => 0)

def quiescent_DownLn1RefIdeal [hDownLn1RefIdeal : Cert.DownLn1RefIdeal.Facts] : Prop :=
  ∀ (m : (ℓ : Loc Cert.DownLn1RefIdeal.nD Cert.DownLn1RefIdeal.τ Cert.DownLn1RefIdeal.sig) → Buf (Elt Ideal) ℓ) (g : Dev Cert.DownLn1RefIdeal.nD → PrngReg), Pre_DownLn1RefIdeal m →
    θ_run (Cert.DownLn1RefIdeal.defs (F := Ideal)) (onTc (τ := Cert.DownLn1RefIdeal.τ) (Cert.DownLn1RefIdeal.main (F := Ideal))) ⟨m, fun _ => 0, g⟩ (fun r => (∀ c : Dev Cert.DownLn1RefIdeal.nD,
      r.2.mem ((c.tc : Thread Cert.DownLn1RefIdeal.nD Cert.DownLn1RefIdeal.τ).loc Cert.DownLn1RefIdeal.main_arg0) = m ((c.tc : Thread Cert.DownLn1RefIdeal.nD Cert.DownLn1RefIdeal.τ).loc Cert.DownLn1RefIdeal.main_arg0)
      ∧ r.2.mem ((c.tc : Thread Cert.DownLn1RefIdeal.nD Cert.DownLn1RefIdeal.τ).loc Cert.DownLn1RefIdeal.main_arg1) = m ((c.tc : Thread Cert.DownLn1RefIdeal.nD Cert.DownLn1RefIdeal.τ).loc Cert.DownLn1RefIdeal.main_arg1)
      ∧ r.2.mem ((c.tc : Thread Cert.DownLn1RefIdeal.nD Cert.DownLn1RefIdeal.τ).loc Cert.DownLn1RefIdeal.main_arg2) = m ((c.tc : Thread Cert.DownLn1RefIdeal.nD Cert.DownLn1RefIdeal.τ).loc Cert.DownLn1RefIdeal.main_arg2)
      ∧ r.2.mem ((c.tc : Thread Cert.DownLn1RefIdeal.nD Cert.DownLn1RefIdeal.τ).loc Cert.DownLn1RefIdeal.main_arg3) = m ((c.tc : Thread Cert.DownLn1RefIdeal.nD Cert.DownLn1RefIdeal.τ).loc Cert.DownLn1RefIdeal.main_arg3)
      ∧ r.2.mem ((c.tc : Thread Cert.DownLn1RefIdeal.nD Cert.DownLn1RefIdeal.τ).loc Cert.DownLn1RefIdeal.main_arg4) = m ((c.tc : Thread Cert.DownLn1RefIdeal.nD Cert.DownLn1RefIdeal.τ).loc Cert.DownLn1RefIdeal.main_arg4)
      ∧ r.2.mem ((c.tc : Thread Cert.DownLn1RefIdeal.nD Cert.DownLn1RefIdeal.τ).loc Cert.DownLn1RefIdeal.main_arg5) = m ((c.tc : Thread Cert.DownLn1RefIdeal.nD Cert.DownLn1RefIdeal.τ).loc Cert.DownLn1RefIdeal.main_arg5))
      ∧ r.2.sem = fun _ => 0)

def quiescent_DownLn2 [hDownLn2 : Cert.DownLn2.Facts] : Prop :=
  ∀ (m : (ℓ : Loc Cert.DownLn2.nD Cert.DownLn2.τ Cert.DownLn2.sig) → Buf (Elt Bits) ℓ) (g : Dev Cert.DownLn2.nD → PrngReg), Pre_DownLn2 m →
    θ_run (Cert.DownLn2.defs (F := Bits)) (onTc (τ := Cert.DownLn2.τ) (Cert.DownLn2.main (F := Bits))) ⟨m, fun _ => 0, g⟩ (fun r => (∀ c : Dev Cert.DownLn2.nD,
      r.2.mem ((c.tc : Thread Cert.DownLn2.nD Cert.DownLn2.τ).loc Cert.DownLn2.main_arg0) = m ((c.tc : Thread Cert.DownLn2.nD Cert.DownLn2.τ).loc Cert.DownLn2.main_arg0)
      ∧ r.2.mem ((c.tc : Thread Cert.DownLn2.nD Cert.DownLn2.τ).loc Cert.DownLn2.main_arg1) = m ((c.tc : Thread Cert.DownLn2.nD Cert.DownLn2.τ).loc Cert.DownLn2.main_arg1)
      ∧ r.2.mem ((c.tc : Thread Cert.DownLn2.nD Cert.DownLn2.τ).loc Cert.DownLn2.main_arg2) = m ((c.tc : Thread Cert.DownLn2.nD Cert.DownLn2.τ).loc Cert.DownLn2.main_arg2)
      ∧ r.2.mem ((c.tc : Thread Cert.DownLn2.nD Cert.DownLn2.τ).loc Cert.DownLn2.main_arg3) = m ((c.tc : Thread Cert.DownLn2.nD Cert.DownLn2.τ).loc Cert.DownLn2.main_arg3)
      ∧ r.2.mem ((c.tc : Thread Cert.DownLn2.nD Cert.DownLn2.τ).loc Cert.DownLn2.main_arg4) = m ((c.tc : Thread Cert.DownLn2.nD Cert.DownLn2.τ).loc Cert.DownLn2.main_arg4)
      ∧ r.2.mem ((c.tc : Thread Cert.DownLn2.nD Cert.DownLn2.τ).loc Cert.DownLn2.main_arg5) = m ((c.tc : Thread Cert.DownLn2.nD Cert.DownLn2.τ).loc Cert.DownLn2.main_arg5))
      ∧ r.2.sem = fun _ => 0)

def quiescent_DownLn2Ideal [hDownLn2Ideal : Cert.DownLn2Ideal.Facts] : Prop :=
  ∀ (m : (ℓ : Loc Cert.DownLn2Ideal.nD Cert.DownLn2Ideal.τ Cert.DownLn2Ideal.sig) → Buf (Elt Ideal) ℓ) (g : Dev Cert.DownLn2Ideal.nD → PrngReg), Pre_DownLn2Ideal m →
    θ_run (Cert.DownLn2Ideal.defs (F := Ideal)) (onTc (τ := Cert.DownLn2Ideal.τ) (Cert.DownLn2Ideal.main (F := Ideal))) ⟨m, fun _ => 0, g⟩ (fun r => (∀ c : Dev Cert.DownLn2Ideal.nD,
      r.2.mem ((c.tc : Thread Cert.DownLn2Ideal.nD Cert.DownLn2Ideal.τ).loc Cert.DownLn2Ideal.main_arg0) = m ((c.tc : Thread Cert.DownLn2Ideal.nD Cert.DownLn2Ideal.τ).loc Cert.DownLn2Ideal.main_arg0)
      ∧ r.2.mem ((c.tc : Thread Cert.DownLn2Ideal.nD Cert.DownLn2Ideal.τ).loc Cert.DownLn2Ideal.main_arg1) = m ((c.tc : Thread Cert.DownLn2Ideal.nD Cert.DownLn2Ideal.τ).loc Cert.DownLn2Ideal.main_arg1)
      ∧ r.2.mem ((c.tc : Thread Cert.DownLn2Ideal.nD Cert.DownLn2Ideal.τ).loc Cert.DownLn2Ideal.main_arg2) = m ((c.tc : Thread Cert.DownLn2Ideal.nD Cert.DownLn2Ideal.τ).loc Cert.DownLn2Ideal.main_arg2)
      ∧ r.2.mem ((c.tc : Thread Cert.DownLn2Ideal.nD Cert.DownLn2Ideal.τ).loc Cert.DownLn2Ideal.main_arg3) = m ((c.tc : Thread Cert.DownLn2Ideal.nD Cert.DownLn2Ideal.τ).loc Cert.DownLn2Ideal.main_arg3)
      ∧ r.2.mem ((c.tc : Thread Cert.DownLn2Ideal.nD Cert.DownLn2Ideal.τ).loc Cert.DownLn2Ideal.main_arg4) = m ((c.tc : Thread Cert.DownLn2Ideal.nD Cert.DownLn2Ideal.τ).loc Cert.DownLn2Ideal.main_arg4)
      ∧ r.2.mem ((c.tc : Thread Cert.DownLn2Ideal.nD Cert.DownLn2Ideal.τ).loc Cert.DownLn2Ideal.main_arg5) = m ((c.tc : Thread Cert.DownLn2Ideal.nD Cert.DownLn2Ideal.τ).loc Cert.DownLn2Ideal.main_arg5))
      ∧ r.2.sem = fun _ => 0)

def quiescent_DownLn2RefIdeal [hDownLn2RefIdeal : Cert.DownLn2RefIdeal.Facts] : Prop :=
  ∀ (m : (ℓ : Loc Cert.DownLn2RefIdeal.nD Cert.DownLn2RefIdeal.τ Cert.DownLn2RefIdeal.sig) → Buf (Elt Ideal) ℓ) (g : Dev Cert.DownLn2RefIdeal.nD → PrngReg), Pre_DownLn2RefIdeal m →
    θ_run (Cert.DownLn2RefIdeal.defs (F := Ideal)) (onTc (τ := Cert.DownLn2RefIdeal.τ) (Cert.DownLn2RefIdeal.main (F := Ideal))) ⟨m, fun _ => 0, g⟩ (fun r => (∀ c : Dev Cert.DownLn2RefIdeal.nD,
      r.2.mem ((c.tc : Thread Cert.DownLn2RefIdeal.nD Cert.DownLn2RefIdeal.τ).loc Cert.DownLn2RefIdeal.main_arg0) = m ((c.tc : Thread Cert.DownLn2RefIdeal.nD Cert.DownLn2RefIdeal.τ).loc Cert.DownLn2RefIdeal.main_arg0)
      ∧ r.2.mem ((c.tc : Thread Cert.DownLn2RefIdeal.nD Cert.DownLn2RefIdeal.τ).loc Cert.DownLn2RefIdeal.main_arg1) = m ((c.tc : Thread Cert.DownLn2RefIdeal.nD Cert.DownLn2RefIdeal.τ).loc Cert.DownLn2RefIdeal.main_arg1)
      ∧ r.2.mem ((c.tc : Thread Cert.DownLn2RefIdeal.nD Cert.DownLn2RefIdeal.τ).loc Cert.DownLn2RefIdeal.main_arg2) = m ((c.tc : Thread Cert.DownLn2RefIdeal.nD Cert.DownLn2RefIdeal.τ).loc Cert.DownLn2RefIdeal.main_arg2)
      ∧ r.2.mem ((c.tc : Thread Cert.DownLn2RefIdeal.nD Cert.DownLn2RefIdeal.τ).loc Cert.DownLn2RefIdeal.main_arg3) = m ((c.tc : Thread Cert.DownLn2RefIdeal.nD Cert.DownLn2RefIdeal.τ).loc Cert.DownLn2RefIdeal.main_arg3)
      ∧ r.2.mem ((c.tc : Thread Cert.DownLn2RefIdeal.nD Cert.DownLn2RefIdeal.τ).loc Cert.DownLn2RefIdeal.main_arg4) = m ((c.tc : Thread Cert.DownLn2RefIdeal.nD Cert.DownLn2RefIdeal.τ).loc Cert.DownLn2RefIdeal.main_arg4)
      ∧ r.2.mem ((c.tc : Thread Cert.DownLn2RefIdeal.nD Cert.DownLn2RefIdeal.τ).loc Cert.DownLn2RefIdeal.main_arg5) = m ((c.tc : Thread Cert.DownLn2RefIdeal.nD Cert.DownLn2RefIdeal.τ).loc Cert.DownLn2RefIdeal.main_arg5))
      ∧ r.2.sem = fun _ => 0)

def quiescent_DownLn3 [hDownLn3 : Cert.DownLn3.Facts] : Prop :=
  ∀ (m : (ℓ : Loc Cert.DownLn3.nD Cert.DownLn3.τ Cert.DownLn3.sig) → Buf (Elt Bits) ℓ) (g : Dev Cert.DownLn3.nD → PrngReg), Pre_DownLn3 m →
    θ_run (Cert.DownLn3.defs (F := Bits)) (onTc (τ := Cert.DownLn3.τ) (Cert.DownLn3.main (F := Bits))) ⟨m, fun _ => 0, g⟩ (fun r => (∀ c : Dev Cert.DownLn3.nD,
      r.2.mem ((c.tc : Thread Cert.DownLn3.nD Cert.DownLn3.τ).loc Cert.DownLn3.main_arg0) = m ((c.tc : Thread Cert.DownLn3.nD Cert.DownLn3.τ).loc Cert.DownLn3.main_arg0)
      ∧ r.2.mem ((c.tc : Thread Cert.DownLn3.nD Cert.DownLn3.τ).loc Cert.DownLn3.main_arg1) = m ((c.tc : Thread Cert.DownLn3.nD Cert.DownLn3.τ).loc Cert.DownLn3.main_arg1)
      ∧ r.2.mem ((c.tc : Thread Cert.DownLn3.nD Cert.DownLn3.τ).loc Cert.DownLn3.main_arg2) = m ((c.tc : Thread Cert.DownLn3.nD Cert.DownLn3.τ).loc Cert.DownLn3.main_arg2)
      ∧ r.2.mem ((c.tc : Thread Cert.DownLn3.nD Cert.DownLn3.τ).loc Cert.DownLn3.main_arg3) = m ((c.tc : Thread Cert.DownLn3.nD Cert.DownLn3.τ).loc Cert.DownLn3.main_arg3)
      ∧ r.2.mem ((c.tc : Thread Cert.DownLn3.nD Cert.DownLn3.τ).loc Cert.DownLn3.main_arg4) = m ((c.tc : Thread Cert.DownLn3.nD Cert.DownLn3.τ).loc Cert.DownLn3.main_arg4)
      ∧ r.2.mem ((c.tc : Thread Cert.DownLn3.nD Cert.DownLn3.τ).loc Cert.DownLn3.main_arg5) = m ((c.tc : Thread Cert.DownLn3.nD Cert.DownLn3.τ).loc Cert.DownLn3.main_arg5))
      ∧ r.2.sem = fun _ => 0)

def quiescent_DownLn3Ideal [hDownLn3Ideal : Cert.DownLn3Ideal.Facts] : Prop :=
  ∀ (m : (ℓ : Loc Cert.DownLn3Ideal.nD Cert.DownLn3Ideal.τ Cert.DownLn3Ideal.sig) → Buf (Elt Ideal) ℓ) (g : Dev Cert.DownLn3Ideal.nD → PrngReg), Pre_DownLn3Ideal m →
    θ_run (Cert.DownLn3Ideal.defs (F := Ideal)) (onTc (τ := Cert.DownLn3Ideal.τ) (Cert.DownLn3Ideal.main (F := Ideal))) ⟨m, fun _ => 0, g⟩ (fun r => (∀ c : Dev Cert.DownLn3Ideal.nD,
      r.2.mem ((c.tc : Thread Cert.DownLn3Ideal.nD Cert.DownLn3Ideal.τ).loc Cert.DownLn3Ideal.main_arg0) = m ((c.tc : Thread Cert.DownLn3Ideal.nD Cert.DownLn3Ideal.τ).loc Cert.DownLn3Ideal.main_arg0)
      ∧ r.2.mem ((c.tc : Thread Cert.DownLn3Ideal.nD Cert.DownLn3Ideal.τ).loc Cert.DownLn3Ideal.main_arg1) = m ((c.tc : Thread Cert.DownLn3Ideal.nD Cert.DownLn3Ideal.τ).loc Cert.DownLn3Ideal.main_arg1)
      ∧ r.2.mem ((c.tc : Thread Cert.DownLn3Ideal.nD Cert.DownLn3Ideal.τ).loc Cert.DownLn3Ideal.main_arg2) = m ((c.tc : Thread Cert.DownLn3Ideal.nD Cert.DownLn3Ideal.τ).loc Cert.DownLn3Ideal.main_arg2)
      ∧ r.2.mem ((c.tc : Thread Cert.DownLn3Ideal.nD Cert.DownLn3Ideal.τ).loc Cert.DownLn3Ideal.main_arg3) = m ((c.tc : Thread Cert.DownLn3Ideal.nD Cert.DownLn3Ideal.τ).loc Cert.DownLn3Ideal.main_arg3)
      ∧ r.2.mem ((c.tc : Thread Cert.DownLn3Ideal.nD Cert.DownLn3Ideal.τ).loc Cert.DownLn3Ideal.main_arg4) = m ((c.tc : Thread Cert.DownLn3Ideal.nD Cert.DownLn3Ideal.τ).loc Cert.DownLn3Ideal.main_arg4)
      ∧ r.2.mem ((c.tc : Thread Cert.DownLn3Ideal.nD Cert.DownLn3Ideal.τ).loc Cert.DownLn3Ideal.main_arg5) = m ((c.tc : Thread Cert.DownLn3Ideal.nD Cert.DownLn3Ideal.τ).loc Cert.DownLn3Ideal.main_arg5))
      ∧ r.2.sem = fun _ => 0)

def quiescent_DownLn3RefIdeal [hDownLn3RefIdeal : Cert.DownLn3RefIdeal.Facts] : Prop :=
  ∀ (m : (ℓ : Loc Cert.DownLn3RefIdeal.nD Cert.DownLn3RefIdeal.τ Cert.DownLn3RefIdeal.sig) → Buf (Elt Ideal) ℓ) (g : Dev Cert.DownLn3RefIdeal.nD → PrngReg), Pre_DownLn3RefIdeal m →
    θ_run (Cert.DownLn3RefIdeal.defs (F := Ideal)) (onTc (τ := Cert.DownLn3RefIdeal.τ) (Cert.DownLn3RefIdeal.main (F := Ideal))) ⟨m, fun _ => 0, g⟩ (fun r => (∀ c : Dev Cert.DownLn3RefIdeal.nD,
      r.2.mem ((c.tc : Thread Cert.DownLn3RefIdeal.nD Cert.DownLn3RefIdeal.τ).loc Cert.DownLn3RefIdeal.main_arg0) = m ((c.tc : Thread Cert.DownLn3RefIdeal.nD Cert.DownLn3RefIdeal.τ).loc Cert.DownLn3RefIdeal.main_arg0)
      ∧ r.2.mem ((c.tc : Thread Cert.DownLn3RefIdeal.nD Cert.DownLn3RefIdeal.τ).loc Cert.DownLn3RefIdeal.main_arg1) = m ((c.tc : Thread Cert.DownLn3RefIdeal.nD Cert.DownLn3RefIdeal.τ).loc Cert.DownLn3RefIdeal.main_arg1)
      ∧ r.2.mem ((c.tc : Thread Cert.DownLn3RefIdeal.nD Cert.DownLn3RefIdeal.τ).loc Cert.DownLn3RefIdeal.main_arg2) = m ((c.tc : Thread Cert.DownLn3RefIdeal.nD Cert.DownLn3RefIdeal.τ).loc Cert.DownLn3RefIdeal.main_arg2)
      ∧ r.2.mem ((c.tc : Thread Cert.DownLn3RefIdeal.nD Cert.DownLn3RefIdeal.τ).loc Cert.DownLn3RefIdeal.main_arg3) = m ((c.tc : Thread Cert.DownLn3RefIdeal.nD Cert.DownLn3RefIdeal.τ).loc Cert.DownLn3RefIdeal.main_arg3)
      ∧ r.2.mem ((c.tc : Thread Cert.DownLn3RefIdeal.nD Cert.DownLn3RefIdeal.τ).loc Cert.DownLn3RefIdeal.main_arg4) = m ((c.tc : Thread Cert.DownLn3RefIdeal.nD Cert.DownLn3RefIdeal.τ).loc Cert.DownLn3RefIdeal.main_arg4)
      ∧ r.2.mem ((c.tc : Thread Cert.DownLn3RefIdeal.nD Cert.DownLn3RefIdeal.τ).loc Cert.DownLn3RefIdeal.main_arg5) = m ((c.tc : Thread Cert.DownLn3RefIdeal.nD Cert.DownLn3RefIdeal.τ).loc Cert.DownLn3RefIdeal.main_arg5))
      ∧ r.2.sem = fun _ => 0)

def quiescent_OutLn0 [hOutLn0 : Cert.OutLn0.Facts] : Prop :=
  ∀ (m : (ℓ : Loc Cert.OutLn0.nD Cert.OutLn0.τ Cert.OutLn0.sig) → Buf (Elt Bits) ℓ) (g : Dev Cert.OutLn0.nD → PrngReg), Pre_OutLn0 m →
    θ_run (Cert.OutLn0.defs (F := Bits)) (onTc (τ := Cert.OutLn0.τ) (Cert.OutLn0.main (F := Bits))) ⟨m, fun _ => 0, g⟩ (fun r => (∀ c : Dev Cert.OutLn0.nD,
      r.2.mem ((c.tc : Thread Cert.OutLn0.nD Cert.OutLn0.τ).loc Cert.OutLn0.main_arg0) = m ((c.tc : Thread Cert.OutLn0.nD Cert.OutLn0.τ).loc Cert.OutLn0.main_arg0)
      ∧ r.2.mem ((c.tc : Thread Cert.OutLn0.nD Cert.OutLn0.τ).loc Cert.OutLn0.main_arg1) = m ((c.tc : Thread Cert.OutLn0.nD Cert.OutLn0.τ).loc Cert.OutLn0.main_arg1)
      ∧ r.2.mem ((c.tc : Thread Cert.OutLn0.nD Cert.OutLn0.τ).loc Cert.OutLn0.main_arg2) = m ((c.tc : Thread Cert.OutLn0.nD Cert.OutLn0.τ).loc Cert.OutLn0.main_arg2)
      ∧ r.2.mem ((c.tc : Thread Cert.OutLn0.nD Cert.OutLn0.τ).loc Cert.OutLn0.main_arg3) = m ((c.tc : Thread Cert.OutLn0.nD Cert.OutLn0.τ).loc Cert.OutLn0.main_arg3)
      ∧ r.2.mem ((c.tc : Thread Cert.OutLn0.nD Cert.OutLn0.τ).loc Cert.OutLn0.main_arg4) = m ((c.tc : Thread Cert.OutLn0.nD Cert.OutLn0.τ).loc Cert.OutLn0.main_arg4)
      ∧ r.2.mem ((c.tc : Thread Cert.OutLn0.nD Cert.OutLn0.τ).loc Cert.OutLn0.main_arg5) = m ((c.tc : Thread Cert.OutLn0.nD Cert.OutLn0.τ).loc Cert.OutLn0.main_arg5))
      ∧ r.2.sem = fun _ => 0)

def quiescent_OutLn0Ideal [hOutLn0Ideal : Cert.OutLn0Ideal.Facts] : Prop :=
  ∀ (m : (ℓ : Loc Cert.OutLn0Ideal.nD Cert.OutLn0Ideal.τ Cert.OutLn0Ideal.sig) → Buf (Elt Ideal) ℓ) (g : Dev Cert.OutLn0Ideal.nD → PrngReg), Pre_OutLn0Ideal m →
    θ_run (Cert.OutLn0Ideal.defs (F := Ideal)) (onTc (τ := Cert.OutLn0Ideal.τ) (Cert.OutLn0Ideal.main (F := Ideal))) ⟨m, fun _ => 0, g⟩ (fun r => (∀ c : Dev Cert.OutLn0Ideal.nD,
      r.2.mem ((c.tc : Thread Cert.OutLn0Ideal.nD Cert.OutLn0Ideal.τ).loc Cert.OutLn0Ideal.main_arg0) = m ((c.tc : Thread Cert.OutLn0Ideal.nD Cert.OutLn0Ideal.τ).loc Cert.OutLn0Ideal.main_arg0)
      ∧ r.2.mem ((c.tc : Thread Cert.OutLn0Ideal.nD Cert.OutLn0Ideal.τ).loc Cert.OutLn0Ideal.main_arg1) = m ((c.tc : Thread Cert.OutLn0Ideal.nD Cert.OutLn0Ideal.τ).loc Cert.OutLn0Ideal.main_arg1)
      ∧ r.2.mem ((c.tc : Thread Cert.OutLn0Ideal.nD Cert.OutLn0Ideal.τ).loc Cert.OutLn0Ideal.main_arg2) = m ((c.tc : Thread Cert.OutLn0Ideal.nD Cert.OutLn0Ideal.τ).loc Cert.OutLn0Ideal.main_arg2)
      ∧ r.2.mem ((c.tc : Thread Cert.OutLn0Ideal.nD Cert.OutLn0Ideal.τ).loc Cert.OutLn0Ideal.main_arg3) = m ((c.tc : Thread Cert.OutLn0Ideal.nD Cert.OutLn0Ideal.τ).loc Cert.OutLn0Ideal.main_arg3)
      ∧ r.2.mem ((c.tc : Thread Cert.OutLn0Ideal.nD Cert.OutLn0Ideal.τ).loc Cert.OutLn0Ideal.main_arg4) = m ((c.tc : Thread Cert.OutLn0Ideal.nD Cert.OutLn0Ideal.τ).loc Cert.OutLn0Ideal.main_arg4)
      ∧ r.2.mem ((c.tc : Thread Cert.OutLn0Ideal.nD Cert.OutLn0Ideal.τ).loc Cert.OutLn0Ideal.main_arg5) = m ((c.tc : Thread Cert.OutLn0Ideal.nD Cert.OutLn0Ideal.τ).loc Cert.OutLn0Ideal.main_arg5))
      ∧ r.2.sem = fun _ => 0)

def quiescent_OutLn0RefIdeal [hOutLn0RefIdeal : Cert.OutLn0RefIdeal.Facts] : Prop :=
  ∀ (m : (ℓ : Loc Cert.OutLn0RefIdeal.nD Cert.OutLn0RefIdeal.τ Cert.OutLn0RefIdeal.sig) → Buf (Elt Ideal) ℓ) (g : Dev Cert.OutLn0RefIdeal.nD → PrngReg), Pre_OutLn0RefIdeal m →
    θ_run (Cert.OutLn0RefIdeal.defs (F := Ideal)) (onTc (τ := Cert.OutLn0RefIdeal.τ) (Cert.OutLn0RefIdeal.main (F := Ideal))) ⟨m, fun _ => 0, g⟩ (fun r => (∀ c : Dev Cert.OutLn0RefIdeal.nD,
      r.2.mem ((c.tc : Thread Cert.OutLn0RefIdeal.nD Cert.OutLn0RefIdeal.τ).loc Cert.OutLn0RefIdeal.main_arg0) = m ((c.tc : Thread Cert.OutLn0RefIdeal.nD Cert.OutLn0RefIdeal.τ).loc Cert.OutLn0RefIdeal.main_arg0)
      ∧ r.2.mem ((c.tc : Thread Cert.OutLn0RefIdeal.nD Cert.OutLn0RefIdeal.τ).loc Cert.OutLn0RefIdeal.main_arg1) = m ((c.tc : Thread Cert.OutLn0RefIdeal.nD Cert.OutLn0RefIdeal.τ).loc Cert.OutLn0RefIdeal.main_arg1)
      ∧ r.2.mem ((c.tc : Thread Cert.OutLn0RefIdeal.nD Cert.OutLn0RefIdeal.τ).loc Cert.OutLn0RefIdeal.main_arg2) = m ((c.tc : Thread Cert.OutLn0RefIdeal.nD Cert.OutLn0RefIdeal.τ).loc Cert.OutLn0RefIdeal.main_arg2)
      ∧ r.2.mem ((c.tc : Thread Cert.OutLn0RefIdeal.nD Cert.OutLn0RefIdeal.τ).loc Cert.OutLn0RefIdeal.main_arg3) = m ((c.tc : Thread Cert.OutLn0RefIdeal.nD Cert.OutLn0RefIdeal.τ).loc Cert.OutLn0RefIdeal.main_arg3)
      ∧ r.2.mem ((c.tc : Thread Cert.OutLn0RefIdeal.nD Cert.OutLn0RefIdeal.τ).loc Cert.OutLn0RefIdeal.main_arg4) = m ((c.tc : Thread Cert.OutLn0RefIdeal.nD Cert.OutLn0RefIdeal.τ).loc Cert.OutLn0RefIdeal.main_arg4)
      ∧ r.2.mem ((c.tc : Thread Cert.OutLn0RefIdeal.nD Cert.OutLn0RefIdeal.τ).loc Cert.OutLn0RefIdeal.main_arg5) = m ((c.tc : Thread Cert.OutLn0RefIdeal.nD Cert.OutLn0RefIdeal.τ).loc Cert.OutLn0RefIdeal.main_arg5))
      ∧ r.2.sem = fun _ => 0)

def quiescent_OutLn1 [hOutLn1 : Cert.OutLn1.Facts] : Prop :=
  ∀ (m : (ℓ : Loc Cert.OutLn1.nD Cert.OutLn1.τ Cert.OutLn1.sig) → Buf (Elt Bits) ℓ) (g : Dev Cert.OutLn1.nD → PrngReg), Pre_OutLn1 m →
    θ_run (Cert.OutLn1.defs (F := Bits)) (onTc (τ := Cert.OutLn1.τ) (Cert.OutLn1.main (F := Bits))) ⟨m, fun _ => 0, g⟩ (fun r => (∀ c : Dev Cert.OutLn1.nD,
      r.2.mem ((c.tc : Thread Cert.OutLn1.nD Cert.OutLn1.τ).loc Cert.OutLn1.main_arg0) = m ((c.tc : Thread Cert.OutLn1.nD Cert.OutLn1.τ).loc Cert.OutLn1.main_arg0)
      ∧ r.2.mem ((c.tc : Thread Cert.OutLn1.nD Cert.OutLn1.τ).loc Cert.OutLn1.main_arg1) = m ((c.tc : Thread Cert.OutLn1.nD Cert.OutLn1.τ).loc Cert.OutLn1.main_arg1)
      ∧ r.2.mem ((c.tc : Thread Cert.OutLn1.nD Cert.OutLn1.τ).loc Cert.OutLn1.main_arg2) = m ((c.tc : Thread Cert.OutLn1.nD Cert.OutLn1.τ).loc Cert.OutLn1.main_arg2)
      ∧ r.2.mem ((c.tc : Thread Cert.OutLn1.nD Cert.OutLn1.τ).loc Cert.OutLn1.main_arg3) = m ((c.tc : Thread Cert.OutLn1.nD Cert.OutLn1.τ).loc Cert.OutLn1.main_arg3)
      ∧ r.2.mem ((c.tc : Thread Cert.OutLn1.nD Cert.OutLn1.τ).loc Cert.OutLn1.main_arg4) = m ((c.tc : Thread Cert.OutLn1.nD Cert.OutLn1.τ).loc Cert.OutLn1.main_arg4)
      ∧ r.2.mem ((c.tc : Thread Cert.OutLn1.nD Cert.OutLn1.τ).loc Cert.OutLn1.main_arg5) = m ((c.tc : Thread Cert.OutLn1.nD Cert.OutLn1.τ).loc Cert.OutLn1.main_arg5))
      ∧ r.2.sem = fun _ => 0)

def quiescent_OutLn1Ideal [hOutLn1Ideal : Cert.OutLn1Ideal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg), Pre_OutLn1Ideal m →
    θ_run (Cert.OutLn1Ideal.defs (F := Ideal)) (onTc (τ := Cert.OutLn1Ideal.τ) (Cert.OutLn1Ideal.main (F := Ideal))) ⟨m, fun _ => 0, g⟩ (fun r => (∀ c : Dev Cert.OutLn1Ideal.nD,
      r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
      ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
      ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
      ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
      ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4)
      ∧ r.2.mem ((c.tc : Thread Cert.OutLn1Ideal.nD Cert.OutLn1Ideal.τ).loc Cert.OutLn1Ideal.main_arg5) = m ((c.tc : Thread Cert.OutLn1Ideal.nD Cert.OutLn1Ideal.τ).loc Cert.OutLn1Ideal.main_arg5))
      ∧ r.2.sem = fun _ => 0)

def quiescent_OutLn1RefIdeal [hOutLn1RefIdeal : Cert.OutLn1RefIdeal.Facts] : Prop :=
  ∀ (m : (ℓ : Loc Cert.OutLn1RefIdeal.nD Cert.OutLn1RefIdeal.τ Cert.OutLn1RefIdeal.sig) → Buf (Elt Ideal) ℓ) (g : Dev Cert.OutLn1RefIdeal.nD → PrngReg), Pre_OutLn1RefIdeal m →
    θ_run (Cert.OutLn1RefIdeal.defs (F := Ideal)) (onTc (τ := Cert.OutLn1RefIdeal.τ) (Cert.OutLn1RefIdeal.main (F := Ideal))) ⟨m, fun _ => 0, g⟩ (fun r => (∀ c : Dev Cert.OutLn1RefIdeal.nD,
      r.2.mem ((c.tc : Thread Cert.OutLn1RefIdeal.nD Cert.OutLn1RefIdeal.τ).loc Cert.OutLn1RefIdeal.main_arg0) = m ((c.tc : Thread Cert.OutLn1RefIdeal.nD Cert.OutLn1RefIdeal.τ).loc Cert.OutLn1RefIdeal.main_arg0)
      ∧ r.2.mem ((c.tc : Thread Cert.OutLn1RefIdeal.nD Cert.OutLn1RefIdeal.τ).loc Cert.OutLn1RefIdeal.main_arg1) = m ((c.tc : Thread Cert.OutLn1RefIdeal.nD Cert.OutLn1RefIdeal.τ).loc Cert.OutLn1RefIdeal.main_arg1)
      ∧ r.2.mem ((c.tc : Thread Cert.OutLn1RefIdeal.nD Cert.OutLn1RefIdeal.τ).loc Cert.OutLn1RefIdeal.main_arg2) = m ((c.tc : Thread Cert.OutLn1RefIdeal.nD Cert.OutLn1RefIdeal.τ).loc Cert.OutLn1RefIdeal.main_arg2)
      ∧ r.2.mem ((c.tc : Thread Cert.OutLn1RefIdeal.nD Cert.OutLn1RefIdeal.τ).loc Cert.OutLn1RefIdeal.main_arg3) = m ((c.tc : Thread Cert.OutLn1RefIdeal.nD Cert.OutLn1RefIdeal.τ).loc Cert.OutLn1RefIdeal.main_arg3)
      ∧ r.2.mem ((c.tc : Thread Cert.OutLn1RefIdeal.nD Cert.OutLn1RefIdeal.τ).loc Cert.OutLn1RefIdeal.main_arg4) = m ((c.tc : Thread Cert.OutLn1RefIdeal.nD Cert.OutLn1RefIdeal.τ).loc Cert.OutLn1RefIdeal.main_arg4)
      ∧ r.2.mem ((c.tc : Thread Cert.OutLn1RefIdeal.nD Cert.OutLn1RefIdeal.τ).loc Cert.OutLn1RefIdeal.main_arg5) = m ((c.tc : Thread Cert.OutLn1RefIdeal.nD Cert.OutLn1RefIdeal.τ).loc Cert.OutLn1RefIdeal.main_arg5))
      ∧ r.2.sem = fun _ => 0)

def quiescent_OutLn2 [hOutLn2 : Cert.OutLn2.Facts] : Prop :=
  ∀ (m : (ℓ : Loc Cert.OutLn2.nD Cert.OutLn2.τ Cert.OutLn2.sig) → Buf (Elt Bits) ℓ) (g : Dev Cert.OutLn2.nD → PrngReg), Pre_OutLn2 m →
    θ_run (Cert.OutLn2.defs (F := Bits)) (onTc (τ := Cert.OutLn2.τ) (Cert.OutLn2.main (F := Bits))) ⟨m, fun _ => 0, g⟩ (fun r => (∀ c : Dev Cert.OutLn2.nD,
      r.2.mem ((c.tc : Thread Cert.OutLn2.nD Cert.OutLn2.τ).loc Cert.OutLn2.main_arg0) = m ((c.tc : Thread Cert.OutLn2.nD Cert.OutLn2.τ).loc Cert.OutLn2.main_arg0)
      ∧ r.2.mem ((c.tc : Thread Cert.OutLn2.nD Cert.OutLn2.τ).loc Cert.OutLn2.main_arg1) = m ((c.tc : Thread Cert.OutLn2.nD Cert.OutLn2.τ).loc Cert.OutLn2.main_arg1)
      ∧ r.2.mem ((c.tc : Thread Cert.OutLn2.nD Cert.OutLn2.τ).loc Cert.OutLn2.main_arg2) = m ((c.tc : Thread Cert.OutLn2.nD Cert.OutLn2.τ).loc Cert.OutLn2.main_arg2)
      ∧ r.2.mem ((c.tc : Thread Cert.OutLn2.nD Cert.OutLn2.τ).loc Cert.OutLn2.main_arg3) = m ((c.tc : Thread Cert.OutLn2.nD Cert.OutLn2.τ).loc Cert.OutLn2.main_arg3)
      ∧ r.2.mem ((c.tc : Thread Cert.OutLn2.nD Cert.OutLn2.τ).loc Cert.OutLn2.main_arg4) = m ((c.tc : Thread Cert.OutLn2.nD Cert.OutLn2.τ).loc Cert.OutLn2.main_arg4)
      ∧ r.2.mem ((c.tc : Thread Cert.OutLn2.nD Cert.OutLn2.τ).loc Cert.OutLn2.main_arg5) = m ((c.tc : Thread Cert.OutLn2.nD Cert.OutLn2.τ).loc Cert.OutLn2.main_arg5))
      ∧ r.2.sem = fun _ => 0)

def quiescent_OutLn2Ideal [hOutLn2Ideal : Cert.OutLn2Ideal.Facts] : Prop :=
  ∀ (m : (ℓ : Loc Cert.OutLn2Ideal.nD Cert.OutLn2Ideal.τ Cert.OutLn2Ideal.sig) → Buf (Elt Ideal) ℓ) (g : Dev Cert.OutLn2Ideal.nD → PrngReg), Pre_OutLn2Ideal m →
    θ_run (Cert.OutLn2Ideal.defs (F := Ideal)) (onTc (τ := Cert.OutLn2Ideal.τ) (Cert.OutLn2Ideal.main (F := Ideal))) ⟨m, fun _ => 0, g⟩ (fun r => (∀ c : Dev Cert.OutLn2Ideal.nD,
      r.2.mem ((c.tc : Thread Cert.OutLn2Ideal.nD Cert.OutLn2Ideal.τ).loc Cert.OutLn2Ideal.main_arg0) = m ((c.tc : Thread Cert.OutLn2Ideal.nD Cert.OutLn2Ideal.τ).loc Cert.OutLn2Ideal.main_arg0)
      ∧ r.2.mem ((c.tc : Thread Cert.OutLn2Ideal.nD Cert.OutLn2Ideal.τ).loc Cert.OutLn2Ideal.main_arg1) = m ((c.tc : Thread Cert.OutLn2Ideal.nD Cert.OutLn2Ideal.τ).loc Cert.OutLn2Ideal.main_arg1)
      ∧ r.2.mem ((c.tc : Thread Cert.OutLn2Ideal.nD Cert.OutLn2Ideal.τ).loc Cert.OutLn2Ideal.main_arg2) = m ((c.tc : Thread Cert.OutLn2Ideal.nD Cert.OutLn2Ideal.τ).loc Cert.OutLn2Ideal.main_arg2)
      ∧ r.2.mem ((c.tc : Thread Cert.OutLn2Ideal.nD Cert.OutLn2Ideal.τ).loc Cert.OutLn2Ideal.main_arg3) = m ((c.tc : Thread Cert.OutLn2Ideal.nD Cert.OutLn2Ideal.τ).loc Cert.OutLn2Ideal.main_arg3)
      ∧ r.2.mem ((c.tc : Thread Cert.OutLn2Ideal.nD Cert.OutLn2Ideal.τ).loc Cert.OutLn2Ideal.main_arg4) = m ((c.tc : Thread Cert.OutLn2Ideal.nD Cert.OutLn2Ideal.τ).loc Cert.OutLn2Ideal.main_arg4)
      ∧ r.2.mem ((c.tc : Thread Cert.OutLn2Ideal.nD Cert.OutLn2Ideal.τ).loc Cert.OutLn2Ideal.main_arg5) = m ((c.tc : Thread Cert.OutLn2Ideal.nD Cert.OutLn2Ideal.τ).loc Cert.OutLn2Ideal.main_arg5))
      ∧ r.2.sem = fun _ => 0)

def quiescent_OutLn2RefIdeal [hOutLn2RefIdeal : Cert.OutLn2RefIdeal.Facts] : Prop :=
  ∀ (m : (ℓ : Loc Cert.OutLn2RefIdeal.nD Cert.OutLn2RefIdeal.τ Cert.OutLn2RefIdeal.sig) → Buf (Elt Ideal) ℓ) (g : Dev Cert.OutLn2RefIdeal.nD → PrngReg), Pre_OutLn2RefIdeal m →
    θ_run (Cert.OutLn2RefIdeal.defs (F := Ideal)) (onTc (τ := Cert.OutLn2RefIdeal.τ) (Cert.OutLn2RefIdeal.main (F := Ideal))) ⟨m, fun _ => 0, g⟩ (fun r => (∀ c : Dev Cert.OutLn2RefIdeal.nD,
      r.2.mem ((c.tc : Thread Cert.OutLn2RefIdeal.nD Cert.OutLn2RefIdeal.τ).loc Cert.OutLn2RefIdeal.main_arg0) = m ((c.tc : Thread Cert.OutLn2RefIdeal.nD Cert.OutLn2RefIdeal.τ).loc Cert.OutLn2RefIdeal.main_arg0)
      ∧ r.2.mem ((c.tc : Thread Cert.OutLn2RefIdeal.nD Cert.OutLn2RefIdeal.τ).loc Cert.OutLn2RefIdeal.main_arg1) = m ((c.tc : Thread Cert.OutLn2RefIdeal.nD Cert.OutLn2RefIdeal.τ).loc Cert.OutLn2RefIdeal.main_arg1)
      ∧ r.2.mem ((c.tc : Thread Cert.OutLn2RefIdeal.nD Cert.OutLn2RefIdeal.τ).loc Cert.OutLn2RefIdeal.main_arg2) = m ((c.tc : Thread Cert.OutLn2RefIdeal.nD Cert.OutLn2RefIdeal.τ).loc Cert.OutLn2RefIdeal.main_arg2)
      ∧ r.2.mem ((c.tc : Thread Cert.OutLn2RefIdeal.nD Cert.OutLn2RefIdeal.τ).loc Cert.OutLn2RefIdeal.main_arg3) = m ((c.tc : Thread Cert.OutLn2RefIdeal.nD Cert.OutLn2RefIdeal.τ).loc Cert.OutLn2RefIdeal.main_arg3)
      ∧ r.2.mem ((c.tc : Thread Cert.OutLn2RefIdeal.nD Cert.OutLn2RefIdeal.τ).loc Cert.OutLn2RefIdeal.main_arg4) = m ((c.tc : Thread Cert.OutLn2RefIdeal.nD Cert.OutLn2RefIdeal.τ).loc Cert.OutLn2RefIdeal.main_arg4)
      ∧ r.2.mem ((c.tc : Thread Cert.OutLn2RefIdeal.nD Cert.OutLn2RefIdeal.τ).loc Cert.OutLn2RefIdeal.main_arg5) = m ((c.tc : Thread Cert.OutLn2RefIdeal.nD Cert.OutLn2RefIdeal.τ).loc Cert.OutLn2RefIdeal.main_arg5))
      ∧ r.2.sem = fun _ => 0)

def quiescent_OutLn3 [hOutLn3 : Cert.OutLn3.Facts] : Prop :=
  ∀ (m : (ℓ : Loc Cert.OutLn3.nD Cert.OutLn3.τ Cert.OutLn3.sig) → Buf (Elt Bits) ℓ) (g : Dev Cert.OutLn3.nD → PrngReg), Pre_OutLn3 m →
    θ_run (Cert.OutLn3.defs (F := Bits)) (onTc (τ := Cert.OutLn3.τ) (Cert.OutLn3.main (F := Bits))) ⟨m, fun _ => 0, g⟩ (fun r => (∀ c : Dev Cert.OutLn3.nD,
      r.2.mem ((c.tc : Thread Cert.OutLn3.nD Cert.OutLn3.τ).loc Cert.OutLn3.main_arg0) = m ((c.tc : Thread Cert.OutLn3.nD Cert.OutLn3.τ).loc Cert.OutLn3.main_arg0)
      ∧ r.2.mem ((c.tc : Thread Cert.OutLn3.nD Cert.OutLn3.τ).loc Cert.OutLn3.main_arg1) = m ((c.tc : Thread Cert.OutLn3.nD Cert.OutLn3.τ).loc Cert.OutLn3.main_arg1)
      ∧ r.2.mem ((c.tc : Thread Cert.OutLn3.nD Cert.OutLn3.τ).loc Cert.OutLn3.main_arg2) = m ((c.tc : Thread Cert.OutLn3.nD Cert.OutLn3.τ).loc Cert.OutLn3.main_arg2)
      ∧ r.2.mem ((c.tc : Thread Cert.OutLn3.nD Cert.OutLn3.τ).loc Cert.OutLn3.main_arg3) = m ((c.tc : Thread Cert.OutLn3.nD Cert.OutLn3.τ).loc Cert.OutLn3.main_arg3)
      ∧ r.2.mem ((c.tc : Thread Cert.OutLn3.nD Cert.OutLn3.τ).loc Cert.OutLn3.main_arg4) = m ((c.tc : Thread Cert.OutLn3.nD Cert.OutLn3.τ).loc Cert.OutLn3.main_arg4)
      ∧ r.2.mem ((c.tc : Thread Cert.OutLn3.nD Cert.OutLn3.τ).loc Cert.OutLn3.main_arg5) = m ((c.tc : Thread Cert.OutLn3.nD Cert.OutLn3.τ).loc Cert.OutLn3.main_arg5))
      ∧ r.2.sem = fun _ => 0)

def quiescent_OutLn3Ideal [hOutLn3Ideal : Cert.OutLn3Ideal.Facts] : Prop :=
  ∀ (m : (ℓ : Loc Cert.OutLn3Ideal.nD Cert.OutLn3Ideal.τ Cert.OutLn3Ideal.sig) → Buf (Elt Ideal) ℓ) (g : Dev Cert.OutLn3Ideal.nD → PrngReg), Pre_OutLn3Ideal m →
    θ_run (Cert.OutLn3Ideal.defs (F := Ideal)) (onTc (τ := Cert.OutLn3Ideal.τ) (Cert.OutLn3Ideal.main (F := Ideal))) ⟨m, fun _ => 0, g⟩ (fun r => (∀ c : Dev Cert.OutLn3Ideal.nD,
      r.2.mem ((c.tc : Thread Cert.OutLn3Ideal.nD Cert.OutLn3Ideal.τ).loc Cert.OutLn3Ideal.main_arg0) = m ((c.tc : Thread Cert.OutLn3Ideal.nD Cert.OutLn3Ideal.τ).loc Cert.OutLn3Ideal.main_arg0)
      ∧ r.2.mem ((c.tc : Thread Cert.OutLn3Ideal.nD Cert.OutLn3Ideal.τ).loc Cert.OutLn3Ideal.main_arg1) = m ((c.tc : Thread Cert.OutLn3Ideal.nD Cert.OutLn3Ideal.τ).loc Cert.OutLn3Ideal.main_arg1)
      ∧ r.2.mem ((c.tc : Thread Cert.OutLn3Ideal.nD Cert.OutLn3Ideal.τ).loc Cert.OutLn3Ideal.main_arg2) = m ((c.tc : Thread Cert.OutLn3Ideal.nD Cert.OutLn3Ideal.τ).loc Cert.OutLn3Ideal.main_arg2)
      ∧ r.2.mem ((c.tc : Thread Cert.OutLn3Ideal.nD Cert.OutLn3Ideal.τ).loc Cert.OutLn3Ideal.main_arg3) = m ((c.tc : Thread Cert.OutLn3Ideal.nD Cert.OutLn3Ideal.τ).loc Cert.OutLn3Ideal.main_arg3)
      ∧ r.2.mem ((c.tc : Thread Cert.OutLn3Ideal.nD Cert.OutLn3Ideal.τ).loc Cert.OutLn3Ideal.main_arg4) = m ((c.tc : Thread Cert.OutLn3Ideal.nD Cert.OutLn3Ideal.τ).loc Cert.OutLn3Ideal.main_arg4)
      ∧ r.2.mem ((c.tc : Thread Cert.OutLn3Ideal.nD Cert.OutLn3Ideal.τ).loc Cert.OutLn3Ideal.main_arg5) = m ((c.tc : Thread Cert.OutLn3Ideal.nD Cert.OutLn3Ideal.τ).loc Cert.OutLn3Ideal.main_arg5))
      ∧ r.2.sem = fun _ => 0)

def quiescent_OutLn3RefIdeal [hOutLn3RefIdeal : Cert.OutLn3RefIdeal.Facts] : Prop :=
  ∀ (m : (ℓ : Loc Cert.OutLn3RefIdeal.nD Cert.OutLn3RefIdeal.τ Cert.OutLn3RefIdeal.sig) → Buf (Elt Ideal) ℓ) (g : Dev Cert.OutLn3RefIdeal.nD → PrngReg), Pre_OutLn3RefIdeal m →
    θ_run (Cert.OutLn3RefIdeal.defs (F := Ideal)) (onTc (τ := Cert.OutLn3RefIdeal.τ) (Cert.OutLn3RefIdeal.main (F := Ideal))) ⟨m, fun _ => 0, g⟩ (fun r => (∀ c : Dev Cert.OutLn3RefIdeal.nD,
      r.2.mem ((c.tc : Thread Cert.OutLn3RefIdeal.nD Cert.OutLn3RefIdeal.τ).loc Cert.OutLn3RefIdeal.main_arg0) = m ((c.tc : Thread Cert.OutLn3RefIdeal.nD Cert.OutLn3RefIdeal.τ).loc Cert.OutLn3RefIdeal.main_arg0)
      ∧ r.2.mem ((c.tc : Thread Cert.OutLn3RefIdeal.nD Cert.OutLn3RefIdeal.τ).loc Cert.OutLn3RefIdeal.main_arg1) = m ((c.tc : Thread Cert.OutLn3RefIdeal.nD Cert.OutLn3RefIdeal.τ).loc Cert.OutLn3RefIdeal.main_arg1)
      ∧ r.2.mem ((c.tc : Thread Cert.OutLn3RefIdeal.nD Cert.OutLn3RefIdeal.τ).loc Cert.OutLn3RefIdeal.main_arg2) = m ((c.tc : Thread Cert.OutLn3RefIdeal.nD Cert.OutLn3RefIdeal.τ).loc Cert.OutLn3RefIdeal.main_arg2)
      ∧ r.2.mem ((c.tc : Thread Cert.OutLn3RefIdeal.nD Cert.OutLn3RefIdeal.τ).loc Cert.OutLn3RefIdeal.main_arg3) = m ((c.tc : Thread Cert.OutLn3RefIdeal.nD Cert.OutLn3RefIdeal.τ).loc Cert.OutLn3RefIdeal.main_arg3)
      ∧ r.2.mem ((c.tc : Thread Cert.OutLn3RefIdeal.nD Cert.OutLn3RefIdeal.τ).loc Cert.OutLn3RefIdeal.main_arg4) = m ((c.tc : Thread Cert.OutLn3RefIdeal.nD Cert.OutLn3RefIdeal.τ).loc Cert.OutLn3RefIdeal.main_arg4)
      ∧ r.2.mem ((c.tc : Thread Cert.OutLn3RefIdeal.nD Cert.OutLn3RefIdeal.τ).loc Cert.OutLn3RefIdeal.main_arg5) = m ((c.tc : Thread Cert.OutLn3RefIdeal.nD Cert.OutLn3RefIdeal.τ).loc Cert.OutLn3RefIdeal.main_arg5))
      ∧ r.2.sem = fun _ => 0)

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)) →
    ∃ (v0 : (c : Dev Cert.InGradIdeal.nD) → Buf (Elt Ideal) ((c.tc : Thread Cert.InGradIdeal.nD Cert.InGradIdeal.τ).loc Cert.InGradIdeal.main_v0_0)) (v1 : (c : Dev Cert.InGradIdeal.nD) → Buf (Elt Ideal) ((c.tc : Thread Cert.InGradIdeal.nD Cert.InGradIdeal.τ).loc Cert.InGradIdeal.main_v0_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0_0) = v0 c
          ∧ r.2.mem ((c.tc : Thread Cert.InGradIdeal.nD Cert.InGradIdeal.τ).loc Cert.InGradIdeal.main_v0_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v25) = v0 c
          ∧ r.2.mem ((c.tc : Thread Cert.InGradRefIdeal.nD Cert.InGradRefIdeal.τ).loc Cert.InGradRefIdeal.main_v27) = v1 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4))

def preserves_InLn_InLnIdeal : Prop :=
  True

def algebraic_InLnIdeal_InLnRefIdeal_on_norm_rows [hInLnIdeal : Cert.InLnIdeal.Facts] [hInLnRefIdeal : Cert.InLnRefIdeal.Facts] [hOn_norm_rows : Cert.On_norm_rows.Facts] : Prop :=
  ∀ (m : (ℓ : Loc Cert.InLnIdeal.nD Cert.InLnIdeal.τ Cert.InLnIdeal.sig) → Buf (Elt Ideal) ℓ) (g : Dev Cert.InLnIdeal.nD → PrngReg)
    (m' : (ℓ : Loc Cert.InLnRefIdeal.nD Cert.InLnRefIdeal.τ Cert.InLnRefIdeal.sig) → Buf (Elt Ideal) ℓ) (g' : Dev Cert.InLnRefIdeal.nD → PrngReg), Pre_InLnIdeal m →
    (∀ c : Dev Cert.InLnIdeal.nD,
      m' ((c.tc : Thread Cert.InLnRefIdeal.nD Cert.InLnRefIdeal.τ).loc Cert.InLnRefIdeal.main_arg0) = m ((c.tc : Thread Cert.InLnIdeal.nD Cert.InLnIdeal.τ).loc Cert.InLnIdeal.main_arg0)
      ∧ m' ((c.tc : Thread Cert.InLnRefIdeal.nD Cert.InLnRefIdeal.τ).loc Cert.InLnRefIdeal.main_arg1) = m ((c.tc : Thread Cert.InLnIdeal.nD Cert.InLnIdeal.τ).loc Cert.InLnIdeal.main_arg1)
      ∧ m' ((c.tc : Thread Cert.InLnRefIdeal.nD Cert.InLnRefIdeal.τ).loc Cert.InLnRefIdeal.main_arg2) = m ((c.tc : Thread Cert.InLnIdeal.nD Cert.InLnIdeal.τ).loc Cert.InLnIdeal.main_arg2)
      ∧ m' ((c.tc : Thread Cert.InLnRefIdeal.nD Cert.InLnRefIdeal.τ).loc Cert.InLnRefIdeal.main_arg3) = m ((c.tc : Thread Cert.InLnIdeal.nD Cert.InLnIdeal.τ).loc Cert.InLnIdeal.main_arg3)
      ∧ m' ((c.tc : Thread Cert.InLnRefIdeal.nD Cert.InLnRefIdeal.τ).loc Cert.InLnRefIdeal.main_arg4) = m ((c.tc : Thread Cert.InLnIdeal.nD Cert.InLnIdeal.τ).loc Cert.InLnIdeal.main_arg4)
      ∧ m' ((c.tc : Thread Cert.InLnRefIdeal.nD Cert.InLnRefIdeal.τ).loc Cert.InLnRefIdeal.main_arg5) = m ((c.tc : Thread Cert.InLnIdeal.nD Cert.InLnIdeal.τ).loc Cert.InLnIdeal.main_arg5)
      ∧ m' ((c.tc : Thread Cert.InLnRefIdeal.nD Cert.InLnRefIdeal.τ).loc Cert.InLnRefIdeal.main_arg6) = m ((c.tc : Thread Cert.InLnIdeal.nD Cert.InLnIdeal.τ).loc Cert.InLnIdeal.main_arg6)
      ∧ m' ((c.tc : Thread Cert.InLnRefIdeal.nD Cert.InLnRefIdeal.τ).loc Cert.InLnRefIdeal.main_arg7) = m ((c.tc : Thread Cert.InLnIdeal.nD Cert.InLnIdeal.τ).loc Cert.InLnIdeal.main_arg7)) →
    ∃ (v0 : (c : Dev Cert.InLnIdeal.nD) → Buf (Elt Ideal) ((c.tc : Thread Cert.InLnIdeal.nD Cert.InLnIdeal.τ).loc Cert.InLnIdeal.main_v0_2)),
      θ_run (Cert.InLnIdeal.defs (F := Ideal)) (onTc (τ := Cert.InLnIdeal.τ) (Cert.InLnIdeal.main (F := Ideal))) ⟨m, fun _ => 0, g⟩ (fun r => ∀ c : Dev Cert.InLnIdeal.nD,
          (∀ i : (⟨2, ![8, 1024]⟩ : Shape).Idx, (Cert.On_norm_rows.fn (F := Ideal) (m ((c.tc : Thread Cert.InLnIdeal.nD Cert.InLnIdeal.τ).loc Cert.InLnIdeal.main_arg0)) (m ((c.tc : Thread Cert.InLnIdeal.nD Cert.InLnIdeal.τ).loc Cert.InLnIdeal.main_arg1)) (m ((c.tc : Thread Cert.InLnIdeal.nD Cert.InLnIdeal.τ).loc Cert.InLnIdeal.main_arg2)) (m ((c.tc : Thread Cert.InLnIdeal.nD Cert.InLnIdeal.τ).loc Cert.InLnIdeal.main_arg3)) (m ((c.tc : Thread Cert.InLnIdeal.nD Cert.InLnIdeal.τ).loc Cert.InLnIdeal.main_arg4)) (m ((c.tc : Thread Cert.InLnIdeal.nD Cert.InLnIdeal.τ).loc Cert.InLnIdeal.main_arg5)) (m ((c.tc : Thread Cert.InLnIdeal.nD Cert.InLnIdeal.τ).loc Cert.InLnIdeal.main_arg6)) (m ((c.tc : Thread Cert.InLnIdeal.nD Cert.InLnIdeal.τ).loc Cert.InLnIdeal.main_arg7))) i = 1#1 → r.2.mem ((c.tc : Thread Cert.InLnIdeal.nD Cert.InLnIdeal.τ).loc Cert.InLnIdeal.main_v0_2) i = v0 c i)
          ∧ r.2.mem ((c.tc : Thread Cert.InLnIdeal.nD Cert.InLnIdeal.τ).loc Cert.InLnIdeal.main_arg0) = m ((c.tc : Thread Cert.InLnIdeal.nD Cert.InLnIdeal.τ).loc Cert.InLnIdeal.main_arg0)
          ∧ r.2.mem ((c.tc : Thread Cert.InLnIdeal.nD Cert.InLnIdeal.τ).loc Cert.InLnIdeal.main_arg1) = m ((c.tc : Thread Cert.InLnIdeal.nD Cert.InLnIdeal.τ).loc Cert.InLnIdeal.main_arg1)
          ∧ r.2.mem ((c.tc : Thread Cert.InLnIdeal.nD Cert.InLnIdeal.τ).loc Cert.InLnIdeal.main_arg2) = m ((c.tc : Thread Cert.InLnIdeal.nD Cert.InLnIdeal.τ).loc Cert.InLnIdeal.main_arg2)
          ∧ r.2.mem ((c.tc : Thread Cert.InLnIdeal.nD Cert.InLnIdeal.τ).loc Cert.InLnIdeal.main_arg3) = m ((c.tc : Thread Cert.InLnIdeal.nD Cert.InLnIdeal.τ).loc Cert.InLnIdeal.main_arg3)
          ∧ r.2.mem ((c.tc : Thread Cert.InLnIdeal.nD Cert.InLnIdeal.τ).loc Cert.InLnIdeal.main_arg4) = m ((c.tc : Thread Cert.InLnIdeal.nD Cert.InLnIdeal.τ).loc Cert.InLnIdeal.main_arg4)
          ∧ r.2.mem ((c.tc : Thread Cert.InLnIdeal.nD Cert.InLnIdeal.τ).loc Cert.InLnIdeal.main_arg5) = m ((c.tc : Thread Cert.InLnIdeal.nD Cert.InLnIdeal.τ).loc Cert.InLnIdeal.main_arg5)
          ∧ r.2.mem ((c.tc : Thread Cert.InLnIdeal.nD Cert.InLnIdeal.τ).loc Cert.InLnIdeal.main_arg6) = m ((c.tc : Thread Cert.InLnIdeal.nD Cert.InLnIdeal.τ).loc Cert.InLnIdeal.main_arg6)
          ∧ r.2.mem ((c.tc : Thread Cert.InLnIdeal.nD Cert.InLnIdeal.τ).loc Cert.InLnIdeal.main_arg7) = m ((c.tc : Thread Cert.InLnIdeal.nD Cert.InLnIdeal.τ).loc Cert.InLnIdeal.main_arg7))
      ∧ θ_run (Cert.InLnRefIdeal.defs (F := Ideal)) (onTc (τ := Cert.InLnRefIdeal.τ) (Cert.InLnRefIdeal.main (F := Ideal))) ⟨m', fun _ => 0, g'⟩ (fun r => ∀ c : Dev Cert.InLnRefIdeal.nD,
          (∀ i : (⟨2, ![8, 1024]⟩ : Shape).Idx, (Cert.On_norm_rows.fn (F := Ideal) (m ((c.tc : Thread Cert.InLnIdeal.nD Cert.InLnIdeal.τ).loc Cert.InLnIdeal.main_arg0)) (m ((c.tc : Thread Cert.InLnIdeal.nD Cert.InLnIdeal.τ).loc Cert.InLnIdeal.main_arg1)) (m ((c.tc : Thread Cert.InLnIdeal.nD Cert.InLnIdeal.τ).loc Cert.InLnIdeal.main_arg2)) (m ((c.tc : Thread Cert.InLnIdeal.nD Cert.InLnIdeal.τ).loc Cert.InLnIdeal.main_arg3)) (m ((c.tc : Thread Cert.InLnIdeal.nD Cert.InLnIdeal.τ).loc Cert.InLnIdeal.main_arg4)) (m ((c.tc : Thread Cert.InLnIdeal.nD Cert.InLnIdeal.τ).loc Cert.InLnIdeal.main_arg5)) (m ((c.tc : Thread Cert.InLnIdeal.nD Cert.InLnIdeal.τ).loc Cert.InLnIdeal.main_arg6)) (m ((c.tc : Thread Cert.InLnIdeal.nD Cert.InLnIdeal.τ).loc Cert.InLnIdeal.main_arg7))) i = 1#1 → r.2.mem ((c.tc : Thread Cert.InLnRefIdeal.nD Cert.InLnRefIdeal.τ).loc Cert.InLnRefIdeal.main_v56) i = v0 c i)
          ∧ r.2.mem ((c.tc : Thread Cert.InLnRefIdeal.nD Cert.InLnRefIdeal.τ).loc Cert.InLnRefIdeal.main_arg0) = m' ((c.tc : Thread Cert.InLnRefIdeal.nD Cert.InLnRefIdeal.τ).loc Cert.InLnRefIdeal.main_arg0)
          ∧ r.2.mem ((c.tc : Thread Cert.InLnRefIdeal.nD Cert.InLnRefIdeal.τ).loc Cert.InLnRefIdeal.main_arg1) = m' ((c.tc : Thread Cert.InLnRefIdeal.nD Cert.InLnRefIdeal.τ).loc Cert.InLnRefIdeal.main_arg1)
          ∧ r.2.mem ((c.tc : Thread Cert.InLnRefIdeal.nD Cert.InLnRefIdeal.τ).loc Cert.InLnRefIdeal.main_arg2) = m' ((c.tc : Thread Cert.InLnRefIdeal.nD Cert.InLnRefIdeal.τ).loc Cert.InLnRefIdeal.main_arg2)
          ∧ r.2.mem ((c.tc : Thread Cert.InLnRefIdeal.nD Cert.InLnRefIdeal.τ).loc Cert.InLnRefIdeal.main_arg3) = m' ((c.tc : Thread Cert.InLnRefIdeal.nD Cert.InLnRefIdeal.τ).loc Cert.InLnRefIdeal.main_arg3)
          ∧ r.2.mem ((c.tc : Thread Cert.InLnRefIdeal.nD Cert.InLnRefIdeal.τ).loc Cert.InLnRefIdeal.main_arg4) = m' ((c.tc : Thread Cert.InLnRefIdeal.nD Cert.InLnRefIdeal.τ).loc Cert.InLnRefIdeal.main_arg4)
          ∧ r.2.mem ((c.tc : Thread Cert.InLnRefIdeal.nD Cert.InLnRefIdeal.τ).loc Cert.InLnRefIdeal.main_arg5) = m' ((c.tc : Thread Cert.InLnRefIdeal.nD Cert.InLnRefIdeal.τ).loc Cert.InLnRefIdeal.main_arg5)
          ∧ r.2.mem ((c.tc : Thread Cert.InLnRefIdeal.nD Cert.InLnRefIdeal.τ).loc Cert.InLnRefIdeal.main_arg6) = m' ((c.tc : Thread Cert.InLnRefIdeal.nD Cert.InLnRefIdeal.τ).loc Cert.InLnRefIdeal.main_arg6)
          ∧ r.2.mem ((c.tc : Thread Cert.InLnRefIdeal.nD Cert.InLnRefIdeal.τ).loc Cert.InLnRefIdeal.main_arg7) = m' ((c.tc : Thread Cert.InLnRefIdeal.nD Cert.InLnRefIdeal.τ).loc Cert.InLnRefIdeal.main_arg7))

def preserves_Mlp_MlpIdeal : Prop :=
  True

def algebraic_MlpIdeal_MlpRefIdeal_on_mlp_results_pre_mlp_finite [hMlpIdeal : Cert.MlpIdeal.Facts] [hMlpRefIdeal : Cert.MlpRefIdeal.Facts] [hPre_mlp_finite : Cert.Pre_mlp_finite.Facts] [hOn_mlp_results : Cert.On_mlp_results.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          (∀ i : (⟨2, ![8192, 2816]⟩ : Shape).Idx, (Cert.On_mlp_results.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).1 i = 1#1 → r.2.mem ((c.tc : Thread Cert.MlpIdeal.nD Cert.MlpIdeal.τ).loc Cert.MlpIdeal.main_v0_0) i = v0 c i)
          ∧ (∀ i : (⟨2, ![8192, 2816]⟩ : Shape).Idx, (Cert.On_mlp_results.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).2.1 i = 1#1 → r.2.mem ((c.tc : Thread Cert.MlpIdeal.nD Cert.MlpIdeal.τ).loc Cert.MlpIdeal.main_v0_1) i = v1 c i)
          ∧ (∀ i : (⟨2, ![8, 1024]⟩ : Shape).Idx, (Cert.On_mlp_results.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).2.2 i = 1#1 → r.2.mem ((c.tc : Thread Cert.MlpIdeal.nD Cert.MlpIdeal.τ).loc Cert.MlpIdeal.main_v0_4) i = v2 c i)
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          (∀ i : (⟨2, ![8192, 2816]⟩ : Shape).Idx, (Cert.On_mlp_results.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).1 i = 1#1 → r.2.mem ((c.tc : Thread Cert.MlpRefIdeal.nD Cert.MlpRefIdeal.τ).loc Cert.MlpRefIdeal.main_v11) i = v0 c i)
          ∧ (∀ i : (⟨2, ![8192, 2816]⟩ : Shape).Idx, (Cert.On_mlp_results.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).2.1 i = 1#1 → r.2.mem ((c.tc : Thread Cert.MlpRefIdeal.nD Cert.MlpRefIdeal.τ).loc Cert.MlpRefIdeal.main_v12) i = v1 c i)
          ∧ (∀ i : (⟨2, ![8, 1024]⟩ : Shape).Idx, (Cert.On_mlp_results.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))).2.2 i = 1#1 → r.2.mem ((c.tc : Thread Cert.MlpRefIdeal.nD Cert.MlpRefIdeal.τ).loc Cert.MlpRefIdeal.main_v74) i = v2 c i)
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Loss_LossIdeal : Prop :=
  True

def algebraic_LossIdeal_LossRefIdeal_on_loss_rows [hLossIdeal : Cert.LossIdeal.Facts] [hLossRefIdeal : Cert.LossRefIdeal.Facts] [hOn_loss_rows : Cert.On_loss_rows.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          (∀ i : (⟨2, ![8, 1024]⟩ : Shape).Idx, (Cert.On_loss_rows.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) i = 1#1 → r.2.mem ((c.tc : Thread Cert.LossIdeal.nD Cert.LossIdeal.τ).loc Cert.LossIdeal.main_v0_2) i = v0 c i)
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          (∀ i : (⟨2, ![8, 1024]⟩ : Shape).Idx, (Cert.On_loss_rows.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) i = 1#1 → r.2.mem ((c.tc : Thread Cert.LossRefIdeal.nD Cert.LossRefIdeal.τ).loc Cert.LossRefIdeal.main_v51) i = v0 c i)
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v16) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v6) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v16) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)) (v3 : (c : Dev Cert.AdamVecIdeal.nD) → Buf (Elt Ideal) ((c.tc : Thread Cert.AdamVecIdeal.nD Cert.AdamVecIdeal.τ).loc Cert.AdamVecIdeal.main_v0_3)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_v0_3) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v0) = v0 c
          ∧ r.2.mem ((c.tc : Thread Cert.AdamVecRefIdeal.nD Cert.AdamVecRefIdeal.τ).loc Cert.AdamVecRefIdeal.main_v24) = v1 c
          ∧ r.2.mem ((c.tc : Thread Cert.AdamVecRefIdeal.nD Cert.AdamVecRefIdeal.τ).loc Cert.AdamVecRefIdeal.main_v5) = v2 c
          ∧ r.2.mem ((c.tc : Thread Cert.AdamVecRefIdeal.nD Cert.AdamVecRefIdeal.τ).loc Cert.AdamVecRefIdeal.main_v11) = v3 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamBAda_AdamBAdaIdeal : Prop :=
  True

def algebraic_AdamBAdaIdeal_AdamBAdaRefIdeal [hAdamBAdaIdeal : Cert.AdamBAdaIdeal.Facts] [hAdamBAdaRefIdeal : Cert.AdamBAdaRefIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg)
    (m' : (ℓ : Loc Cert.AdamBAdaRefIdeal.nD Cert.AdamBAdaRefIdeal.τ Cert.AdamBAdaRefIdeal.sig) → Buf (Elt Ideal) ℓ) (g' : Dev Cert.AdamBAdaRefIdeal.nD → PrngReg), Pre_AdamBAdaIdeal m →
    (∀ c : Dev Cert.AdamBAdaIdeal.nD,
      m' ((c.tc : Thread Cert.AdamBAdaRefIdeal.nD Cert.AdamBAdaRefIdeal.τ).loc Cert.AdamBAdaRefIdeal.main_arg0) = m ((c.tc : Thread Cert.AdamBAdaIdeal.nD Cert.AdamBAdaIdeal.τ).loc Cert.AdamBAdaIdeal.main_arg0)
      ∧ m' ((c.tc : Thread Cert.AdamBAdaRefIdeal.nD Cert.AdamBAdaRefIdeal.τ).loc Cert.AdamBAdaRefIdeal.main_arg1) = m ((c.tc : Thread Cert.AdamBAdaIdeal.nD Cert.AdamBAdaIdeal.τ).loc Cert.AdamBAdaIdeal.main_arg1)
      ∧ m' ((c.tc : Thread Cert.AdamBAdaRefIdeal.nD Cert.AdamBAdaRefIdeal.τ).loc Cert.AdamBAdaRefIdeal.main_arg2) = m ((c.tc : Thread Cert.AdamBAdaIdeal.nD Cert.AdamBAdaIdeal.τ).loc Cert.AdamBAdaIdeal.main_arg2)
      ∧ m' ((c.tc : Thread Cert.AdamBAdaRefIdeal.nD Cert.AdamBAdaRefIdeal.τ).loc Cert.AdamBAdaRefIdeal.main_arg3) = m ((c.tc : Thread Cert.AdamBAdaIdeal.nD Cert.AdamBAdaIdeal.τ).loc Cert.AdamBAdaIdeal.main_arg3)) →
    ∃ (v0 : (c : Dev Cert.AdamBAdaIdeal.nD) → Buf (Elt Ideal) ((c.tc : Thread Cert.AdamBAdaIdeal.nD Cert.AdamBAdaIdeal.τ).loc Cert.AdamBAdaIdeal.main_v0_0)) (v1 : (c : Dev Cert.AdamBAdaIdeal.nD) → Buf (Elt Ideal) ((c.tc : Thread Cert.AdamBAdaIdeal.nD Cert.AdamBAdaIdeal.τ).loc Cert.AdamBAdaIdeal.main_v0_1)) (v2 : (c : Dev Cert.AdamBAdaIdeal.nD) → Buf (Elt Ideal) ((c.tc : Thread Cert.AdamBAdaIdeal.nD Cert.AdamBAdaIdeal.τ).loc Cert.AdamBAdaIdeal.main_v0_2)) (v3 : (c : Dev Cert.AdamBAdaIdeal.nD) → Buf (Elt Ideal) ((c.tc : Thread Cert.AdamBAdaIdeal.nD Cert.AdamBAdaIdeal.τ).loc Cert.AdamBAdaIdeal.main_v0_3)),
      θ_run (Cert.AdamBAdaIdeal.defs (F := Ideal)) (onTc (τ := Cert.AdamBAdaIdeal.τ) (Cert.AdamBAdaIdeal.main (F := Ideal))) ⟨m, fun _ => 0, g⟩ (fun r => ∀ c : Dev Cert.AdamBAdaIdeal.nD,
          r.2.mem ((c.tc : Thread Cert.AdamBAdaIdeal.nD Cert.AdamBAdaIdeal.τ).loc Cert.AdamBAdaIdeal.main_v0_0) = v0 c
          ∧ r.2.mem ((c.tc : Thread Cert.AdamBAdaIdeal.nD Cert.AdamBAdaIdeal.τ).loc Cert.AdamBAdaIdeal.main_v0_1) = v1 c
          ∧ r.2.mem ((c.tc : Thread Cert.AdamBAdaIdeal.nD Cert.AdamBAdaIdeal.τ).loc Cert.AdamBAdaIdeal.main_v0_2) = v2 c
          ∧ r.2.mem ((c.tc : Thread Cert.AdamBAdaIdeal.nD Cert.AdamBAdaIdeal.τ).loc Cert.AdamBAdaIdeal.main_v0_3) = v3 c
          ∧ r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
          ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
          ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
          ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ θ_run (Cert.AdamBAdaRefIdeal.defs (F := Ideal)) (onTc (τ := Cert.AdamBAdaRefIdeal.τ) (Cert.AdamBAdaRefIdeal.main (F := Ideal))) ⟨m', fun _ => 0, g'⟩ (fun r => ∀ c : Dev Cert.AdamBAdaRefIdeal.nD,
          r.2.mem ((c.tc : Thread Cert.AdamBAdaRefIdeal.nD Cert.AdamBAdaRefIdeal.τ).loc Cert.AdamBAdaRefIdeal.main_v0) = v0 c
          ∧ r.2.mem ((c.tc : Thread Cert.AdamBAdaRefIdeal.nD Cert.AdamBAdaRefIdeal.τ).loc Cert.AdamBAdaRefIdeal.main_v24) = v1 c
          ∧ r.2.mem ((c.tc : Thread Cert.AdamBAdaRefIdeal.nD Cert.AdamBAdaRefIdeal.τ).loc Cert.AdamBAdaRefIdeal.main_v5) = v2 c
          ∧ r.2.mem ((c.tc : Thread Cert.AdamBAdaRefIdeal.nD Cert.AdamBAdaRefIdeal.τ).loc Cert.AdamBAdaRefIdeal.main_v11) = v3 c
          ∧ r.2.mem ((c.tc : Thread Cert.AdamBAdaRefIdeal.nD Cert.AdamBAdaRefIdeal.τ).loc Cert.AdamBAdaRefIdeal.main_arg0) = m' ((c.tc : Thread Cert.AdamBAdaRefIdeal.nD Cert.AdamBAdaRefIdeal.τ).loc Cert.AdamBAdaRefIdeal.main_arg0)
          ∧ r.2.mem ((c.tc : Thread Cert.AdamBAdaRefIdeal.nD Cert.AdamBAdaRefIdeal.τ).loc Cert.AdamBAdaRefIdeal.main_arg1) = m' ((c.tc : Thread Cert.AdamBAdaRefIdeal.nD Cert.AdamBAdaRefIdeal.τ).loc Cert.AdamBAdaRefIdeal.main_arg1)
          ∧ r.2.mem ((c.tc : Thread Cert.AdamBAdaRefIdeal.nD Cert.AdamBAdaRefIdeal.τ).loc Cert.AdamBAdaRefIdeal.main_arg2) = m' ((c.tc : Thread Cert.AdamBAdaRefIdeal.nD Cert.AdamBAdaRefIdeal.τ).loc Cert.AdamBAdaRefIdeal.main_arg2)
          ∧ r.2.mem ((c.tc : Thread Cert.AdamBAdaRefIdeal.nD Cert.AdamBAdaRefIdeal.τ).loc Cert.AdamBAdaRefIdeal.main_arg3) = m' ((c.tc : Thread Cert.AdamBAdaRefIdeal.nD Cert.AdamBAdaRefIdeal.τ).loc Cert.AdamBAdaRefIdeal.main_arg3))

def preserves_AdamBIn_AdamBInIdeal : Prop :=
  True

def algebraic_AdamBInIdeal_AdamBInRefIdeal [hAdamBInIdeal : Cert.AdamBInIdeal.Facts] [hAdamBInRefIdeal : Cert.AdamBInRefIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg)
    (m' : (ℓ : Loc Cert.AdamBInRefIdeal.nD Cert.AdamBInRefIdeal.τ Cert.AdamBInRefIdeal.sig) → Buf (Elt Ideal) ℓ) (g' : Dev Cert.AdamBInRefIdeal.nD → PrngReg), Pre_AdamBInIdeal m →
    (∀ c : Dev Cert.AdamBInIdeal.nD,
      m' ((c.tc : Thread Cert.AdamBInRefIdeal.nD Cert.AdamBInRefIdeal.τ).loc Cert.AdamBInRefIdeal.main_arg0) = m ((c.tc : Thread Cert.AdamBInIdeal.nD Cert.AdamBInIdeal.τ).loc Cert.AdamBInIdeal.main_arg0)
      ∧ m' ((c.tc : Thread Cert.AdamBInRefIdeal.nD Cert.AdamBInRefIdeal.τ).loc Cert.AdamBInRefIdeal.main_arg1) = m ((c.tc : Thread Cert.AdamBInIdeal.nD Cert.AdamBInIdeal.τ).loc Cert.AdamBInIdeal.main_arg1)
      ∧ m' ((c.tc : Thread Cert.AdamBInRefIdeal.nD Cert.AdamBInRefIdeal.τ).loc Cert.AdamBInRefIdeal.main_arg2) = m ((c.tc : Thread Cert.AdamBInIdeal.nD Cert.AdamBInIdeal.τ).loc Cert.AdamBInIdeal.main_arg2)
      ∧ m' ((c.tc : Thread Cert.AdamBInRefIdeal.nD Cert.AdamBInRefIdeal.τ).loc Cert.AdamBInRefIdeal.main_arg3) = m ((c.tc : Thread Cert.AdamBInIdeal.nD Cert.AdamBInIdeal.τ).loc Cert.AdamBInIdeal.main_arg3)) →
    ∃ (v0 : (c : Dev Cert.AdamBInIdeal.nD) → Buf (Elt Ideal) ((c.tc : Thread Cert.AdamBInIdeal.nD Cert.AdamBInIdeal.τ).loc Cert.AdamBInIdeal.main_v0_0)) (v1 : (c : Dev Cert.AdamBInIdeal.nD) → Buf (Elt Ideal) ((c.tc : Thread Cert.AdamBInIdeal.nD Cert.AdamBInIdeal.τ).loc Cert.AdamBInIdeal.main_v0_1)) (v2 : (c : Dev Cert.AdamBInIdeal.nD) → Buf (Elt Ideal) ((c.tc : Thread Cert.AdamBInIdeal.nD Cert.AdamBInIdeal.τ).loc Cert.AdamBInIdeal.main_v0_2)) (v3 : (c : Dev Cert.AdamBInIdeal.nD) → Buf (Elt Ideal) ((c.tc : Thread Cert.AdamBInIdeal.nD Cert.AdamBInIdeal.τ).loc Cert.AdamBInIdeal.main_v0_3)),
      θ_run (Cert.AdamBInIdeal.defs (F := Ideal)) (onTc (τ := Cert.AdamBInIdeal.τ) (Cert.AdamBInIdeal.main (F := Ideal))) ⟨m, fun _ => 0, g⟩ (fun r => ∀ c : Dev Cert.AdamBInIdeal.nD,
          r.2.mem ((c.tc : Thread Cert.AdamBInIdeal.nD Cert.AdamBInIdeal.τ).loc Cert.AdamBInIdeal.main_v0_0) = v0 c
          ∧ r.2.mem ((c.tc : Thread Cert.AdamBInIdeal.nD Cert.AdamBInIdeal.τ).loc Cert.AdamBInIdeal.main_v0_1) = v1 c
          ∧ r.2.mem ((c.tc : Thread Cert.AdamBInIdeal.nD Cert.AdamBInIdeal.τ).loc Cert.AdamBInIdeal.main_v0_2) = v2 c
          ∧ r.2.mem ((c.tc : Thread Cert.AdamBInIdeal.nD Cert.AdamBInIdeal.τ).loc Cert.AdamBInIdeal.main_v0_3) = v3 c
          ∧ r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
          ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
          ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
          ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ θ_run (Cert.AdamBInRefIdeal.defs (F := Ideal)) (onTc (τ := Cert.AdamBInRefIdeal.τ) (Cert.AdamBInRefIdeal.main (F := Ideal))) ⟨m', fun _ => 0, g'⟩ (fun r => ∀ c : Dev Cert.AdamBInRefIdeal.nD,
          r.2.mem ((c.tc : Thread Cert.AdamBInRefIdeal.nD Cert.AdamBInRefIdeal.τ).loc Cert.AdamBInRefIdeal.main_v0) = v0 c
          ∧ r.2.mem ((c.tc : Thread Cert.AdamBInRefIdeal.nD Cert.AdamBInRefIdeal.τ).loc Cert.AdamBInRefIdeal.main_v24) = v1 c
          ∧ r.2.mem ((c.tc : Thread Cert.AdamBInRefIdeal.nD Cert.AdamBInRefIdeal.τ).loc Cert.AdamBInRefIdeal.main_v5) = v2 c
          ∧ r.2.mem ((c.tc : Thread Cert.AdamBInRefIdeal.nD Cert.AdamBInRefIdeal.τ).loc Cert.AdamBInRefIdeal.main_v11) = v3 c
          ∧ r.2.mem ((c.tc : Thread Cert.AdamBInRefIdeal.nD Cert.AdamBInRefIdeal.τ).loc Cert.AdamBInRefIdeal.main_arg0) = m' ((c.tc : Thread Cert.AdamBInRefIdeal.nD Cert.AdamBInRefIdeal.τ).loc Cert.AdamBInRefIdeal.main_arg0)
          ∧ r.2.mem ((c.tc : Thread Cert.AdamBInRefIdeal.nD Cert.AdamBInRefIdeal.τ).loc Cert.AdamBInRefIdeal.main_arg1) = m' ((c.tc : Thread Cert.AdamBInRefIdeal.nD Cert.AdamBInRefIdeal.τ).loc Cert.AdamBInRefIdeal.main_arg1)
          ∧ r.2.mem ((c.tc : Thread Cert.AdamBInRefIdeal.nD Cert.AdamBInRefIdeal.τ).loc Cert.AdamBInRefIdeal.main_arg2) = m' ((c.tc : Thread Cert.AdamBInRefIdeal.nD Cert.AdamBInRefIdeal.τ).loc Cert.AdamBInRefIdeal.main_arg2)
          ∧ r.2.mem ((c.tc : Thread Cert.AdamBInRefIdeal.nD Cert.AdamBInRefIdeal.τ).loc Cert.AdamBInRefIdeal.main_arg3) = m' ((c.tc : Thread Cert.AdamBInRefIdeal.nD Cert.AdamBInRefIdeal.τ).loc Cert.AdamBInRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v0) = v0 c
          ∧ r.2.mem ((c.tc : Thread Cert.AdamPoolRefIdeal.nD Cert.AdamPoolRefIdeal.τ).loc Cert.AdamPoolRefIdeal.main_v24) = v1 c
          ∧ r.2.mem ((c.tc : Thread Cert.AdamPoolRefIdeal.nD Cert.AdamPoolRefIdeal.τ).loc Cert.AdamPoolRefIdeal.main_v5) = v2 c
          ∧ r.2.mem ((c.tc : Thread Cert.AdamPoolRefIdeal.nD Cert.AdamPoolRefIdeal.τ).loc Cert.AdamPoolRefIdeal.main_v11) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamLam_AdamLamIdeal : Prop :=
  True

def algebraic_AdamLamIdeal_AdamLamRefIdeal [hAdamLamIdeal : Cert.AdamLamIdeal.Facts] [hAdamLamRefIdeal : Cert.AdamLamRefIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg)
    (m' : (ℓ : Loc Cert.AdamLamRefIdeal.nD Cert.AdamLamRefIdeal.τ Cert.AdamLamRefIdeal.sig) → Buf (Elt Ideal) ℓ) (g' : Dev Cert.AdamLamRefIdeal.nD → PrngReg), Pre_AdamLamIdeal m →
    (∀ c : Dev Cert.AdamLamIdeal.nD,
      m' ((c.tc : Thread Cert.AdamLamRefIdeal.nD Cert.AdamLamRefIdeal.τ).loc Cert.AdamLamRefIdeal.main_arg0) = m ((c.tc : Thread Cert.AdamLamIdeal.nD Cert.AdamLamIdeal.τ).loc Cert.AdamLamIdeal.main_arg0)
      ∧ m' ((c.tc : Thread Cert.AdamLamRefIdeal.nD Cert.AdamLamRefIdeal.τ).loc Cert.AdamLamRefIdeal.main_arg1) = m ((c.tc : Thread Cert.AdamLamIdeal.nD Cert.AdamLamIdeal.τ).loc Cert.AdamLamIdeal.main_arg1)
      ∧ m' ((c.tc : Thread Cert.AdamLamRefIdeal.nD Cert.AdamLamRefIdeal.τ).loc Cert.AdamLamRefIdeal.main_arg2) = m ((c.tc : Thread Cert.AdamLamIdeal.nD Cert.AdamLamIdeal.τ).loc Cert.AdamLamIdeal.main_arg2)
      ∧ m' ((c.tc : Thread Cert.AdamLamRefIdeal.nD Cert.AdamLamRefIdeal.τ).loc Cert.AdamLamRefIdeal.main_arg3) = m ((c.tc : Thread Cert.AdamLamIdeal.nD Cert.AdamLamIdeal.τ).loc Cert.AdamLamIdeal.main_arg3)) →
    ∃ (v0 : (c : Dev Cert.AdamLamIdeal.nD) → Buf (Elt Ideal) ((c.tc : Thread Cert.AdamLamIdeal.nD Cert.AdamLamIdeal.τ).loc Cert.AdamLamIdeal.main_v0_0)) (v1 : (c : Dev Cert.AdamLamIdeal.nD) → Buf (Elt Ideal) ((c.tc : Thread Cert.AdamLamIdeal.nD Cert.AdamLamIdeal.τ).loc Cert.AdamLamIdeal.main_v0_1)) (v2 : (c : Dev Cert.AdamLamIdeal.nD) → Buf (Elt Ideal) ((c.tc : Thread Cert.AdamLamIdeal.nD Cert.AdamLamIdeal.τ).loc Cert.AdamLamIdeal.main_v0_2)) (v3 : (c : Dev Cert.AdamLamIdeal.nD) → Buf (Elt Ideal) ((c.tc : Thread Cert.AdamLamIdeal.nD Cert.AdamLamIdeal.τ).loc Cert.AdamLamIdeal.main_v0_3)),
      θ_run (Cert.AdamLamIdeal.defs (F := Ideal)) (onTc (τ := Cert.AdamLamIdeal.τ) (Cert.AdamLamIdeal.main (F := Ideal))) ⟨m, fun _ => 0, g⟩ (fun r => ∀ c : Dev Cert.AdamLamIdeal.nD,
          r.2.mem ((c.tc : Thread Cert.AdamLamIdeal.nD Cert.AdamLamIdeal.τ).loc Cert.AdamLamIdeal.main_v0_0) = v0 c
          ∧ r.2.mem ((c.tc : Thread Cert.AdamLamIdeal.nD Cert.AdamLamIdeal.τ).loc Cert.AdamLamIdeal.main_v0_1) = v1 c
          ∧ r.2.mem ((c.tc : Thread Cert.AdamLamIdeal.nD Cert.AdamLamIdeal.τ).loc Cert.AdamLamIdeal.main_v0_2) = v2 c
          ∧ r.2.mem ((c.tc : Thread Cert.AdamLamIdeal.nD Cert.AdamLamIdeal.τ).loc Cert.AdamLamIdeal.main_v0_3) = v3 c
          ∧ r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
          ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
          ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
          ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ θ_run (Cert.AdamLamRefIdeal.defs (F := Ideal)) (onTc (τ := Cert.AdamLamRefIdeal.τ) (Cert.AdamLamRefIdeal.main (F := Ideal))) ⟨m', fun _ => 0, g'⟩ (fun r => ∀ c : Dev Cert.AdamLamRefIdeal.nD,
          r.2.mem ((c.tc : Thread Cert.AdamLamRefIdeal.nD Cert.AdamLamRefIdeal.τ).loc Cert.AdamLamRefIdeal.main_v0) = v0 c
          ∧ r.2.mem ((c.tc : Thread Cert.AdamLamRefIdeal.nD Cert.AdamLamRefIdeal.τ).loc Cert.AdamLamRefIdeal.main_v24) = v1 c
          ∧ r.2.mem ((c.tc : Thread Cert.AdamLamRefIdeal.nD Cert.AdamLamRefIdeal.τ).loc Cert.AdamLamRefIdeal.main_v5) = v2 c
          ∧ r.2.mem ((c.tc : Thread Cert.AdamLamRefIdeal.nD Cert.AdamLamRefIdeal.τ).loc Cert.AdamLamRefIdeal.main_v11) = v3 c
          ∧ r.2.mem ((c.tc : Thread Cert.AdamLamRefIdeal.nD Cert.AdamLamRefIdeal.τ).loc Cert.AdamLamRefIdeal.main_arg0) = m' ((c.tc : Thread Cert.AdamLamRefIdeal.nD Cert.AdamLamRefIdeal.τ).loc Cert.AdamLamRefIdeal.main_arg0)
          ∧ r.2.mem ((c.tc : Thread Cert.AdamLamRefIdeal.nD Cert.AdamLamRefIdeal.τ).loc Cert.AdamLamRefIdeal.main_arg1) = m' ((c.tc : Thread Cert.AdamLamRefIdeal.nD Cert.AdamLamRefIdeal.τ).loc Cert.AdamLamRefIdeal.main_arg1)
          ∧ r.2.mem ((c.tc : Thread Cert.AdamLamRefIdeal.nD Cert.AdamLamRefIdeal.τ).loc Cert.AdamLamRefIdeal.main_arg2) = m' ((c.tc : Thread Cert.AdamLamRefIdeal.nD Cert.AdamLamRefIdeal.τ).loc Cert.AdamLamRefIdeal.main_arg2)
          ∧ r.2.mem ((c.tc : Thread Cert.AdamLamRefIdeal.nD Cert.AdamLamRefIdeal.τ).loc Cert.AdamLamRefIdeal.main_arg3) = m' ((c.tc : Thread Cert.AdamLamRefIdeal.nD Cert.AdamLamRefIdeal.τ).loc Cert.AdamLamRefIdeal.main_arg3))

def preserves_AdamDt_AdamDtIdeal : Prop :=
  True

def algebraic_AdamDtIdeal_AdamDtRefIdeal [hAdamDtIdeal : Cert.AdamDtIdeal.Facts] [hAdamDtRefIdeal : Cert.AdamDtRefIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg)
    (m' : (ℓ : Loc Cert.AdamDtRefIdeal.nD Cert.AdamDtRefIdeal.τ Cert.AdamDtRefIdeal.sig) → Buf (Elt Ideal) ℓ) (g' : Dev Cert.AdamDtRefIdeal.nD → PrngReg), Pre_AdamDtIdeal m →
    (∀ c : Dev Cert.AdamDtIdeal.nD,
      m' ((c.tc : Thread Cert.AdamDtRefIdeal.nD Cert.AdamDtRefIdeal.τ).loc Cert.AdamDtRefIdeal.main_arg0) = m ((c.tc : Thread Cert.AdamDtIdeal.nD Cert.AdamDtIdeal.τ).loc Cert.AdamDtIdeal.main_arg0)
      ∧ m' ((c.tc : Thread Cert.AdamDtRefIdeal.nD Cert.AdamDtRefIdeal.τ).loc Cert.AdamDtRefIdeal.main_arg1) = m ((c.tc : Thread Cert.AdamDtIdeal.nD Cert.AdamDtIdeal.τ).loc Cert.AdamDtIdeal.main_arg1)
      ∧ m' ((c.tc : Thread Cert.AdamDtRefIdeal.nD Cert.AdamDtRefIdeal.τ).loc Cert.AdamDtRefIdeal.main_arg2) = m ((c.tc : Thread Cert.AdamDtIdeal.nD Cert.AdamDtIdeal.τ).loc Cert.AdamDtIdeal.main_arg2)
      ∧ m' ((c.tc : Thread Cert.AdamDtRefIdeal.nD Cert.AdamDtRefIdeal.τ).loc Cert.AdamDtRefIdeal.main_arg3) = m ((c.tc : Thread Cert.AdamDtIdeal.nD Cert.AdamDtIdeal.τ).loc Cert.AdamDtIdeal.main_arg3)) →
    ∃ (v0 : (c : Dev Cert.AdamDtIdeal.nD) → Buf (Elt Ideal) ((c.tc : Thread Cert.AdamDtIdeal.nD Cert.AdamDtIdeal.τ).loc Cert.AdamDtIdeal.main_v0_0)) (v1 : (c : Dev Cert.AdamDtIdeal.nD) → Buf (Elt Ideal) ((c.tc : Thread Cert.AdamDtIdeal.nD Cert.AdamDtIdeal.τ).loc Cert.AdamDtIdeal.main_v0_1)) (v2 : (c : Dev Cert.AdamDtIdeal.nD) → Buf (Elt Ideal) ((c.tc : Thread Cert.AdamDtIdeal.nD Cert.AdamDtIdeal.τ).loc Cert.AdamDtIdeal.main_v0_2)) (v3 : (c : Dev Cert.AdamDtIdeal.nD) → Buf (Elt Ideal) ((c.tc : Thread Cert.AdamDtIdeal.nD Cert.AdamDtIdeal.τ).loc Cert.AdamDtIdeal.main_v0_3)),
      θ_run (Cert.AdamDtIdeal.defs (F := Ideal)) (onTc (τ := Cert.AdamDtIdeal.τ) (Cert.AdamDtIdeal.main (F := Ideal))) ⟨m, fun _ => 0, g⟩ (fun r => ∀ c : Dev Cert.AdamDtIdeal.nD,
          r.2.mem ((c.tc : Thread Cert.AdamDtIdeal.nD Cert.AdamDtIdeal.τ).loc Cert.AdamDtIdeal.main_v0_0) = v0 c
          ∧ r.2.mem ((c.tc : Thread Cert.AdamDtIdeal.nD Cert.AdamDtIdeal.τ).loc Cert.AdamDtIdeal.main_v0_1) = v1 c
          ∧ r.2.mem ((c.tc : Thread Cert.AdamDtIdeal.nD Cert.AdamDtIdeal.τ).loc Cert.AdamDtIdeal.main_v0_2) = v2 c
          ∧ r.2.mem ((c.tc : Thread Cert.AdamDtIdeal.nD Cert.AdamDtIdeal.τ).loc Cert.AdamDtIdeal.main_v0_3) = v3 c
          ∧ r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
          ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
          ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
          ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ θ_run (Cert.AdamDtRefIdeal.defs (F := Ideal)) (onTc (τ := Cert.AdamDtRefIdeal.τ) (Cert.AdamDtRefIdeal.main (F := Ideal))) ⟨m', fun _ => 0, g'⟩ (fun r => ∀ c : Dev Cert.AdamDtRefIdeal.nD,
          r.2.mem ((c.tc : Thread Cert.AdamDtRefIdeal.nD Cert.AdamDtRefIdeal.τ).loc Cert.AdamDtRefIdeal.main_v0) = v0 c
          ∧ r.2.mem ((c.tc : Thread Cert.AdamDtRefIdeal.nD Cert.AdamDtRefIdeal.τ).loc Cert.AdamDtRefIdeal.main_v24) = v1 c
          ∧ r.2.mem ((c.tc : Thread Cert.AdamDtRefIdeal.nD Cert.AdamDtRefIdeal.τ).loc Cert.AdamDtRefIdeal.main_v5) = v2 c
          ∧ r.2.mem ((c.tc : Thread Cert.AdamDtRefIdeal.nD Cert.AdamDtRefIdeal.τ).loc Cert.AdamDtRefIdeal.main_v11) = v3 c
          ∧ r.2.mem ((c.tc : Thread Cert.AdamDtRefIdeal.nD Cert.AdamDtRefIdeal.τ).loc Cert.AdamDtRefIdeal.main_arg0) = m' ((c.tc : Thread Cert.AdamDtRefIdeal.nD Cert.AdamDtRefIdeal.τ).loc Cert.AdamDtRefIdeal.main_arg0)
          ∧ r.2.mem ((c.tc : Thread Cert.AdamDtRefIdeal.nD Cert.AdamDtRefIdeal.τ).loc Cert.AdamDtRefIdeal.main_arg1) = m' ((c.tc : Thread Cert.AdamDtRefIdeal.nD Cert.AdamDtRefIdeal.τ).loc Cert.AdamDtRefIdeal.main_arg1)
          ∧ r.2.mem ((c.tc : Thread Cert.AdamDtRefIdeal.nD Cert.AdamDtRefIdeal.τ).loc Cert.AdamDtRefIdeal.main_arg2) = m' ((c.tc : Thread Cert.AdamDtRefIdeal.nD Cert.AdamDtRefIdeal.τ).loc Cert.AdamDtRefIdeal.main_arg2)
          ∧ r.2.mem ((c.tc : Thread Cert.AdamDtRefIdeal.nD Cert.AdamDtRefIdeal.τ).loc Cert.AdamDtRefIdeal.main_arg3) = m' ((c.tc : Thread Cert.AdamDtRefIdeal.nD Cert.AdamDtRefIdeal.τ).loc Cert.AdamDtRefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)) (v3 : (c : Dev Cert.AdamBIdeal.nD) → Buf (Elt Ideal) ((c.tc : Thread Cert.AdamBIdeal.nD Cert.AdamBIdeal.τ).loc Cert.AdamBIdeal.main_v0_3)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_v0_3) = v3 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v0) = v0 c
          ∧ r.2.mem ((c.tc : Thread Cert.AdamBRefIdeal.nD Cert.AdamBRefIdeal.τ).loc Cert.AdamBRefIdeal.main_v24) = v1 c
          ∧ r.2.mem ((c.tc : Thread Cert.AdamBRefIdeal.nD Cert.AdamBRefIdeal.τ).loc Cert.AdamBRefIdeal.main_v5) = v2 c
          ∧ r.2.mem ((c.tc : Thread Cert.AdamBRefIdeal.nD Cert.AdamBRefIdeal.τ).loc Cert.AdamBRefIdeal.main_v11) = v3 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamLn_AdamLnIdeal : Prop :=
  True

def algebraic_AdamLnIdeal_AdamLnRefIdeal [hAdamLnIdeal : Cert.AdamLnIdeal.Facts] [hAdamLnRefIdeal : Cert.AdamLnRefIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnRefIdeal.nD Cert.AdamLnRefIdeal.τ Cert.AdamLnRefIdeal.sig) → Buf (Elt Ideal) ℓ) (g' : Dev Cert.AdamLnRefIdeal.nD → PrngReg), Pre_AdamLnIdeal m →
    (∀ c : Dev Cert.AdamLnIdeal.nD,
      m' ((c.tc : Thread Cert.AdamLnRefIdeal.nD Cert.AdamLnRefIdeal.τ).loc Cert.AdamLnRefIdeal.main_arg0) = m ((c.tc : Thread Cert.AdamLnIdeal.nD Cert.AdamLnIdeal.τ).loc Cert.AdamLnIdeal.main_arg0)
      ∧ m' ((c.tc : Thread Cert.AdamLnRefIdeal.nD Cert.AdamLnRefIdeal.τ).loc Cert.AdamLnRefIdeal.main_arg1) = m ((c.tc : Thread Cert.AdamLnIdeal.nD Cert.AdamLnIdeal.τ).loc Cert.AdamLnIdeal.main_arg1)
      ∧ m' ((c.tc : Thread Cert.AdamLnRefIdeal.nD Cert.AdamLnRefIdeal.τ).loc Cert.AdamLnRefIdeal.main_arg2) = m ((c.tc : Thread Cert.AdamLnIdeal.nD Cert.AdamLnIdeal.τ).loc Cert.AdamLnIdeal.main_arg2)
      ∧ m' ((c.tc : Thread Cert.AdamLnRefIdeal.nD Cert.AdamLnRefIdeal.τ).loc Cert.AdamLnRefIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)) (v3 : (c : Dev Cert.AdamLnIdeal.nD) → Buf (Elt Ideal) ((c.tc : Thread Cert.AdamLnIdeal.nD Cert.AdamLnIdeal.τ).loc Cert.AdamLnIdeal.main_v0_3)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_v0_3) = v3 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnRefIdeal.defs (F := Ideal)) (onTc (τ := Cert.AdamLnRefIdeal.τ) (Cert.AdamLnRefIdeal.main (F := Ideal))) ⟨m', fun _ => 0, g'⟩ (fun r => ∀ c : Dev Cert.AdamLnRefIdeal.nD,
          r.2.mem ((c.tc : Thread Cert.AdamLnRefIdeal.nD Cert.AdamLnRefIdeal.τ).loc Cert.AdamLnRefIdeal.main_v0) = v0 c
          ∧ r.2.mem ((c.tc : Thread Cert.AdamLnRefIdeal.nD Cert.AdamLnRefIdeal.τ).loc Cert.AdamLnRefIdeal.main_v24) = v1 c
          ∧ r.2.mem ((c.tc : Thread Cert.AdamLnRefIdeal.nD Cert.AdamLnRefIdeal.τ).loc Cert.AdamLnRefIdeal.main_v5) = v2 c
          ∧ r.2.mem ((c.tc : Thread Cert.AdamLnRefIdeal.nD Cert.AdamLnRefIdeal.τ).loc Cert.AdamLnRefIdeal.main_v11) = v3 c
          ∧ r.2.mem ((c.tc : Thread Cert.AdamLnRefIdeal.nD Cert.AdamLnRefIdeal.τ).loc Cert.AdamLnRefIdeal.main_arg0) = m' ((c.tc : Thread Cert.AdamLnRefIdeal.nD Cert.AdamLnRefIdeal.τ).loc Cert.AdamLnRefIdeal.main_arg0)
          ∧ r.2.mem ((c.tc : Thread Cert.AdamLnRefIdeal.nD Cert.AdamLnRefIdeal.τ).loc Cert.AdamLnRefIdeal.main_arg1) = m' ((c.tc : Thread Cert.AdamLnRefIdeal.nD Cert.AdamLnRefIdeal.τ).loc Cert.AdamLnRefIdeal.main_arg1)
          ∧ r.2.mem ((c.tc : Thread Cert.AdamLnRefIdeal.nD Cert.AdamLnRefIdeal.τ).loc Cert.AdamLnRefIdeal.main_arg2) = m' ((c.tc : Thread Cert.AdamLnRefIdeal.nD Cert.AdamLnRefIdeal.τ).loc Cert.AdamLnRefIdeal.main_arg2)
          ∧ r.2.mem ((c.tc : Thread Cert.AdamLnRefIdeal.nD Cert.AdamLnRefIdeal.τ).loc Cert.AdamLnRefIdeal.main_arg3) = m' ((c.tc : Thread Cert.AdamLnRefIdeal.nD Cert.AdamLnRefIdeal.τ).loc Cert.AdamLnRefIdeal.main_arg3))

def preserves_AdamSc_AdamScIdeal : Prop :=
  True

def algebraic_AdamScIdeal_AdamScRefIdeal [hAdamScIdeal : Cert.AdamScIdeal.Facts] [hAdamScRefIdeal : Cert.AdamScRefIdeal.Facts] : Prop :=
  ∀ (m : (ℓ : Loc Cert.AdamScIdeal.nD Cert.AdamScIdeal.τ Cert.AdamScIdeal.sig) → Buf (Elt Ideal) ℓ) (g : Dev Cert.AdamScIdeal.nD → PrngReg)
    (m' : (ℓ : Loc Cert.AdamScRefIdeal.nD Cert.AdamScRefIdeal.τ Cert.AdamScRefIdeal.sig) → Buf (Elt Ideal) ℓ) (g' : Dev Cert.AdamScRefIdeal.nD → PrngReg), Pre_AdamScIdeal m →
    (∀ c : Dev Cert.AdamScIdeal.nD,
      m' ((c.tc : Thread Cert.AdamScRefIdeal.nD Cert.AdamScRefIdeal.τ).loc Cert.AdamScRefIdeal.main_arg0) = m ((c.tc : Thread Cert.AdamScIdeal.nD Cert.AdamScIdeal.τ).loc Cert.AdamScIdeal.main_arg0)
      ∧ m' ((c.tc : Thread Cert.AdamScRefIdeal.nD Cert.AdamScRefIdeal.τ).loc Cert.AdamScRefIdeal.main_arg1) = m ((c.tc : Thread Cert.AdamScIdeal.nD Cert.AdamScIdeal.τ).loc Cert.AdamScIdeal.main_arg1)
      ∧ m' ((c.tc : Thread Cert.AdamScRefIdeal.nD Cert.AdamScRefIdeal.τ).loc Cert.AdamScRefIdeal.main_arg2) = m ((c.tc : Thread Cert.AdamScIdeal.nD Cert.AdamScIdeal.τ).loc Cert.AdamScIdeal.main_arg2)
      ∧ m' ((c.tc : Thread Cert.AdamScRefIdeal.nD Cert.AdamScRefIdeal.τ).loc Cert.AdamScRefIdeal.main_arg3) = m ((c.tc : Thread Cert.AdamScIdeal.nD Cert.AdamScIdeal.τ).loc Cert.AdamScIdeal.main_arg3)) →
    ∃ (v0 : (c : Dev Cert.AdamScIdeal.nD) → Buf (Elt Ideal) ((c.tc : Thread Cert.AdamScIdeal.nD Cert.AdamScIdeal.τ).loc Cert.AdamScIdeal.main_v0_0)) (v1 : (c : Dev Cert.AdamScIdeal.nD) → Buf (Elt Ideal) ((c.tc : Thread Cert.AdamScIdeal.nD Cert.AdamScIdeal.τ).loc Cert.AdamScIdeal.main_v0_1)) (v2 : (c : Dev Cert.AdamScIdeal.nD) → Buf (Elt Ideal) ((c.tc : Thread Cert.AdamScIdeal.nD Cert.AdamScIdeal.τ).loc Cert.AdamScIdeal.main_v0_2)) (v3 : (c : Dev Cert.AdamScIdeal.nD) → Buf (Elt Ideal) ((c.tc : Thread Cert.AdamScIdeal.nD Cert.AdamScIdeal.τ).loc Cert.AdamScIdeal.main_v0_3)),
      θ_run (Cert.AdamScIdeal.defs (F := Ideal)) (onTc (τ := Cert.AdamScIdeal.τ) (Cert.AdamScIdeal.main (F := Ideal))) ⟨m, fun _ => 0, g⟩ (fun r => ∀ c : Dev Cert.AdamScIdeal.nD,
          r.2.mem ((c.tc : Thread Cert.AdamScIdeal.nD Cert.AdamScIdeal.τ).loc Cert.AdamScIdeal.main_v0_0) = v0 c
          ∧ r.2.mem ((c.tc : Thread Cert.AdamScIdeal.nD Cert.AdamScIdeal.τ).loc Cert.AdamScIdeal.main_v0_1) = v1 c
          ∧ r.2.mem ((c.tc : Thread Cert.AdamScIdeal.nD Cert.AdamScIdeal.τ).loc Cert.AdamScIdeal.main_v0_2) = v2 c
          ∧ r.2.mem ((c.tc : Thread Cert.AdamScIdeal.nD Cert.AdamScIdeal.τ).loc Cert.AdamScIdeal.main_v0_3) = v3 c
          ∧ r.2.mem ((c.tc : Thread Cert.AdamScIdeal.nD Cert.AdamScIdeal.τ).loc Cert.AdamScIdeal.main_arg0) = m ((c.tc : Thread Cert.AdamScIdeal.nD Cert.AdamScIdeal.τ).loc Cert.AdamScIdeal.main_arg0)
          ∧ r.2.mem ((c.tc : Thread Cert.AdamScIdeal.nD Cert.AdamScIdeal.τ).loc Cert.AdamScIdeal.main_arg1) = m ((c.tc : Thread Cert.AdamScIdeal.nD Cert.AdamScIdeal.τ).loc Cert.AdamScIdeal.main_arg1)
          ∧ r.2.mem ((c.tc : Thread Cert.AdamScIdeal.nD Cert.AdamScIdeal.τ).loc Cert.AdamScIdeal.main_arg2) = m ((c.tc : Thread Cert.AdamScIdeal.nD Cert.AdamScIdeal.τ).loc Cert.AdamScIdeal.main_arg2)
          ∧ r.2.mem ((c.tc : Thread Cert.AdamScIdeal.nD Cert.AdamScIdeal.τ).loc Cert.AdamScIdeal.main_arg3) = m ((c.tc : Thread Cert.AdamScIdeal.nD Cert.AdamScIdeal.τ).loc Cert.AdamScIdeal.main_arg3))
      ∧ θ_run (Cert.AdamScRefIdeal.defs (F := Ideal)) (onTc (τ := Cert.AdamScRefIdeal.τ) (Cert.AdamScRefIdeal.main (F := Ideal))) ⟨m', fun _ => 0, g'⟩ (fun r => ∀ c : Dev Cert.AdamScRefIdeal.nD,
          r.2.mem ((c.tc : Thread Cert.AdamScRefIdeal.nD Cert.AdamScRefIdeal.τ).loc Cert.AdamScRefIdeal.main_v0) = v0 c
          ∧ r.2.mem ((c.tc : Thread Cert.AdamScRefIdeal.nD Cert.AdamScRefIdeal.τ).loc Cert.AdamScRefIdeal.main_v24) = v1 c
          ∧ r.2.mem ((c.tc : Thread Cert.AdamScRefIdeal.nD Cert.AdamScRefIdeal.τ).loc Cert.AdamScRefIdeal.main_v5) = v2 c
          ∧ r.2.mem ((c.tc : Thread Cert.AdamScRefIdeal.nD Cert.AdamScRefIdeal.τ).loc Cert.AdamScRefIdeal.main_v11) = v3 c
          ∧ r.2.mem ((c.tc : Thread Cert.AdamScRefIdeal.nD Cert.AdamScRefIdeal.τ).loc Cert.AdamScRefIdeal.main_arg0) = m' ((c.tc : Thread Cert.AdamScRefIdeal.nD Cert.AdamScRefIdeal.τ).loc Cert.AdamScRefIdeal.main_arg0)
          ∧ r.2.mem ((c.tc : Thread Cert.AdamScRefIdeal.nD Cert.AdamScRefIdeal.τ).loc Cert.AdamScRefIdeal.main_arg1) = m' ((c.tc : Thread Cert.AdamScRefIdeal.nD Cert.AdamScRefIdeal.τ).loc Cert.AdamScRefIdeal.main_arg1)
          ∧ r.2.mem ((c.tc : Thread Cert.AdamScRefIdeal.nD Cert.AdamScRefIdeal.τ).loc Cert.AdamScRefIdeal.main_arg2) = m' ((c.tc : Thread Cert.AdamScRefIdeal.nD Cert.AdamScRefIdeal.τ).loc Cert.AdamScRefIdeal.main_arg2)
          ∧ r.2.mem ((c.tc : Thread Cert.AdamScRefIdeal.nD Cert.AdamScRefIdeal.τ).loc Cert.AdamScRefIdeal.main_arg3) = m' ((c.tc : Thread Cert.AdamScRefIdeal.nD Cert.AdamScRefIdeal.τ).loc Cert.AdamScRefIdeal.main_arg3))

def preserves_AdamCf_AdamCfIdeal : Prop :=
  True

def algebraic_AdamCfIdeal_AdamCfRefIdeal [hAdamCfIdeal : Cert.AdamCfIdeal.Facts] [hAdamCfRefIdeal : Cert.AdamCfRefIdeal.Facts] : Prop :=
  ∀ (m : (ℓ : Loc Cert.AdamCfIdeal.nD Cert.AdamCfIdeal.τ Cert.AdamCfIdeal.sig) → Buf (Elt Ideal) ℓ) (g : Dev Cert.AdamCfIdeal.nD → PrngReg)
    (m' : (ℓ : Loc Cert.AdamCfRefIdeal.nD Cert.AdamCfRefIdeal.τ Cert.AdamCfRefIdeal.sig) → Buf (Elt Ideal) ℓ) (g' : Dev Cert.AdamCfRefIdeal.nD → PrngReg), Pre_AdamCfIdeal m →
    (∀ c : Dev Cert.AdamCfIdeal.nD,
      m' ((c.tc : Thread Cert.AdamCfRefIdeal.nD Cert.AdamCfRefIdeal.τ).loc Cert.AdamCfRefIdeal.main_arg0) = m ((c.tc : Thread Cert.AdamCfIdeal.nD Cert.AdamCfIdeal.τ).loc Cert.AdamCfIdeal.main_arg0)
      ∧ m' ((c.tc : Thread Cert.AdamCfRefIdeal.nD Cert.AdamCfRefIdeal.τ).loc Cert.AdamCfRefIdeal.main_arg1) = m ((c.tc : Thread Cert.AdamCfIdeal.nD Cert.AdamCfIdeal.τ).loc Cert.AdamCfIdeal.main_arg1)
      ∧ m' ((c.tc : Thread Cert.AdamCfRefIdeal.nD Cert.AdamCfRefIdeal.τ).loc Cert.AdamCfRefIdeal.main_arg2) = m ((c.tc : Thread Cert.AdamCfIdeal.nD Cert.AdamCfIdeal.τ).loc Cert.AdamCfIdeal.main_arg2)
      ∧ m' ((c.tc : Thread Cert.AdamCfRefIdeal.nD Cert.AdamCfRefIdeal.τ).loc Cert.AdamCfRefIdeal.main_arg3) = m ((c.tc : Thread Cert.AdamCfIdeal.nD Cert.AdamCfIdeal.τ).loc Cert.AdamCfIdeal.main_arg3)) →
    ∃ (v0 : (c : Dev Cert.AdamCfIdeal.nD) → Buf (Elt Ideal) ((c.tc : Thread Cert.AdamCfIdeal.nD Cert.AdamCfIdeal.τ).loc Cert.AdamCfIdeal.main_v0_0)) (v1 : (c : Dev Cert.AdamCfIdeal.nD) → Buf (Elt Ideal) ((c.tc : Thread Cert.AdamCfIdeal.nD Cert.AdamCfIdeal.τ).loc Cert.AdamCfIdeal.main_v0_1)) (v2 : (c : Dev Cert.AdamCfIdeal.nD) → Buf (Elt Ideal) ((c.tc : Thread Cert.AdamCfIdeal.nD Cert.AdamCfIdeal.τ).loc Cert.AdamCfIdeal.main_v0_2)) (v3 : (c : Dev Cert.AdamCfIdeal.nD) → Buf (Elt Ideal) ((c.tc : Thread Cert.AdamCfIdeal.nD Cert.AdamCfIdeal.τ).loc Cert.AdamCfIdeal.main_v0_3)),
      θ_run (Cert.AdamCfIdeal.defs (F := Ideal)) (onTc (τ := Cert.AdamCfIdeal.τ) (Cert.AdamCfIdeal.main (F := Ideal))) ⟨m, fun _ => 0, g⟩ (fun r => ∀ c : Dev Cert.AdamCfIdeal.nD,
          r.2.mem ((c.tc : Thread Cert.AdamCfIdeal.nD Cert.AdamCfIdeal.τ).loc Cert.AdamCfIdeal.main_v0_0) = v0 c
          ∧ r.2.mem ((c.tc : Thread Cert.AdamCfIdeal.nD Cert.AdamCfIdeal.τ).loc Cert.AdamCfIdeal.main_v0_1) = v1 c
          ∧ r.2.mem ((c.tc : Thread Cert.AdamCfIdeal.nD Cert.AdamCfIdeal.τ).loc Cert.AdamCfIdeal.main_v0_2) = v2 c
          ∧ r.2.mem ((c.tc : Thread Cert.AdamCfIdeal.nD Cert.AdamCfIdeal.τ).loc Cert.AdamCfIdeal.main_v0_3) = v3 c
          ∧ r.2.mem ((c.tc : Thread Cert.AdamCfIdeal.nD Cert.AdamCfIdeal.τ).loc Cert.AdamCfIdeal.main_arg0) = m ((c.tc : Thread Cert.AdamCfIdeal.nD Cert.AdamCfIdeal.τ).loc Cert.AdamCfIdeal.main_arg0)
          ∧ r.2.mem ((c.tc : Thread Cert.AdamCfIdeal.nD Cert.AdamCfIdeal.τ).loc Cert.AdamCfIdeal.main_arg1) = m ((c.tc : Thread Cert.AdamCfIdeal.nD Cert.AdamCfIdeal.τ).loc Cert.AdamCfIdeal.main_arg1)
          ∧ r.2.mem ((c.tc : Thread Cert.AdamCfIdeal.nD Cert.AdamCfIdeal.τ).loc Cert.AdamCfIdeal.main_arg2) = m ((c.tc : Thread Cert.AdamCfIdeal.nD Cert.AdamCfIdeal.τ).loc Cert.AdamCfIdeal.main_arg2)
          ∧ r.2.mem ((c.tc : Thread Cert.AdamCfIdeal.nD Cert.AdamCfIdeal.τ).loc Cert.AdamCfIdeal.main_arg3) = m ((c.tc : Thread Cert.AdamCfIdeal.nD Cert.AdamCfIdeal.τ).loc Cert.AdamCfIdeal.main_arg3))
      ∧ θ_run (Cert.AdamCfRefIdeal.defs (F := Ideal)) (onTc (τ := Cert.AdamCfRefIdeal.τ) (Cert.AdamCfRefIdeal.main (F := Ideal))) ⟨m', fun _ => 0, g'⟩ (fun r => ∀ c : Dev Cert.AdamCfRefIdeal.nD,
          r.2.mem ((c.tc : Thread Cert.AdamCfRefIdeal.nD Cert.AdamCfRefIdeal.τ).loc Cert.AdamCfRefIdeal.main_v0) = v0 c
          ∧ r.2.mem ((c.tc : Thread Cert.AdamCfRefIdeal.nD Cert.AdamCfRefIdeal.τ).loc Cert.AdamCfRefIdeal.main_v24) = v1 c
          ∧ r.2.mem ((c.tc : Thread Cert.AdamCfRefIdeal.nD Cert.AdamCfRefIdeal.τ).loc Cert.AdamCfRefIdeal.main_v5) = v2 c
          ∧ r.2.mem ((c.tc : Thread Cert.AdamCfRefIdeal.nD Cert.AdamCfRefIdeal.τ).loc Cert.AdamCfRefIdeal.main_v11) = v3 c
          ∧ r.2.mem ((c.tc : Thread Cert.AdamCfRefIdeal.nD Cert.AdamCfRefIdeal.τ).loc Cert.AdamCfRefIdeal.main_arg0) = m' ((c.tc : Thread Cert.AdamCfRefIdeal.nD Cert.AdamCfRefIdeal.τ).loc Cert.AdamCfRefIdeal.main_arg0)
          ∧ r.2.mem ((c.tc : Thread Cert.AdamCfRefIdeal.nD Cert.AdamCfRefIdeal.τ).loc Cert.AdamCfRefIdeal.main_arg1) = m' ((c.tc : Thread Cert.AdamCfRefIdeal.nD Cert.AdamCfRefIdeal.τ).loc Cert.AdamCfRefIdeal.main_arg1)
          ∧ r.2.mem ((c.tc : Thread Cert.AdamCfRefIdeal.nD Cert.AdamCfRefIdeal.τ).loc Cert.AdamCfRefIdeal.main_arg2) = m' ((c.tc : Thread Cert.AdamCfRefIdeal.nD Cert.AdamCfRefIdeal.τ).loc Cert.AdamCfRefIdeal.main_arg2)
          ∧ r.2.mem ((c.tc : Thread Cert.AdamCfRefIdeal.nD Cert.AdamCfRefIdeal.τ).loc Cert.AdamCfRefIdeal.main_arg3) = m' ((c.tc : Thread Cert.AdamCfRefIdeal.nD Cert.AdamCfRefIdeal.τ).loc Cert.AdamCfRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v0) = v0 c
          ∧ r.2.mem ((c.tc : Thread Cert.AdamGluRefIdeal.nD Cert.AdamGluRefIdeal.τ).loc Cert.AdamGluRefIdeal.main_v24) = v1 c
          ∧ r.2.mem ((c.tc : Thread Cert.AdamGluRefIdeal.nD Cert.AdamGluRefIdeal.τ).loc Cert.AdamGluRefIdeal.main_v5) = v2 c
          ∧ r.2.mem ((c.tc : Thread Cert.AdamGluRefIdeal.nD Cert.AdamGluRefIdeal.τ).loc Cert.AdamGluRefIdeal.main_v11) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v0) = v0 c
          ∧ r.2.mem ((c.tc : Thread Cert.AdamGateRefIdeal.nD Cert.AdamGateRefIdeal.τ).loc Cert.AdamGateRefIdeal.main_v24) = v1 c
          ∧ r.2.mem ((c.tc : Thread Cert.AdamGateRefIdeal.nD Cert.AdamGateRefIdeal.τ).loc Cert.AdamGateRefIdeal.main_v5) = v2 c
          ∧ r.2.mem ((c.tc : Thread Cert.AdamGateRefIdeal.nD Cert.AdamGateRefIdeal.τ).loc Cert.AdamGateRefIdeal.main_v11) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)
      ∧ m' ((c.tc : Thread Cert.SumInRefIdeal.nD Cert.SumInRefIdeal.τ).loc Cert.SumInRefIdeal.main_arg3) = m ((c.tc : Thread Cert.SumInIdeal.nD Cert.SumInIdeal.τ).loc Cert.SumInIdeal.main_arg3)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
          ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v12) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2)
          ∧ r.2.mem ((c.tc : Thread Cert.SumInRefIdeal.nD Cert.SumInRefIdeal.τ).loc Cert.SumInRefIdeal.main_arg3) = m' ((c.tc : Thread Cert.SumInRefIdeal.nD Cert.SumInRefIdeal.τ).loc Cert.SumInRefIdeal.main_arg3))

def preserves_SumGate_SumGateIdeal : Prop :=
  True

def algebraic_SumGateIdeal_SumGateRefIdeal [hSumGateIdeal : Cert.SumGateIdeal.Facts] [hSumGateRefIdeal : Cert.SumGateRefIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)
      ∧ m' ((c.tc : Thread Cert.SumGateRefIdeal.nD Cert.SumGateRefIdeal.τ).loc Cert.SumGateRefIdeal.main_arg1) = m ((c.tc : Thread Cert.SumGateIdeal.nD Cert.SumGateIdeal.τ).loc Cert.SumGateIdeal.main_arg1)
      ∧ m' ((c.tc : Thread Cert.SumGateRefIdeal.nD Cert.SumGateRefIdeal.τ).loc Cert.SumGateRefIdeal.main_arg2) = m ((c.tc : Thread Cert.SumGateIdeal.nD Cert.SumGateIdeal.τ).loc Cert.SumGateIdeal.main_arg2)
      ∧ m' ((c.tc : Thread Cert.SumGateRefIdeal.nD Cert.SumGateRefIdeal.τ).loc Cert.SumGateRefIdeal.main_arg3) = m ((c.tc : Thread Cert.SumGateIdeal.nD Cert.SumGateIdeal.τ).loc Cert.SumGateIdeal.main_arg3)) →
    ∃ (v0 : (c : Dev Cert.SumGateIdeal.nD) → Buf (Elt Ideal) ((c.tc : Thread Cert.SumGateIdeal.nD Cert.SumGateIdeal.τ).loc Cert.SumGateIdeal.main_v0)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v0) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0)
          ∧ r.2.mem ((c.tc : Thread Cert.SumGateIdeal.nD Cert.SumGateIdeal.τ).loc Cert.SumGateIdeal.main_arg1) = m ((c.tc : Thread Cert.SumGateIdeal.nD Cert.SumGateIdeal.τ).loc Cert.SumGateIdeal.main_arg1)
          ∧ r.2.mem ((c.tc : Thread Cert.SumGateIdeal.nD Cert.SumGateIdeal.τ).loc Cert.SumGateIdeal.main_arg2) = m ((c.tc : Thread Cert.SumGateIdeal.nD Cert.SumGateIdeal.τ).loc Cert.SumGateIdeal.main_arg2)
          ∧ r.2.mem ((c.tc : Thread Cert.SumGateIdeal.nD Cert.SumGateIdeal.τ).loc Cert.SumGateIdeal.main_arg3) = m ((c.tc : Thread Cert.SumGateIdeal.nD Cert.SumGateIdeal.τ).loc Cert.SumGateIdeal.main_arg3))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v12) = v0 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0)
          ∧ r.2.mem ((c.tc : Thread Cert.SumGateRefIdeal.nD Cert.SumGateRefIdeal.τ).loc Cert.SumGateRefIdeal.main_arg1) = m' ((c.tc : Thread Cert.SumGateRefIdeal.nD Cert.SumGateRefIdeal.τ).loc Cert.SumGateRefIdeal.main_arg1)
          ∧ r.2.mem ((c.tc : Thread Cert.SumGateRefIdeal.nD Cert.SumGateRefIdeal.τ).loc Cert.SumGateRefIdeal.main_arg2) = m' ((c.tc : Thread Cert.SumGateRefIdeal.nD Cert.SumGateRefIdeal.τ).loc Cert.SumGateRefIdeal.main_arg2)
          ∧ r.2.mem ((c.tc : Thread Cert.SumGateRefIdeal.nD Cert.SumGateRefIdeal.τ).loc Cert.SumGateRefIdeal.main_arg3) = m' ((c.tc : Thread Cert.SumGateRefIdeal.nD Cert.SumGateRefIdeal.τ).loc Cert.SumGateRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)
      ∧ m' ((c.tc : Thread Cert.AdamORefIdeal.nD Cert.AdamORefIdeal.τ).loc Cert.AdamORefIdeal.main_arg4) = m ((c.tc : Thread Cert.AdamOIdeal.nD Cert.AdamOIdeal.τ).loc Cert.AdamOIdeal.main_arg4)
      ∧ m' ((c.tc : Thread Cert.AdamORefIdeal.nD Cert.AdamORefIdeal.τ).loc Cert.AdamORefIdeal.main_arg5) = m ((c.tc : Thread Cert.AdamOIdeal.nD Cert.AdamOIdeal.τ).loc Cert.AdamOIdeal.main_arg5)
      ∧ m' ((c.tc : Thread Cert.AdamORefIdeal.nD Cert.AdamORefIdeal.τ).loc Cert.AdamORefIdeal.main_arg6) = m ((c.tc : Thread Cert.AdamOIdeal.nD Cert.AdamOIdeal.τ).loc Cert.AdamOIdeal.main_arg6)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
          ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
          ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v8) = v0 c
          ∧ r.2.mem ((c.tc : Thread Cert.AdamORefIdeal.nD Cert.AdamORefIdeal.τ).loc Cert.AdamORefIdeal.main_v32) = v1 c
          ∧ r.2.mem ((c.tc : Thread Cert.AdamORefIdeal.nD Cert.AdamORefIdeal.τ).loc Cert.AdamORefIdeal.main_v13) = v2 c
          ∧ r.2.mem ((c.tc : Thread Cert.AdamORefIdeal.nD Cert.AdamORefIdeal.τ).loc Cert.AdamORefIdeal.main_v19) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3)
          ∧ r.2.mem ((c.tc : Thread Cert.AdamORefIdeal.nD Cert.AdamORefIdeal.τ).loc Cert.AdamORefIdeal.main_arg4) = m' ((c.tc : Thread Cert.AdamORefIdeal.nD Cert.AdamORefIdeal.τ).loc Cert.AdamORefIdeal.main_arg4)
          ∧ r.2.mem ((c.tc : Thread Cert.AdamORefIdeal.nD Cert.AdamORefIdeal.τ).loc Cert.AdamORefIdeal.main_arg5) = m' ((c.tc : Thread Cert.AdamORefIdeal.nD Cert.AdamORefIdeal.τ).loc Cert.AdamORefIdeal.main_arg5)
          ∧ r.2.mem ((c.tc : Thread Cert.AdamORefIdeal.nD Cert.AdamORefIdeal.τ).loc Cert.AdamORefIdeal.main_arg6) = m' ((c.tc : Thread Cert.AdamORefIdeal.nD Cert.AdamORefIdeal.τ).loc Cert.AdamORefIdeal.main_arg6))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v8) = v0 c
          ∧ r.2.mem ((c.tc : Thread Cert.AdamDownRefIdeal.nD Cert.AdamDownRefIdeal.τ).loc Cert.AdamDownRefIdeal.main_v32) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_v19) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6))

def preserves_GateUp0_GateUp0Ideal : Prop :=
  True

def algebraic_GateUp0Ideal_GateUp0RefIdeal [hGateUp0Ideal : Cert.GateUp0Ideal.Facts] [hGateUp0RefIdeal : Cert.GateUp0RefIdeal.Facts] : Prop :=
  ∀ (m : (ℓ : Loc Cert.GateUp0Ideal.nD Cert.GateUp0Ideal.τ Cert.GateUp0Ideal.sig) → Buf (Elt Ideal) ℓ) (g : Dev Cert.GateUp0Ideal.nD → PrngReg)
    (m' : (ℓ : Loc Cert.GateUp0RefIdeal.nD Cert.GateUp0RefIdeal.τ Cert.GateUp0RefIdeal.sig) → Buf (Elt Ideal) ℓ) (g' : Dev Cert.GateUp0RefIdeal.nD → PrngReg), Pre_GateUp0Ideal m →
    (∀ c : Dev Cert.GateUp0Ideal.nD,
      m' ((c.tc : Thread Cert.GateUp0RefIdeal.nD Cert.GateUp0RefIdeal.τ).loc Cert.GateUp0RefIdeal.main_arg0) = m ((c.tc : Thread Cert.GateUp0Ideal.nD Cert.GateUp0Ideal.τ).loc Cert.GateUp0Ideal.main_arg0)
      ∧ m' ((c.tc : Thread Cert.GateUp0RefIdeal.nD Cert.GateUp0RefIdeal.τ).loc Cert.GateUp0RefIdeal.main_arg1) = m ((c.tc : Thread Cert.GateUp0Ideal.nD Cert.GateUp0Ideal.τ).loc Cert.GateUp0Ideal.main_arg1)
      ∧ m' ((c.tc : Thread Cert.GateUp0RefIdeal.nD Cert.GateUp0RefIdeal.τ).loc Cert.GateUp0RefIdeal.main_arg2) = m ((c.tc : Thread Cert.GateUp0Ideal.nD Cert.GateUp0Ideal.τ).loc Cert.GateUp0Ideal.main_arg2)
      ∧ m' ((c.tc : Thread Cert.GateUp0RefIdeal.nD Cert.GateUp0RefIdeal.τ).loc Cert.GateUp0RefIdeal.main_arg3) = m ((c.tc : Thread Cert.GateUp0Ideal.nD Cert.GateUp0Ideal.τ).loc Cert.GateUp0Ideal.main_arg3)) →
    ∃ (v0 : (c : Dev Cert.GateUp0Ideal.nD) → Buf (Elt Ideal) ((c.tc : Thread Cert.GateUp0Ideal.nD Cert.GateUp0Ideal.τ).loc Cert.GateUp0Ideal.main_v0_0)) (v1 : (c : Dev Cert.GateUp0Ideal.nD) → Buf (Elt Ideal) ((c.tc : Thread Cert.GateUp0Ideal.nD Cert.GateUp0Ideal.τ).loc Cert.GateUp0Ideal.main_v0_1)) (v2 : (c : Dev Cert.GateUp0Ideal.nD) → Buf (Elt Ideal) ((c.tc : Thread Cert.GateUp0Ideal.nD Cert.GateUp0Ideal.τ).loc Cert.GateUp0Ideal.main_v0_2)),
      θ_run (Cert.GateUp0Ideal.defs (F := Ideal)) (onTc (τ := Cert.GateUp0Ideal.τ) (Cert.GateUp0Ideal.main (F := Ideal))) ⟨m, fun _ => 0, g⟩ (fun r => ∀ c : Dev Cert.GateUp0Ideal.nD,
          r.2.mem ((c.tc : Thread Cert.GateUp0Ideal.nD Cert.GateUp0Ideal.τ).loc Cert.GateUp0Ideal.main_v0_0) = v0 c
          ∧ r.2.mem ((c.tc : Thread Cert.GateUp0Ideal.nD Cert.GateUp0Ideal.τ).loc Cert.GateUp0Ideal.main_v0_1) = v1 c
          ∧ r.2.mem ((c.tc : Thread Cert.GateUp0Ideal.nD Cert.GateUp0Ideal.τ).loc Cert.GateUp0Ideal.main_v0_2) = v2 c
          ∧ r.2.mem ((c.tc : Thread Cert.GateUp0Ideal.nD Cert.GateUp0Ideal.τ).loc Cert.GateUp0Ideal.main_arg0) = m ((c.tc : Thread Cert.GateUp0Ideal.nD Cert.GateUp0Ideal.τ).loc Cert.GateUp0Ideal.main_arg0)
          ∧ r.2.mem ((c.tc : Thread Cert.GateUp0Ideal.nD Cert.GateUp0Ideal.τ).loc Cert.GateUp0Ideal.main_arg1) = m ((c.tc : Thread Cert.GateUp0Ideal.nD Cert.GateUp0Ideal.τ).loc Cert.GateUp0Ideal.main_arg1)
          ∧ r.2.mem ((c.tc : Thread Cert.GateUp0Ideal.nD Cert.GateUp0Ideal.τ).loc Cert.GateUp0Ideal.main_arg2) = m ((c.tc : Thread Cert.GateUp0Ideal.nD Cert.GateUp0Ideal.τ).loc Cert.GateUp0Ideal.main_arg2)
          ∧ r.2.mem ((c.tc : Thread Cert.GateUp0Ideal.nD Cert.GateUp0Ideal.τ).loc Cert.GateUp0Ideal.main_arg3) = m ((c.tc : Thread Cert.GateUp0Ideal.nD Cert.GateUp0Ideal.τ).loc Cert.GateUp0Ideal.main_arg3))
      ∧ θ_run (Cert.GateUp0RefIdeal.defs (F := Ideal)) (onTc (τ := Cert.GateUp0RefIdeal.τ) (Cert.GateUp0RefIdeal.main (F := Ideal))) ⟨m', fun _ => 0, g'⟩ (fun r => ∀ c : Dev Cert.GateUp0RefIdeal.nD,
          r.2.mem ((c.tc : Thread Cert.GateUp0RefIdeal.nD Cert.GateUp0RefIdeal.τ).loc Cert.GateUp0RefIdeal.main_v16) = v0 c
          ∧ r.2.mem ((c.tc : Thread Cert.GateUp0RefIdeal.nD Cert.GateUp0RefIdeal.τ).loc Cert.GateUp0RefIdeal.main_v17) = v1 c
          ∧ r.2.mem ((c.tc : Thread Cert.GateUp0RefIdeal.nD Cert.GateUp0RefIdeal.τ).loc Cert.GateUp0RefIdeal.main_v26) = v2 c
          ∧ r.2.mem ((c.tc : Thread Cert.GateUp0RefIdeal.nD Cert.GateUp0RefIdeal.τ).loc Cert.GateUp0RefIdeal.main_arg0) = m' ((c.tc : Thread Cert.GateUp0RefIdeal.nD Cert.GateUp0RefIdeal.τ).loc Cert.GateUp0RefIdeal.main_arg0)
          ∧ r.2.mem ((c.tc : Thread Cert.GateUp0RefIdeal.nD Cert.GateUp0RefIdeal.τ).loc Cert.GateUp0RefIdeal.main_arg1) = m' ((c.tc : Thread Cert.GateUp0RefIdeal.nD Cert.GateUp0RefIdeal.τ).loc Cert.GateUp0RefIdeal.main_arg1)
          ∧ r.2.mem ((c.tc : Thread Cert.GateUp0RefIdeal.nD Cert.GateUp0RefIdeal.τ).loc Cert.GateUp0RefIdeal.main_arg2) = m' ((c.tc : Thread Cert.GateUp0RefIdeal.nD Cert.GateUp0RefIdeal.τ).loc Cert.GateUp0RefIdeal.main_arg2)
          ∧ r.2.mem ((c.tc : Thread Cert.GateUp0RefIdeal.nD Cert.GateUp0RefIdeal.τ).loc Cert.GateUp0RefIdeal.main_arg3) = m' ((c.tc : Thread Cert.GateUp0RefIdeal.nD Cert.GateUp0RefIdeal.τ).loc Cert.GateUp0RefIdeal.main_arg3))

def preserves_GateUp1_GateUp1Ideal : Prop :=
  True

def algebraic_GateUp1Ideal_GateUp1RefIdeal [hGateUp1Ideal : Cert.GateUp1Ideal.Facts] [hGateUp1RefIdeal : Cert.GateUp1RefIdeal.Facts] : Prop :=
  ∀ (m : (ℓ : Loc Cert.GateUp1Ideal.nD Cert.GateUp1Ideal.τ Cert.GateUp1Ideal.sig) → Buf (Elt Ideal) ℓ) (g : Dev Cert.GateUp1Ideal.nD → PrngReg)
    (m' : (ℓ : Loc Cert.GateUp1RefIdeal.nD Cert.GateUp1RefIdeal.τ Cert.GateUp1RefIdeal.sig) → Buf (Elt Ideal) ℓ) (g' : Dev Cert.GateUp1RefIdeal.nD → PrngReg), Pre_GateUp1Ideal m →
    (∀ c : Dev Cert.GateUp1Ideal.nD,
      m' ((c.tc : Thread Cert.GateUp1RefIdeal.nD Cert.GateUp1RefIdeal.τ).loc Cert.GateUp1RefIdeal.main_arg0) = m ((c.tc : Thread Cert.GateUp1Ideal.nD Cert.GateUp1Ideal.τ).loc Cert.GateUp1Ideal.main_arg0)
      ∧ m' ((c.tc : Thread Cert.GateUp1RefIdeal.nD Cert.GateUp1RefIdeal.τ).loc Cert.GateUp1RefIdeal.main_arg1) = m ((c.tc : Thread Cert.GateUp1Ideal.nD Cert.GateUp1Ideal.τ).loc Cert.GateUp1Ideal.main_arg1)
      ∧ m' ((c.tc : Thread Cert.GateUp1RefIdeal.nD Cert.GateUp1RefIdeal.τ).loc Cert.GateUp1RefIdeal.main_arg2) = m ((c.tc : Thread Cert.GateUp1Ideal.nD Cert.GateUp1Ideal.τ).loc Cert.GateUp1Ideal.main_arg2)
      ∧ m' ((c.tc : Thread Cert.GateUp1RefIdeal.nD Cert.GateUp1RefIdeal.τ).loc Cert.GateUp1RefIdeal.main_arg3) = m ((c.tc : Thread Cert.GateUp1Ideal.nD Cert.GateUp1Ideal.τ).loc Cert.GateUp1Ideal.main_arg3)) →
    ∃ (v0 : (c : Dev Cert.GateUp1Ideal.nD) → Buf (Elt Ideal) ((c.tc : Thread Cert.GateUp1Ideal.nD Cert.GateUp1Ideal.τ).loc Cert.GateUp1Ideal.main_v0_0)) (v1 : (c : Dev Cert.GateUp1Ideal.nD) → Buf (Elt Ideal) ((c.tc : Thread Cert.GateUp1Ideal.nD Cert.GateUp1Ideal.τ).loc Cert.GateUp1Ideal.main_v0_1)) (v2 : (c : Dev Cert.GateUp1Ideal.nD) → Buf (Elt Ideal) ((c.tc : Thread Cert.GateUp1Ideal.nD Cert.GateUp1Ideal.τ).loc Cert.GateUp1Ideal.main_v0_2)),
      θ_run (Cert.GateUp1Ideal.defs (F := Ideal)) (onTc (τ := Cert.GateUp1Ideal.τ) (Cert.GateUp1Ideal.main (F := Ideal))) ⟨m, fun _ => 0, g⟩ (fun r => ∀ c : Dev Cert.GateUp1Ideal.nD,
          r.2.mem ((c.tc : Thread Cert.GateUp1Ideal.nD Cert.GateUp1Ideal.τ).loc Cert.GateUp1Ideal.main_v0_0) = v0 c
          ∧ r.2.mem ((c.tc : Thread Cert.GateUp1Ideal.nD Cert.GateUp1Ideal.τ).loc Cert.GateUp1Ideal.main_v0_1) = v1 c
          ∧ r.2.mem ((c.tc : Thread Cert.GateUp1Ideal.nD Cert.GateUp1Ideal.τ).loc Cert.GateUp1Ideal.main_v0_2) = v2 c
          ∧ r.2.mem ((c.tc : Thread Cert.GateUp1Ideal.nD Cert.GateUp1Ideal.τ).loc Cert.GateUp1Ideal.main_arg0) = m ((c.tc : Thread Cert.GateUp1Ideal.nD Cert.GateUp1Ideal.τ).loc Cert.GateUp1Ideal.main_arg0)
          ∧ r.2.mem ((c.tc : Thread Cert.GateUp1Ideal.nD Cert.GateUp1Ideal.τ).loc Cert.GateUp1Ideal.main_arg1) = m ((c.tc : Thread Cert.GateUp1Ideal.nD Cert.GateUp1Ideal.τ).loc Cert.GateUp1Ideal.main_arg1)
          ∧ r.2.mem ((c.tc : Thread Cert.GateUp1Ideal.nD Cert.GateUp1Ideal.τ).loc Cert.GateUp1Ideal.main_arg2) = m ((c.tc : Thread Cert.GateUp1Ideal.nD Cert.GateUp1Ideal.τ).loc Cert.GateUp1Ideal.main_arg2)
          ∧ r.2.mem ((c.tc : Thread Cert.GateUp1Ideal.nD Cert.GateUp1Ideal.τ).loc Cert.GateUp1Ideal.main_arg3) = m ((c.tc : Thread Cert.GateUp1Ideal.nD Cert.GateUp1Ideal.τ).loc Cert.GateUp1Ideal.main_arg3))
      ∧ θ_run (Cert.GateUp1RefIdeal.defs (F := Ideal)) (onTc (τ := Cert.GateUp1RefIdeal.τ) (Cert.GateUp1RefIdeal.main (F := Ideal))) ⟨m', fun _ => 0, g'⟩ (fun r => ∀ c : Dev Cert.GateUp1RefIdeal.nD,
          r.2.mem ((c.tc : Thread Cert.GateUp1RefIdeal.nD Cert.GateUp1RefIdeal.τ).loc Cert.GateUp1RefIdeal.main_v16) = v0 c
          ∧ r.2.mem ((c.tc : Thread Cert.GateUp1RefIdeal.nD Cert.GateUp1RefIdeal.τ).loc Cert.GateUp1RefIdeal.main_v17) = v1 c
          ∧ r.2.mem ((c.tc : Thread Cert.GateUp1RefIdeal.nD Cert.GateUp1RefIdeal.τ).loc Cert.GateUp1RefIdeal.main_v26) = v2 c
          ∧ r.2.mem ((c.tc : Thread Cert.GateUp1RefIdeal.nD Cert.GateUp1RefIdeal.τ).loc Cert.GateUp1RefIdeal.main_arg0) = m' ((c.tc : Thread Cert.GateUp1RefIdeal.nD Cert.GateUp1RefIdeal.τ).loc Cert.GateUp1RefIdeal.main_arg0)
          ∧ r.2.mem ((c.tc : Thread Cert.GateUp1RefIdeal.nD Cert.GateUp1RefIdeal.τ).loc Cert.GateUp1RefIdeal.main_arg1) = m' ((c.tc : Thread Cert.GateUp1RefIdeal.nD Cert.GateUp1RefIdeal.τ).loc Cert.GateUp1RefIdeal.main_arg1)
          ∧ r.2.mem ((c.tc : Thread Cert.GateUp1RefIdeal.nD Cert.GateUp1RefIdeal.τ).loc Cert.GateUp1RefIdeal.main_arg2) = m' ((c.tc : Thread Cert.GateUp1RefIdeal.nD Cert.GateUp1RefIdeal.τ).loc Cert.GateUp1RefIdeal.main_arg2)
          ∧ r.2.mem ((c.tc : Thread Cert.GateUp1RefIdeal.nD Cert.GateUp1RefIdeal.τ).loc Cert.GateUp1RefIdeal.main_arg3) = m' ((c.tc : Thread Cert.GateUp1RefIdeal.nD Cert.GateUp1RefIdeal.τ).loc Cert.GateUp1RefIdeal.main_arg3))

def preserves_GateUp2_GateUp2Ideal : Prop :=
  True

def algebraic_GateUp2Ideal_GateUp2RefIdeal [hGateUp2Ideal : Cert.GateUp2Ideal.Facts] [hGateUp2RefIdeal : Cert.GateUp2RefIdeal.Facts] : Prop :=
  ∀ (m : (ℓ : Loc Cert.GateUp2Ideal.nD Cert.GateUp2Ideal.τ Cert.GateUp2Ideal.sig) → Buf (Elt Ideal) ℓ) (g : Dev Cert.GateUp2Ideal.nD → PrngReg)
    (m' : (ℓ : Loc Cert.GateUp2RefIdeal.nD Cert.GateUp2RefIdeal.τ Cert.GateUp2RefIdeal.sig) → Buf (Elt Ideal) ℓ) (g' : Dev Cert.GateUp2RefIdeal.nD → PrngReg), Pre_GateUp2Ideal m →
    (∀ c : Dev Cert.GateUp2Ideal.nD,
      m' ((c.tc : Thread Cert.GateUp2RefIdeal.nD Cert.GateUp2RefIdeal.τ).loc Cert.GateUp2RefIdeal.main_arg0) = m ((c.tc : Thread Cert.GateUp2Ideal.nD Cert.GateUp2Ideal.τ).loc Cert.GateUp2Ideal.main_arg0)
      ∧ m' ((c.tc : Thread Cert.GateUp2RefIdeal.nD Cert.GateUp2RefIdeal.τ).loc Cert.GateUp2RefIdeal.main_arg1) = m ((c.tc : Thread Cert.GateUp2Ideal.nD Cert.GateUp2Ideal.τ).loc Cert.GateUp2Ideal.main_arg1)
      ∧ m' ((c.tc : Thread Cert.GateUp2RefIdeal.nD Cert.GateUp2RefIdeal.τ).loc Cert.GateUp2RefIdeal.main_arg2) = m ((c.tc : Thread Cert.GateUp2Ideal.nD Cert.GateUp2Ideal.τ).loc Cert.GateUp2Ideal.main_arg2)
      ∧ m' ((c.tc : Thread Cert.GateUp2RefIdeal.nD Cert.GateUp2RefIdeal.τ).loc Cert.GateUp2RefIdeal.main_arg3) = m ((c.tc : Thread Cert.GateUp2Ideal.nD Cert.GateUp2Ideal.τ).loc Cert.GateUp2Ideal.main_arg3)) →
    ∃ (v0 : (c : Dev Cert.GateUp2Ideal.nD) → Buf (Elt Ideal) ((c.tc : Thread Cert.GateUp2Ideal.nD Cert.GateUp2Ideal.τ).loc Cert.GateUp2Ideal.main_v0_0)) (v1 : (c : Dev Cert.GateUp2Ideal.nD) → Buf (Elt Ideal) ((c.tc : Thread Cert.GateUp2Ideal.nD Cert.GateUp2Ideal.τ).loc Cert.GateUp2Ideal.main_v0_1)) (v2 : (c : Dev Cert.GateUp2Ideal.nD) → Buf (Elt Ideal) ((c.tc : Thread Cert.GateUp2Ideal.nD Cert.GateUp2Ideal.τ).loc Cert.GateUp2Ideal.main_v0_2)),
      θ_run (Cert.GateUp2Ideal.defs (F := Ideal)) (onTc (τ := Cert.GateUp2Ideal.τ) (Cert.GateUp2Ideal.main (F := Ideal))) ⟨m, fun _ => 0, g⟩ (fun r => ∀ c : Dev Cert.GateUp2Ideal.nD,
          r.2.mem ((c.tc : Thread Cert.GateUp2Ideal.nD Cert.GateUp2Ideal.τ).loc Cert.GateUp2Ideal.main_v0_0) = v0 c
          ∧ r.2.mem ((c.tc : Thread Cert.GateUp2Ideal.nD Cert.GateUp2Ideal.τ).loc Cert.GateUp2Ideal.main_v0_1) = v1 c
          ∧ r.2.mem ((c.tc : Thread Cert.GateUp2Ideal.nD Cert.GateUp2Ideal.τ).loc Cert.GateUp2Ideal.main_v0_2) = v2 c
          ∧ r.2.mem ((c.tc : Thread Cert.GateUp2Ideal.nD Cert.GateUp2Ideal.τ).loc Cert.GateUp2Ideal.main_arg0) = m ((c.tc : Thread Cert.GateUp2Ideal.nD Cert.GateUp2Ideal.τ).loc Cert.GateUp2Ideal.main_arg0)
          ∧ r.2.mem ((c.tc : Thread Cert.GateUp2Ideal.nD Cert.GateUp2Ideal.τ).loc Cert.GateUp2Ideal.main_arg1) = m ((c.tc : Thread Cert.GateUp2Ideal.nD Cert.GateUp2Ideal.τ).loc Cert.GateUp2Ideal.main_arg1)
          ∧ r.2.mem ((c.tc : Thread Cert.GateUp2Ideal.nD Cert.GateUp2Ideal.τ).loc Cert.GateUp2Ideal.main_arg2) = m ((c.tc : Thread Cert.GateUp2Ideal.nD Cert.GateUp2Ideal.τ).loc Cert.GateUp2Ideal.main_arg2)
          ∧ r.2.mem ((c.tc : Thread Cert.GateUp2Ideal.nD Cert.GateUp2Ideal.τ).loc Cert.GateUp2Ideal.main_arg3) = m ((c.tc : Thread Cert.GateUp2Ideal.nD Cert.GateUp2Ideal.τ).loc Cert.GateUp2Ideal.main_arg3))
      ∧ θ_run (Cert.GateUp2RefIdeal.defs (F := Ideal)) (onTc (τ := Cert.GateUp2RefIdeal.τ) (Cert.GateUp2RefIdeal.main (F := Ideal))) ⟨m', fun _ => 0, g'⟩ (fun r => ∀ c : Dev Cert.GateUp2RefIdeal.nD,
          r.2.mem ((c.tc : Thread Cert.GateUp2RefIdeal.nD Cert.GateUp2RefIdeal.τ).loc Cert.GateUp2RefIdeal.main_v16) = v0 c
          ∧ r.2.mem ((c.tc : Thread Cert.GateUp2RefIdeal.nD Cert.GateUp2RefIdeal.τ).loc Cert.GateUp2RefIdeal.main_v17) = v1 c
          ∧ r.2.mem ((c.tc : Thread Cert.GateUp2RefIdeal.nD Cert.GateUp2RefIdeal.τ).loc Cert.GateUp2RefIdeal.main_v26) = v2 c
          ∧ r.2.mem ((c.tc : Thread Cert.GateUp2RefIdeal.nD Cert.GateUp2RefIdeal.τ).loc Cert.GateUp2RefIdeal.main_arg0) = m' ((c.tc : Thread Cert.GateUp2RefIdeal.nD Cert.GateUp2RefIdeal.τ).loc Cert.GateUp2RefIdeal.main_arg0)
          ∧ r.2.mem ((c.tc : Thread Cert.GateUp2RefIdeal.nD Cert.GateUp2RefIdeal.τ).loc Cert.GateUp2RefIdeal.main_arg1) = m' ((c.tc : Thread Cert.GateUp2RefIdeal.nD Cert.GateUp2RefIdeal.τ).loc Cert.GateUp2RefIdeal.main_arg1)
          ∧ r.2.mem ((c.tc : Thread Cert.GateUp2RefIdeal.nD Cert.GateUp2RefIdeal.τ).loc Cert.GateUp2RefIdeal.main_arg2) = m' ((c.tc : Thread Cert.GateUp2RefIdeal.nD Cert.GateUp2RefIdeal.τ).loc Cert.GateUp2RefIdeal.main_arg2)
          ∧ r.2.mem ((c.tc : Thread Cert.GateUp2RefIdeal.nD Cert.GateUp2RefIdeal.τ).loc Cert.GateUp2RefIdeal.main_arg3) = m' ((c.tc : Thread Cert.GateUp2RefIdeal.nD Cert.GateUp2RefIdeal.τ).loc Cert.GateUp2RefIdeal.main_arg3))

def preserves_GateUp3_GateUp3Ideal : Prop :=
  True

def algebraic_GateUp3Ideal_GateUp3RefIdeal [hGateUp3Ideal : Cert.GateUp3Ideal.Facts] [hGateUp3RefIdeal : Cert.GateUp3RefIdeal.Facts] : Prop :=
  ∀ (m : (ℓ : Loc Cert.GateUp3Ideal.nD Cert.GateUp3Ideal.τ Cert.GateUp3Ideal.sig) → Buf (Elt Ideal) ℓ) (g : Dev Cert.GateUp3Ideal.nD → PrngReg)
    (m' : (ℓ : Loc Cert.GateUp3RefIdeal.nD Cert.GateUp3RefIdeal.τ Cert.GateUp3RefIdeal.sig) → Buf (Elt Ideal) ℓ) (g' : Dev Cert.GateUp3RefIdeal.nD → PrngReg), Pre_GateUp3Ideal m →
    (∀ c : Dev Cert.GateUp3Ideal.nD,
      m' ((c.tc : Thread Cert.GateUp3RefIdeal.nD Cert.GateUp3RefIdeal.τ).loc Cert.GateUp3RefIdeal.main_arg0) = m ((c.tc : Thread Cert.GateUp3Ideal.nD Cert.GateUp3Ideal.τ).loc Cert.GateUp3Ideal.main_arg0)
      ∧ m' ((c.tc : Thread Cert.GateUp3RefIdeal.nD Cert.GateUp3RefIdeal.τ).loc Cert.GateUp3RefIdeal.main_arg1) = m ((c.tc : Thread Cert.GateUp3Ideal.nD Cert.GateUp3Ideal.τ).loc Cert.GateUp3Ideal.main_arg1)
      ∧ m' ((c.tc : Thread Cert.GateUp3RefIdeal.nD Cert.GateUp3RefIdeal.τ).loc Cert.GateUp3RefIdeal.main_arg2) = m ((c.tc : Thread Cert.GateUp3Ideal.nD Cert.GateUp3Ideal.τ).loc Cert.GateUp3Ideal.main_arg2)
      ∧ m' ((c.tc : Thread Cert.GateUp3RefIdeal.nD Cert.GateUp3RefIdeal.τ).loc Cert.GateUp3RefIdeal.main_arg3) = m ((c.tc : Thread Cert.GateUp3Ideal.nD Cert.GateUp3Ideal.τ).loc Cert.GateUp3Ideal.main_arg3)) →
    ∃ (v0 : (c : Dev Cert.GateUp3Ideal.nD) → Buf (Elt Ideal) ((c.tc : Thread Cert.GateUp3Ideal.nD Cert.GateUp3Ideal.τ).loc Cert.GateUp3Ideal.main_v0_0)) (v1 : (c : Dev Cert.GateUp3Ideal.nD) → Buf (Elt Ideal) ((c.tc : Thread Cert.GateUp3Ideal.nD Cert.GateUp3Ideal.τ).loc Cert.GateUp3Ideal.main_v0_1)) (v2 : (c : Dev Cert.GateUp3Ideal.nD) → Buf (Elt Ideal) ((c.tc : Thread Cert.GateUp3Ideal.nD Cert.GateUp3Ideal.τ).loc Cert.GateUp3Ideal.main_v0_2)),
      θ_run (Cert.GateUp3Ideal.defs (F := Ideal)) (onTc (τ := Cert.GateUp3Ideal.τ) (Cert.GateUp3Ideal.main (F := Ideal))) ⟨m, fun _ => 0, g⟩ (fun r => ∀ c : Dev Cert.GateUp3Ideal.nD,
          r.2.mem ((c.tc : Thread Cert.GateUp3Ideal.nD Cert.GateUp3Ideal.τ).loc Cert.GateUp3Ideal.main_v0_0) = v0 c
          ∧ r.2.mem ((c.tc : Thread Cert.GateUp3Ideal.nD Cert.GateUp3Ideal.τ).loc Cert.GateUp3Ideal.main_v0_1) = v1 c
          ∧ r.2.mem ((c.tc : Thread Cert.GateUp3Ideal.nD Cert.GateUp3Ideal.τ).loc Cert.GateUp3Ideal.main_v0_2) = v2 c
          ∧ r.2.mem ((c.tc : Thread Cert.GateUp3Ideal.nD Cert.GateUp3Ideal.τ).loc Cert.GateUp3Ideal.main_arg0) = m ((c.tc : Thread Cert.GateUp3Ideal.nD Cert.GateUp3Ideal.τ).loc Cert.GateUp3Ideal.main_arg0)
          ∧ r.2.mem ((c.tc : Thread Cert.GateUp3Ideal.nD Cert.GateUp3Ideal.τ).loc Cert.GateUp3Ideal.main_arg1) = m ((c.tc : Thread Cert.GateUp3Ideal.nD Cert.GateUp3Ideal.τ).loc Cert.GateUp3Ideal.main_arg1)
          ∧ r.2.mem ((c.tc : Thread Cert.GateUp3Ideal.nD Cert.GateUp3Ideal.τ).loc Cert.GateUp3Ideal.main_arg2) = m ((c.tc : Thread Cert.GateUp3Ideal.nD Cert.GateUp3Ideal.τ).loc Cert.GateUp3Ideal.main_arg2)
          ∧ r.2.mem ((c.tc : Thread Cert.GateUp3Ideal.nD Cert.GateUp3Ideal.τ).loc Cert.GateUp3Ideal.main_arg3) = m ((c.tc : Thread Cert.GateUp3Ideal.nD Cert.GateUp3Ideal.τ).loc Cert.GateUp3Ideal.main_arg3))
      ∧ θ_run (Cert.GateUp3RefIdeal.defs (F := Ideal)) (onTc (τ := Cert.GateUp3RefIdeal.τ) (Cert.GateUp3RefIdeal.main (F := Ideal))) ⟨m', fun _ => 0, g'⟩ (fun r => ∀ c : Dev Cert.GateUp3RefIdeal.nD,
          r.2.mem ((c.tc : Thread Cert.GateUp3RefIdeal.nD Cert.GateUp3RefIdeal.τ).loc Cert.GateUp3RefIdeal.main_v16) = v0 c
          ∧ r.2.mem ((c.tc : Thread Cert.GateUp3RefIdeal.nD Cert.GateUp3RefIdeal.τ).loc Cert.GateUp3RefIdeal.main_v17) = v1 c
          ∧ r.2.mem ((c.tc : Thread Cert.GateUp3RefIdeal.nD Cert.GateUp3RefIdeal.τ).loc Cert.GateUp3RefIdeal.main_v26) = v2 c
          ∧ r.2.mem ((c.tc : Thread Cert.GateUp3RefIdeal.nD Cert.GateUp3RefIdeal.τ).loc Cert.GateUp3RefIdeal.main_arg0) = m' ((c.tc : Thread Cert.GateUp3RefIdeal.nD Cert.GateUp3RefIdeal.τ).loc Cert.GateUp3RefIdeal.main_arg0)
          ∧ r.2.mem ((c.tc : Thread Cert.GateUp3RefIdeal.nD Cert.GateUp3RefIdeal.τ).loc Cert.GateUp3RefIdeal.main_arg1) = m' ((c.tc : Thread Cert.GateUp3RefIdeal.nD Cert.GateUp3RefIdeal.τ).loc Cert.GateUp3RefIdeal.main_arg1)
          ∧ r.2.mem ((c.tc : Thread Cert.GateUp3RefIdeal.nD Cert.GateUp3RefIdeal.τ).loc Cert.GateUp3RefIdeal.main_arg2) = m' ((c.tc : Thread Cert.GateUp3RefIdeal.nD Cert.GateUp3RefIdeal.τ).loc Cert.GateUp3RefIdeal.main_arg2)
          ∧ r.2.mem ((c.tc : Thread Cert.GateUp3RefIdeal.nD Cert.GateUp3RefIdeal.τ).loc Cert.GateUp3RefIdeal.main_arg3) = m' ((c.tc : Thread Cert.GateUp3RefIdeal.nD Cert.GateUp3RefIdeal.τ).loc Cert.GateUp3RefIdeal.main_arg3))

def preserves_DownLn0_DownLn0Ideal : Prop :=
  True

def algebraic_DownLn0Ideal_DownLn0RefIdeal [hDownLn0Ideal : Cert.DownLn0Ideal.Facts] [hDownLn0RefIdeal : Cert.DownLn0RefIdeal.Facts] : Prop :=
  ∀ (m : (ℓ : Loc Cert.DownLn0Ideal.nD Cert.DownLn0Ideal.τ Cert.DownLn0Ideal.sig) → Buf (Elt Ideal) ℓ) (g : Dev Cert.DownLn0Ideal.nD → PrngReg)
    (m' : (ℓ : Loc Cert.DownLn0RefIdeal.nD Cert.DownLn0RefIdeal.τ Cert.DownLn0RefIdeal.sig) → Buf (Elt Ideal) ℓ) (g' : Dev Cert.DownLn0RefIdeal.nD → PrngReg), Pre_DownLn0Ideal m →
    (∀ c : Dev Cert.DownLn0Ideal.nD,
      m' ((c.tc : Thread Cert.DownLn0RefIdeal.nD Cert.DownLn0RefIdeal.τ).loc Cert.DownLn0RefIdeal.main_arg0) = m ((c.tc : Thread Cert.DownLn0Ideal.nD Cert.DownLn0Ideal.τ).loc Cert.DownLn0Ideal.main_arg0)
      ∧ m' ((c.tc : Thread Cert.DownLn0RefIdeal.nD Cert.DownLn0RefIdeal.τ).loc Cert.DownLn0RefIdeal.main_arg1) = m ((c.tc : Thread Cert.DownLn0Ideal.nD Cert.DownLn0Ideal.τ).loc Cert.DownLn0Ideal.main_arg1)
      ∧ m' ((c.tc : Thread Cert.DownLn0RefIdeal.nD Cert.DownLn0RefIdeal.τ).loc Cert.DownLn0RefIdeal.main_arg2) = m ((c.tc : Thread Cert.DownLn0Ideal.nD Cert.DownLn0Ideal.τ).loc Cert.DownLn0Ideal.main_arg2)
      ∧ m' ((c.tc : Thread Cert.DownLn0RefIdeal.nD Cert.DownLn0RefIdeal.τ).loc Cert.DownLn0RefIdeal.main_arg3) = m ((c.tc : Thread Cert.DownLn0Ideal.nD Cert.DownLn0Ideal.τ).loc Cert.DownLn0Ideal.main_arg3)
      ∧ m' ((c.tc : Thread Cert.DownLn0RefIdeal.nD Cert.DownLn0RefIdeal.τ).loc Cert.DownLn0RefIdeal.main_arg4) = m ((c.tc : Thread Cert.DownLn0Ideal.nD Cert.DownLn0Ideal.τ).loc Cert.DownLn0Ideal.main_arg4)
      ∧ m' ((c.tc : Thread Cert.DownLn0RefIdeal.nD Cert.DownLn0RefIdeal.τ).loc Cert.DownLn0RefIdeal.main_arg5) = m ((c.tc : Thread Cert.DownLn0Ideal.nD Cert.DownLn0Ideal.τ).loc Cert.DownLn0Ideal.main_arg5)) →
    ∃ (v0 : (c : Dev Cert.DownLn0Ideal.nD) → Buf (Elt Ideal) ((c.tc : Thread Cert.DownLn0Ideal.nD Cert.DownLn0Ideal.τ).loc Cert.DownLn0Ideal.main_v0_0)) (v1 : (c : Dev Cert.DownLn0Ideal.nD) → Buf (Elt Ideal) ((c.tc : Thread Cert.DownLn0Ideal.nD Cert.DownLn0Ideal.τ).loc Cert.DownLn0Ideal.main_v0_1)) (v2 : (c : Dev Cert.DownLn0Ideal.nD) → Buf (Elt Ideal) ((c.tc : Thread Cert.DownLn0Ideal.nD Cert.DownLn0Ideal.τ).loc Cert.DownLn0Ideal.main_v0_2)),
      θ_run (Cert.DownLn0Ideal.defs (F := Ideal)) (onTc (τ := Cert.DownLn0Ideal.τ) (Cert.DownLn0Ideal.main (F := Ideal))) ⟨m, fun _ => 0, g⟩ (fun r => ∀ c : Dev Cert.DownLn0Ideal.nD,
          r.2.mem ((c.tc : Thread Cert.DownLn0Ideal.nD Cert.DownLn0Ideal.τ).loc Cert.DownLn0Ideal.main_v0_0) = v0 c
          ∧ r.2.mem ((c.tc : Thread Cert.DownLn0Ideal.nD Cert.DownLn0Ideal.τ).loc Cert.DownLn0Ideal.main_v0_1) = v1 c
          ∧ r.2.mem ((c.tc : Thread Cert.DownLn0Ideal.nD Cert.DownLn0Ideal.τ).loc Cert.DownLn0Ideal.main_v0_2) = v2 c
          ∧ r.2.mem ((c.tc : Thread Cert.DownLn0Ideal.nD Cert.DownLn0Ideal.τ).loc Cert.DownLn0Ideal.main_arg0) = m ((c.tc : Thread Cert.DownLn0Ideal.nD Cert.DownLn0Ideal.τ).loc Cert.DownLn0Ideal.main_arg0)
          ∧ r.2.mem ((c.tc : Thread Cert.DownLn0Ideal.nD Cert.DownLn0Ideal.τ).loc Cert.DownLn0Ideal.main_arg1) = m ((c.tc : Thread Cert.DownLn0Ideal.nD Cert.DownLn0Ideal.τ).loc Cert.DownLn0Ideal.main_arg1)
          ∧ r.2.mem ((c.tc : Thread Cert.DownLn0Ideal.nD Cert.DownLn0Ideal.τ).loc Cert.DownLn0Ideal.main_arg2) = m ((c.tc : Thread Cert.DownLn0Ideal.nD Cert.DownLn0Ideal.τ).loc Cert.DownLn0Ideal.main_arg2)
          ∧ r.2.mem ((c.tc : Thread Cert.DownLn0Ideal.nD Cert.DownLn0Ideal.τ).loc Cert.DownLn0Ideal.main_arg3) = m ((c.tc : Thread Cert.DownLn0Ideal.nD Cert.DownLn0Ideal.τ).loc Cert.DownLn0Ideal.main_arg3)
          ∧ r.2.mem ((c.tc : Thread Cert.DownLn0Ideal.nD Cert.DownLn0Ideal.τ).loc Cert.DownLn0Ideal.main_arg4) = m ((c.tc : Thread Cert.DownLn0Ideal.nD Cert.DownLn0Ideal.τ).loc Cert.DownLn0Ideal.main_arg4)
          ∧ r.2.mem ((c.tc : Thread Cert.DownLn0Ideal.nD Cert.DownLn0Ideal.τ).loc Cert.DownLn0Ideal.main_arg5) = m ((c.tc : Thread Cert.DownLn0Ideal.nD Cert.DownLn0Ideal.τ).loc Cert.DownLn0Ideal.main_arg5))
      ∧ θ_run (Cert.DownLn0RefIdeal.defs (F := Ideal)) (onTc (τ := Cert.DownLn0RefIdeal.τ) (Cert.DownLn0RefIdeal.main (F := Ideal))) ⟨m', fun _ => 0, g'⟩ (fun r => ∀ c : Dev Cert.DownLn0RefIdeal.nD,
          r.2.mem ((c.tc : Thread Cert.DownLn0RefIdeal.nD Cert.DownLn0RefIdeal.τ).loc Cert.DownLn0RefIdeal.main_v12) = v0 c
          ∧ r.2.mem ((c.tc : Thread Cert.DownLn0RefIdeal.nD Cert.DownLn0RefIdeal.τ).loc Cert.DownLn0RefIdeal.main_v11) = v1 c
          ∧ r.2.mem ((c.tc : Thread Cert.DownLn0RefIdeal.nD Cert.DownLn0RefIdeal.τ).loc Cert.DownLn0RefIdeal.main_v38) = v2 c
          ∧ r.2.mem ((c.tc : Thread Cert.DownLn0RefIdeal.nD Cert.DownLn0RefIdeal.τ).loc Cert.DownLn0RefIdeal.main_arg0) = m' ((c.tc : Thread Cert.DownLn0RefIdeal.nD Cert.DownLn0RefIdeal.τ).loc Cert.DownLn0RefIdeal.main_arg0)
          ∧ r.2.mem ((c.tc : Thread Cert.DownLn0RefIdeal.nD Cert.DownLn0RefIdeal.τ).loc Cert.DownLn0RefIdeal.main_arg1) = m' ((c.tc : Thread Cert.DownLn0RefIdeal.nD Cert.DownLn0RefIdeal.τ).loc Cert.DownLn0RefIdeal.main_arg1)
          ∧ r.2.mem ((c.tc : Thread Cert.DownLn0RefIdeal.nD Cert.DownLn0RefIdeal.τ).loc Cert.DownLn0RefIdeal.main_arg2) = m' ((c.tc : Thread Cert.DownLn0RefIdeal.nD Cert.DownLn0RefIdeal.τ).loc Cert.DownLn0RefIdeal.main_arg2)
          ∧ r.2.mem ((c.tc : Thread Cert.DownLn0RefIdeal.nD Cert.DownLn0RefIdeal.τ).loc Cert.DownLn0RefIdeal.main_arg3) = m' ((c.tc : Thread Cert.DownLn0RefIdeal.nD Cert.DownLn0RefIdeal.τ).loc Cert.DownLn0RefIdeal.main_arg3)
          ∧ r.2.mem ((c.tc : Thread Cert.DownLn0RefIdeal.nD Cert.DownLn0RefIdeal.τ).loc Cert.DownLn0RefIdeal.main_arg4) = m' ((c.tc : Thread Cert.DownLn0RefIdeal.nD Cert.DownLn0RefIdeal.τ).loc Cert.DownLn0RefIdeal.main_arg4)
          ∧ r.2.mem ((c.tc : Thread Cert.DownLn0RefIdeal.nD Cert.DownLn0RefIdeal.τ).loc Cert.DownLn0RefIdeal.main_arg5) = m' ((c.tc : Thread Cert.DownLn0RefIdeal.nD Cert.DownLn0RefIdeal.τ).loc Cert.DownLn0RefIdeal.main_arg5))

def preserves_DownLn1_DownLn1Ideal : Prop :=
  True

def algebraic_DownLn1Ideal_DownLn1RefIdeal [hDownLn1Ideal : Cert.DownLn1Ideal.Facts] [hDownLn1RefIdeal : Cert.DownLn1RefIdeal.Facts] : Prop :=
  ∀ (m : (ℓ : Loc Cert.DownLn1Ideal.nD Cert.DownLn1Ideal.τ Cert.DownLn1Ideal.sig) → Buf (Elt Ideal) ℓ) (g : Dev Cert.DownLn1Ideal.nD → PrngReg)
    (m' : (ℓ : Loc Cert.DownLn1RefIdeal.nD Cert.DownLn1RefIdeal.τ Cert.DownLn1RefIdeal.sig) → Buf (Elt Ideal) ℓ) (g' : Dev Cert.DownLn1RefIdeal.nD → PrngReg), Pre_DownLn1Ideal m →
    (∀ c : Dev Cert.DownLn1Ideal.nD,
      m' ((c.tc : Thread Cert.DownLn1RefIdeal.nD Cert.DownLn1RefIdeal.τ).loc Cert.DownLn1RefIdeal.main_arg0) = m ((c.tc : Thread Cert.DownLn1Ideal.nD Cert.DownLn1Ideal.τ).loc Cert.DownLn1Ideal.main_arg0)
      ∧ m' ((c.tc : Thread Cert.DownLn1RefIdeal.nD Cert.DownLn1RefIdeal.τ).loc Cert.DownLn1RefIdeal.main_arg1) = m ((c.tc : Thread Cert.DownLn1Ideal.nD Cert.DownLn1Ideal.τ).loc Cert.DownLn1Ideal.main_arg1)
      ∧ m' ((c.tc : Thread Cert.DownLn1RefIdeal.nD Cert.DownLn1RefIdeal.τ).loc Cert.DownLn1RefIdeal.main_arg2) = m ((c.tc : Thread Cert.DownLn1Ideal.nD Cert.DownLn1Ideal.τ).loc Cert.DownLn1Ideal.main_arg2)
      ∧ m' ((c.tc : Thread Cert.DownLn1RefIdeal.nD Cert.DownLn1RefIdeal.τ).loc Cert.DownLn1RefIdeal.main_arg3) = m ((c.tc : Thread Cert.DownLn1Ideal.nD Cert.DownLn1Ideal.τ).loc Cert.DownLn1Ideal.main_arg3)
      ∧ m' ((c.tc : Thread Cert.DownLn1RefIdeal.nD Cert.DownLn1RefIdeal.τ).loc Cert.DownLn1RefIdeal.main_arg4) = m ((c.tc : Thread Cert.DownLn1Ideal.nD Cert.DownLn1Ideal.τ).loc Cert.DownLn1Ideal.main_arg4)
      ∧ m' ((c.tc : Thread Cert.DownLn1RefIdeal.nD Cert.DownLn1RefIdeal.τ).loc Cert.DownLn1RefIdeal.main_arg5) = m ((c.tc : Thread Cert.DownLn1Ideal.nD Cert.DownLn1Ideal.τ).loc Cert.DownLn1Ideal.main_arg5)) →
    ∃ (v0 : (c : Dev Cert.DownLn1Ideal.nD) → Buf (Elt Ideal) ((c.tc : Thread Cert.DownLn1Ideal.nD Cert.DownLn1Ideal.τ).loc Cert.DownLn1Ideal.main_v0_0)) (v1 : (c : Dev Cert.DownLn1Ideal.nD) → Buf (Elt Ideal) ((c.tc : Thread Cert.DownLn1Ideal.nD Cert.DownLn1Ideal.τ).loc Cert.DownLn1Ideal.main_v0_1)) (v2 : (c : Dev Cert.DownLn1Ideal.nD) → Buf (Elt Ideal) ((c.tc : Thread Cert.DownLn1Ideal.nD Cert.DownLn1Ideal.τ).loc Cert.DownLn1Ideal.main_v0_2)),
      θ_run (Cert.DownLn1Ideal.defs (F := Ideal)) (onTc (τ := Cert.DownLn1Ideal.τ) (Cert.DownLn1Ideal.main (F := Ideal))) ⟨m, fun _ => 0, g⟩ (fun r => ∀ c : Dev Cert.DownLn1Ideal.nD,
          r.2.mem ((c.tc : Thread Cert.DownLn1Ideal.nD Cert.DownLn1Ideal.τ).loc Cert.DownLn1Ideal.main_v0_0) = v0 c
          ∧ r.2.mem ((c.tc : Thread Cert.DownLn1Ideal.nD Cert.DownLn1Ideal.τ).loc Cert.DownLn1Ideal.main_v0_1) = v1 c
          ∧ r.2.mem ((c.tc : Thread Cert.DownLn1Ideal.nD Cert.DownLn1Ideal.τ).loc Cert.DownLn1Ideal.main_v0_2) = v2 c
          ∧ r.2.mem ((c.tc : Thread Cert.DownLn1Ideal.nD Cert.DownLn1Ideal.τ).loc Cert.DownLn1Ideal.main_arg0) = m ((c.tc : Thread Cert.DownLn1Ideal.nD Cert.DownLn1Ideal.τ).loc Cert.DownLn1Ideal.main_arg0)
          ∧ r.2.mem ((c.tc : Thread Cert.DownLn1Ideal.nD Cert.DownLn1Ideal.τ).loc Cert.DownLn1Ideal.main_arg1) = m ((c.tc : Thread Cert.DownLn1Ideal.nD Cert.DownLn1Ideal.τ).loc Cert.DownLn1Ideal.main_arg1)
          ∧ r.2.mem ((c.tc : Thread Cert.DownLn1Ideal.nD Cert.DownLn1Ideal.τ).loc Cert.DownLn1Ideal.main_arg2) = m ((c.tc : Thread Cert.DownLn1Ideal.nD Cert.DownLn1Ideal.τ).loc Cert.DownLn1Ideal.main_arg2)
          ∧ r.2.mem ((c.tc : Thread Cert.DownLn1Ideal.nD Cert.DownLn1Ideal.τ).loc Cert.DownLn1Ideal.main_arg3) = m ((c.tc : Thread Cert.DownLn1Ideal.nD Cert.DownLn1Ideal.τ).loc Cert.DownLn1Ideal.main_arg3)
          ∧ r.2.mem ((c.tc : Thread Cert.DownLn1Ideal.nD Cert.DownLn1Ideal.τ).loc Cert.DownLn1Ideal.main_arg4) = m ((c.tc : Thread Cert.DownLn1Ideal.nD Cert.DownLn1Ideal.τ).loc Cert.DownLn1Ideal.main_arg4)
          ∧ r.2.mem ((c.tc : Thread Cert.DownLn1Ideal.nD Cert.DownLn1Ideal.τ).loc Cert.DownLn1Ideal.main_arg5) = m ((c.tc : Thread Cert.DownLn1Ideal.nD Cert.DownLn1Ideal.τ).loc Cert.DownLn1Ideal.main_arg5))
      ∧ θ_run (Cert.DownLn1RefIdeal.defs (F := Ideal)) (onTc (τ := Cert.DownLn1RefIdeal.τ) (Cert.DownLn1RefIdeal.main (F := Ideal))) ⟨m', fun _ => 0, g'⟩ (fun r => ∀ c : Dev Cert.DownLn1RefIdeal.nD,
          r.2.mem ((c.tc : Thread Cert.DownLn1RefIdeal.nD Cert.DownLn1RefIdeal.τ).loc Cert.DownLn1RefIdeal.main_v12) = v0 c
          ∧ r.2.mem ((c.tc : Thread Cert.DownLn1RefIdeal.nD Cert.DownLn1RefIdeal.τ).loc Cert.DownLn1RefIdeal.main_v11) = v1 c
          ∧ r.2.mem ((c.tc : Thread Cert.DownLn1RefIdeal.nD Cert.DownLn1RefIdeal.τ).loc Cert.DownLn1RefIdeal.main_v38) = v2 c
          ∧ r.2.mem ((c.tc : Thread Cert.DownLn1RefIdeal.nD Cert.DownLn1RefIdeal.τ).loc Cert.DownLn1RefIdeal.main_arg0) = m' ((c.tc : Thread Cert.DownLn1RefIdeal.nD Cert.DownLn1RefIdeal.τ).loc Cert.DownLn1RefIdeal.main_arg0)
          ∧ r.2.mem ((c.tc : Thread Cert.DownLn1RefIdeal.nD Cert.DownLn1RefIdeal.τ).loc Cert.DownLn1RefIdeal.main_arg1) = m' ((c.tc : Thread Cert.DownLn1RefIdeal.nD Cert.DownLn1RefIdeal.τ).loc Cert.DownLn1RefIdeal.main_arg1)
          ∧ r.2.mem ((c.tc : Thread Cert.DownLn1RefIdeal.nD Cert.DownLn1RefIdeal.τ).loc Cert.DownLn1RefIdeal.main_arg2) = m' ((c.tc : Thread Cert.DownLn1RefIdeal.nD Cert.DownLn1RefIdeal.τ).loc Cert.DownLn1RefIdeal.main_arg2)
          ∧ r.2.mem ((c.tc : Thread Cert.DownLn1RefIdeal.nD Cert.DownLn1RefIdeal.τ).loc Cert.DownLn1RefIdeal.main_arg3) = m' ((c.tc : Thread Cert.DownLn1RefIdeal.nD Cert.DownLn1RefIdeal.τ).loc Cert.DownLn1RefIdeal.main_arg3)
          ∧ r.2.mem ((c.tc : Thread Cert.DownLn1RefIdeal.nD Cert.DownLn1RefIdeal.τ).loc Cert.DownLn1RefIdeal.main_arg4) = m' ((c.tc : Thread Cert.DownLn1RefIdeal.nD Cert.DownLn1RefIdeal.τ).loc Cert.DownLn1RefIdeal.main_arg4)
          ∧ r.2.mem ((c.tc : Thread Cert.DownLn1RefIdeal.nD Cert.DownLn1RefIdeal.τ).loc Cert.DownLn1RefIdeal.main_arg5) = m' ((c.tc : Thread Cert.DownLn1RefIdeal.nD Cert.DownLn1RefIdeal.τ).loc Cert.DownLn1RefIdeal.main_arg5))

def preserves_DownLn2_DownLn2Ideal : Prop :=
  True

def algebraic_DownLn2Ideal_DownLn2RefIdeal [hDownLn2Ideal : Cert.DownLn2Ideal.Facts] [hDownLn2RefIdeal : Cert.DownLn2RefIdeal.Facts] : Prop :=
  ∀ (m : (ℓ : Loc Cert.DownLn2Ideal.nD Cert.DownLn2Ideal.τ Cert.DownLn2Ideal.sig) → Buf (Elt Ideal) ℓ) (g : Dev Cert.DownLn2Ideal.nD → PrngReg)
    (m' : (ℓ : Loc Cert.DownLn2RefIdeal.nD Cert.DownLn2RefIdeal.τ Cert.DownLn2RefIdeal.sig) → Buf (Elt Ideal) ℓ) (g' : Dev Cert.DownLn2RefIdeal.nD → PrngReg), Pre_DownLn2Ideal m →
    (∀ c : Dev Cert.DownLn2Ideal.nD,
      m' ((c.tc : Thread Cert.DownLn2RefIdeal.nD Cert.DownLn2RefIdeal.τ).loc Cert.DownLn2RefIdeal.main_arg0) = m ((c.tc : Thread Cert.DownLn2Ideal.nD Cert.DownLn2Ideal.τ).loc Cert.DownLn2Ideal.main_arg0)
      ∧ m' ((c.tc : Thread Cert.DownLn2RefIdeal.nD Cert.DownLn2RefIdeal.τ).loc Cert.DownLn2RefIdeal.main_arg1) = m ((c.tc : Thread Cert.DownLn2Ideal.nD Cert.DownLn2Ideal.τ).loc Cert.DownLn2Ideal.main_arg1)
      ∧ m' ((c.tc : Thread Cert.DownLn2RefIdeal.nD Cert.DownLn2RefIdeal.τ).loc Cert.DownLn2RefIdeal.main_arg2) = m ((c.tc : Thread Cert.DownLn2Ideal.nD Cert.DownLn2Ideal.τ).loc Cert.DownLn2Ideal.main_arg2)
      ∧ m' ((c.tc : Thread Cert.DownLn2RefIdeal.nD Cert.DownLn2RefIdeal.τ).loc Cert.DownLn2RefIdeal.main_arg3) = m ((c.tc : Thread Cert.DownLn2Ideal.nD Cert.DownLn2Ideal.τ).loc Cert.DownLn2Ideal.main_arg3)
      ∧ m' ((c.tc : Thread Cert.DownLn2RefIdeal.nD Cert.DownLn2RefIdeal.τ).loc Cert.DownLn2RefIdeal.main_arg4) = m ((c.tc : Thread Cert.DownLn2Ideal.nD Cert.DownLn2Ideal.τ).loc Cert.DownLn2Ideal.main_arg4)
      ∧ m' ((c.tc : Thread Cert.DownLn2RefIdeal.nD Cert.DownLn2RefIdeal.τ).loc Cert.DownLn2RefIdeal.main_arg5) = m ((c.tc : Thread Cert.DownLn2Ideal.nD Cert.DownLn2Ideal.τ).loc Cert.DownLn2Ideal.main_arg5)) →
    ∃ (v0 : (c : Dev Cert.DownLn2Ideal.nD) → Buf (Elt Ideal) ((c.tc : Thread Cert.DownLn2Ideal.nD Cert.DownLn2Ideal.τ).loc Cert.DownLn2Ideal.main_v0_0)) (v1 : (c : Dev Cert.DownLn2Ideal.nD) → Buf (Elt Ideal) ((c.tc : Thread Cert.DownLn2Ideal.nD Cert.DownLn2Ideal.τ).loc Cert.DownLn2Ideal.main_v0_1)) (v2 : (c : Dev Cert.DownLn2Ideal.nD) → Buf (Elt Ideal) ((c.tc : Thread Cert.DownLn2Ideal.nD Cert.DownLn2Ideal.τ).loc Cert.DownLn2Ideal.main_v0_2)),
      θ_run (Cert.DownLn2Ideal.defs (F := Ideal)) (onTc (τ := Cert.DownLn2Ideal.τ) (Cert.DownLn2Ideal.main (F := Ideal))) ⟨m, fun _ => 0, g⟩ (fun r => ∀ c : Dev Cert.DownLn2Ideal.nD,
          r.2.mem ((c.tc : Thread Cert.DownLn2Ideal.nD Cert.DownLn2Ideal.τ).loc Cert.DownLn2Ideal.main_v0_0) = v0 c
          ∧ r.2.mem ((c.tc : Thread Cert.DownLn2Ideal.nD Cert.DownLn2Ideal.τ).loc Cert.DownLn2Ideal.main_v0_1) = v1 c
          ∧ r.2.mem ((c.tc : Thread Cert.DownLn2Ideal.nD Cert.DownLn2Ideal.τ).loc Cert.DownLn2Ideal.main_v0_2) = v2 c
          ∧ r.2.mem ((c.tc : Thread Cert.DownLn2Ideal.nD Cert.DownLn2Ideal.τ).loc Cert.DownLn2Ideal.main_arg0) = m ((c.tc : Thread Cert.DownLn2Ideal.nD Cert.DownLn2Ideal.τ).loc Cert.DownLn2Ideal.main_arg0)
          ∧ r.2.mem ((c.tc : Thread Cert.DownLn2Ideal.nD Cert.DownLn2Ideal.τ).loc Cert.DownLn2Ideal.main_arg1) = m ((c.tc : Thread Cert.DownLn2Ideal.nD Cert.DownLn2Ideal.τ).loc Cert.DownLn2Ideal.main_arg1)
          ∧ r.2.mem ((c.tc : Thread Cert.DownLn2Ideal.nD Cert.DownLn2Ideal.τ).loc Cert.DownLn2Ideal.main_arg2) = m ((c.tc : Thread Cert.DownLn2Ideal.nD Cert.DownLn2Ideal.τ).loc Cert.DownLn2Ideal.main_arg2)
          ∧ r.2.mem ((c.tc : Thread Cert.DownLn2Ideal.nD Cert.DownLn2Ideal.τ).loc Cert.DownLn2Ideal.main_arg3) = m ((c.tc : Thread Cert.DownLn2Ideal.nD Cert.DownLn2Ideal.τ).loc Cert.DownLn2Ideal.main_arg3)
          ∧ r.2.mem ((c.tc : Thread Cert.DownLn2Ideal.nD Cert.DownLn2Ideal.τ).loc Cert.DownLn2Ideal.main_arg4) = m ((c.tc : Thread Cert.DownLn2Ideal.nD Cert.DownLn2Ideal.τ).loc Cert.DownLn2Ideal.main_arg4)
          ∧ r.2.mem ((c.tc : Thread Cert.DownLn2Ideal.nD Cert.DownLn2Ideal.τ).loc Cert.DownLn2Ideal.main_arg5) = m ((c.tc : Thread Cert.DownLn2Ideal.nD Cert.DownLn2Ideal.τ).loc Cert.DownLn2Ideal.main_arg5))
      ∧ θ_run (Cert.DownLn2RefIdeal.defs (F := Ideal)) (onTc (τ := Cert.DownLn2RefIdeal.τ) (Cert.DownLn2RefIdeal.main (F := Ideal))) ⟨m', fun _ => 0, g'⟩ (fun r => ∀ c : Dev Cert.DownLn2RefIdeal.nD,
          r.2.mem ((c.tc : Thread Cert.DownLn2RefIdeal.nD Cert.DownLn2RefIdeal.τ).loc Cert.DownLn2RefIdeal.main_v12) = v0 c
          ∧ r.2.mem ((c.tc : Thread Cert.DownLn2RefIdeal.nD Cert.DownLn2RefIdeal.τ).loc Cert.DownLn2RefIdeal.main_v11) = v1 c
          ∧ r.2.mem ((c.tc : Thread Cert.DownLn2RefIdeal.nD Cert.DownLn2RefIdeal.τ).loc Cert.DownLn2RefIdeal.main_v38) = v2 c
          ∧ r.2.mem ((c.tc : Thread Cert.DownLn2RefIdeal.nD Cert.DownLn2RefIdeal.τ).loc Cert.DownLn2RefIdeal.main_arg0) = m' ((c.tc : Thread Cert.DownLn2RefIdeal.nD Cert.DownLn2RefIdeal.τ).loc Cert.DownLn2RefIdeal.main_arg0)
          ∧ r.2.mem ((c.tc : Thread Cert.DownLn2RefIdeal.nD Cert.DownLn2RefIdeal.τ).loc Cert.DownLn2RefIdeal.main_arg1) = m' ((c.tc : Thread Cert.DownLn2RefIdeal.nD Cert.DownLn2RefIdeal.τ).loc Cert.DownLn2RefIdeal.main_arg1)
          ∧ r.2.mem ((c.tc : Thread Cert.DownLn2RefIdeal.nD Cert.DownLn2RefIdeal.τ).loc Cert.DownLn2RefIdeal.main_arg2) = m' ((c.tc : Thread Cert.DownLn2RefIdeal.nD Cert.DownLn2RefIdeal.τ).loc Cert.DownLn2RefIdeal.main_arg2)
          ∧ r.2.mem ((c.tc : Thread Cert.DownLn2RefIdeal.nD Cert.DownLn2RefIdeal.τ).loc Cert.DownLn2RefIdeal.main_arg3) = m' ((c.tc : Thread Cert.DownLn2RefIdeal.nD Cert.DownLn2RefIdeal.τ).loc Cert.DownLn2RefIdeal.main_arg3)
          ∧ r.2.mem ((c.tc : Thread Cert.DownLn2RefIdeal.nD Cert.DownLn2RefIdeal.τ).loc Cert.DownLn2RefIdeal.main_arg4) = m' ((c.tc : Thread Cert.DownLn2RefIdeal.nD Cert.DownLn2RefIdeal.τ).loc Cert.DownLn2RefIdeal.main_arg4)
          ∧ r.2.mem ((c.tc : Thread Cert.DownLn2RefIdeal.nD Cert.DownLn2RefIdeal.τ).loc Cert.DownLn2RefIdeal.main_arg5) = m' ((c.tc : Thread Cert.DownLn2RefIdeal.nD Cert.DownLn2RefIdeal.τ).loc Cert.DownLn2RefIdeal.main_arg5))

def preserves_DownLn3_DownLn3Ideal : Prop :=
  True

def algebraic_DownLn3Ideal_DownLn3RefIdeal [hDownLn3Ideal : Cert.DownLn3Ideal.Facts] [hDownLn3RefIdeal : Cert.DownLn3RefIdeal.Facts] : Prop :=
  ∀ (m : (ℓ : Loc Cert.DownLn3Ideal.nD Cert.DownLn3Ideal.τ Cert.DownLn3Ideal.sig) → Buf (Elt Ideal) ℓ) (g : Dev Cert.DownLn3Ideal.nD → PrngReg)
    (m' : (ℓ : Loc Cert.DownLn3RefIdeal.nD Cert.DownLn3RefIdeal.τ Cert.DownLn3RefIdeal.sig) → Buf (Elt Ideal) ℓ) (g' : Dev Cert.DownLn3RefIdeal.nD → PrngReg), Pre_DownLn3Ideal m →
    (∀ c : Dev Cert.DownLn3Ideal.nD,
      m' ((c.tc : Thread Cert.DownLn3RefIdeal.nD Cert.DownLn3RefIdeal.τ).loc Cert.DownLn3RefIdeal.main_arg0) = m ((c.tc : Thread Cert.DownLn3Ideal.nD Cert.DownLn3Ideal.τ).loc Cert.DownLn3Ideal.main_arg0)
      ∧ m' ((c.tc : Thread Cert.DownLn3RefIdeal.nD Cert.DownLn3RefIdeal.τ).loc Cert.DownLn3RefIdeal.main_arg1) = m ((c.tc : Thread Cert.DownLn3Ideal.nD Cert.DownLn3Ideal.τ).loc Cert.DownLn3Ideal.main_arg1)
      ∧ m' ((c.tc : Thread Cert.DownLn3RefIdeal.nD Cert.DownLn3RefIdeal.τ).loc Cert.DownLn3RefIdeal.main_arg2) = m ((c.tc : Thread Cert.DownLn3Ideal.nD Cert.DownLn3Ideal.τ).loc Cert.DownLn3Ideal.main_arg2)
      ∧ m' ((c.tc : Thread Cert.DownLn3RefIdeal.nD Cert.DownLn3RefIdeal.τ).loc Cert.DownLn3RefIdeal.main_arg3) = m ((c.tc : Thread Cert.DownLn3Ideal.nD Cert.DownLn3Ideal.τ).loc Cert.DownLn3Ideal.main_arg3)
      ∧ m' ((c.tc : Thread Cert.DownLn3RefIdeal.nD Cert.DownLn3RefIdeal.τ).loc Cert.DownLn3RefIdeal.main_arg4) = m ((c.tc : Thread Cert.DownLn3Ideal.nD Cert.DownLn3Ideal.τ).loc Cert.DownLn3Ideal.main_arg4)
      ∧ m' ((c.tc : Thread Cert.DownLn3RefIdeal.nD Cert.DownLn3RefIdeal.τ).loc Cert.DownLn3RefIdeal.main_arg5) = m ((c.tc : Thread Cert.DownLn3Ideal.nD Cert.DownLn3Ideal.τ).loc Cert.DownLn3Ideal.main_arg5)) →
    ∃ (v0 : (c : Dev Cert.DownLn3Ideal.nD) → Buf (Elt Ideal) ((c.tc : Thread Cert.DownLn3Ideal.nD Cert.DownLn3Ideal.τ).loc Cert.DownLn3Ideal.main_v0_0)) (v1 : (c : Dev Cert.DownLn3Ideal.nD) → Buf (Elt Ideal) ((c.tc : Thread Cert.DownLn3Ideal.nD Cert.DownLn3Ideal.τ).loc Cert.DownLn3Ideal.main_v0_1)) (v2 : (c : Dev Cert.DownLn3Ideal.nD) → Buf (Elt Ideal) ((c.tc : Thread Cert.DownLn3Ideal.nD Cert.DownLn3Ideal.τ).loc Cert.DownLn3Ideal.main_v0_2)),
      θ_run (Cert.DownLn3Ideal.defs (F := Ideal)) (onTc (τ := Cert.DownLn3Ideal.τ) (Cert.DownLn3Ideal.main (F := Ideal))) ⟨m, fun _ => 0, g⟩ (fun r => ∀ c : Dev Cert.DownLn3Ideal.nD,
          r.2.mem ((c.tc : Thread Cert.DownLn3Ideal.nD Cert.DownLn3Ideal.τ).loc Cert.DownLn3Ideal.main_v0_0) = v0 c
          ∧ r.2.mem ((c.tc : Thread Cert.DownLn3Ideal.nD Cert.DownLn3Ideal.τ).loc Cert.DownLn3Ideal.main_v0_1) = v1 c
          ∧ r.2.mem ((c.tc : Thread Cert.DownLn3Ideal.nD Cert.DownLn3Ideal.τ).loc Cert.DownLn3Ideal.main_v0_2) = v2 c
          ∧ r.2.mem ((c.tc : Thread Cert.DownLn3Ideal.nD Cert.DownLn3Ideal.τ).loc Cert.DownLn3Ideal.main_arg0) = m ((c.tc : Thread Cert.DownLn3Ideal.nD Cert.DownLn3Ideal.τ).loc Cert.DownLn3Ideal.main_arg0)
          ∧ r.2.mem ((c.tc : Thread Cert.DownLn3Ideal.nD Cert.DownLn3Ideal.τ).loc Cert.DownLn3Ideal.main_arg1) = m ((c.tc : Thread Cert.DownLn3Ideal.nD Cert.DownLn3Ideal.τ).loc Cert.DownLn3Ideal.main_arg1)
          ∧ r.2.mem ((c.tc : Thread Cert.DownLn3Ideal.nD Cert.DownLn3Ideal.τ).loc Cert.DownLn3Ideal.main_arg2) = m ((c.tc : Thread Cert.DownLn3Ideal.nD Cert.DownLn3Ideal.τ).loc Cert.DownLn3Ideal.main_arg2)
          ∧ r.2.mem ((c.tc : Thread Cert.DownLn3Ideal.nD Cert.DownLn3Ideal.τ).loc Cert.DownLn3Ideal.main_arg3) = m ((c.tc : Thread Cert.DownLn3Ideal.nD Cert.DownLn3Ideal.τ).loc Cert.DownLn3Ideal.main_arg3)
          ∧ r.2.mem ((c.tc : Thread Cert.DownLn3Ideal.nD Cert.DownLn3Ideal.τ).loc Cert.DownLn3Ideal.main_arg4) = m ((c.tc : Thread Cert.DownLn3Ideal.nD Cert.DownLn3Ideal.τ).loc Cert.DownLn3Ideal.main_arg4)
          ∧ r.2.mem ((c.tc : Thread Cert.DownLn3Ideal.nD Cert.DownLn3Ideal.τ).loc Cert.DownLn3Ideal.main_arg5) = m ((c.tc : Thread Cert.DownLn3Ideal.nD Cert.DownLn3Ideal.τ).loc Cert.DownLn3Ideal.main_arg5))
      ∧ θ_run (Cert.DownLn3RefIdeal.defs (F := Ideal)) (onTc (τ := Cert.DownLn3RefIdeal.τ) (Cert.DownLn3RefIdeal.main (F := Ideal))) ⟨m', fun _ => 0, g'⟩ (fun r => ∀ c : Dev Cert.DownLn3RefIdeal.nD,
          r.2.mem ((c.tc : Thread Cert.DownLn3RefIdeal.nD Cert.DownLn3RefIdeal.τ).loc Cert.DownLn3RefIdeal.main_v12) = v0 c
          ∧ r.2.mem ((c.tc : Thread Cert.DownLn3RefIdeal.nD Cert.DownLn3RefIdeal.τ).loc Cert.DownLn3RefIdeal.main_v11) = v1 c
          ∧ r.2.mem ((c.tc : Thread Cert.DownLn3RefIdeal.nD Cert.DownLn3RefIdeal.τ).loc Cert.DownLn3RefIdeal.main_v38) = v2 c
          ∧ r.2.mem ((c.tc : Thread Cert.DownLn3RefIdeal.nD Cert.DownLn3RefIdeal.τ).loc Cert.DownLn3RefIdeal.main_arg0) = m' ((c.tc : Thread Cert.DownLn3RefIdeal.nD Cert.DownLn3RefIdeal.τ).loc Cert.DownLn3RefIdeal.main_arg0)
          ∧ r.2.mem ((c.tc : Thread Cert.DownLn3RefIdeal.nD Cert.DownLn3RefIdeal.τ).loc Cert.DownLn3RefIdeal.main_arg1) = m' ((c.tc : Thread Cert.DownLn3RefIdeal.nD Cert.DownLn3RefIdeal.τ).loc Cert.DownLn3RefIdeal.main_arg1)
          ∧ r.2.mem ((c.tc : Thread Cert.DownLn3RefIdeal.nD Cert.DownLn3RefIdeal.τ).loc Cert.DownLn3RefIdeal.main_arg2) = m' ((c.tc : Thread Cert.DownLn3RefIdeal.nD Cert.DownLn3RefIdeal.τ).loc Cert.DownLn3RefIdeal.main_arg2)
          ∧ r.2.mem ((c.tc : Thread Cert.DownLn3RefIdeal.nD Cert.DownLn3RefIdeal.τ).loc Cert.DownLn3RefIdeal.main_arg3) = m' ((c.tc : Thread Cert.DownLn3RefIdeal.nD Cert.DownLn3RefIdeal.τ).loc Cert.DownLn3RefIdeal.main_arg3)
          ∧ r.2.mem ((c.tc : Thread Cert.DownLn3RefIdeal.nD Cert.DownLn3RefIdeal.τ).loc Cert.DownLn3RefIdeal.main_arg4) = m' ((c.tc : Thread Cert.DownLn3RefIdeal.nD Cert.DownLn3RefIdeal.τ).loc Cert.DownLn3RefIdeal.main_arg4)
          ∧ r.2.mem ((c.tc : Thread Cert.DownLn3RefIdeal.nD Cert.DownLn3RefIdeal.τ).loc Cert.DownLn3RefIdeal.main_arg5) = m' ((c.tc : Thread Cert.DownLn3RefIdeal.nD Cert.DownLn3RefIdeal.τ).loc Cert.DownLn3RefIdeal.main_arg5))

def preserves_OutLn0_OutLn0Ideal : Prop :=
  True

def algebraic_OutLn0Ideal_OutLn0RefIdeal [hOutLn0Ideal : Cert.OutLn0Ideal.Facts] [hOutLn0RefIdeal : Cert.OutLn0RefIdeal.Facts] : Prop :=
  ∀ (m : (ℓ : Loc Cert.OutLn0Ideal.nD Cert.OutLn0Ideal.τ Cert.OutLn0Ideal.sig) → Buf (Elt Ideal) ℓ) (g : Dev Cert.OutLn0Ideal.nD → PrngReg)
    (m' : (ℓ : Loc Cert.OutLn0RefIdeal.nD Cert.OutLn0RefIdeal.τ Cert.OutLn0RefIdeal.sig) → Buf (Elt Ideal) ℓ) (g' : Dev Cert.OutLn0RefIdeal.nD → PrngReg), Pre_OutLn0Ideal m →
    (∀ c : Dev Cert.OutLn0Ideal.nD,
      m' ((c.tc : Thread Cert.OutLn0RefIdeal.nD Cert.OutLn0RefIdeal.τ).loc Cert.OutLn0RefIdeal.main_arg0) = m ((c.tc : Thread Cert.OutLn0Ideal.nD Cert.OutLn0Ideal.τ).loc Cert.OutLn0Ideal.main_arg0)
      ∧ m' ((c.tc : Thread Cert.OutLn0RefIdeal.nD Cert.OutLn0RefIdeal.τ).loc Cert.OutLn0RefIdeal.main_arg1) = m ((c.tc : Thread Cert.OutLn0Ideal.nD Cert.OutLn0Ideal.τ).loc Cert.OutLn0Ideal.main_arg1)
      ∧ m' ((c.tc : Thread Cert.OutLn0RefIdeal.nD Cert.OutLn0RefIdeal.τ).loc Cert.OutLn0RefIdeal.main_arg2) = m ((c.tc : Thread Cert.OutLn0Ideal.nD Cert.OutLn0Ideal.τ).loc Cert.OutLn0Ideal.main_arg2)
      ∧ m' ((c.tc : Thread Cert.OutLn0RefIdeal.nD Cert.OutLn0RefIdeal.τ).loc Cert.OutLn0RefIdeal.main_arg3) = m ((c.tc : Thread Cert.OutLn0Ideal.nD Cert.OutLn0Ideal.τ).loc Cert.OutLn0Ideal.main_arg3)
      ∧ m' ((c.tc : Thread Cert.OutLn0RefIdeal.nD Cert.OutLn0RefIdeal.τ).loc Cert.OutLn0RefIdeal.main_arg4) = m ((c.tc : Thread Cert.OutLn0Ideal.nD Cert.OutLn0Ideal.τ).loc Cert.OutLn0Ideal.main_arg4)
      ∧ m' ((c.tc : Thread Cert.OutLn0RefIdeal.nD Cert.OutLn0RefIdeal.τ).loc Cert.OutLn0RefIdeal.main_arg5) = m ((c.tc : Thread Cert.OutLn0Ideal.nD Cert.OutLn0Ideal.τ).loc Cert.OutLn0Ideal.main_arg5)) →
    ∃ (v0 : (c : Dev Cert.OutLn0Ideal.nD) → Buf (Elt Ideal) ((c.tc : Thread Cert.OutLn0Ideal.nD Cert.OutLn0Ideal.τ).loc Cert.OutLn0Ideal.main_v0_0)) (v1 : (c : Dev Cert.OutLn0Ideal.nD) → Buf (Elt Ideal) ((c.tc : Thread Cert.OutLn0Ideal.nD Cert.OutLn0Ideal.τ).loc Cert.OutLn0Ideal.main_v0_1)) (v2 : (c : Dev Cert.OutLn0Ideal.nD) → Buf (Elt Ideal) ((c.tc : Thread Cert.OutLn0Ideal.nD Cert.OutLn0Ideal.τ).loc Cert.OutLn0Ideal.main_v0_2)),
      θ_run (Cert.OutLn0Ideal.defs (F := Ideal)) (onTc (τ := Cert.OutLn0Ideal.τ) (Cert.OutLn0Ideal.main (F := Ideal))) ⟨m, fun _ => 0, g⟩ (fun r => ∀ c : Dev Cert.OutLn0Ideal.nD,
          r.2.mem ((c.tc : Thread Cert.OutLn0Ideal.nD Cert.OutLn0Ideal.τ).loc Cert.OutLn0Ideal.main_v0_0) = v0 c
          ∧ r.2.mem ((c.tc : Thread Cert.OutLn0Ideal.nD Cert.OutLn0Ideal.τ).loc Cert.OutLn0Ideal.main_v0_1) = v1 c
          ∧ r.2.mem ((c.tc : Thread Cert.OutLn0Ideal.nD Cert.OutLn0Ideal.τ).loc Cert.OutLn0Ideal.main_v0_2) = v2 c
          ∧ r.2.mem ((c.tc : Thread Cert.OutLn0Ideal.nD Cert.OutLn0Ideal.τ).loc Cert.OutLn0Ideal.main_arg0) = m ((c.tc : Thread Cert.OutLn0Ideal.nD Cert.OutLn0Ideal.τ).loc Cert.OutLn0Ideal.main_arg0)
          ∧ r.2.mem ((c.tc : Thread Cert.OutLn0Ideal.nD Cert.OutLn0Ideal.τ).loc Cert.OutLn0Ideal.main_arg1) = m ((c.tc : Thread Cert.OutLn0Ideal.nD Cert.OutLn0Ideal.τ).loc Cert.OutLn0Ideal.main_arg1)
          ∧ r.2.mem ((c.tc : Thread Cert.OutLn0Ideal.nD Cert.OutLn0Ideal.τ).loc Cert.OutLn0Ideal.main_arg2) = m ((c.tc : Thread Cert.OutLn0Ideal.nD Cert.OutLn0Ideal.τ).loc Cert.OutLn0Ideal.main_arg2)
          ∧ r.2.mem ((c.tc : Thread Cert.OutLn0Ideal.nD Cert.OutLn0Ideal.τ).loc Cert.OutLn0Ideal.main_arg3) = m ((c.tc : Thread Cert.OutLn0Ideal.nD Cert.OutLn0Ideal.τ).loc Cert.OutLn0Ideal.main_arg3)
          ∧ r.2.mem ((c.tc : Thread Cert.OutLn0Ideal.nD Cert.OutLn0Ideal.τ).loc Cert.OutLn0Ideal.main_arg4) = m ((c.tc : Thread Cert.OutLn0Ideal.nD Cert.OutLn0Ideal.τ).loc Cert.OutLn0Ideal.main_arg4)
          ∧ r.2.mem ((c.tc : Thread Cert.OutLn0Ideal.nD Cert.OutLn0Ideal.τ).loc Cert.OutLn0Ideal.main_arg5) = m ((c.tc : Thread Cert.OutLn0Ideal.nD Cert.OutLn0Ideal.τ).loc Cert.OutLn0Ideal.main_arg5))
      ∧ θ_run (Cert.OutLn0RefIdeal.defs (F := Ideal)) (onTc (τ := Cert.OutLn0RefIdeal.τ) (Cert.OutLn0RefIdeal.main (F := Ideal))) ⟨m', fun _ => 0, g'⟩ (fun r => ∀ c : Dev Cert.OutLn0RefIdeal.nD,
          r.2.mem ((c.tc : Thread Cert.OutLn0RefIdeal.nD Cert.OutLn0RefIdeal.τ).loc Cert.OutLn0RefIdeal.main_v12) = v0 c
          ∧ r.2.mem ((c.tc : Thread Cert.OutLn0RefIdeal.nD Cert.OutLn0RefIdeal.τ).loc Cert.OutLn0RefIdeal.main_v11) = v1 c
          ∧ r.2.mem ((c.tc : Thread Cert.OutLn0RefIdeal.nD Cert.OutLn0RefIdeal.τ).loc Cert.OutLn0RefIdeal.main_v38) = v2 c
          ∧ r.2.mem ((c.tc : Thread Cert.OutLn0RefIdeal.nD Cert.OutLn0RefIdeal.τ).loc Cert.OutLn0RefIdeal.main_arg0) = m' ((c.tc : Thread Cert.OutLn0RefIdeal.nD Cert.OutLn0RefIdeal.τ).loc Cert.OutLn0RefIdeal.main_arg0)
          ∧ r.2.mem ((c.tc : Thread Cert.OutLn0RefIdeal.nD Cert.OutLn0RefIdeal.τ).loc Cert.OutLn0RefIdeal.main_arg1) = m' ((c.tc : Thread Cert.OutLn0RefIdeal.nD Cert.OutLn0RefIdeal.τ).loc Cert.OutLn0RefIdeal.main_arg1)
          ∧ r.2.mem ((c.tc : Thread Cert.OutLn0RefIdeal.nD Cert.OutLn0RefIdeal.τ).loc Cert.OutLn0RefIdeal.main_arg2) = m' ((c.tc : Thread Cert.OutLn0RefIdeal.nD Cert.OutLn0RefIdeal.τ).loc Cert.OutLn0RefIdeal.main_arg2)
          ∧ r.2.mem ((c.tc : Thread Cert.OutLn0RefIdeal.nD Cert.OutLn0RefIdeal.τ).loc Cert.OutLn0RefIdeal.main_arg3) = m' ((c.tc : Thread Cert.OutLn0RefIdeal.nD Cert.OutLn0RefIdeal.τ).loc Cert.OutLn0RefIdeal.main_arg3)
          ∧ r.2.mem ((c.tc : Thread Cert.OutLn0RefIdeal.nD Cert.OutLn0RefIdeal.τ).loc Cert.OutLn0RefIdeal.main_arg4) = m' ((c.tc : Thread Cert.OutLn0RefIdeal.nD Cert.OutLn0RefIdeal.τ).loc Cert.OutLn0RefIdeal.main_arg4)
          ∧ r.2.mem ((c.tc : Thread Cert.OutLn0RefIdeal.nD Cert.OutLn0RefIdeal.τ).loc Cert.OutLn0RefIdeal.main_arg5) = m' ((c.tc : Thread Cert.OutLn0RefIdeal.nD Cert.OutLn0RefIdeal.τ).loc Cert.OutLn0RefIdeal.main_arg5))

def preserves_OutLn1_OutLn1Ideal : Prop :=
  True

def algebraic_OutLn1Ideal_OutLn1RefIdeal [hOutLn1Ideal : Cert.OutLn1Ideal.Facts] [hOutLn1RefIdeal : Cert.OutLn1RefIdeal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg)
    (m' : (ℓ : Loc Cert.OutLn1RefIdeal.nD Cert.OutLn1RefIdeal.τ Cert.OutLn1RefIdeal.sig) → Buf (Elt Ideal) ℓ) (g' : Dev Cert.OutLn1RefIdeal.nD → PrngReg), Pre_OutLn1Ideal m →
    (∀ c : Dev Cert.OutLn1Ideal.nD,
      m' ((c.tc : Thread Cert.OutLn1RefIdeal.nD Cert.OutLn1RefIdeal.τ).loc Cert.OutLn1RefIdeal.main_arg0) = m ((c.tc : Thread Cert.OutLn1Ideal.nD Cert.OutLn1Ideal.τ).loc Cert.OutLn1Ideal.main_arg0)
      ∧ m' ((c.tc : Thread Cert.OutLn1RefIdeal.nD Cert.OutLn1RefIdeal.τ).loc Cert.OutLn1RefIdeal.main_arg1) = m ((c.tc : Thread Cert.OutLn1Ideal.nD Cert.OutLn1Ideal.τ).loc Cert.OutLn1Ideal.main_arg1)
      ∧ m' ((c.tc : Thread Cert.OutLn1RefIdeal.nD Cert.OutLn1RefIdeal.τ).loc Cert.OutLn1RefIdeal.main_arg2) = m ((c.tc : Thread Cert.OutLn1Ideal.nD Cert.OutLn1Ideal.τ).loc Cert.OutLn1Ideal.main_arg2)
      ∧ m' ((c.tc : Thread Cert.OutLn1RefIdeal.nD Cert.OutLn1RefIdeal.τ).loc Cert.OutLn1RefIdeal.main_arg3) = m ((c.tc : Thread Cert.OutLn1Ideal.nD Cert.OutLn1Ideal.τ).loc Cert.OutLn1Ideal.main_arg3)
      ∧ m' ((c.tc : Thread Cert.OutLn1RefIdeal.nD Cert.OutLn1RefIdeal.τ).loc Cert.OutLn1RefIdeal.main_arg4) = m ((c.tc : Thread Cert.OutLn1Ideal.nD Cert.OutLn1Ideal.τ).loc Cert.OutLn1Ideal.main_arg4)
      ∧ m' ((c.tc : Thread Cert.OutLn1RefIdeal.nD Cert.OutLn1RefIdeal.τ).loc Cert.OutLn1RefIdeal.main_arg5) = m ((c.tc : Thread Cert.OutLn1Ideal.nD Cert.OutLn1Ideal.τ).loc Cert.OutLn1Ideal.main_arg5)) →
    ∃ (v0 : (c : Dev Cert.OutLn1Ideal.nD) → Buf (Elt Ideal) ((c.tc : Thread Cert.OutLn1Ideal.nD Cert.OutLn1Ideal.τ).loc Cert.OutLn1Ideal.main_v0_0)) (v1 : (c : Dev Cert.OutLn1Ideal.nD) → Buf (Elt Ideal) ((c.tc : Thread Cert.OutLn1Ideal.nD Cert.OutLn1Ideal.τ).loc Cert.OutLn1Ideal.main_v0_1)) (v2 : (c : Dev Cert.OutLn1Ideal.nD) → Buf (Elt Ideal) ((c.tc : Thread Cert.OutLn1Ideal.nD Cert.OutLn1Ideal.τ).loc Cert.OutLn1Ideal.main_v0_2)),
      θ_run (Cert.OutLn1Ideal.defs (F := Ideal)) (onTc (τ := Cert.OutLn1Ideal.τ) (Cert.OutLn1Ideal.main (F := Ideal))) ⟨m, fun _ => 0, g⟩ (fun r => ∀ c : Dev Cert.OutLn1Ideal.nD,
          r.2.mem ((c.tc : Thread Cert.OutLn1Ideal.nD Cert.OutLn1Ideal.τ).loc Cert.OutLn1Ideal.main_v0_0) = v0 c
          ∧ r.2.mem ((c.tc : Thread Cert.OutLn1Ideal.nD Cert.OutLn1Ideal.τ).loc Cert.OutLn1Ideal.main_v0_1) = v1 c
          ∧ r.2.mem ((c.tc : Thread Cert.OutLn1Ideal.nD Cert.OutLn1Ideal.τ).loc Cert.OutLn1Ideal.main_v0_2) = v2 c
          ∧ r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
          ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
          ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
          ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
          ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4)
          ∧ r.2.mem ((c.tc : Thread Cert.OutLn1Ideal.nD Cert.OutLn1Ideal.τ).loc Cert.OutLn1Ideal.main_arg5) = m ((c.tc : Thread Cert.OutLn1Ideal.nD Cert.OutLn1Ideal.τ).loc Cert.OutLn1Ideal.main_arg5))
      ∧ θ_run (Cert.OutLn1RefIdeal.defs (F := Ideal)) (onTc (τ := Cert.OutLn1RefIdeal.τ) (Cert.OutLn1RefIdeal.main (F := Ideal))) ⟨m', fun _ => 0, g'⟩ (fun r => ∀ c : Dev Cert.OutLn1RefIdeal.nD,
          r.2.mem ((c.tc : Thread Cert.OutLn1RefIdeal.nD Cert.OutLn1RefIdeal.τ).loc Cert.OutLn1RefIdeal.main_v12) = v0 c
          ∧ r.2.mem ((c.tc : Thread Cert.OutLn1RefIdeal.nD Cert.OutLn1RefIdeal.τ).loc Cert.OutLn1RefIdeal.main_v11) = v1 c
          ∧ r.2.mem ((c.tc : Thread Cert.OutLn1RefIdeal.nD Cert.OutLn1RefIdeal.τ).loc Cert.OutLn1RefIdeal.main_v38) = v2 c
          ∧ r.2.mem ((c.tc : Thread Cert.OutLn1RefIdeal.nD Cert.OutLn1RefIdeal.τ).loc Cert.OutLn1RefIdeal.main_arg0) = m' ((c.tc : Thread Cert.OutLn1RefIdeal.nD Cert.OutLn1RefIdeal.τ).loc Cert.OutLn1RefIdeal.main_arg0)
          ∧ r.2.mem ((c.tc : Thread Cert.OutLn1RefIdeal.nD Cert.OutLn1RefIdeal.τ).loc Cert.OutLn1RefIdeal.main_arg1) = m' ((c.tc : Thread Cert.OutLn1RefIdeal.nD Cert.OutLn1RefIdeal.τ).loc Cert.OutLn1RefIdeal.main_arg1)
          ∧ r.2.mem ((c.tc : Thread Cert.OutLn1RefIdeal.nD Cert.OutLn1RefIdeal.τ).loc Cert.OutLn1RefIdeal.main_arg2) = m' ((c.tc : Thread Cert.OutLn1RefIdeal.nD Cert.OutLn1RefIdeal.τ).loc Cert.OutLn1RefIdeal.main_arg2)
          ∧ r.2.mem ((c.tc : Thread Cert.OutLn1RefIdeal.nD Cert.OutLn1RefIdeal.τ).loc Cert.OutLn1RefIdeal.main_arg3) = m' ((c.tc : Thread Cert.OutLn1RefIdeal.nD Cert.OutLn1RefIdeal.τ).loc Cert.OutLn1RefIdeal.main_arg3)
          ∧ r.2.mem ((c.tc : Thread Cert.OutLn1RefIdeal.nD Cert.OutLn1RefIdeal.τ).loc Cert.OutLn1RefIdeal.main_arg4) = m' ((c.tc : Thread Cert.OutLn1RefIdeal.nD Cert.OutLn1RefIdeal.τ).loc Cert.OutLn1RefIdeal.main_arg4)
          ∧ r.2.mem ((c.tc : Thread Cert.OutLn1RefIdeal.nD Cert.OutLn1RefIdeal.τ).loc Cert.OutLn1RefIdeal.main_arg5) = m' ((c.tc : Thread Cert.OutLn1RefIdeal.nD Cert.OutLn1RefIdeal.τ).loc Cert.OutLn1RefIdeal.main_arg5))

def preserves_OutLn2_OutLn2Ideal : Prop :=
  True

def algebraic_OutLn2Ideal_OutLn2RefIdeal [hOutLn2Ideal : Cert.OutLn2Ideal.Facts] [hOutLn2RefIdeal : Cert.OutLn2RefIdeal.Facts] : Prop :=
  ∀ (m : (ℓ : Loc Cert.OutLn2Ideal.nD Cert.OutLn2Ideal.τ Cert.OutLn2Ideal.sig) → Buf (Elt Ideal) ℓ) (g : Dev Cert.OutLn2Ideal.nD → PrngReg)
    (m' : (ℓ : Loc Cert.OutLn2RefIdeal.nD Cert.OutLn2RefIdeal.τ Cert.OutLn2RefIdeal.sig) → Buf (Elt Ideal) ℓ) (g' : Dev Cert.OutLn2RefIdeal.nD → PrngReg), Pre_OutLn2Ideal m →
    (∀ c : Dev Cert.OutLn2Ideal.nD,
      m' ((c.tc : Thread Cert.OutLn2RefIdeal.nD Cert.OutLn2RefIdeal.τ).loc Cert.OutLn2RefIdeal.main_arg0) = m ((c.tc : Thread Cert.OutLn2Ideal.nD Cert.OutLn2Ideal.τ).loc Cert.OutLn2Ideal.main_arg0)
      ∧ m' ((c.tc : Thread Cert.OutLn2RefIdeal.nD Cert.OutLn2RefIdeal.τ).loc Cert.OutLn2RefIdeal.main_arg1) = m ((c.tc : Thread Cert.OutLn2Ideal.nD Cert.OutLn2Ideal.τ).loc Cert.OutLn2Ideal.main_arg1)
      ∧ m' ((c.tc : Thread Cert.OutLn2RefIdeal.nD Cert.OutLn2RefIdeal.τ).loc Cert.OutLn2RefIdeal.main_arg2) = m ((c.tc : Thread Cert.OutLn2Ideal.nD Cert.OutLn2Ideal.τ).loc Cert.OutLn2Ideal.main_arg2)
      ∧ m' ((c.tc : Thread Cert.OutLn2RefIdeal.nD Cert.OutLn2RefIdeal.τ).loc Cert.OutLn2RefIdeal.main_arg3) = m ((c.tc : Thread Cert.OutLn2Ideal.nD Cert.OutLn2Ideal.τ).loc Cert.OutLn2Ideal.main_arg3)
      ∧ m' ((c.tc : Thread Cert.OutLn2RefIdeal.nD Cert.OutLn2RefIdeal.τ).loc Cert.OutLn2RefIdeal.main_arg4) = m ((c.tc : Thread Cert.OutLn2Ideal.nD Cert.OutLn2Ideal.τ).loc Cert.OutLn2Ideal.main_arg4)
      ∧ m' ((c.tc : Thread Cert.OutLn2RefIdeal.nD Cert.OutLn2RefIdeal.τ).loc Cert.OutLn2RefIdeal.main_arg5) = m ((c.tc : Thread Cert.OutLn2Ideal.nD Cert.OutLn2Ideal.τ).loc Cert.OutLn2Ideal.main_arg5)) →
    ∃ (v0 : (c : Dev Cert.OutLn2Ideal.nD) → Buf (Elt Ideal) ((c.tc : Thread Cert.OutLn2Ideal.nD Cert.OutLn2Ideal.τ).loc Cert.OutLn2Ideal.main_v0_0)) (v1 : (c : Dev Cert.OutLn2Ideal.nD) → Buf (Elt Ideal) ((c.tc : Thread Cert.OutLn2Ideal.nD Cert.OutLn2Ideal.τ).loc Cert.OutLn2Ideal.main_v0_1)) (v2 : (c : Dev Cert.OutLn2Ideal.nD) → Buf (Elt Ideal) ((c.tc : Thread Cert.OutLn2Ideal.nD Cert.OutLn2Ideal.τ).loc Cert.OutLn2Ideal.main_v0_2)),
      θ_run (Cert.OutLn2Ideal.defs (F := Ideal)) (onTc (τ := Cert.OutLn2Ideal.τ) (Cert.OutLn2Ideal.main (F := Ideal))) ⟨m, fun _ => 0, g⟩ (fun r => ∀ c : Dev Cert.OutLn2Ideal.nD,
          r.2.mem ((c.tc : Thread Cert.OutLn2Ideal.nD Cert.OutLn2Ideal.τ).loc Cert.OutLn2Ideal.main_v0_0) = v0 c
          ∧ r.2.mem ((c.tc : Thread Cert.OutLn2Ideal.nD Cert.OutLn2Ideal.τ).loc Cert.OutLn2Ideal.main_v0_1) = v1 c
          ∧ r.2.mem ((c.tc : Thread Cert.OutLn2Ideal.nD Cert.OutLn2Ideal.τ).loc Cert.OutLn2Ideal.main_v0_2) = v2 c
          ∧ r.2.mem ((c.tc : Thread Cert.OutLn2Ideal.nD Cert.OutLn2Ideal.τ).loc Cert.OutLn2Ideal.main_arg0) = m ((c.tc : Thread Cert.OutLn2Ideal.nD Cert.OutLn2Ideal.τ).loc Cert.OutLn2Ideal.main_arg0)
          ∧ r.2.mem ((c.tc : Thread Cert.OutLn2Ideal.nD Cert.OutLn2Ideal.τ).loc Cert.OutLn2Ideal.main_arg1) = m ((c.tc : Thread Cert.OutLn2Ideal.nD Cert.OutLn2Ideal.τ).loc Cert.OutLn2Ideal.main_arg1)
          ∧ r.2.mem ((c.tc : Thread Cert.OutLn2Ideal.nD Cert.OutLn2Ideal.τ).loc Cert.OutLn2Ideal.main_arg2) = m ((c.tc : Thread Cert.OutLn2Ideal.nD Cert.OutLn2Ideal.τ).loc Cert.OutLn2Ideal.main_arg2)
          ∧ r.2.mem ((c.tc : Thread Cert.OutLn2Ideal.nD Cert.OutLn2Ideal.τ).loc Cert.OutLn2Ideal.main_arg3) = m ((c.tc : Thread Cert.OutLn2Ideal.nD Cert.OutLn2Ideal.τ).loc Cert.OutLn2Ideal.main_arg3)
          ∧ r.2.mem ((c.tc : Thread Cert.OutLn2Ideal.nD Cert.OutLn2Ideal.τ).loc Cert.OutLn2Ideal.main_arg4) = m ((c.tc : Thread Cert.OutLn2Ideal.nD Cert.OutLn2Ideal.τ).loc Cert.OutLn2Ideal.main_arg4)
          ∧ r.2.mem ((c.tc : Thread Cert.OutLn2Ideal.nD Cert.OutLn2Ideal.τ).loc Cert.OutLn2Ideal.main_arg5) = m ((c.tc : Thread Cert.OutLn2Ideal.nD Cert.OutLn2Ideal.τ).loc Cert.OutLn2Ideal.main_arg5))
      ∧ θ_run (Cert.OutLn2RefIdeal.defs (F := Ideal)) (onTc (τ := Cert.OutLn2RefIdeal.τ) (Cert.OutLn2RefIdeal.main (F := Ideal))) ⟨m', fun _ => 0, g'⟩ (fun r => ∀ c : Dev Cert.OutLn2RefIdeal.nD,
          r.2.mem ((c.tc : Thread Cert.OutLn2RefIdeal.nD Cert.OutLn2RefIdeal.τ).loc Cert.OutLn2RefIdeal.main_v12) = v0 c
          ∧ r.2.mem ((c.tc : Thread Cert.OutLn2RefIdeal.nD Cert.OutLn2RefIdeal.τ).loc Cert.OutLn2RefIdeal.main_v11) = v1 c
          ∧ r.2.mem ((c.tc : Thread Cert.OutLn2RefIdeal.nD Cert.OutLn2RefIdeal.τ).loc Cert.OutLn2RefIdeal.main_v38) = v2 c
          ∧ r.2.mem ((c.tc : Thread Cert.OutLn2RefIdeal.nD Cert.OutLn2RefIdeal.τ).loc Cert.OutLn2RefIdeal.main_arg0) = m' ((c.tc : Thread Cert.OutLn2RefIdeal.nD Cert.OutLn2RefIdeal.τ).loc Cert.OutLn2RefIdeal.main_arg0)
          ∧ r.2.mem ((c.tc : Thread Cert.OutLn2RefIdeal.nD Cert.OutLn2RefIdeal.τ).loc Cert.OutLn2RefIdeal.main_arg1) = m' ((c.tc : Thread Cert.OutLn2RefIdeal.nD Cert.OutLn2RefIdeal.τ).loc Cert.OutLn2RefIdeal.main_arg1)
          ∧ r.2.mem ((c.tc : Thread Cert.OutLn2RefIdeal.nD Cert.OutLn2RefIdeal.τ).loc Cert.OutLn2RefIdeal.main_arg2) = m' ((c.tc : Thread Cert.OutLn2RefIdeal.nD Cert.OutLn2RefIdeal.τ).loc Cert.OutLn2RefIdeal.main_arg2)
          ∧ r.2.mem ((c.tc : Thread Cert.OutLn2RefIdeal.nD Cert.OutLn2RefIdeal.τ).loc Cert.OutLn2RefIdeal.main_arg3) = m' ((c.tc : Thread Cert.OutLn2RefIdeal.nD Cert.OutLn2RefIdeal.τ).loc Cert.OutLn2RefIdeal.main_arg3)
          ∧ r.2.mem ((c.tc : Thread Cert.OutLn2RefIdeal.nD Cert.OutLn2RefIdeal.τ).loc Cert.OutLn2RefIdeal.main_arg4) = m' ((c.tc : Thread Cert.OutLn2RefIdeal.nD Cert.OutLn2RefIdeal.τ).loc Cert.OutLn2RefIdeal.main_arg4)
          ∧ r.2.mem ((c.tc : Thread Cert.OutLn2RefIdeal.nD Cert.OutLn2RefIdeal.τ).loc Cert.OutLn2RefIdeal.main_arg5) = m' ((c.tc : Thread Cert.OutLn2RefIdeal.nD Cert.OutLn2RefIdeal.τ).loc Cert.OutLn2RefIdeal.main_arg5))

def preserves_OutLn3_OutLn3Ideal : Prop :=
  True

def algebraic_OutLn3Ideal_OutLn3RefIdeal [hOutLn3Ideal : Cert.OutLn3Ideal.Facts] [hOutLn3RefIdeal : Cert.OutLn3RefIdeal.Facts] : Prop :=
  ∀ (m : (ℓ : Loc Cert.OutLn3Ideal.nD Cert.OutLn3Ideal.τ Cert.OutLn3Ideal.sig) → Buf (Elt Ideal) ℓ) (g : Dev Cert.OutLn3Ideal.nD → PrngReg)
    (m' : (ℓ : Loc Cert.OutLn3RefIdeal.nD Cert.OutLn3RefIdeal.τ Cert.OutLn3RefIdeal.sig) → Buf (Elt Ideal) ℓ) (g' : Dev Cert.OutLn3RefIdeal.nD → PrngReg), Pre_OutLn3Ideal m →
    (∀ c : Dev Cert.OutLn3Ideal.nD,
      m' ((c.tc : Thread Cert.OutLn3RefIdeal.nD Cert.OutLn3RefIdeal.τ).loc Cert.OutLn3RefIdeal.main_arg0) = m ((c.tc : Thread Cert.OutLn3Ideal.nD Cert.OutLn3Ideal.τ).loc Cert.OutLn3Ideal.main_arg0)
      ∧ m' ((c.tc : Thread Cert.OutLn3RefIdeal.nD Cert.OutLn3RefIdeal.τ).loc Cert.OutLn3RefIdeal.main_arg1) = m ((c.tc : Thread Cert.OutLn3Ideal.nD Cert.OutLn3Ideal.τ).loc Cert.OutLn3Ideal.main_arg1)
      ∧ m' ((c.tc : Thread Cert.OutLn3RefIdeal.nD Cert.OutLn3RefIdeal.τ).loc Cert.OutLn3RefIdeal.main_arg2) = m ((c.tc : Thread Cert.OutLn3Ideal.nD Cert.OutLn3Ideal.τ).loc Cert.OutLn3Ideal.main_arg2)
      ∧ m' ((c.tc : Thread Cert.OutLn3RefIdeal.nD Cert.OutLn3RefIdeal.τ).loc Cert.OutLn3RefIdeal.main_arg3) = m ((c.tc : Thread Cert.OutLn3Ideal.nD Cert.OutLn3Ideal.τ).loc Cert.OutLn3Ideal.main_arg3)
      ∧ m' ((c.tc : Thread Cert.OutLn3RefIdeal.nD Cert.OutLn3RefIdeal.τ).loc Cert.OutLn3RefIdeal.main_arg4) = m ((c.tc : Thread Cert.OutLn3Ideal.nD Cert.OutLn3Ideal.τ).loc Cert.OutLn3Ideal.main_arg4)
      ∧ m' ((c.tc : Thread Cert.OutLn3RefIdeal.nD Cert.OutLn3RefIdeal.τ).loc Cert.OutLn3RefIdeal.main_arg5) = m ((c.tc : Thread Cert.OutLn3Ideal.nD Cert.OutLn3Ideal.τ).loc Cert.OutLn3Ideal.main_arg5)) →
    ∃ (v0 : (c : Dev Cert.OutLn3Ideal.nD) → Buf (Elt Ideal) ((c.tc : Thread Cert.OutLn3Ideal.nD Cert.OutLn3Ideal.τ).loc Cert.OutLn3Ideal.main_v0_0)) (v1 : (c : Dev Cert.OutLn3Ideal.nD) → Buf (Elt Ideal) ((c.tc : Thread Cert.OutLn3Ideal.nD Cert.OutLn3Ideal.τ).loc Cert.OutLn3Ideal.main_v0_1)) (v2 : (c : Dev Cert.OutLn3Ideal.nD) → Buf (Elt Ideal) ((c.tc : Thread Cert.OutLn3Ideal.nD Cert.OutLn3Ideal.τ).loc Cert.OutLn3Ideal.main_v0_2)),
      θ_run (Cert.OutLn3Ideal.defs (F := Ideal)) (onTc (τ := Cert.OutLn3Ideal.τ) (Cert.OutLn3Ideal.main (F := Ideal))) ⟨m, fun _ => 0, g⟩ (fun r => ∀ c : Dev Cert.OutLn3Ideal.nD,
          r.2.mem ((c.tc : Thread Cert.OutLn3Ideal.nD Cert.OutLn3Ideal.τ).loc Cert.OutLn3Ideal.main_v0_0) = v0 c
          ∧ r.2.mem ((c.tc : Thread Cert.OutLn3Ideal.nD Cert.OutLn3Ideal.τ).loc Cert.OutLn3Ideal.main_v0_1) = v1 c
          ∧ r.2.mem ((c.tc : Thread Cert.OutLn3Ideal.nD Cert.OutLn3Ideal.τ).loc Cert.OutLn3Ideal.main_v0_2) = v2 c
          ∧ r.2.mem ((c.tc : Thread Cert.OutLn3Ideal.nD Cert.OutLn3Ideal.τ).loc Cert.OutLn3Ideal.main_arg0) = m ((c.tc : Thread Cert.OutLn3Ideal.nD Cert.OutLn3Ideal.τ).loc Cert.OutLn3Ideal.main_arg0)
          ∧ r.2.mem ((c.tc : Thread Cert.OutLn3Ideal.nD Cert.OutLn3Ideal.τ).loc Cert.OutLn3Ideal.main_arg1) = m ((c.tc : Thread Cert.OutLn3Ideal.nD Cert.OutLn3Ideal.τ).loc Cert.OutLn3Ideal.main_arg1)
          ∧ r.2.mem ((c.tc : Thread Cert.OutLn3Ideal.nD Cert.OutLn3Ideal.τ).loc Cert.OutLn3Ideal.main_arg2) = m ((c.tc : Thread Cert.OutLn3Ideal.nD Cert.OutLn3Ideal.τ).loc Cert.OutLn3Ideal.main_arg2)
          ∧ r.2.mem ((c.tc : Thread Cert.OutLn3Ideal.nD Cert.OutLn3Ideal.τ).loc Cert.OutLn3Ideal.main_arg3) = m ((c.tc : Thread Cert.OutLn3Ideal.nD Cert.OutLn3Ideal.τ).loc Cert.OutLn3Ideal.main_arg3)
          ∧ r.2.mem ((c.tc : Thread Cert.OutLn3Ideal.nD Cert.OutLn3Ideal.τ).loc Cert.OutLn3Ideal.main_arg4) = m ((c.tc : Thread Cert.OutLn3Ideal.nD Cert.OutLn3Ideal.τ).loc Cert.OutLn3Ideal.main_arg4)
          ∧ r.2.mem ((c.tc : Thread Cert.OutLn3Ideal.nD Cert.OutLn3Ideal.τ).loc Cert.OutLn3Ideal.main_arg5) = m ((c.tc : Thread Cert.OutLn3Ideal.nD Cert.OutLn3Ideal.τ).loc Cert.OutLn3Ideal.main_arg5))
      ∧ θ_run (Cert.OutLn3RefIdeal.defs (F := Ideal)) (onTc (τ := Cert.OutLn3RefIdeal.τ) (Cert.OutLn3RefIdeal.main (F := Ideal))) ⟨m', fun _ => 0, g'⟩ (fun r => ∀ c : Dev Cert.OutLn3RefIdeal.nD,
          r.2.mem ((c.tc : Thread Cert.OutLn3RefIdeal.nD Cert.OutLn3RefIdeal.τ).loc Cert.OutLn3RefIdeal.main_v12) = v0 c
          ∧ r.2.mem ((c.tc : Thread Cert.OutLn3RefIdeal.nD Cert.OutLn3RefIdeal.τ).loc Cert.OutLn3RefIdeal.main_v11) = v1 c
          ∧ r.2.mem ((c.tc : Thread Cert.OutLn3RefIdeal.nD Cert.OutLn3RefIdeal.τ).loc Cert.OutLn3RefIdeal.main_v38) = v2 c
          ∧ r.2.mem ((c.tc : Thread Cert.OutLn3RefIdeal.nD Cert.OutLn3RefIdeal.τ).loc Cert.OutLn3RefIdeal.main_arg0) = m' ((c.tc : Thread Cert.OutLn3RefIdeal.nD Cert.OutLn3RefIdeal.τ).loc Cert.OutLn3RefIdeal.main_arg0)
          ∧ r.2.mem ((c.tc : Thread Cert.OutLn3RefIdeal.nD Cert.OutLn3RefIdeal.τ).loc Cert.OutLn3RefIdeal.main_arg1) = m' ((c.tc : Thread Cert.OutLn3RefIdeal.nD Cert.OutLn3RefIdeal.τ).loc Cert.OutLn3RefIdeal.main_arg1)
          ∧ r.2.mem ((c.tc : Thread Cert.OutLn3RefIdeal.nD Cert.OutLn3RefIdeal.τ).loc Cert.OutLn3RefIdeal.main_arg2) = m' ((c.tc : Thread Cert.OutLn3RefIdeal.nD Cert.OutLn3RefIdeal.τ).loc Cert.OutLn3RefIdeal.main_arg2)
          ∧ r.2.mem ((c.tc : Thread Cert.OutLn3RefIdeal.nD Cert.OutLn3RefIdeal.τ).loc Cert.OutLn3RefIdeal.main_arg3) = m' ((c.tc : Thread Cert.OutLn3RefIdeal.nD Cert.OutLn3RefIdeal.τ).loc Cert.OutLn3RefIdeal.main_arg3)
          ∧ r.2.mem ((c.tc : Thread Cert.OutLn3RefIdeal.nD Cert.OutLn3RefIdeal.τ).loc Cert.OutLn3RefIdeal.main_arg4) = m' ((c.tc : Thread Cert.OutLn3RefIdeal.nD Cert.OutLn3RefIdeal.τ).loc Cert.OutLn3RefIdeal.main_arg4)
          ∧ r.2.mem ((c.tc : Thread Cert.OutLn3RefIdeal.nD Cert.OutLn3RefIdeal.τ).loc Cert.OutLn3RefIdeal.main_arg5) = m' ((c.tc : Thread Cert.OutLn3RefIdeal.nD Cert.OutLn3RefIdeal.τ).loc Cert.OutLn3RefIdeal.main_arg5))

def Claim : Prop :=
  ∃ (hInGrad : Cert.InGrad.Facts) (hInGradIdeal : Cert.InGradIdeal.Facts) (hInGradRefIdeal : Cert.InGradRefIdeal.Facts) (hInLn : Cert.InLn.Facts) (hInLnIdeal : Cert.InLnIdeal.Facts) (hInLnRefIdeal : Cert.InLnRefIdeal.Facts) (hMlp : Cert.Mlp.Facts) (hMlpIdeal : Cert.MlpIdeal.Facts) (hMlpRefIdeal : Cert.MlpRefIdeal.Facts) (hLoss : Cert.Loss.Facts) (hLossIdeal : Cert.LossIdeal.Facts) (hLossRefIdeal : Cert.LossRefIdeal.Facts) (hDwDown : Cert.DwDown.Facts) (hDwDownIdeal : Cert.DwDownIdeal.Facts) (hDwDownRefIdeal : Cert.DwDownRefIdeal.Facts) (hDwGate : Cert.DwGate.Facts) (hDwGateIdeal : Cert.DwGateIdeal.Facts) (hDwGateRefIdeal : Cert.DwGateRefIdeal.Facts) (hDwO : Cert.DwO.Facts) (hDwOIdeal : Cert.DwOIdeal.Facts) (hDwORefIdeal : Cert.DwORefIdeal.Facts) (hDwIn : Cert.DwIn.Facts) (hDwInIdeal : Cert.DwInIdeal.Facts) (hDwInRefIdeal : Cert.DwInRefIdeal.Facts) (hAdamVec : Cert.AdamVec.Facts) (hAdamVecIdeal : Cert.AdamVecIdeal.Facts) (hAdamVecRefIdeal : Cert.AdamVecRefIdeal.Facts) (hAdamBAda : Cert.AdamBAda.Facts) (hAdamBAdaIdeal : Cert.AdamBAdaIdeal.Facts) (hAdamBAdaRefIdeal : Cert.AdamBAdaRefIdeal.Facts) (hAdamBIn : Cert.AdamBIn.Facts) (hAdamBInIdeal : Cert.AdamBInIdeal.Facts) (hAdamBInRefIdeal : Cert.AdamBInRefIdeal.Facts) (hAdamPool : Cert.AdamPool.Facts) (hAdamPoolIdeal : Cert.AdamPoolIdeal.Facts) (hAdamPoolRefIdeal : Cert.AdamPoolRefIdeal.Facts) (hAdamLam : Cert.AdamLam.Facts) (hAdamLamIdeal : Cert.AdamLamIdeal.Facts) (hAdamLamRefIdeal : Cert.AdamLamRefIdeal.Facts) (hAdamDt : Cert.AdamDt.Facts) (hAdamDtIdeal : Cert.AdamDtIdeal.Facts) (hAdamDtRefIdeal : Cert.AdamDtRefIdeal.Facts) (hAdamB : Cert.AdamB.Facts) (hAdamBIdeal : Cert.AdamBIdeal.Facts) (hAdamBRefIdeal : Cert.AdamBRefIdeal.Facts) (hAdamLn : Cert.AdamLn.Facts) (hAdamLnIdeal : Cert.AdamLnIdeal.Facts) (hAdamLnRefIdeal : Cert.AdamLnRefIdeal.Facts) (hAdamSc : Cert.AdamSc.Facts) (hAdamScIdeal : Cert.AdamScIdeal.Facts) (hAdamScRefIdeal : Cert.AdamScRefIdeal.Facts) (hAdamCf : Cert.AdamCf.Facts) (hAdamCfIdeal : Cert.AdamCfIdeal.Facts) (hAdamCfRefIdeal : Cert.AdamCfRefIdeal.Facts) (hAdamGlu : Cert.AdamGlu.Facts) (hAdamGluIdeal : Cert.AdamGluIdeal.Facts) (hAdamGluRefIdeal : Cert.AdamGluRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamGate : Cert.AdamGate.Facts) (hAdamGateIdeal : Cert.AdamGateIdeal.Facts) (hAdamGateRefIdeal : Cert.AdamGateRefIdeal.Facts) (hSumIn : Cert.SumIn.Facts) (hSumInIdeal : Cert.SumInIdeal.Facts) (hSumInRefIdeal : Cert.SumInRefIdeal.Facts) (hSumGate : Cert.SumGate.Facts) (hSumGateIdeal : Cert.SumGateIdeal.Facts) (hSumGateRefIdeal : Cert.SumGateRefIdeal.Facts) (hAdamO : Cert.AdamO.Facts) (hAdamOIdeal : Cert.AdamOIdeal.Facts) (hAdamORefIdeal : Cert.AdamORefIdeal.Facts) (hAdamDown : Cert.AdamDown.Facts) (hAdamDownIdeal : Cert.AdamDownIdeal.Facts) (hAdamDownRefIdeal : Cert.AdamDownRefIdeal.Facts) (hGateUp0 : Cert.GateUp0.Facts) (hGateUp0Ideal : Cert.GateUp0Ideal.Facts) (hGateUp0RefIdeal : Cert.GateUp0RefIdeal.Facts) (hGateUp1 : Cert.GateUp1.Facts) (hGateUp1Ideal : Cert.GateUp1Ideal.Facts) (hGateUp1RefIdeal : Cert.GateUp1RefIdeal.Facts) (hGateUp2 : Cert.GateUp2.Facts) (hGateUp2Ideal : Cert.GateUp2Ideal.Facts) (hGateUp2RefIdeal : Cert.GateUp2RefIdeal.Facts) (hGateUp3 : Cert.GateUp3.Facts) (hGateUp3Ideal : Cert.GateUp3Ideal.Facts) (hGateUp3RefIdeal : Cert.GateUp3RefIdeal.Facts) (hDownLn0 : Cert.DownLn0.Facts) (hDownLn0Ideal : Cert.DownLn0Ideal.Facts) (hDownLn0RefIdeal : Cert.DownLn0RefIdeal.Facts) (hDownLn1 : Cert.DownLn1.Facts) (hDownLn1Ideal : Cert.DownLn1Ideal.Facts) (hDownLn1RefIdeal : Cert.DownLn1RefIdeal.Facts) (hDownLn2 : Cert.DownLn2.Facts) (hDownLn2Ideal : Cert.DownLn2Ideal.Facts) (hDownLn2RefIdeal : Cert.DownLn2RefIdeal.Facts) (hDownLn3 : Cert.DownLn3.Facts) (hDownLn3Ideal : Cert.DownLn3Ideal.Facts) (hDownLn3RefIdeal : Cert.DownLn3RefIdeal.Facts) (hOutLn0 : Cert.OutLn0.Facts) (hOutLn0Ideal : Cert.OutLn0Ideal.Facts) (hOutLn0RefIdeal : Cert.OutLn0RefIdeal.Facts) (hOutLn1 : Cert.OutLn1.Facts) (hOutLn1Ideal : Cert.OutLn1Ideal.Facts) (hOutLn1RefIdeal : Cert.OutLn1RefIdeal.Facts) (hOutLn2 : Cert.OutLn2.Facts) (hOutLn2Ideal : Cert.OutLn2Ideal.Facts) (hOutLn2RefIdeal : Cert.OutLn2RefIdeal.Facts) (hOutLn3 : Cert.OutLn3.Facts) (hOutLn3Ideal : Cert.OutLn3Ideal.Facts) (hOutLn3RefIdeal : Cert.OutLn3RefIdeal.Facts) (hPre_mlp_finite : Cert.Pre_mlp_finite.Facts) (hOn_norm_rows : Cert.On_norm_rows.Facts) (hOn_mlp_results : Cert.On_mlp_results.Facts) (hOn_loss_rows : Cert.On_loss_rows.Facts),
    quiescent_InGrad (hInGrad := hInGrad)
    ∧ quiescent_InGradIdeal (hInGradIdeal := hInGradIdeal)
    ∧ quiescent_InGradRefIdeal (hInGradRefIdeal := hInGradRefIdeal)
    ∧ quiescent_InLn (hInLn := hInLn)
    ∧ quiescent_InLnIdeal (hInLnIdeal := hInLnIdeal)
    ∧ quiescent_InLnRefIdeal (hInLnRefIdeal := hInLnRefIdeal)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Loss (hLoss := hLoss)
    ∧ quiescent_LossIdeal (hLossIdeal := hLossIdeal)
    ∧ quiescent_LossRefIdeal (hLossRefIdeal := hLossRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwO (hDwO := hDwO)
    ∧ quiescent_DwOIdeal (hDwOIdeal := hDwOIdeal)
    ∧ quiescent_DwORefIdeal (hDwORefIdeal := hDwORefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamBAda (hAdamBAda := hAdamBAda)
    ∧ quiescent_AdamBAdaIdeal (hAdamBAdaIdeal := hAdamBAdaIdeal)
    ∧ quiescent_AdamBAdaRefIdeal (hAdamBAdaRefIdeal := hAdamBAdaRefIdeal)
    ∧ quiescent_AdamBIn (hAdamBIn := hAdamBIn)
    ∧ quiescent_AdamBInIdeal (hAdamBInIdeal := hAdamBInIdeal)
    ∧ quiescent_AdamBInRefIdeal (hAdamBInRefIdeal := hAdamBInRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamLam (hAdamLam := hAdamLam)
    ∧ quiescent_AdamLamIdeal (hAdamLamIdeal := hAdamLamIdeal)
    ∧ quiescent_AdamLamRefIdeal (hAdamLamRefIdeal := hAdamLamRefIdeal)
    ∧ quiescent_AdamDt (hAdamDt := hAdamDt)
    ∧ quiescent_AdamDtIdeal (hAdamDtIdeal := hAdamDtIdeal)
    ∧ quiescent_AdamDtRefIdeal (hAdamDtRefIdeal := hAdamDtRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamLn (hAdamLn := hAdamLn)
    ∧ quiescent_AdamLnIdeal (hAdamLnIdeal := hAdamLnIdeal)
    ∧ quiescent_AdamLnRefIdeal (hAdamLnRefIdeal := hAdamLnRefIdeal)
    ∧ quiescent_AdamSc (hAdamSc := hAdamSc)
    ∧ quiescent_AdamScIdeal (hAdamScIdeal := hAdamScIdeal)
    ∧ quiescent_AdamScRefIdeal (hAdamScRefIdeal := hAdamScRefIdeal)
    ∧ quiescent_AdamCf (hAdamCf := hAdamCf)
    ∧ quiescent_AdamCfIdeal (hAdamCfIdeal := hAdamCfIdeal)
    ∧ quiescent_AdamCfRefIdeal (hAdamCfRefIdeal := hAdamCfRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumGate (hSumGate := hSumGate)
    ∧ quiescent_SumGateIdeal (hSumGateIdeal := hSumGateIdeal)
    ∧ quiescent_SumGateRefIdeal (hSumGateRefIdeal := hSumGateRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_GateUp0 (hGateUp0 := hGateUp0)
    ∧ quiescent_GateUp0Ideal (hGateUp0Ideal := hGateUp0Ideal)
    ∧ quiescent_GateUp0RefIdeal (hGateUp0RefIdeal := hGateUp0RefIdeal)
    ∧ quiescent_GateUp1 (hGateUp1 := hGateUp1)
    ∧ quiescent_GateUp1Ideal (hGateUp1Ideal := hGateUp1Ideal)
    ∧ quiescent_GateUp1RefIdeal (hGateUp1RefIdeal := hGateUp1RefIdeal)
    ∧ quiescent_GateUp2 (hGateUp2 := hGateUp2)
    ∧ quiescent_GateUp2Ideal (hGateUp2Ideal := hGateUp2Ideal)
    ∧ quiescent_GateUp2RefIdeal (hGateUp2RefIdeal := hGateUp2RefIdeal)
    ∧ quiescent_GateUp3 (hGateUp3 := hGateUp3)
    ∧ quiescent_GateUp3Ideal (hGateUp3Ideal := hGateUp3Ideal)
    ∧ quiescent_GateUp3RefIdeal (hGateUp3RefIdeal := hGateUp3RefIdeal)
    ∧ quiescent_DownLn0 (hDownLn0 := hDownLn0)
    ∧ quiescent_DownLn0Ideal (hDownLn0Ideal := hDownLn0Ideal)
    ∧ quiescent_DownLn0RefIdeal (hDownLn0RefIdeal := hDownLn0RefIdeal)
    ∧ quiescent_DownLn1 (hDownLn1 := hDownLn1)
    ∧ quiescent_DownLn1Ideal (hDownLn1Ideal := hDownLn1Ideal)
    ∧ quiescent_DownLn1RefIdeal (hDownLn1RefIdeal := hDownLn1RefIdeal)
    ∧ quiescent_DownLn2 (hDownLn2 := hDownLn2)
    ∧ quiescent_DownLn2Ideal (hDownLn2Ideal := hDownLn2Ideal)
    ∧ quiescent_DownLn2RefIdeal (hDownLn2RefIdeal := hDownLn2RefIdeal)
    ∧ quiescent_DownLn3 (hDownLn3 := hDownLn3)
    ∧ quiescent_DownLn3Ideal (hDownLn3Ideal := hDownLn3Ideal)
    ∧ quiescent_DownLn3RefIdeal (hDownLn3RefIdeal := hDownLn3RefIdeal)
    ∧ quiescent_OutLn0 (hOutLn0 := hOutLn0)
    ∧ quiescent_OutLn0Ideal (hOutLn0Ideal := hOutLn0Ideal)
    ∧ quiescent_OutLn0RefIdeal (hOutLn0RefIdeal := hOutLn0RefIdeal)
    ∧ quiescent_OutLn1 (hOutLn1 := hOutLn1)
    ∧ quiescent_OutLn1Ideal (hOutLn1Ideal := hOutLn1Ideal)
    ∧ quiescent_OutLn1RefIdeal (hOutLn1RefIdeal := hOutLn1RefIdeal)
    ∧ quiescent_OutLn2 (hOutLn2 := hOutLn2)
    ∧ quiescent_OutLn2Ideal (hOutLn2Ideal := hOutLn2Ideal)
    ∧ quiescent_OutLn2RefIdeal (hOutLn2RefIdeal := hOutLn2RefIdeal)
    ∧ quiescent_OutLn3 (hOutLn3 := hOutLn3)
    ∧ quiescent_OutLn3Ideal (hOutLn3Ideal := hOutLn3Ideal)
    ∧ quiescent_OutLn3RefIdeal (hOutLn3RefIdeal := hOutLn3RefIdeal)
    ∧ preserves_InGrad_InGradIdeal
    ∧ algebraic_InGradIdeal_InGradRefIdeal (hInGradIdeal := hInGradIdeal) (hInGradRefIdeal := hInGradRefIdeal)
    ∧ preserves_InLn_InLnIdeal
    ∧ algebraic_InLnIdeal_InLnRefIdeal_on_norm_rows (hInLnIdeal := hInLnIdeal) (hInLnRefIdeal := hInLnRefIdeal) (hOn_norm_rows := hOn_norm_rows)
    ∧ preserves_Mlp_MlpIdeal
    ∧ algebraic_MlpIdeal_MlpRefIdeal_on_mlp_results_pre_mlp_finite (hMlpIdeal := hMlpIdeal) (hMlpRefIdeal := hMlpRefIdeal) (hPre_mlp_finite := hPre_mlp_finite) (hOn_mlp_results := hOn_mlp_results)
    ∧ preserves_Loss_LossIdeal
    ∧ algebraic_LossIdeal_LossRefIdeal_on_loss_rows (hLossIdeal := hLossIdeal) (hLossRefIdeal := hLossRefIdeal) (hOn_loss_rows := hOn_loss_rows)
    ∧ preserves_DwDown_DwDownIdeal
    ∧ algebraic_DwDownIdeal_DwDownRefIdeal (hDwDownIdeal := hDwDownIdeal) (hDwDownRefIdeal := hDwDownRefIdeal)
    ∧ preserves_DwGate_DwGateIdeal
    ∧ algebraic_DwGateIdeal_DwGateRefIdeal (hDwGateIdeal := hDwGateIdeal) (hDwGateRefIdeal := hDwGateRefIdeal)
    ∧ preserves_DwO_DwOIdeal
    ∧ algebraic_DwOIdeal_DwORefIdeal (hDwOIdeal := hDwOIdeal) (hDwORefIdeal := hDwORefIdeal)
    ∧ preserves_DwIn_DwInIdeal
    ∧ algebraic_DwInIdeal_DwInRefIdeal (hDwInIdeal := hDwInIdeal) (hDwInRefIdeal := hDwInRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamBAda_AdamBAdaIdeal
    ∧ algebraic_AdamBAdaIdeal_AdamBAdaRefIdeal (hAdamBAdaIdeal := hAdamBAdaIdeal) (hAdamBAdaRefIdeal := hAdamBAdaRefIdeal)
    ∧ preserves_AdamBIn_AdamBInIdeal
    ∧ algebraic_AdamBInIdeal_AdamBInRefIdeal (hAdamBInIdeal := hAdamBInIdeal) (hAdamBInRefIdeal := hAdamBInRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamLam_AdamLamIdeal
    ∧ algebraic_AdamLamIdeal_AdamLamRefIdeal (hAdamLamIdeal := hAdamLamIdeal) (hAdamLamRefIdeal := hAdamLamRefIdeal)
    ∧ preserves_AdamDt_AdamDtIdeal
    ∧ algebraic_AdamDtIdeal_AdamDtRefIdeal (hAdamDtIdeal := hAdamDtIdeal) (hAdamDtRefIdeal := hAdamDtRefIdeal)
    ∧ preserves_AdamB_AdamBIdeal
    ∧ algebraic_AdamBIdeal_AdamBRefIdeal (hAdamBIdeal := hAdamBIdeal) (hAdamBRefIdeal := hAdamBRefIdeal)
    ∧ preserves_AdamLn_AdamLnIdeal
    ∧ algebraic_AdamLnIdeal_AdamLnRefIdeal (hAdamLnIdeal := hAdamLnIdeal) (hAdamLnRefIdeal := hAdamLnRefIdeal)
    ∧ preserves_AdamSc_AdamScIdeal
    ∧ algebraic_AdamScIdeal_AdamScRefIdeal (hAdamScIdeal := hAdamScIdeal) (hAdamScRefIdeal := hAdamScRefIdeal)
    ∧ preserves_AdamCf_AdamCfIdeal
    ∧ algebraic_AdamCfIdeal_AdamCfRefIdeal (hAdamCfIdeal := hAdamCfIdeal) (hAdamCfRefIdeal := hAdamCfRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamGate_AdamGateIdeal
    ∧ algebraic_AdamGateIdeal_AdamGateRefIdeal (hAdamGateIdeal := hAdamGateIdeal) (hAdamGateRefIdeal := hAdamGateRefIdeal)
    ∧ preserves_SumIn_SumInIdeal
    ∧ algebraic_SumInIdeal_SumInRefIdeal (hSumInIdeal := hSumInIdeal) (hSumInRefIdeal := hSumInRefIdeal)
    ∧ preserves_SumGate_SumGateIdeal
    ∧ algebraic_SumGateIdeal_SumGateRefIdeal (hSumGateIdeal := hSumGateIdeal) (hSumGateRefIdeal := hSumGateRefIdeal)
    ∧ preserves_AdamO_AdamOIdeal
    ∧ algebraic_AdamOIdeal_AdamORefIdeal (hAdamOIdeal := hAdamOIdeal) (hAdamORefIdeal := hAdamORefIdeal)
    ∧ preserves_AdamDown_AdamDownIdeal
    ∧ algebraic_AdamDownIdeal_AdamDownRefIdeal (hAdamDownIdeal := hAdamDownIdeal) (hAdamDownRefIdeal := hAdamDownRefIdeal)
    ∧ preserves_GateUp0_GateUp0Ideal
    ∧ algebraic_GateUp0Ideal_GateUp0RefIdeal (hGateUp0Ideal := hGateUp0Ideal) (hGateUp0RefIdeal := hGateUp0RefIdeal)
    ∧ preserves_GateUp1_GateUp1Ideal
    ∧ algebraic_GateUp1Ideal_GateUp1RefIdeal (hGateUp1Ideal := hGateUp1Ideal) (hGateUp1RefIdeal := hGateUp1RefIdeal)
    ∧ preserves_GateUp2_GateUp2Ideal
    ∧ algebraic_GateUp2Ideal_GateUp2RefIdeal (hGateUp2Ideal := hGateUp2Ideal) (hGateUp2RefIdeal := hGateUp2RefIdeal)
    ∧ preserves_GateUp3_GateUp3Ideal
    ∧ algebraic_GateUp3Ideal_GateUp3RefIdeal (hGateUp3Ideal := hGateUp3Ideal) (hGateUp3RefIdeal := hGateUp3RefIdeal)
    ∧ preserves_DownLn0_DownLn0Ideal
    ∧ algebraic_DownLn0Ideal_DownLn0RefIdeal (hDownLn0Ideal := hDownLn0Ideal) (hDownLn0RefIdeal := hDownLn0RefIdeal)
    ∧ preserves_DownLn1_DownLn1Ideal
    ∧ algebraic_DownLn1Ideal_DownLn1RefIdeal (hDownLn1Ideal := hDownLn1Ideal) (hDownLn1RefIdeal := hDownLn1RefIdeal)
    ∧ preserves_DownLn2_DownLn2Ideal
    ∧ algebraic_DownLn2Ideal_DownLn2RefIdeal (hDownLn2Ideal := hDownLn2Ideal) (hDownLn2RefIdeal := hDownLn2RefIdeal)
    ∧ preserves_DownLn3_DownLn3Ideal
    ∧ algebraic_DownLn3Ideal_DownLn3RefIdeal (hDownLn3Ideal := hDownLn3Ideal) (hDownLn3RefIdeal := hDownLn3RefIdeal)
    ∧ preserves_OutLn0_OutLn0Ideal
    ∧ algebraic_OutLn0Ideal_OutLn0RefIdeal (hOutLn0Ideal := hOutLn0Ideal) (hOutLn0RefIdeal := hOutLn0RefIdeal)
    ∧ preserves_OutLn1_OutLn1Ideal
    ∧ algebraic_OutLn1Ideal_OutLn1RefIdeal (hOutLn1Ideal := hOutLn1Ideal) (hOutLn1RefIdeal := hOutLn1RefIdeal)
    ∧ preserves_OutLn2_OutLn2Ideal
    ∧ algebraic_OutLn2Ideal_OutLn2RefIdeal (hOutLn2Ideal := hOutLn2Ideal) (hOutLn2RefIdeal := hOutLn2RefIdeal)
    ∧ preserves_OutLn3_OutLn3Ideal
    ∧ algebraic_OutLn3Ideal_OutLn3RefIdeal (hOutLn3Ideal := hOutLn3Ideal) (hOutLn3RefIdeal := hOutLn3RefIdeal)
-- ==== On_loss_rows.lean ====
abbrev S8192x1024 : Shape := ⟨2, ![8192, 1024]⟩
abbrev S4x1x1024 : Shape := ⟨3, ![4, 1, 1024]⟩
abbrev S4x6x1x1024 : Shape := ⟨4, ![4, 6, 1, 1024]⟩
abbrev S8x1024 : Shape := ⟨2, ![8, 1024]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .bf16) (main_arg4 : FVec F S4x1x1024 .f32) (main_arg5 : FVec F S4x6x1x1024 .f32) : IVec S8x1024 1 :=
  let main_v0 : IVec S8x1024 32 := iotaInDim S8x1024 32 0
  let main_c : IVec S_ 32 := constantI S_ 32 0#32
  let main_v1 : IVec S8x1024 32 := broadcastInDim S8x1024 ![] bcast_S_S8x1024 main_c
  let main_v2 : IVec S8x1024 1 := cmpi .eq main_v0 main_v1
  let main_c_0 : IVec S_ 32 := constantI S_ 32 1#32
  let main_v3 : IVec S8x1024 32 := broadcastInDim S8x1024 ![] bcast_S_S8x1024 main_c_0
  let main_v4 : IVec S8x1024 1 := cmpi .eq main_v0 main_v3
  let main_v5 : IVec S8x1024 1 := ori main_v2 main_v4
  let main_c_1 : IVec S_ 32 := constantI S_ 32 3#32
  let main_v6 : IVec S8x1024 32 := broadcastInDim S8x1024 ![] bcast_S_S8x1024 main_c_1
  let main_v7 : IVec S8x1024 1 := cmpi .eq main_v0 main_v6
  let main_v8 : IVec S8x1024 1 := ori main_v5 main_v7
  main_v8
-- ==== On_mlp_results.lean ====
abbrev S8192x1024 : Shape := ⟨2, ![8192, 1024]⟩
abbrev S2816x1024 : Shape := ⟨2, ![2816, 1024]⟩
abbrev S8192x2816 : Shape := ⟨2, ![8192, 2816]⟩
abbrev S4x6x1x1024 : Shape := ⟨4, ![4, 6, 1, 1024]⟩
abbrev S4x1x1024 : Shape := ⟨3, ![4, 1, 1024]⟩
abbrev S8x1024 : Shape := ⟨2, ![8, 1024]⟩
abbrev S_ : Shape := ⟨0, ![]⟩

class Facts : Prop where
  bcast_S_S8192x2816 : S_.BroadcastsInDim S8192x2816 (![] : Fin 0 → Fin S8192x2816.rank)
  bcast_S_S8x1024 : S_.BroadcastsInDim S8x1024 (![] : Fin 0 → Fin S8x1024.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) (main_arg4 : FVec F S2816x1024 .bf16) (main_arg5 : FVec F S2816x1024 .bf16) (main_arg6 : FVec F S8192x1024 .f32) (main_arg7 : FVec F S4x6x1x1024 .f32) (main_arg8 : FVec F S8192x1024 .f32) (main_arg9 : FVec F S8192x1024 .bf16) (main_arg10 : FVec F S4x1x1024 .f32) (main_arg11 : FVec F S4x1x1024 .f32) : IVec S8192x2816 1 × IVec S8192x2816 1 × IVec S8x1024 1 :=
  let main_v0 : IVec S8x1024 32 := iotaInDim S8x1024 32 0
  let main_v1 : IVec S8192x2816 32 := iotaInDim S8192x2816 32 0
  let main_c : IVec S_ 32 := constantI S_ 32 0#32
  let main_v2 : IVec S8192x2816 32 := broadcastInDim S8192x2816 ![] bcast_S_S8192x2816 main_c
  let main_v3 : IVec S8192x2816 1 := cmpi .sge main_v1 main_v2
  let main_c_0 : IVec S_ 32 := constantI S_ 32 0#32
  let main_v4 : IVec S8x1024 32 := broadcastInDim S8x1024 ![] bcast_S_S8x1024 main_c_0
  let main_v5 : IVec S8x1024 1 := cmpi .eq main_v0 main_v4
  let main_c_1 : IVec S_ 32 := constantI S_ 32 2#32
  let main_v6 : IVec S8x1024 32 := broadcastInDim S8x1024 ![] bcast_S_S8x1024 main_c_1
  let main_v7 : IVec S8x1024 1 := cmpi .eq main_v0 main_v6
  let main_v8 : IVec S8x1024 1 := ori main_v5 main_v7
  let main_c_2 : IVec S_ 32 := constantI S_ 32 3#32
  let main_v9 : IVec S8x1024 32 := broadcastInDim S8x1024 ![] bcast_S_S8x1024 main_c_2
  let main_v10 : IVec S8x1024 1 := cmpi .eq main_v0 main_v9
  let main_v11 : IVec S8x1024 1 := ori main_v8 main_v10
  (main_v3, main_v3, main_v11)
-- ==== On_norm_rows.lean ====
abbrev S8192x1792 : Shape := ⟨2, ![8192, 1792]⟩
abbrev S1792x1024 : Shape := ⟨2, ![1792, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S8x1024 : Shape := ⟨2, ![8, 1024]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : FVec F S8192x1792 .bf16) (main_arg1 : FVec F S1792x1024 .bf16) (main_arg2 : FVec F S8192x1024 .f32) (main_arg3 : FVec F S4x6x1x1024 .f32) (main_arg4 : FVec F S8192x1024 .f32) (main_arg5 : FVec F S8192x1024 .bf16) (main_arg6 : FVec F S4x1x1024 .f32) (main_arg7 : FVec F S4x1x1024 .f32) : IVec S8x1024 1 :=
  let main_v0 : IVec S8x1024 32 := iotaInDim S8x1024 32 0
  let main_c : IVec S_ 32 := constantI S_ 32 0#32
  let main_v1 : IVec S8x1024 32 := broadcastInDim S8x1024 ![] bcast_S_S8x1024 main_c
  let main_v2 : IVec S8x1024 1 := cmpi .eq main_v0 main_v1
  let main_c_0 : IVec S_ 32 := constantI S_ 32 2#32
  let main_v3 : IVec S8x1024 32 := broadcastInDim S8x1024 ![] bcast_S_S8x1024 main_c_0
  let main_v4 : IVec S8x1024 1 := cmpi .eq main_v0 main_v3
  let main_v5 : IVec S8x1024 1 := ori main_v2 main_v4
  let main_c_1 : IVec S_ 32 := constantI S_ 32 3#32
  let main_v6 : IVec S8x1024 32 := broadcastInDim S8x1024 ![] bcast_S_S8x1024 main_c_1
  let main_v7 : IVec S8x1024 1 := cmpi .eq main_v0 main_v6
  let main_v8 : IVec S8x1024 1 := ori main_v5 main_v7
  main_v8
-- ==== Pre_mlp_finite.lean ====
abbrev S8192x1024 : Shape := ⟨2, ![8192, 1024]⟩
abbrev S2816x1024 : Shape := ⟨2, ![2816, 1024]⟩
abbrev S8192x2816 : Shape := ⟨2, ![8192, 2816]⟩
abbrev S4x6x1x1024 : Shape := ⟨4, ![4, 6, 1, 1024]⟩
abbrev S4x1x1024 : Shape := ⟨3, ![4, 1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) (main_arg4 : FVec F S2816x1024 .bf16) (main_arg5 : FVec F S2816x1024 .bf16) (main_arg6 : FVec F S8192x1024 .f32) (main_arg7 : FVec F S4x6x1x1024 .f32) (main_arg8 : FVec F S8192x1024 .f32) (main_arg9 : FVec F S8192x1024 .bf16) (main_arg10 : FVec F S4x1x1024 .f32) (main_arg11 : FVec F S4x1x1024 .f32) : IVec S8192x1024 1 × IVec S2816x1024 1 × IVec S8192x2816 1 :=
  let main_v0 : FVec F S8192x1024 .f32 := (extf .f32 · bitsLt_bf16_f32) main_arg0
  let main_v1 : FVec F S8192x1024 .f32 := (extf .f32 · bitsLt_bf16_f32) main_arg0
  let main_v2 : FVec F S8192x1024 .f32 := subf main_v0 main_v1
  let main_cst : FVec F S_ .f32 := constant S_ .f32 0x00000000#32
  let main_v3 : FVec F S8192x1024 .f32 := broadcastInDim S8192x1024 ![] bcast_S_S8192x1024 main_cst
  let main_v4 : IVec S8192x1024 1 := cmpf .oeq main_v2 main_v3
  let main_v5 : FVec F S2816x1024 .f32 := (extf .f32 · bitsLt_bf16_f32) main_arg1
  let main_v6 : FVec F S2816x1024 .f32 := (extf .f32 · bitsLt_bf16_f32) main_arg1
  let main_v7 : FVec F S2816x1024 .f32 := subf main_v5 main_v6
  let main_cst_0 : FVec F S_ .f32 := constant S_ .f32 0x00000000#32
  let main_v8 : FVec F S2816x1024 .f32 := broadcastInDim S2816x1024 ![] bcast_S_S2816x1024 main_cst_0
  let main_v9 : IVec S2816x1024 1 := cmpf .oeq main_v7 main_v8
  let main_v10 : FVec F S8192x2816 .f32 := (extf .f32 · bitsLt_bf16_f32) main_arg3
  let main_v11 : FVec F S8192x2816 .f32 := (extf .f32 · bitsLt_bf16_f32) main_arg3
  let main_v12 : FVec F S8192x2816 .f32 := subf main_v10 main_v11
  let main_cst_1 : FVec F S_ .f32 := constant S_ .f32 0x00000000#32
  let main_v13 : FVec F S8192x2816 .f32 := broadcastInDim S8192x2816 ![] bcast_S_S8192x2816 main_cst_1
  let main_v14 : IVec S8192x2816 1 := cmpf .oeq main_v12 main_v13
  (main_v4, main_v9, main_v14)
-- ==== InGrad.lean ====
abbrev S8192x1792 : Shape := ⟨2, ![8192, 1792]⟩
abbrev S1792x1024 : Shape := ⟨2, ![1792, 1024]⟩
abbrev S8192x1024 : Shape := ⟨2, ![8192, 1024]⟩
abbrev S4x6x1x1024 : Shape := ⟨4, ![4, 6, 1, 1024]⟩
abbrev S8x1024 : Shape := ⟨2, ![8, 1024]⟩
abbrev S512x1792 : Shape := ⟨2, ![512, 1792]⟩
abbrev S512x1024 : Shape := ⟨2, ![512, 1024]⟩
abbrev S1x1x1x1024 : Shape := ⟨4, ![1, 1, 1, 1024]⟩
abbrev S1x1024 : Shape := ⟨2, ![1, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S4x6x1x1024, .f32⟩
  | .hbm, ⟨5, _⟩ => ⟨S8192x1024, .f32⟩
  | .hbm, ⟨6, _⟩ => ⟨S8x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InGradRefIdeal.lean ====
abbrev S8192x1792 : Shape := ⟨2, ![8192, 1792]⟩
abbrev S1792x1024 : Shape := ⟨2, ![1792, 1024]⟩
abbrev S8192x1024 : Shape := ⟨2, ![8192, 1024]⟩
abbrev S4x6x1x1024 : Shape := ⟨4, ![4, 6, 1, 1024]⟩
abbrev S1024x1792 : Shape := ⟨2, ![1024, 1792]⟩
abbrev S1x1x1x1024 : Shape := ⟨4, ![1, 1, 1, 1024]⟩
abbrev S1x1024 : Shape := ⟨2, ![1, 1024]⟩
abbrev S_ : Shape := ⟨0, ![]⟩
abbrev S1024 : Shape := ⟨1, ![1024]⟩
abbrev S6x1024 : Shape := ⟨2, ![6, 1024]⟩
abbrev S8x1024 : Shape := ⟨2, ![8, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S4x6x1x1024, .f32⟩
  | .hbm, ⟨5, _⟩ => ⟨S1024x1792, .bf16⟩
  | .hbm, ⟨6, _⟩ => ⟨S1024x1792, .f32⟩
  | .hbm, ⟨7, _⟩ => ⟨S8192x1792, .f32⟩
  | .hbm, ⟨8, _⟩ => ⟨S8192x1024, .f32⟩
  | .hbm, ⟨9, _⟩ => ⟨S1x1x1x1024, .f32⟩
  | .hbm, ⟨10, _⟩ => ⟨S1x1024, .f32⟩
  | .hbm, ⟨11, _⟩ => ⟨S1x1x1x1024, .f32⟩
  | .hbm, ⟨12, _⟩ => ⟨S1x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S6x1024, .f32⟩
  | .hbm, ⟨38, _⟩ => ⟨S8x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== InLn.lean ====
abbrev S8192x1792 : Shape := ⟨2, ![8192, 1792]⟩
abbrev S1792x1024 : Shape := ⟨2, ![1792, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S8x1024 : Shape := ⟨2, ![8, 1024]⟩
abbrev S256x1792 : Shape := ⟨2, ![256, 1792]⟩
abbrev S256x1024 : Shape := ⟨2, ![256, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S4x6x1x1024, .f32⟩
  | .hbm, ⟨4, _⟩ => ⟨S8192x1024, .f32⟩
  | .hbm, ⟨5, _⟩ => ⟨S8192x1024, .bf16⟩
  | .hbm, ⟨6, _⟩ => ⟨S4x1x1024, .f32⟩
  | .hbm, ⟨7, _⟩ => ⟨S4x1x1024, .f32⟩
  | .hbm, ⟨8, _⟩ => ⟨S8192x1024, .f32⟩
  | .hbm, ⟨9, _⟩ => ⟨S8192x1024, .bf16⟩
  | .hbm, ⟨10, _⟩ => ⟨S8x1024, .f32⟩
  | .local _ .vmem, ⟨0, _⟩ => ⟨S256x1792, .bf16⟩
  | .local _ .vmem, ⟨1, _⟩ => ⟨S256x1792, .bf16⟩
  | .local _ .vmem, ⟨2, _⟩ => ⟨S1792x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 4 → Nat :=
  let arg0 : BitVec 32 := BitVec.ofNat 32 (i 0).val
  let c2_i32 : BitVec 32 := 2#32
  let c5_i32 : BitVec 32 := 5#32
  let c0_i32 : BitVec 32 := 0#32
  let c0_i32_0 : BitVec 32 := 0#32
  let c0_i32_1 : BitVec 32 := 0#32
  ![c2_i32.toNat, c5_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InLnRefIdeal.lean ====
abbrev S8192x1792 : Shape := ⟨2, ![8192, 1792]⟩
abbrev S1792x1024 : Shape := ⟨2, ![1792, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S1024x1792 : Shape := ⟨2, ![1024, 1792]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1x1x1024 : Shape := ⟨4, ![1, 1, 1, 1024]⟩
abbrev S1024 : Shape := ⟨1, ![1024]⟩
abbrev S4x1024 : Shape := ⟨2, ![4, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S4x6x1x1024, .f32⟩
  | .hbm, ⟨4, _⟩ => ⟨S8192x1024, .f32⟩
  | .hbm, ⟨5, _⟩ => ⟨S8192x1024, .bf16⟩
  | .hbm, ⟨6, _⟩ => ⟨S4x1x1024, .f32⟩
  | .hbm, ⟨7, _⟩ => ⟨S4x1x1024, .f32⟩
  | .hbm, ⟨8, _⟩ => ⟨S1024x1792, .bf16⟩
  | .hbm, ⟨9, _⟩ => ⟨S1024x1792, .f32⟩
  | .hbm, ⟨10, _⟩ => ⟨S8192x1792, .f32⟩
  | .hbm, ⟨11, _⟩ => ⟨S8192x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1x1x1x1024, .f32⟩
  | .hbm, ⟨44, _⟩ => ⟨S1x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1x1x1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S_, .f32⟩
  | .hbm, ⟨76, _⟩ => ⟨S4x1024, .f32⟩
  | .hbm, ⟨77, _⟩ => ⟨S8x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Mlp.lean ====
abbrev S8192x1024 : Shape := ⟨2, ![8192, 1024]⟩
abbrev S2816x1024 : Shape := ⟨2, ![2816, 1024]⟩
abbrev S8192x2816 : Shape := ⟨2, ![8192, 2816]⟩
abbrev S4x6x1x1024 : Shape := ⟨4, ![4, 6, 1, 1024]⟩
abbrev S4x1x1024 : Shape := ⟨3, ![4, 1, 1024]⟩
abbrev S8x1024 : Shape := ⟨2, ![8, 1024]⟩
abbrev S256x1024 : Shape := ⟨2, ![256, 1024]⟩
abbrev S256x2816 : Shape := ⟨2, ![256, 2816]⟩
abbrev S1x1x1x1024 : Shape := ⟨4, ![1, 1, 1, 1024]⟩
abbrev S1x1x1024 : Shape := ⟨3, ![1, 1, 1024]⟩
abbrev S1408x1024 : Shape := ⟨2, ![1408, 1024]⟩
abbrev S256x1408 : Shape := ⟨2, ![256, 1408]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S2816x1024, .bf16⟩
  | .hbm, ⟨6, _⟩ => ⟨S8192x1024, .f32⟩
  | .hbm, ⟨7, _⟩ => ⟨S4x6x1x1024, .f32⟩
  | .hbm, ⟨8, _⟩ => ⟨S8192x1024, .f32⟩
  | .hbm, ⟨9, _⟩ => ⟨S8192x1024, .bf16⟩
  | .hbm, ⟨10, _⟩ => ⟨S4x1x1024, .f32⟩
  | .hbm, ⟨11, _⟩ => ⟨S4x1x1024, .f32⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x1024, .bf16⟩
  | .hbm, ⟨16, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1x1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1x1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpRefIdeal.lean ====
abbrev S8192x1024 : Shape := ⟨2, ![8192, 1024]⟩
abbrev S2816x1024 : Shape := ⟨2, ![2816, 1024]⟩
abbrev S8192x2816 : Shape := ⟨2, ![8192, 2816]⟩
abbrev S4x6x1x1024 : Shape := ⟨4, ![4, 6, 1, 1024]⟩
abbrev S4x1x1024 : Shape := ⟨3, ![4, 1, 1024]⟩
abbrev S_ : Shape := ⟨0, ![]⟩
abbrev S1024x2816 : Shape := ⟨2, ![1024, 2816]⟩
abbrev S1x1x1024 : Shape := ⟨3, ![1, 1, 1024]⟩
abbrev S1x1024 : Shape := ⟨2, ![1, 1024]⟩
abbrev S8192 : Shape := ⟨1, ![8192]⟩
abbrev S8192x1 : Shape := ⟨2, ![8192, 1]⟩
abbrev S1x1x1x1024 : Shape := ⟨4, ![1, 1, 1, 1024]⟩
abbrev S1024 : Shape := ⟨1, ![1024]⟩
abbrev S4x1024 : Shape := ⟨2, ![4, 1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S2816x1024, .bf16⟩
  | .hbm, ⟨6, _⟩ => ⟨S8192x1024, .f32⟩
  | .hbm, ⟨7, _⟩ => ⟨S4x6x1x1024, .f32⟩
  | .hbm, ⟨8, _⟩ => ⟨S8192x1024, .f32⟩
  | .hbm, ⟨9, _⟩ => ⟨S8192x1024, .bf16⟩
  | .hbm, ⟨10, _⟩ => ⟨S4x1x1024, .f32⟩
  | .hbm, ⟨11, _⟩ => ⟨S4x1x1024, .f32⟩
  | .hbm, ⟨12, _⟩ => ⟨S8192x2816, .f32⟩
  | .hbm, ⟨13, _⟩ => ⟨S2816x1024, .f32⟩
  | .hbm, ⟨14, _⟩ => ⟨S8192x1024, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .bf16⟩
  | .hbm, ⟨39, _⟩ => ⟨S8192x2816, .bf16⟩
  | .hbm, ⟨40, _⟩ => ⟨S1024x2816, .bf16⟩
  | .hbm, ⟨41, _⟩ => ⟨S1024x2816, .f32⟩
  | .hbm, ⟨42, _⟩ => ⟨S1024x2816, .bf16⟩
  | .hbm, ⟨43, _⟩ => ⟨S1024x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1x1024, .f32⟩
  | .hbm, ⟨50, _⟩ => ⟨S1x1024, .f32⟩
  | .hbm, ⟨51, _⟩ => ⟨S1x1x1024, .f32⟩
  | .hbm, ⟨52, _⟩ => ⟨S1x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x1x1x1024, .f32⟩
  | .hbm, ⟨81, _⟩ => ⟨S1x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S1x1x1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S8192x1024, .f32⟩
  | .hbm, ⟨107, _⟩ => ⟨S_, .f32⟩
  | .hbm, ⟨108, _⟩ => ⟨S1024, .f32⟩
  | .hbm, ⟨109, _⟩ => ⟨S1x1024, .f32⟩
  | .hbm, ⟨110, _⟩ => ⟨S_, .f32⟩
  | .hbm, ⟨111, _⟩ => ⟨S1x1024, .f32⟩
  | .hbm, ⟨112, _⟩ => ⟨S_, .f32⟩
  | .hbm, ⟨113, _⟩ => ⟨S4x1024, .f32⟩
  | .hbm, ⟨114, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_v6_2 : Ref sig .tc := ⟨.hbm, 25, rfl⟩
abbrev main_call0_cst_1 : Ref sig .tc := ⟨.hbm, 26, rfl⟩
abbrev main_call0_v6 : Ref sig .tc := ⟨.hbm, 27, rfl⟩
abbrev main_call0_v7 : Ref sig .tc := ⟨.hbm, 28, rfl⟩
abbrev main_v6_1 : Ref sig .tc := ⟨.hbm, 29, rfl⟩
abbrev main_v6_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst : Ref sig .tc := ⟨.hbm, 53, rfl⟩
abbrev main_v26 : Ref sig .tc := ⟨.hbm, 54, rfl⟩
abbrev main_v27 : Ref sig .tc := ⟨.hbm, 55, rfl⟩
abbrev main_cst_0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_1 : Ref sig .tc := ⟨.hbm, 62, rfl⟩
abbrev main_v33 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_6 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_7 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_8 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_9 : Ref sig .tc := ⟨.hbm, 107, rfl⟩
abbrev main_v70 : Ref sig .tc := ⟨.hbm, 108, rfl⟩
abbrev main_v71 : Ref sig .tc := ⟨.hbm, 109, rfl⟩
abbrev main_cst_10 : Ref sig .tc := ⟨.hbm, 110, rfl⟩
abbrev main_v72 : Ref sig .tc := ⟨.hbm, 111, rfl⟩
abbrev main_cst_11 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]
-- ==== Loss.lean ====
abbrev S8192x1024 : Shape := ⟨2, ![8192, 1024]⟩
abbrev S4x1x1024 : Shape := ⟨3, ![4, 1, 1024]⟩
abbrev S4x6x1x1024 : Shape := ⟨4, ![4, 6, 1, 1024]⟩
abbrev S8x1024 : Shape := ⟨2, ![8, 1024]⟩
abbrev S512x1024 : Shape := ⟨2, ![512, 1024]⟩
abbrev S1x1x1024 : Shape := ⟨3, ![1, 1, 1024]⟩
abbrev S1x1x1x1024 : Shape := ⟨4, ![1, 1, 1, 1024]⟩
abbrev S512 : Shape := ⟨1, ![512]⟩
abbrev S512x1 : Shape := ⟨2, ![512, 1]⟩
abbrev S1x1024 : Shape := ⟨2, ![1, 1024]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S4x1x1024, .f32⟩
  | .hbm, ⟨5, _⟩ => ⟨S4x6x1x1024, .f32⟩
  | .hbm, ⟨6, _⟩ => ⟨S8192x1024, .f32⟩
  | .hbm, ⟨7, _⟩ => ⟨S8192x1024, .bf16⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, c5_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S4x1x1024 : Shape := ⟨3, ![4, 1, 1024]⟩
abbrev S4x6x1x1024 : Shape := ⟨4, ![4, 6, 1, 1024]⟩
abbrev S_ : Shape := ⟨0, ![]⟩
abbrev S8192 : Shape := ⟨1, ![8192]⟩
abbrev S1x1x1024 : Shape := ⟨3, ![1, 1, 1024]⟩
abbrev S1x1024 : Shape := ⟨2, ![1, 1024]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S4x1x1024, .f32⟩
  | .hbm, ⟨5, _⟩ => ⟨S4x6x1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S1x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S_, .f32⟩
  | .hbm, ⟨71, _⟩ => ⟨S_, .f32⟩
  | .hbm, ⟨72, _⟩ => ⟨S1x1024, .f32⟩
  | .hbm, ⟨73, _⟩ => ⟨S_, .f32⟩
  | .hbm, ⟨74, _⟩ => ⟨S4x1024, .f32⟩
  | .hbm, ⟨75, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_cst_4 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwGate.lean ====
abbrev S8192x2816 : Shape := ⟨2, ![8192, 2816]⟩
abbrev S8192x1024 : Shape := ⟨2, ![8192, 1024]⟩
abbrev S4x6x1x1024 : Shape := ⟨4, ![4, 6, 1, 1024]⟩
abbrev S2816x1024 : Shape := ⟨2, ![2816, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x6x1x1024, .f32⟩
  | .hbm, ⟨3, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S2816x1024, .bf16⟩
  | .local _ .vmem, ⟨7, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwGateRefIdeal.lean ====
abbrev S8192x2816 : Shape := ⟨2, ![8192, 2816]⟩
abbrev S8192x1024 : Shape := ⟨2, ![8192, 1024]⟩
abbrev S4x6x1x1024 : Shape := ⟨4, ![4, 6, 1, 1024]⟩
abbrev S_ : Shape := ⟨0, ![]⟩
abbrev S1024x2816 : Shape := ⟨2, ![1024, 2816]⟩
abbrev S1x1x1x1024 : Shape := ⟨4, ![1, 1, 1, 1024]⟩
abbrev S1x1024 : Shape := ⟨2, ![1, 1024]⟩
abbrev S2816x1024 : Shape := ⟨2, ![2816, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x6x1x1024, .f32⟩
  | .hbm, ⟨3, _⟩ => ⟨S_, .f32⟩
  | .hbm, ⟨4, _⟩ => ⟨S1024x2816, .f32⟩
  | .hbm, ⟨5, _⟩ => ⟨S1x1x1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== DwO.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwORefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S8192x1792 : Shape := ⟨2, ![8192, 1792]⟩
abbrev S8192x1024 : Shape := ⟨2, ![8192, 1024]⟩
abbrev S4x6x1x1024 : Shape := ⟨4, ![4, 6, 1, 1024]⟩
abbrev S1792x1024 : Shape := ⟨2, ![1792, 1024]⟩
abbrev S512x1792 : Shape := ⟨2, ![512, 1792]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .f32⟩
  | .hbm, ⟨2, _⟩ => ⟨S4x6x1x1024, .f32⟩
  | .hbm, ⟨3, _⟩ => ⟨S1792x1024, .bf16⟩
  | .local _ .vmem, ⟨0, _⟩ => ⟨S512x1792, .bf16⟩
  | .local _ .vmem, ⟨1, _⟩ => ⟨S512x1792, .bf16⟩
  | .local _ .vmem, ⟨2, _⟩ => ⟨S512x1024, .f32⟩
  | .local _ .vmem, ⟨3, _⟩ => ⟨S512x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1792x1024, .bf16⟩
  | .local _ .vmem, ⟨7, _⟩ => ⟨S1792x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwInRefIdeal.lean ====
abbrev S8192x1792 : Shape := ⟨2, ![8192, 1792]⟩
abbrev S8192x1024 : Shape := ⟨2, ![8192, 1024]⟩
abbrev S4x6x1x1024 : Shape := ⟨4, ![4, 6, 1, 1024]⟩
abbrev S_ : Shape := ⟨0, ![]⟩
abbrev S1024x1792 : Shape := ⟨2, ![1024, 1792]⟩
abbrev S1x1x1x1024 : Shape := ⟨4, ![1, 1, 1, 1024]⟩
abbrev S1x1024 : Shape := ⟨2, ![1, 1024]⟩
abbrev S1792x1024 : Shape := ⟨2, ![1792, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .f32⟩
  | .hbm, ⟨2, _⟩ => ⟨S4x6x1x1024, .f32⟩
  | .hbm, ⟨3, _⟩ => ⟨S_, .f32⟩
  | .hbm, ⟨4, _⟩ => ⟨S1024x1792, .f32⟩
  | .hbm, ⟨5, _⟩ => ⟨S1x1x1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1792, .f32⟩
  | .hbm, ⟨17, _⟩ => ⟨S8192x1792, .f32⟩
  | .hbm, ⟨18, _⟩ => ⟨S1792x1024, .f32⟩
  | .hbm, ⟨19, _⟩ => ⟨S1024x1792, .f32⟩
  | .hbm, ⟨20, _⟩ => ⟨S1792x1024, .f32⟩
  | .hbm, ⟨21, _⟩ => ⟨S1792x1024, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== AdamVec.lean ====
abbrev S8x4x256 : Shape := ⟨3, ![8, 4, 256]⟩
abbrev S4x256 : Shape := ⟨2, ![4, 256]⟩
abbrev S1x4x256 : Shape := ⟨3, ![1, 4, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S8x4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecIdeal.lean ====
abbrev S8x4x256 : Shape := ⟨3, ![8, 4, 256]⟩
abbrev S4x256 : Shape := ⟨2, ![4, 256]⟩
abbrev S1x4x256 : Shape := ⟨3, ![1, 4, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S8x4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecRefIdeal.lean ====
abbrev S8x4x256 : Shape := ⟨3, ![8, 4, 256]⟩
abbrev S4x256 : Shape := ⟨2, ![4, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S_, .f32⟩
  | .hbm, ⟨7, _⟩ => ⟨S4x256, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S4x256, .f32⟩
  | .hbm, ⟨13, _⟩ => ⟨S_, .f32⟩
  | .hbm, ⟨14, _⟩ => ⟨S4x256, .f32⟩
  | .hbm, ⟨15, _⟩ => ⟨S4x256, .f32⟩
  | .hbm, ⟨16, _⟩ => ⟨S4x256, .f32⟩
  | .hbm, ⟨17, _⟩ => ⟨S_, .f32⟩
  | .hbm, ⟨18, _⟩ => ⟨S4x256, .f32⟩
  | .hbm, ⟨19, _⟩ => ⟨S4x256, .f32⟩
  | .hbm, ⟨20, _⟩ => ⟨S4x256, .f32⟩
  | .hbm, ⟨21, _⟩ => ⟨S_, .f32⟩
  | .hbm, ⟨22, _⟩ => ⟨S4x256, .f32⟩
  | .hbm, ⟨23, _⟩ => ⟨S4x256, .f32⟩
  | .hbm, ⟨24, _⟩ => ⟨S_, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S_, .f32⟩
  | .hbm, ⟨29, _⟩ => ⟨S4x256, .f32⟩
  | .hbm, ⟨30, _⟩ => ⟨S4x256, .f32⟩
  | .hbm, ⟨31, _⟩ => ⟨S4x256, .f32⟩
  | .hbm, ⟨32, _⟩ => ⟨S_, .f32⟩
  | .hbm, ⟨33, _⟩ => ⟨S4x256, .f32⟩
  | .hbm, ⟨34, _⟩ => ⟨S4x256, .f32⟩
  | .hbm, ⟨35, _⟩ => ⟨S4x256, .f32⟩
  | .hbm, ⟨36, _⟩ => ⟨S_, .f32⟩
  | .hbm, ⟨37, _⟩ => ⟨S4x256, .f32⟩
  | .hbm, ⟨38, _⟩ => ⟨S4x256, .f32⟩
  | _, _ => ⟨S8x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamBAda.lean ====
abbrev S8x4x6144 : Shape := ⟨3, ![8, 4, 6144]⟩
abbrev S4x6144 : Shape := ⟨2, ![4, 6144]⟩
abbrev S1x4x6144 : Shape := ⟨3, ![1, 4, 6144]⟩

abbrev nBuf : Space → Nat
  | .hbm => 8
  | .vmem => 8
  | .smem => 0
  | _ => 0

abbrev bufTy : (tb : Table) → Fin (tcTables nBuf tb) → BufTy
  | .hbm, ⟨0, _⟩ => ⟨S8x4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .hbm, ⟨7, _⟩ => ⟨S4x6144, .f32⟩
  | .local _ .vmem, ⟨0, _⟩ => ⟨S8x4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | .local _ .vmem, ⟨7, _⟩ => ⟨S4x6144, .f32⟩
  | _, _ => ⟨S8x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBAdaIdeal.lean ====
abbrev S8x4x6144 : Shape := ⟨3, ![8, 4, 6144]⟩
abbrev S4x6144 : Shape := ⟨2, ![4, 6144]⟩
abbrev S1x4x6144 : Shape := ⟨3, ![1, 4, 6144]⟩

abbrev nBuf : Space → Nat
  | .hbm => 8
  | .vmem => 8
  | .smem => 0
  | _ => 0

abbrev bufTy : (tb : Table) → Fin (tcTables nBuf tb) → BufTy
  | .hbm, ⟨0, _⟩ => ⟨S8x4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .hbm, ⟨7, _⟩ => ⟨S4x6144, .f32⟩
  | .local _ .vmem, ⟨0, _⟩ => ⟨S8x4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | .local _ .vmem, ⟨7, _⟩ => ⟨S4x6144, .f32⟩
  | _, _ => ⟨S8x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBAdaRefIdeal.lean ====
abbrev S8x4x6144 : Shape := ⟨3, ![8, 4, 6144]⟩
abbrev S4x6144 : Shape := ⟨2, ![4, 6144]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S_, .f32⟩
  | .hbm, ⟨7, _⟩ => ⟨S4x6144, .f32⟩
  | .hbm, ⟨8, _⟩ => ⟨S4x6144, .f32⟩
  | .hbm, ⟨9, _⟩ => ⟨S_, .f32⟩
  | .hbm, ⟨10, _⟩ => ⟨S4x6144, .f32⟩
  | .hbm, ⟨11, _⟩ => ⟨S4x6144, .f32⟩
  | .hbm, ⟨12, _⟩ => ⟨S4x6144, .f32⟩
  | .hbm, ⟨13, _⟩ => ⟨S_, .f32⟩
  | .hbm, ⟨14, _⟩ => ⟨S4x6144, .f32⟩
  | .hbm, ⟨15, _⟩ => ⟨S4x6144, .f32⟩
  | .hbm, ⟨16, _⟩ => ⟨S4x6144, .f32⟩
  | .hbm, ⟨17, _⟩ => ⟨S_, .f32⟩
  | .hbm, ⟨18, _⟩ => ⟨S4x6144, .f32⟩
  | .hbm, ⟨19, _⟩ => ⟨S4x6144, .f32⟩
  | .hbm, ⟨20, _⟩ => ⟨S4x6144, .f32⟩
  | .hbm, ⟨21, _⟩ => ⟨S_, .f32⟩
  | .hbm, ⟨22, _⟩ => ⟨S4x6144, .f32⟩
  | .hbm, ⟨23, _⟩ => ⟨S4x6144, .f32⟩
  | .hbm, ⟨24, _⟩ => ⟨S_, .f32⟩
  | .hbm, ⟨25, _⟩ => ⟨S4x6144, .f32⟩
  | .hbm, ⟨26, _⟩ => ⟨S4x6144, .f32⟩
  | .hbm, ⟨27, _⟩ => ⟨S4x6144, .f32⟩
  | .hbm, ⟨28, _⟩ => ⟨S_, .f32⟩
  | .hbm, ⟨29, _⟩ => ⟨S4x6144, .f32⟩
  | .hbm, ⟨30, _⟩ => ⟨S4x6144, .f32⟩
  | .hbm, ⟨31, _⟩ => ⟨S4x6144, .f32⟩
  | .hbm, ⟨32, _⟩ => ⟨S_, .f32⟩
  | .hbm, ⟨33, _⟩ => ⟨S4x6144, .f32⟩
  | .hbm, ⟨34, _⟩ => ⟨S4x6144, .f32⟩
  | .hbm, ⟨35, _⟩ => ⟨S4x6144, .f32⟩
  | .hbm, ⟨36, _⟩ => ⟨S_, .f32⟩
  | .hbm, ⟨37, _⟩ => ⟨S4x6144, .f32⟩
  | .hbm, ⟨38, _⟩ => ⟨S4x6144, .f32⟩
  | _, _ => ⟨S8x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamBIn.lean ====
abbrev S8x4x1792 : Shape := ⟨3, ![8, 4, 1792]⟩
abbrev S4x1792 : Shape := ⟨2, ![4, 1792]⟩
abbrev S1x4x1792 : Shape := ⟨3, ![1, 4, 1792]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1792, .f32⟩
  | .hbm, ⟨1, _⟩ => ⟨S4x1792, .f32⟩
  | .hbm, ⟨2, _⟩ => ⟨S4x1792, .f32⟩
  | .hbm, ⟨3, _⟩ => ⟨S4x1792, .f32⟩
  | .hbm, ⟨4, _⟩ => ⟨S4x1792, .f32⟩
  | .hbm, ⟨5, _⟩ => ⟨S4x1792, .f32⟩
  | .hbm, ⟨6, _⟩ => ⟨S4x1792, .f32⟩
  | .hbm, ⟨7, _⟩ => ⟨S4x1792, .f32⟩
  | .local _ .vmem, ⟨0, _⟩ => ⟨S8x4x1792, .f32⟩
  | .local _ .vmem, ⟨1, _⟩ => ⟨S4x1792, .f32⟩
  | .local _ .vmem, ⟨2, _⟩ => ⟨S4x1792, .f32⟩
  | .local _ .vmem, ⟨3, _⟩ => ⟨S4x1792, .f32⟩
  | .local _ .vmem, ⟨4, _⟩ => ⟨S4x1792, .f32⟩
  | .local _ .vmem, ⟨5, _⟩ => ⟨S4x1792, .f32⟩
  | .local _ .vmem, ⟨6, _⟩ => ⟨S4x1792, .f32⟩
  | .local _ .vmem, ⟨7, _⟩ => ⟨S4x1792, .f32⟩
  | _, _ => ⟨S8x4x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBInIdeal.lean ====
abbrev S8x4x1792 : Shape := ⟨3, ![8, 4, 1792]⟩
abbrev S4x1792 : Shape := ⟨2, ![4, 1792]⟩
abbrev S1x4x1792 : Shape := ⟨3, ![1, 4, 1792]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1792, .f32⟩
  | .hbm, ⟨1, _⟩ => ⟨S4x1792, .f32⟩
  | .hbm, ⟨2, _⟩ => ⟨S4x1792, .f32⟩
  | .hbm, ⟨3, _⟩ => ⟨S4x1792, .f32⟩
  | .hbm, ⟨4, _⟩ => ⟨S4x1792, .f32⟩
  | .hbm, ⟨5, _⟩ => ⟨S4x1792, .f32⟩
  | .hbm, ⟨6, _⟩ => ⟨S4x1792, .f32⟩
  | .hbm, ⟨7, _⟩ => ⟨S4x1792, .f32⟩
  | .local _ .vmem, ⟨0, _⟩ => ⟨S8x4x1792, .f32⟩
  | .local _ .vmem, ⟨1, _⟩ => ⟨S4x1792, .f32⟩
  | .local _ .vmem, ⟨2, _⟩ => ⟨S4x1792, .f32⟩
  | .local _ .vmem, ⟨3, _⟩ => ⟨S4x1792, .f32⟩
  | .local _ .vmem, ⟨4, _⟩ => ⟨S4x1792, .f32⟩
  | .local _ .vmem, ⟨5, _⟩ => ⟨S4x1792, .f32⟩
  | .local _ .vmem, ⟨6, _⟩ => ⟨S4x1792, .f32⟩
  | .local _ .vmem, ⟨7, _⟩ => ⟨S4x1792, .f32⟩
  | _, _ => ⟨S8x4x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBInRefIdeal.lean ====
abbrev S8x4x1792 : Shape := ⟨3, ![8, 4, 1792]⟩
abbrev S4x1792 : Shape := ⟨2, ![4, 1792]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x1792, .f32⟩
  | .hbm, ⟨1, _⟩ => ⟨S4x1792, .f32⟩
  | .hbm, ⟨2, _⟩ => ⟨S4x1792, .f32⟩
  | .hbm, ⟨3, _⟩ => ⟨S4x1792, .f32⟩
  | .hbm, ⟨4, _⟩ => ⟨S_, .f32⟩
  | .hbm, ⟨5, _⟩ => ⟨S4x1792, .f32⟩
  | .hbm, ⟨6, _⟩ => ⟨S_, .f32⟩
  | .hbm, ⟨7, _⟩ => ⟨S4x1792, .f32⟩
  | .hbm, ⟨8, _⟩ => ⟨S4x1792, .f32⟩
  | .hbm, ⟨9, _⟩ => ⟨S_, .f32⟩
  | .hbm, ⟨10, _⟩ => ⟨S4x1792, .f32⟩
  | .hbm, ⟨11, _⟩ => ⟨S4x1792, .f32⟩
  | .hbm, ⟨12, _⟩ => ⟨S4x1792, .f32⟩
  | .hbm, ⟨13, _⟩ => ⟨S_, .f32⟩
  | .hbm, ⟨14, _⟩ => ⟨S4x1792, .f32⟩
  | .hbm, ⟨15, _⟩ => ⟨S4x1792, .f32⟩
  | .hbm, ⟨16, _⟩ => ⟨S4x1792, .f32⟩
  | .hbm, ⟨17, _⟩ => ⟨S_, .f32⟩
  | .hbm, ⟨18, _⟩ => ⟨S4x1792, .f32⟩
  | .hbm, ⟨19, _⟩ => ⟨S4x1792, .f32⟩
  | .hbm, ⟨20, _⟩ => ⟨S4x1792, .f32⟩
  | .hbm, ⟨21, _⟩ => ⟨S_, .f32⟩
  | .hbm, ⟨22, _⟩ => ⟨S4x1792, .f32⟩
  | .hbm, ⟨23, _⟩ => ⟨S4x1792, .f32⟩
  | .hbm, ⟨24, _⟩ => ⟨S_, .f32⟩
  | .hbm, ⟨25, _⟩ => ⟨S4x1792, .f32⟩
  | .hbm, ⟨26, _⟩ => ⟨S4x1792, .f32⟩
  | .hbm, ⟨27, _⟩ => ⟨S4x1792, .f32⟩
  | .hbm, ⟨28, _⟩ => ⟨S_, .f32⟩
  | .hbm, ⟨29, _⟩ => ⟨S4x1792, .f32⟩
  | .hbm, ⟨30, _⟩ => ⟨S4x1792, .f32⟩
  | .hbm, ⟨31, _⟩ => ⟨S4x1792, .f32⟩
  | .hbm, ⟨32, _⟩ => ⟨S_, .f32⟩
  | .hbm, ⟨33, _⟩ => ⟨S4x1792, .f32⟩
  | .hbm, ⟨34, _⟩ => ⟨S4x1792, .f32⟩
  | .hbm, ⟨35, _⟩ => ⟨S4x1792, .f32⟩
  | .hbm, ⟨36, _⟩ => ⟨S_, .f32⟩
  | .hbm, ⟨37, _⟩ => ⟨S4x1792, .f32⟩
  | .hbm, ⟨38, _⟩ => ⟨S4x1792, .f32⟩
  | _, _ => ⟨S8x4x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPool.lean ====
abbrev S8x1024x64 : Shape := ⟨3, ![8, 1024, 64]⟩
abbrev S1024x64 : Shape := ⟨2, ![1024, 64]⟩
abbrev S8x512x64 : Shape := ⟨3, ![8, 512, 64]⟩
abbrev S512x64 : Shape := ⟨2, ![512, 64]⟩
abbrev S1x512x64 : Shape := ⟨3, ![1, 512, 64]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .local _ .vmem, ⟨0, _⟩ => ⟨S8x512x64, .f32⟩
  | .local _ .vmem, ⟨1, _⟩ => ⟨S8x512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPoolIdeal.lean ====
abbrev S8x1024x64 : Shape := ⟨3, ![8, 1024, 64]⟩
abbrev S1024x64 : Shape := ⟨2, ![1024, 64]⟩
abbrev S8x512x64 : Shape := ⟨3, ![8, 512, 64]⟩
abbrev S512x64 : Shape := ⟨2, ![512, 64]⟩
abbrev S1x512x64 : Shape := ⟨3, ![1, 512, 64]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .local _ .vmem, ⟨0, _⟩ => ⟨S8x512x64, .f32⟩
  | .local _ .vmem, ⟨1, _⟩ => ⟨S8x512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPoolRefIdeal.lean ====
abbrev S8x1024x64 : Shape := ⟨3, ![8, 1024, 64]⟩
abbrev S1024x64 : Shape := ⟨2, ![1024, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S_, .f32⟩
  | .hbm, ⟨7, _⟩ => ⟨S1024x64, .f32⟩
  | .hbm, ⟨8, _⟩ => ⟨S1024x64, .f32⟩
  | .hbm, ⟨9, _⟩ => ⟨S_, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S_, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S_, .f32⟩
  | .hbm, ⟨37, _⟩ => ⟨S1024x64, .f32⟩
  | .hbm, ⟨38, _⟩ => ⟨S1024x64, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamLam.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S8x64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLamIdeal.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S8x64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLamRefIdeal.lean ====
abbrev S8x64x64 : Shape := ⟨3, ![8, 64, 64]⟩
abbrev S64x64 : Shape := ⟨2, ![64, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDt.lean ====
abbrev S8x4x16 : Shape := ⟨3, ![8, 4, 16]⟩
abbrev S4x16 : Shape := ⟨2, ![4, 16]⟩
abbrev S1x4x16 : Shape := ⟨3, ![1, 4, 16]⟩

abbrev nBuf : Space → Nat
  | .hbm => 8
  | .vmem => 8
  | .smem => 0
  | _ => 0

abbrev bufTy : (tb : Table) → Fin (tcTables nBuf tb) → BufTy
  | .hbm, ⟨0, _⟩ => ⟨S8x4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .hbm, ⟨7, _⟩ => ⟨S4x16, .f32⟩
  | .local _ .vmem, ⟨0, _⟩ => ⟨S8x4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | .local _ .vmem, ⟨7, _⟩ => ⟨S4x16, .f32⟩
  | _, _ => ⟨S8x4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamDtIdeal.lean ====
abbrev S8x4x16 : Shape := ⟨3, ![8, 4, 16]⟩
abbrev S4x16 : Shape := ⟨2, ![4, 16]⟩
abbrev S1x4x16 : Shape := ⟨3, ![1, 4, 16]⟩

abbrev nBuf : Space → Nat
  | .hbm => 8
  | .vmem => 8
  | .smem => 0
  | _ => 0

abbrev bufTy : (tb : Table) → Fin (tcTables nBuf tb) → BufTy
  | .hbm, ⟨0, _⟩ => ⟨S8x4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .hbm, ⟨7, _⟩ => ⟨S4x16, .f32⟩
  | .local _ .vmem, ⟨0, _⟩ => ⟨S8x4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | .local _ .vmem, ⟨7, _⟩ => ⟨S4x16, .f32⟩
  | _, _ => ⟨S8x4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamDtRefIdeal.lean ====
abbrev S8x4x16 : Shape := ⟨3, ![8, 4, 16]⟩
abbrev S4x16 : Shape := ⟨2, ![4, 16]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S_, .f32⟩
  | .hbm, ⟨7, _⟩ => ⟨S4x16, .f32⟩
  | .hbm, ⟨8, _⟩ => ⟨S4x16, .f32⟩
  | .hbm, ⟨9, _⟩ => ⟨S_, .f32⟩
  | .hbm, ⟨10, _⟩ => ⟨S4x16, .f32⟩
  | .hbm, ⟨11, _⟩ => ⟨S4x16, .f32⟩
  | .hbm, ⟨12, _⟩ => ⟨S4x16, .f32⟩
  | .hbm, ⟨13, _⟩ => ⟨S_, .f32⟩
  | .hbm, ⟨14, _⟩ => ⟨S4x16, .f32⟩
  | .hbm, ⟨15, _⟩ => ⟨S4x16, .f32⟩
  | .hbm, ⟨16, _⟩ => ⟨S4x16, .f32⟩
  | .hbm, ⟨17, _⟩ => ⟨S_, .f32⟩
  | .hbm, ⟨18, _⟩ => ⟨S4x16, .f32⟩
  | .hbm, ⟨19, _⟩ => ⟨S4x16, .f32⟩
  | .hbm, ⟨20, _⟩ => ⟨S4x16, .f32⟩
  | .hbm, ⟨21, _⟩ => ⟨S_, .f32⟩
  | .hbm, ⟨22, _⟩ => ⟨S4x16, .f32⟩
  | .hbm, ⟨23, _⟩ => ⟨S4x16, .f32⟩
  | .hbm, ⟨24, _⟩ => ⟨S_, .f32⟩
  | .hbm, ⟨25, _⟩ => ⟨S4x16, .f32⟩
  | .hbm, ⟨26, _⟩ => ⟨S4x16, .f32⟩
  | .hbm, ⟨27, _⟩ => ⟨S4x16, .f32⟩
  | .hbm, ⟨28, _⟩ => ⟨S_, .f32⟩
  | .hbm, ⟨29, _⟩ => ⟨S4x16, .f32⟩
  | .hbm, ⟨30, _⟩ => ⟨S4x16, .f32⟩
  | .hbm, ⟨31, _⟩ => ⟨S4x16, .f32⟩
  | .hbm, ⟨32, _⟩ => ⟨S_, .f32⟩
  | .hbm, ⟨33, _⟩ => ⟨S4x16, .f32⟩
  | .hbm, ⟨34, _⟩ => ⟨S4x16, .f32⟩
  | .hbm, ⟨35, _⟩ => ⟨S4x16, .f32⟩
  | .hbm, ⟨36, _⟩ => ⟨S_, .f32⟩
  | .hbm, ⟨37, _⟩ => ⟨S4x16, .f32⟩
  | .hbm, ⟨38, _⟩ => ⟨S4x16, .f32⟩
  | _, _ => ⟨S8x4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamB.lean ====
abbrev S8x4096x16 : Shape := ⟨3, ![8, 4096, 16]⟩
abbrev S4096x16 : Shape := ⟨2, ![4096, 16]⟩
abbrev S8x512x16 : Shape := ⟨3, ![8, 512, 16]⟩
abbrev S512x16 : Shape := ⟨2, ![512, 16]⟩
abbrev S1x512x16 : Shape := ⟨3, ![1, 512, 16]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .local _ .vmem, ⟨0, _⟩ => ⟨S8x512x16, .f32⟩
  | .local _ .vmem, ⟨1, _⟩ => ⟨S8x512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S512x16, .f32⟩
  | .local _ .vmem, ⟨15, _⟩ => ⟨S512x16, .f32⟩
  | _, _ => ⟨S8x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBIdeal.lean ====
abbrev S8x4096x16 : Shape := ⟨3, ![8, 4096, 16]⟩
abbrev S4096x16 : Shape := ⟨2, ![4096, 16]⟩
abbrev S8x512x16 : Shape := ⟨3, ![8, 512, 16]⟩
abbrev S512x16 : Shape := ⟨2, ![512, 16]⟩
abbrev S1x512x16 : Shape := ⟨3, ![1, 512, 16]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .local _ .vmem, ⟨0, _⟩ => ⟨S8x512x16, .f32⟩
  | .local _ .vmem, ⟨1, _⟩ => ⟨S8x512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S512x16, .f32⟩
  | .local _ .vmem, ⟨15, _⟩ => ⟨S512x16, .f32⟩
  | _, _ => ⟨S8x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBRefIdeal.lean ====
abbrev S8x4096x16 : Shape := ⟨3, ![8, 4096, 16]⟩
abbrev S4096x16 : Shape := ⟨2, ![4096, 16]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x16, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S_, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S_, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S_, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S_, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S4096x16, .f32⟩
  | .hbm, ⟨38, _⟩ => ⟨S4096x16, .f32⟩
  | _, _ => ⟨S8x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamLn.lean ====
abbrev S8x4x1024 : Shape := ⟨3, ![8, 4, 1024]⟩
abbrev S4x1024 : Shape := ⟨2, ![4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S8x4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLnIdeal.lean ====
abbrev S8x4x1024 : Shape := ⟨3, ![8, 4, 1024]⟩
abbrev S4x1024 : Shape := ⟨2, ![4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S8x4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLnRefIdeal.lean ====
abbrev S8x4x1024 : Shape := ⟨3, ![8, 4, 1024]⟩
abbrev S4x1024 : Shape := ⟨2, ![4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSc.lean ====
abbrev S8x12x32 : Shape := ⟨3, ![8, 12, 32]⟩
abbrev S12x32 : Shape := ⟨2, ![12, 32]⟩
abbrev S1x12x32 : Shape := ⟨3, ![1, 12, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x12x32, .f32⟩
  | .hbm, ⟨1, _⟩ => ⟨S12x32, .f32⟩
  | .hbm, ⟨2, _⟩ => ⟨S12x32, .f32⟩
  | .hbm, ⟨3, _⟩ => ⟨S12x32, .f32⟩
  | .hbm, ⟨4, _⟩ => ⟨S12x32, .f32⟩
  | .hbm, ⟨5, _⟩ => ⟨S12x32, .f32⟩
  | .hbm, ⟨6, _⟩ => ⟨S12x32, .f32⟩
  | .hbm, ⟨7, _⟩ => ⟨S12x32, .f32⟩
  | .local _ .vmem, ⟨0, _⟩ => ⟨S8x12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | .local _ .vmem, ⟨7, _⟩ => ⟨S12x32, .f32⟩
  | _, _ => ⟨S8x12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScIdeal.lean ====
abbrev S8x12x32 : Shape := ⟨3, ![8, 12, 32]⟩
abbrev S12x32 : Shape := ⟨2, ![12, 32]⟩
abbrev S1x12x32 : Shape := ⟨3, ![1, 12, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x12x32, .f32⟩
  | .hbm, ⟨1, _⟩ => ⟨S12x32, .f32⟩
  | .hbm, ⟨2, _⟩ => ⟨S12x32, .f32⟩
  | .hbm, ⟨3, _⟩ => ⟨S12x32, .f32⟩
  | .hbm, ⟨4, _⟩ => ⟨S12x32, .f32⟩
  | .hbm, ⟨5, _⟩ => ⟨S12x32, .f32⟩
  | .hbm, ⟨6, _⟩ => ⟨S12x32, .f32⟩
  | .hbm, ⟨7, _⟩ => ⟨S12x32, .f32⟩
  | .local _ .vmem, ⟨0, _⟩ => ⟨S8x12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | .local _ .vmem, ⟨7, _⟩ => ⟨S12x32, .f32⟩
  | _, _ => ⟨S8x12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScRefIdeal.lean ====
abbrev S8x12x32 : Shape := ⟨3, ![8, 12, 32]⟩
abbrev S12x32 : Shape := ⟨2, ![12, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x12x32, .f32⟩
  | .hbm, ⟨1, _⟩ => ⟨S12x32, .f32⟩
  | .hbm, ⟨2, _⟩ => ⟨S12x32, .f32⟩
  | .hbm, ⟨3, _⟩ => ⟨S12x32, .f32⟩
  | .hbm, ⟨4, _⟩ => ⟨S_, .f32⟩
  | .hbm, ⟨5, _⟩ => ⟨S12x32, .f32⟩
  | .hbm, ⟨6, _⟩ => ⟨S_, .f32⟩
  | .hbm, ⟨7, _⟩ => ⟨S12x32, .f32⟩
  | .hbm, ⟨8, _⟩ => ⟨S12x32, .f32⟩
  | .hbm, ⟨9, _⟩ => ⟨S_, .f32⟩
  | .hbm, ⟨10, _⟩ => ⟨S12x32, .f32⟩
  | .hbm, ⟨11, _⟩ => ⟨S12x32, .f32⟩
  | .hbm, ⟨12, _⟩ => ⟨S12x32, .f32⟩
  | .hbm, ⟨13, _⟩ => ⟨S_, .f32⟩
  | .hbm, ⟨14, _⟩ => ⟨S12x32, .f32⟩
  | .hbm, ⟨15, _⟩ => ⟨S12x32, .f32⟩
  | .hbm, ⟨16, _⟩ => ⟨S12x32, .f32⟩
  | .hbm, ⟨17, _⟩ => ⟨S_, .f32⟩
  | .hbm, ⟨18, _⟩ => ⟨S12x32, .f32⟩
  | .hbm, ⟨19, _⟩ => ⟨S12x32, .f32⟩
  | .hbm, ⟨20, _⟩ => ⟨S12x32, .f32⟩
  | .hbm, ⟨21, _⟩ => ⟨S_, .f32⟩
  | .hbm, ⟨22, _⟩ => ⟨S12x32, .f32⟩
  | .hbm, ⟨23, _⟩ => ⟨S12x32, .f32⟩
  | .hbm, ⟨24, _⟩ => ⟨S_, .f32⟩
  | .hbm, ⟨25, _⟩ => ⟨S12x32, .f32⟩
  | .hbm, ⟨26, _⟩ => ⟨S12x32, .f32⟩
  | .hbm, ⟨27, _⟩ => ⟨S12x32, .f32⟩
  | .hbm, ⟨28, _⟩ => ⟨S_, .f32⟩
  | .hbm, ⟨29, _⟩ => ⟨S12x32, .f32⟩
  | .hbm, ⟨30, _⟩ => ⟨S12x32, .f32⟩
  | .hbm, ⟨31, _⟩ => ⟨S12x32, .f32⟩
  | .hbm, ⟨32, _⟩ => ⟨S_, .f32⟩
  | .hbm, ⟨33, _⟩ => ⟨S12x32, .f32⟩
  | .hbm, ⟨34, _⟩ => ⟨S12x32, .f32⟩
  | .hbm, ⟨35, _⟩ => ⟨S12x32, .f32⟩
  | .hbm, ⟨36, _⟩ => ⟨S_, .f32⟩
  | .hbm, ⟨37, _⟩ => ⟨S12x32, .f32⟩
  | .hbm, ⟨38, _⟩ => ⟨S12x32, .f32⟩
  | _, _ => ⟨S8x12x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamCf.lean ====
abbrev S8x124x32 : Shape := ⟨3, ![8, 124, 32]⟩
abbrev S124x32 : Shape := ⟨2, ![124, 32]⟩
abbrev S1x124x32 : Shape := ⟨3, ![1, 124, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x124x32, .f32⟩
  | .hbm, ⟨1, _⟩ => ⟨S124x32, .f32⟩
  | .hbm, ⟨2, _⟩ => ⟨S124x32, .f32⟩
  | .hbm, ⟨3, _⟩ => ⟨S124x32, .f32⟩
  | .hbm, ⟨4, _⟩ => ⟨S124x32, .f32⟩
  | .hbm, ⟨5, _⟩ => ⟨S124x32, .f32⟩
  | .hbm, ⟨6, _⟩ => ⟨S124x32, .f32⟩
  | .hbm, ⟨7, _⟩ => ⟨S124x32, .f32⟩
  | .local _ .vmem, ⟨0, _⟩ => ⟨S8x124x32, .f32⟩
  | .local _ .vmem, ⟨1, _⟩ => ⟨S124x32, .f32⟩
  | .local _ .vmem, ⟨2, _⟩ => ⟨S124x32, .f32⟩
  | .local _ .vmem, ⟨3, _⟩ => ⟨S124x32, .f32⟩
  | .local _ .vmem, ⟨4, _⟩ => ⟨S124x32, .f32⟩
  | .local _ .vmem, ⟨5, _⟩ => ⟨S124x32, .f32⟩
  | .local _ .vmem, ⟨6, _⟩ => ⟨S124x32, .f32⟩
  | .local _ .vmem, ⟨7, _⟩ => ⟨S124x32, .f32⟩
  | _, _ => ⟨S8x124x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x124x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S124x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamCfIdeal.lean ====
abbrev S8x124x32 : Shape := ⟨3, ![8, 124, 32]⟩
abbrev S124x32 : Shape := ⟨2, ![124, 32]⟩
abbrev S1x124x32 : Shape := ⟨3, ![1, 124, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x124x32, .f32⟩
  | .hbm, ⟨1, _⟩ => ⟨S124x32, .f32⟩
  | .hbm, ⟨2, _⟩ => ⟨S124x32, .f32⟩
  | .hbm, ⟨3, _⟩ => ⟨S124x32, .f32⟩
  | .hbm, ⟨4, _⟩ => ⟨S124x32, .f32⟩
  | .hbm, ⟨5, _⟩ => ⟨S124x32, .f32⟩
  | .hbm, ⟨6, _⟩ => ⟨S124x32, .f32⟩
  | .hbm, ⟨7, _⟩ => ⟨S124x32, .f32⟩
  | .local _ .vmem, ⟨0, _⟩ => ⟨S8x124x32, .f32⟩
  | .local _ .vmem, ⟨1, _⟩ => ⟨S124x32, .f32⟩
  | .local _ .vmem, ⟨2, _⟩ => ⟨S124x32, .f32⟩
  | .local _ .vmem, ⟨3, _⟩ => ⟨S124x32, .f32⟩
  | .local _ .vmem, ⟨4, _⟩ => ⟨S124x32, .f32⟩
  | .local _ .vmem, ⟨5, _⟩ => ⟨S124x32, .f32⟩
  | .local _ .vmem, ⟨6, _⟩ => ⟨S124x32, .f32⟩
  | .local _ .vmem, ⟨7, _⟩ => ⟨S124x32, .f32⟩
  | _, _ => ⟨S8x124x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x124x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S124x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamCfRefIdeal.lean ====
abbrev S8x124x32 : Shape := ⟨3, ![8, 124, 32]⟩
abbrev S124x32 : Shape := ⟨2, ![124, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x124x32, .f32⟩
  | .hbm, ⟨1, _⟩ => ⟨S124x32, .f32⟩
  | .hbm, ⟨2, _⟩ => ⟨S124x32, .f32⟩
  | .hbm, ⟨3, _⟩ => ⟨S124x32, .f32⟩
  | .hbm, ⟨4, _⟩ => ⟨S_, .f32⟩
  | .hbm, ⟨5, _⟩ => ⟨S124x32, .f32⟩
  | .hbm, ⟨6, _⟩ => ⟨S_, .f32⟩
  | .hbm, ⟨7, _⟩ => ⟨S124x32, .f32⟩
  | .hbm, ⟨8, _⟩ => ⟨S124x32, .f32⟩
  | .hbm, ⟨9, _⟩ => ⟨S_, .f32⟩
  | .hbm, ⟨10, _⟩ => ⟨S124x32, .f32⟩
  | .hbm, ⟨11, _⟩ => ⟨S124x32, .f32⟩
  | .hbm, ⟨12, _⟩ => ⟨S124x32, .f32⟩
  | .hbm, ⟨13, _⟩ => ⟨S_, .f32⟩
  | .hbm, ⟨14, _⟩ => ⟨S124x32, .f32⟩
  | .hbm, ⟨15, _⟩ => ⟨S124x32, .f32⟩
  | .hbm, ⟨16, _⟩ => ⟨S124x32, .f32⟩
  | .hbm, ⟨17, _⟩ => ⟨S_, .f32⟩
  | .hbm, ⟨18, _⟩ => ⟨S124x32, .f32⟩
  | .hbm, ⟨19, _⟩ => ⟨S124x32, .f32⟩
  | .hbm, ⟨20, _⟩ => ⟨S124x32, .f32⟩
  | .hbm, ⟨21, _⟩ => ⟨S_, .f32⟩
  | .hbm, ⟨22, _⟩ => ⟨S124x32, .f32⟩
  | .hbm, ⟨23, _⟩ => ⟨S124x32, .f32⟩
  | .hbm, ⟨24, _⟩ => ⟨S_, .f32⟩
  | .hbm, ⟨25, _⟩ => ⟨S124x32, .f32⟩
  | .hbm, ⟨26, _⟩ => ⟨S124x32, .f32⟩
  | .hbm, ⟨27, _⟩ => ⟨S124x32, .f32⟩
  | .hbm, ⟨28, _⟩ => ⟨S_, .f32⟩
  | .hbm, ⟨29, _⟩ => ⟨S124x32, .f32⟩
  | .hbm, ⟨30, _⟩ => ⟨S124x32, .f32⟩
  | .hbm, ⟨31, _⟩ => ⟨S124x32, .f32⟩
  | .hbm, ⟨32, _⟩ => ⟨S_, .f32⟩
  | .hbm, ⟨33, _⟩ => ⟨S124x32, .f32⟩
  | .hbm, ⟨34, _⟩ => ⟨S124x32, .f32⟩
  | .hbm, ⟨35, _⟩ => ⟨S124x32, .f32⟩
  | .hbm, ⟨36, _⟩ => ⟨S_, .f32⟩
  | .hbm, ⟨37, _⟩ => ⟨S124x32, .f32⟩
  | .hbm, ⟨38, _⟩ => ⟨S124x32, .f32⟩
  | _, _ => ⟨S8x124x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGlu.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluRefIdeal.lean ====
abbrev S8x128x256 : Shape := ⟨3, ![8, 128, 256]⟩
abbrev S128x256 : Shape := ⟨2, ![128, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S_, .f32⟩
  | .hbm, ⟨7, _⟩ => ⟨S128x256, .f32⟩
  | .hbm, ⟨8, _⟩ => ⟨S128x256, .f32⟩
  | .hbm, ⟨9, _⟩ => ⟨S_, .f32⟩
  | .hbm, ⟨10, _⟩ => ⟨S128x256, .f32⟩
  | .hbm, ⟨11, _⟩ => ⟨S128x256, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S1x4096x768 : Shape := ⟨3, ![1, 4096, 768]⟩
abbrev S4096x768 : Shape := ⟨2, ![4096, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S1x4096x768 : Shape := ⟨3, ![1, 4096, 768]⟩
abbrev S4096x768 : Shape := ⟨2, ![4096, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x4096x768 : Shape := ⟨3, ![1, 4096, 768]⟩
abbrev S4096x768 : Shape := ⟨2, ![4096, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S_, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S_, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S_, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S4096x768, .f32⟩
  | .hbm, ⟨26, _⟩ => ⟨S4096x768, .f32⟩
  | .hbm, ⟨27, _⟩ => ⟨S4096x768, .f32⟩
  | .hbm, ⟨28, _⟩ => ⟨S_, .f32⟩
  | .hbm, ⟨29, _⟩ => ⟨S4096x768, .f32⟩
  | .hbm, ⟨30, _⟩ => ⟨S4096x768, .f32⟩
  | .hbm, ⟨31, _⟩ => ⟨S4096x768, .f32⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096x768, .f32⟩
  | .hbm, ⟨38, _⟩ => ⟨S4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S1x4096x224 : Shape := ⟨3, ![1, 4096, 224]⟩
abbrev S4096x224 : Shape := ⟨2, ![4096, 224]⟩
abbrev S1x512x224 : Shape := ⟨3, ![1, 512, 224]⟩
abbrev S512x224 : Shape := ⟨2, ![512, 224]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x224, .f32⟩
  | .hbm, ⟨1, _⟩ => ⟨S4096x224, .f32⟩
  | .hbm, ⟨2, _⟩ => ⟨S4096x224, .f32⟩
  | .hbm, ⟨3, _⟩ => ⟨S4096x224, .f32⟩
  | .hbm, ⟨4, _⟩ => ⟨S4096x224, .f32⟩
  | .hbm, ⟨5, _⟩ => ⟨S4096x224, .f32⟩
  | .hbm, ⟨6, _⟩ => ⟨S4096x224, .f32⟩
  | .hbm, ⟨7, _⟩ => ⟨S4096x224, .f32⟩
  | .local _ .vmem, ⟨0, _⟩ => ⟨S1x512x224, .f32⟩
  | .local _ .vmem, ⟨1, _⟩ => ⟨S1x512x224, .f32⟩
  | .local _ .vmem, ⟨2, _⟩ => ⟨S512x224, .f32⟩
  | .local _ .vmem, ⟨3, _⟩ => ⟨S512x224, .f32⟩
  | .local _ .vmem, ⟨4, _⟩ => ⟨S512x224, .f32⟩
  | .local _ .vmem, ⟨5, _⟩ => ⟨S512x224, .f32⟩
  | .local _ .vmem, ⟨6, _⟩ => ⟨S512x224, .f32⟩
  | .local _ .vmem, ⟨7, _⟩ => ⟨S512x224, .f32⟩
  | .local _ .vmem, ⟨8, _⟩ => ⟨S512x224, .f32⟩
  | .local _ .vmem, ⟨9, _⟩ => ⟨S512x224, .f32⟩
  | .local _ .vmem, ⟨10, _⟩ => ⟨S512x224, .f32⟩
  | .local _ .vmem, ⟨11, _⟩ => ⟨S512x224, .f32⟩
  | .local _ .vmem, ⟨12, _⟩ => ⟨S512x224, .f32⟩
  | .local _ .vmem, ⟨13, _⟩ => ⟨S512x224, .f32⟩
  | .local _ .vmem, ⟨14, _⟩ => ⟨S512x224, .f32⟩
  | .local _ .vmem, ⟨15, _⟩ => ⟨S512x224, .f32⟩
  | _, _ => ⟨S1x4096x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1x4096x224 : Shape := ⟨3, ![1, 4096, 224]⟩
abbrev S4096x224 : Shape := ⟨2, ![4096, 224]⟩
abbrev S1x512x224 : Shape := ⟨3, ![1, 512, 224]⟩
abbrev S512x224 : Shape := ⟨2, ![512, 224]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x224, .f32⟩
  | .hbm, ⟨1, _⟩ => ⟨S4096x224, .f32⟩
  | .hbm, ⟨2, _⟩ => ⟨S4096x224, .f32⟩
  | .hbm, ⟨3, _⟩ => ⟨S4096x224, .f32⟩
  | .hbm, ⟨4, _⟩ => ⟨S4096x224, .f32⟩
  | .hbm, ⟨5, _⟩ => ⟨S4096x224, .f32⟩
  | .hbm, ⟨6, _⟩ => ⟨S4096x224, .f32⟩
  | .hbm, ⟨7, _⟩ => ⟨S4096x224, .f32⟩
  | .local _ .vmem, ⟨0, _⟩ => ⟨S1x512x224, .f32⟩
  | .local _ .vmem, ⟨1, _⟩ => ⟨S1x512x224, .f32⟩
  | .local _ .vmem, ⟨2, _⟩ => ⟨S512x224, .f32⟩
  | .local _ .vmem, ⟨3, _⟩ => ⟨S512x224, .f32⟩
  | .local _ .vmem, ⟨4, _⟩ => ⟨S512x224, .f32⟩
  | .local _ .vmem, ⟨5, _⟩ => ⟨S512x224, .f32⟩
  | .local _ .vmem, ⟨6, _⟩ => ⟨S512x224, .f32⟩
  | .local _ .vmem, ⟨7, _⟩ => ⟨S512x224, .f32⟩
  | .local _ .vmem, ⟨8, _⟩ => ⟨S512x224, .f32⟩
  | .local _ .vmem, ⟨9, _⟩ => ⟨S512x224, .f32⟩
  | .local _ .vmem, ⟨10, _⟩ => ⟨S512x224, .f32⟩
  | .local _ .vmem, ⟨11, _⟩ => ⟨S512x224, .f32⟩
  | .local _ .vmem, ⟨12, _⟩ => ⟨S512x224, .f32⟩
  | .local _ .vmem, ⟨13, _⟩ => ⟨S512x224, .f32⟩
  | .local _ .vmem, ⟨14, _⟩ => ⟨S512x224, .f32⟩
  | .local _ .vmem, ⟨15, _⟩ => ⟨S512x224, .f32⟩
  | _, _ => ⟨S1x4096x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1x4096x224 : Shape := ⟨3, ![1, 4096, 224]⟩
abbrev S4096x224 : Shape := ⟨2, ![4096, 224]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x224, .f32⟩
  | .hbm, ⟨1, _⟩ => ⟨S4096x224, .f32⟩
  | .hbm, ⟨2, _⟩ => ⟨S4096x224, .f32⟩
  | .hbm, ⟨3, _⟩ => ⟨S4096x224, .f32⟩
  | .hbm, ⟨4, _⟩ => ⟨S_, .f32⟩
  | .hbm, ⟨5, _⟩ => ⟨S4096x224, .f32⟩
  | .hbm, ⟨6, _⟩ => ⟨S_, .f32⟩
  | .hbm, ⟨7, _⟩ => ⟨S4096x224, .f32⟩
  | .hbm, ⟨8, _⟩ => ⟨S4096x224, .f32⟩
  | .hbm, ⟨9, _⟩ => ⟨S_, .f32⟩
  | .hbm, ⟨10, _⟩ => ⟨S4096x224, .f32⟩
  | .hbm, ⟨11, _⟩ => ⟨S4096x224, .f32⟩
  | .hbm, ⟨12, _⟩ => ⟨S4096x224, .f32⟩
  | .hbm, ⟨13, _⟩ => ⟨S_, .f32⟩
  | .hbm, ⟨14, _⟩ => ⟨S4096x224, .f32⟩
  | .hbm, ⟨15, _⟩ => ⟨S4096x224, .f32⟩
  | .hbm, ⟨16, _⟩ => ⟨S4096x224, .f32⟩
  | .hbm, ⟨17, _⟩ => ⟨S_, .f32⟩
  | .hbm, ⟨18, _⟩ => ⟨S4096x224, .f32⟩
  | .hbm, ⟨19, _⟩ => ⟨S4096x224, .f32⟩
  | .hbm, ⟨20, _⟩ => ⟨S4096x224, .f32⟩
  | .hbm, ⟨21, _⟩ => ⟨S_, .f32⟩
  | .hbm, ⟨22, _⟩ => ⟨S4096x224, .f32⟩
  | .hbm, ⟨23, _⟩ => ⟨S4096x224, .f32⟩
  | .hbm, ⟨24, _⟩ => ⟨S_, .f32⟩
  | .hbm, ⟨25, _⟩ => ⟨S4096x224, .f32⟩
  | .hbm, ⟨26, _⟩ => ⟨S4096x224, .f32⟩
  | .hbm, ⟨27, _⟩ => ⟨S4096x224, .f32⟩
  | .hbm, ⟨28, _⟩ => ⟨S_, .f32⟩
  | .hbm, ⟨29, _⟩ => ⟨S4096x224, .f32⟩
  | .hbm, ⟨30, _⟩ => ⟨S4096x224, .f32⟩
  | .hbm, ⟨31, _⟩ => ⟨S4096x224, .f32⟩
  | .hbm, ⟨32, _⟩ => ⟨S_, .f32⟩
  | .hbm, ⟨33, _⟩ => ⟨S4096x224, .f32⟩
  | .hbm, ⟨34, _⟩ => ⟨S4096x224, .f32⟩
  | .hbm, ⟨35, _⟩ => ⟨S4096x224, .f32⟩
  | .hbm, ⟨36, _⟩ => ⟨S_, .f32⟩
  | .hbm, ⟨37, _⟩ => ⟨S4096x224, .f32⟩
  | .hbm, ⟨38, _⟩ => ⟨S4096x224, .f32⟩
  | _, _ => ⟨S1x4096x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGate.lean ====
abbrev S1x4096x352 : Shape := ⟨3, ![1, 4096, 352]⟩
abbrev S4096x352 : Shape := ⟨2, ![4096, 352]⟩
abbrev S1x512x352 : Shape := ⟨3, ![1, 512, 352]⟩
abbrev S512x352 : Shape := ⟨2, ![512, 352]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .local _ .vmem, ⟨0, _⟩ => ⟨S1x512x352, .f32⟩
  | .local _ .vmem, ⟨1, _⟩ => ⟨S1x512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S1x4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S1x4096x352 : Shape := ⟨3, ![1, 4096, 352]⟩
abbrev S4096x352 : Shape := ⟨2, ![4096, 352]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S_, .f32⟩
  | .hbm, ⟨5, _⟩ => ⟨S4096x352, .f32⟩
  | .hbm, ⟨6, _⟩ => ⟨S_, .f32⟩
  | .hbm, ⟨7, _⟩ => ⟨S4096x352, .f32⟩
  | .hbm, ⟨8, _⟩ => ⟨S4096x352, .f32⟩
  | .hbm, ⟨9, _⟩ => ⟨S_, .f32⟩
  | .hbm, ⟨10, _⟩ => ⟨S4096x352, .f32⟩
  | .hbm, ⟨11, _⟩ => ⟨S4096x352, .f32⟩
  | .hbm, ⟨12, _⟩ => ⟨S4096x352, .f32⟩
  | .hbm, ⟨13, _⟩ => ⟨S_, .f32⟩
  | .hbm, ⟨14, _⟩ => ⟨S4096x352, .f32⟩
  | .hbm, ⟨15, _⟩ => ⟨S4096x352, .f32⟩
  | .hbm, ⟨16, _⟩ => ⟨S4096x352, .f32⟩
  | .hbm, ⟨17, _⟩ => ⟨S_, .f32⟩
  | .hbm, ⟨18, _⟩ => ⟨S4096x352, .f32⟩
  | .hbm, ⟨19, _⟩ => ⟨S4096x352, .f32⟩
  | .hbm, ⟨20, _⟩ => ⟨S4096x352, .f32⟩
  | .hbm, ⟨21, _⟩ => ⟨S_, .f32⟩
  | .hbm, ⟨22, _⟩ => ⟨S4096x352, .f32⟩
  | .hbm, ⟨23, _⟩ => ⟨S4096x352, .f32⟩
  | .hbm, ⟨24, _⟩ => ⟨S_, .f32⟩
  | .hbm, ⟨25, _⟩ => ⟨S4096x352, .f32⟩
  | .hbm, ⟨26, _⟩ => ⟨S4096x352, .f32⟩
  | .hbm, ⟨27, _⟩ => ⟨S4096x352, .f32⟩
  | .hbm, ⟨28, _⟩ => ⟨S_, .f32⟩
  | .hbm, ⟨29, _⟩ => ⟨S4096x352, .f32⟩
  | .hbm, ⟨30, _⟩ => ⟨S4096x352, .f32⟩
  | .hbm, ⟨31, _⟩ => ⟨S4096x352, .f32⟩
  | .hbm, ⟨32, _⟩ => ⟨S_, .f32⟩
  | .hbm, ⟨33, _⟩ => ⟨S4096x352, .f32⟩
  | .hbm, ⟨34, _⟩ => ⟨S4096x352, .f32⟩
  | .hbm, ⟨35, _⟩ => ⟨S4096x352, .f32⟩
  | .hbm, ⟨36, _⟩ => ⟨S_, .f32⟩
  | .hbm, ⟨37, _⟩ => ⟨S4096x352, .f32⟩
  | .hbm, ⟨38, _⟩ => ⟨S4096x352, .f32⟩
  | _, _ => ⟨S1x4096x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumIn.lean ====
abbrev S8x224x1024 : Shape := ⟨3, ![8, 224, 1024]⟩
abbrev S4x224x1024 : Shape := ⟨3, ![4, 224, 1024]⟩
abbrev S8x112x1024 : Shape := ⟨3, ![8, 112, 1024]⟩
abbrev S1x112x1024 : Shape := ⟨3, ![1, 112, 1024]⟩
abbrev S112x1024 : Shape := ⟨2, ![112, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S8x224x1024, .bf16⟩
  | .hbm, ⟨3, _⟩ => ⟨S8x224x1024, .bf16⟩
  | .hbm, ⟨4, _⟩ => ⟨S4x224x1024, .f32⟩
  | .local _ .vmem, ⟨0, _⟩ => ⟨S8x112x1024, .bf16⟩
  | .local _ .vmem, ⟨1, _⟩ => ⟨S8x112x1024, .bf16⟩
  | .local _ .vmem, ⟨2, _⟩ => ⟨S8x112x1024, .bf16⟩
  | .local _ .vmem, ⟨3, _⟩ => ⟨S8x112x1024, .bf16⟩
  | .local _ .vmem, ⟨4, _⟩ => ⟨S8x112x1024, .bf16⟩
  | .local _ .vmem, ⟨5, _⟩ => ⟨S8x112x1024, .bf16⟩
  | .local _ .vmem, ⟨6, _⟩ => ⟨S8x112x1024, .bf16⟩
  | .local _ .vmem, ⟨7, _⟩ => ⟨S8x112x1024, .bf16⟩
  | .local _ .vmem, ⟨8, _⟩ => ⟨S1x112x1024, .f32⟩
  | .local _ .vmem, ⟨9, _⟩ => ⟨S1x112x1024, .f32⟩
  | _, _ => ⟨S8x224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x112x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumInIdeal.lean ====
abbrev S8x224x1024 : Shape := ⟨3, ![8, 224, 1024]⟩
abbrev S4x224x1024 : Shape := ⟨3, ![4, 224, 1024]⟩
abbrev S8x112x1024 : Shape := ⟨3, ![8, 112, 1024]⟩
abbrev S1x112x1024 : Shape := ⟨3, ![1, 112, 1024]⟩
abbrev S112x1024 : Shape := ⟨2, ![112, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S8x224x1024, .bf16⟩
  | .hbm, ⟨3, _⟩ => ⟨S8x224x1024, .bf16⟩
  | .hbm, ⟨4, _⟩ => ⟨S4x224x1024, .f32⟩
  | .local _ .vmem, ⟨0, _⟩ => ⟨S8x112x1024, .bf16⟩
  | .local _ .vmem, ⟨1, _⟩ => ⟨S8x112x1024, .bf16⟩
  | .local _ .vmem, ⟨2, _⟩ => ⟨S8x112x1024, .bf16⟩
  | .local _ .vmem, ⟨3, _⟩ => ⟨S8x112x1024, .bf16⟩
  | .local _ .vmem, ⟨4, _⟩ => ⟨S8x112x1024, .bf16⟩
  | .local _ .vmem, ⟨5, _⟩ => ⟨S8x112x1024, .bf16⟩
  | .local _ .vmem, ⟨6, _⟩ => ⟨S8x112x1024, .bf16⟩
  | .local _ .vmem, ⟨7, _⟩ => ⟨S8x112x1024, .bf16⟩
  | .local _ .vmem, ⟨8, _⟩ => ⟨S1x112x1024, .f32⟩
  | .local _ .vmem, ⟨9, _⟩ => ⟨S1x112x1024, .f32⟩
  | _, _ => ⟨S8x224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x112x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumInRefIdeal.lean ====
abbrev S8x224x1024 : Shape := ⟨3, ![8, 224, 1024]⟩
abbrev S_ : Shape := ⟨0, ![]⟩
abbrev S224x1024 : Shape := ⟨2, ![224, 1024]⟩
abbrev S1x224x1024 : Shape := ⟨3, ![1, 224, 1024]⟩
abbrev S4x224x1024 : Shape := ⟨3, ![4, 224, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S8x224x1024, .bf16⟩
  | .hbm, ⟨3, _⟩ => ⟨S8x224x1024, .bf16⟩
  | .hbm, ⟨4, _⟩ => ⟨S8x224x1024, .f32⟩
  | .hbm, ⟨5, _⟩ => ⟨S_, .f32⟩
  | .hbm, ⟨6, _⟩ => ⟨S224x1024, .f32⟩
  | .hbm, ⟨7, _⟩ => ⟨S8x224x1024, .f32⟩
  | .hbm, ⟨8, _⟩ => ⟨S_, .f32⟩
  | .hbm, ⟨9, _⟩ => ⟨S224x1024, .f32⟩
  | .hbm, ⟨10, _⟩ => ⟨S8x224x1024, .f32⟩
  | .hbm, ⟨11, _⟩ => ⟨S_, .f32⟩
  | .hbm, ⟨12, _⟩ => ⟨S224x1024, .f32⟩
  | .hbm, ⟨13, _⟩ => ⟨S8x224x1024, .f32⟩
  | .hbm, ⟨14, _⟩ => ⟨S_, .f32⟩
  | .hbm, ⟨15, _⟩ => ⟨S224x1024, .f32⟩
  | .hbm, ⟨16, _⟩ => ⟨S1x224x1024, .f32⟩
  | .hbm, ⟨17, _⟩ => ⟨S1x224x1024, .f32⟩
  | .hbm, ⟨18, _⟩ => ⟨S1x224x1024, .f32⟩
  | .hbm, ⟨19, _⟩ => ⟨S1x224x1024, .f32⟩
  | .hbm, ⟨20, _⟩ => ⟨S4x224x1024, .f32⟩
  | _, _ => ⟨S8x224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== SumGate.lean ====
abbrev S8x352x1024 : Shape := ⟨3, ![8, 352, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumGateRefIdeal.lean ====
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩
abbrev S4x352x1024 : Shape := ⟨3, ![4, 352, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== AdamO.lean ====
abbrev S8x128x1024 : Shape := ⟨3, ![8, 128, 1024]⟩
abbrev S512x1024 : Shape := ⟨2, ![512, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOIdeal.lean ====
abbrev S8x128x1024 : Shape := ⟨3, ![8, 128, 1024]⟩
abbrev S512x1024 : Shape := ⟨2, ![512, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamORefIdeal.lean ====
abbrev S8x128x1024 : Shape := ⟨3, ![8, 128, 1024]⟩
abbrev S512x1024 : Shape := ⟨2, ![512, 1024]⟩
abbrev S_ : Shape := ⟨0, ![]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamDown.lean ====
abbrev S8x352x1024 : Shape := ⟨3, ![8, 352, 1024]⟩
abbrev S1408x1024 : Shape := ⟨2, ![1408, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownRefIdeal.lean ====
abbrev S8x352x1024 : Shape := ⟨3, ![8, 352, 1024]⟩
abbrev S1408x1024 : Shape := ⟨2, ![1408, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1408x1024, .f32⟩
  | .hbm, ⟨20, _⟩ => ⟨S_, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S_, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | .hbm, ⟨45, _⟩ => ⟨S1408x1024, .f32⟩
  | .hbm, ⟨46, _⟩ => ⟨S_, .f32⟩
  | .hbm, ⟨47, _⟩ => ⟨S1408x1024, .f32⟩
  | .hbm, ⟨48, _⟩ => ⟨S1408x1024, .f32⟩
  | .hbm, ⟨49, _⟩ => ⟨S1408x1024, .f32⟩
  | .hbm, ⟨50, _⟩ => ⟨S_, .f32⟩
  | .hbm, ⟨51, _⟩ => ⟨S1408x1024, .f32⟩
  | .hbm, ⟨52, _⟩ => ⟨S1408x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== GateUp0.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp0Ideal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp0RefIdeal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S1x1x1x1024 : Shape := ⟨4, ![1, 1, 1, 1024]⟩
abbrev S1x1024 : Shape := ⟨2, ![1, 1024]⟩
abbrev S_ : Shape := ⟨0, ![]⟩
abbrev S1024x2816 : Shape := ⟨2, ![1024, 2816]⟩
abbrev S8192x2816 : Shape := ⟨2, ![8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S1x1x1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1x1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1024x2816, .bf16⟩
  | .hbm, ⟨16, _⟩ => ⟨S1024x2816, .f32⟩
  | .hbm, ⟨17, _⟩ => ⟨S8192x2816, .f32⟩
  | .hbm, ⟨18, _⟩ => ⟨S1024x2816, .bf16⟩
  | .hbm, ⟨19, _⟩ => ⟨S1024x2816, .f32⟩
  | .hbm, ⟨20, _⟩ => ⟨S8192x2816, .f32⟩
  | .hbm, ⟨21, _⟩ => ⟨S8192x2816, .bf16⟩
  | .hbm, ⟨22, _⟩ => ⟨S8192x2816, .bf16⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== GateUp1.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, c4_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp1Ideal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, c4_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp1RefIdeal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S1x1x1x1024 : Shape := ⟨4, ![1, 1, 1, 1024]⟩
abbrev S1x1024 : Shape := ⟨2, ![1, 1024]⟩
abbrev S_ : Shape := ⟨0, ![]⟩
abbrev S1024x2816 : Shape := ⟨2, ![1024, 2816]⟩
abbrev S8192x2816 : Shape := ⟨2, ![8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S1x1x1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1x1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1024x2816, .bf16⟩
  | .hbm, ⟨16, _⟩ => ⟨S1024x2816, .f32⟩
  | .hbm, ⟨17, _⟩ => ⟨S8192x2816, .f32⟩
  | .hbm, ⟨18, _⟩ => ⟨S1024x2816, .bf16⟩
  | .hbm, ⟨19, _⟩ => ⟨S1024x2816, .f32⟩
  | .hbm, ⟨20, _⟩ => ⟨S8192x2816, .f32⟩
  | .hbm, ⟨21, _⟩ => ⟨S8192x2816, .bf16⟩
  | .hbm, ⟨22, _⟩ => ⟨S8192x2816, .bf16⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== GateUp2.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let c4_i32 : BitVec 32 := 4#32
  let c0_i32 : BitVec 32 := 0#32
  let c0_i32_0 : BitVec 32 := 0#32
  let c0_i32_1 : BitVec 32 := 0#32
  ![c2_i32.toNat, c4_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp2Ideal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let c4_i32 : BitVec 32 := 4#32
  let c0_i32 : BitVec 32 := 0#32
  let c0_i32_0 : BitVec 32 := 0#32
  let c0_i32_1 : BitVec 32 := 0#32
  ![c2_i32.toNat, c4_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp2RefIdeal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S1x1x1x1024 : Shape := ⟨4, ![1, 1, 1, 1024]⟩
abbrev S1x1024 : Shape := ⟨2, ![1, 1024]⟩
abbrev S_ : Shape := ⟨0, ![]⟩
abbrev S1024x2816 : Shape := ⟨2, ![1024, 2816]⟩
abbrev S8192x2816 : Shape := ⟨2, ![8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S1x1x1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1x1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1024x2816, .bf16⟩
  | .hbm, ⟨16, _⟩ => ⟨S1024x2816, .f32⟩
  | .hbm, ⟨17, _⟩ => ⟨S8192x2816, .f32⟩
  | .hbm, ⟨18, _⟩ => ⟨S1024x2816, .bf16⟩
  | .hbm, ⟨19, _⟩ => ⟨S1024x2816, .f32⟩
  | .hbm, ⟨20, _⟩ => ⟨S8192x2816, .f32⟩
  | .hbm, ⟨21, _⟩ => ⟨S8192x2816, .bf16⟩
  | .hbm, ⟨22, _⟩ => ⟨S8192x2816, .bf16⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== GateUp3.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp3Ideal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S8192x2816 : Shape := ⟨2, ![8192, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S2816x1024, .bf16⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUp3RefIdeal.lean ====
abbrev S8192x1024 : Shape := ⟨2, ![8192, 1024]⟩
abbrev S4x6x1x1024 : Shape := ⟨4, ![4, 6, 1, 1024]⟩
abbrev S2816x1024 : Shape := ⟨2, ![2816, 1024]⟩
abbrev S1x1x1x1024 : Shape := ⟨4, ![1, 1, 1, 1024]⟩
abbrev S1x1024 : Shape := ⟨2, ![1, 1024]⟩
abbrev S_ : Shape := ⟨0, ![]⟩
abbrev S1024x2816 : Shape := ⟨2, ![1024, 2816]⟩
abbrev S8192x2816 : Shape := ⟨2, ![8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x6x1x1024, .f32⟩
  | .hbm, ⟨2, _⟩ => ⟨S2816x1024, .bf16⟩
  | .hbm, ⟨3, _⟩ => ⟨S2816x1024, .bf16⟩
  | .hbm, ⟨4, _⟩ => ⟨S1x1x1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1x1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1024x2816, .bf16⟩
  | .hbm, ⟨16, _⟩ => ⟨S1024x2816, .f32⟩
  | .hbm, ⟨17, _⟩ => ⟨S8192x2816, .f32⟩
  | .hbm, ⟨18, _⟩ => ⟨S1024x2816, .bf16⟩
  | .hbm, ⟨19, _⟩ => ⟨S1024x2816, .f32⟩
  | .hbm, ⟨20, _⟩ => ⟨S8192x2816, .f32⟩
  | .hbm, ⟨21, _⟩ => ⟨S8192x2816, .bf16⟩
  | .hbm, ⟨22, _⟩ => ⟨S8192x2816, .bf16⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== DownLn0.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, c5_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn0Ideal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, c5_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn0RefIdeal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DownLn1.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, c5_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn1Ideal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, c5_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn1RefIdeal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DownLn2.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c2_i32 : BitVec 32 := 2#32
  let c5_i32 : BitVec 32 := 5#32
  let c0_i32 : BitVec 32 := 0#32
  let c0_i32_0 : BitVec 32 := 0#32
  let c0_i32_1 : BitVec 32 := 0#32
  ![c2_i32.toNat, c5_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn2Ideal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c2_i32 : BitVec 32 := 2#32
  let c5_i32 : BitVec 32 := 5#32
  let c0_i32 : BitVec 32 := 0#32
  let c0_i32_0 : BitVec 32 := 0#32
  let c0_i32_1 : BitVec 32 := 0#32
  ![c2_i32.toNat, c5_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn2RefIdeal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DownLn3.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, c5_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn3Ideal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S512x2816 : Shape := ⟨2, ![512, 2816]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, c5_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLn3RefIdeal.lean ====
abbrev S8192x2816 : Shape := ⟨2, ![8192, 2816]⟩
abbrev S2816x1024 : Shape := ⟨2, ![2816, 1024]⟩
abbrev S8192x1024 : Shape := ⟨2, ![8192, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== OutLn0.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn0Ideal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn0RefIdeal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== OutLn1.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn1Ideal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn1RefIdeal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== OutLn2.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn2Ideal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn2RefIdeal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== OutLn3.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn3RefIdeal.lean ====
abbrev S8192x1024 : Shape := ⟨2, ![8192, 1024]⟩
abbrev S1024x1024 : Shape := ⟨2, ![1024, 1024]⟩
abbrev S4x6x1x1024 : Shape := ⟨4, ![4, 6, 1, 1024]⟩
abbrev S4x1x1024 : Shape := ⟨3, ![4, 1, 1024]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x6x1x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1x1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.AdamAda.lean ====
/- The AdamW step of the modulation matrix: 1 part of the gradient, 4096 rows of 768. The
   gradient comes as one part; the step is then taken entry by entry, over blocks of rows. -/
module

public import proofs.«01_k».proof.Defs
public import proofs.«01_k».proof.Proof.Gen.AdamAdaIdeal.Value
public import proofs.«01_k».proof.Proof.Gen.AdamAdaRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamAdaIdeal.Gen Cert.AdamAdaIdeal

/-- Grid point `t` holds the `t`-th block of rows of every array, and of every part of the gradient. -/
theorem rows_AdamAda : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamAda` terminates and leaves its arguments. -/
theorem quiescent_AdamAdaRefIdeal : Cert.quiescent_AdamAdaRefIdeal := fun m ρ _ =>
  (θ_run Cert.AdamAdaRefIdeal.defs _ _).mono (fun r h => ⟨fun c => (h c).2.2.2.2, sem_eq_zero_of_no_sems (by decide) r.2⟩)
    (Cert.AdamAdaRefIdeal.Value.run (F := Ideal) m ρ)

/-- The summed gradient, the step, and the two moments are the reference's, entry by entry. -/
theorem algebraic_AdamAdaIdeal_AdamAdaRefIdeal : Cert.algebraic_AdamAdaIdeal_AdamAdaRefIdeal := by
  intro m ρ m' ρ' _ hagree
  refine ⟨_, _, _, _, Cert.AdamAdaIdeal.Value.run_blocks (F := Ideal) m ρ, ?_⟩
  refine (θ_run Cert.AdamAdaRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamAdaRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_one]
    blk_point [iblk, V, rows_AdamAda t]

end Cert.Proof

end
-- ==== Proof.AdamB.lean ====
/- The AdamW step of the two input matrices of the state space: 8 parts of the gradient, 4096 rows of 16. The
   eight devices' parts are summed in the order of the devices; the step is then taken entry by entry, over blocks of rows. -/
module

public import proofs.«01_k».proof.Defs
public import proofs.«01_k».proof.Proof.Gen.AdamBIdeal.Value
public import proofs.«01_k».proof.Proof.Gen.AdamBRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamBIdeal.Gen Cert.AdamBIdeal

/-- Grid point `t` holds the `t`-th block of rows of every array, and of every part of the gradient. -/
theorem rows_AdamB : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamB` terminates and leaves its arguments. -/
theorem quiescent_AdamBRefIdeal : Cert.quiescent_AdamBRefIdeal := fun m ρ _ =>
  (θ_run Cert.AdamBRefIdeal.defs _ _).mono (fun r h => ⟨fun c => (h c).2.2.2.2, sem_eq_zero_of_no_sems (by decide) r.2⟩)
    (Cert.AdamBRefIdeal.Value.run (F := Ideal) m ρ)

/-- The summed gradient, the step, and the two moments are the reference's, entry by entry. -/
theorem algebraic_AdamBIdeal_AdamBRefIdeal : Cert.algebraic_AdamBIdeal_AdamBRefIdeal := by
  intro m ρ m' ρ' _ hagree
  refine ⟨_, _, _, _, Cert.AdamBIdeal.Value.run_blocks (F := Ideal) m ρ, ?_⟩
  refine (θ_run Cert.AdamBRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamBRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamB t]

end Cert.Proof

end
-- ==== Proof.AdamBAda.lean ====
/- The AdamW step of the modulation bias: 8 parts of the gradient, 4 rows of 6144. The
   eight devices' parts are summed in the order of the devices; the step is then taken entry by entry, over blocks of rows. -/
module

public import proofs.«01_k».proof.Defs
public import proofs.«01_k».proof.Proof.Gen.AdamBAdaIdeal.Value
public import proofs.«01_k».proof.Proof.Gen.AdamBAdaRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamBAdaIdeal.Gen Cert.AdamBAdaIdeal

/-- Grid point `t` holds the `t`-th block of rows of every array, and of every part of the gradient. -/
theorem rows_AdamBAda : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamBAda` terminates and leaves its arguments. -/
theorem quiescent_AdamBAdaRefIdeal : Cert.quiescent_AdamBAdaRefIdeal := fun m ρ _ =>
  (θ_run Cert.AdamBAdaRefIdeal.defs _ _).mono (fun r h => ⟨fun c => (h c).2.2.2.2, sem_eq_zero_of_no_sems (by decide) r.2⟩)
    (Cert.AdamBAdaRefIdeal.Value.run (F := Ideal) m ρ)

/-- The summed gradient, the step, and the two moments are the reference's, entry by entry. -/
theorem algebraic_AdamBAdaIdeal_AdamBAdaRefIdeal : Cert.algebraic_AdamBAdaIdeal_AdamBAdaRefIdeal := by
  intro m ρ m' ρ' _ hagree
  refine ⟨_, _, _, _, Cert.AdamBAdaIdeal.Value.run_blocks (F := Ideal) m ρ, ?_⟩
  refine (θ_run Cert.AdamBAdaRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamBAdaRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamBAda t]

end Cert.Proof

end
-- ==== Proof.AdamBIn.lean ====
/- The AdamW step of the input bias: 8 parts of the gradient, 4 rows of 1792. The
   eight devices' parts are summed in the order of the devices; the step is then taken entry by entry, over blocks of rows. -/
module

public import proofs.«01_k».proof.Defs
public import proofs.«01_k».proof.Proof.Gen.AdamBInIdeal.Value
public import proofs.«01_k».proof.Proof.Gen.AdamBInRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamBInIdeal.Gen Cert.AdamBInIdeal

/-- Grid point `t` holds the `t`-th block of rows of every array, and of every part of the gradient. -/
theorem rows_AdamBIn : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamBIn` terminates and leaves its arguments. -/
theorem quiescent_AdamBInRefIdeal : Cert.quiescent_AdamBInRefIdeal := fun m ρ _ =>
  (θ_run Cert.AdamBInRefIdeal.defs _ _).mono (fun r h => ⟨fun c => (h c).2.2.2.2, sem_eq_zero_of_no_sems (by decide) r.2⟩)
    (Cert.AdamBInRefIdeal.Value.run (F := Ideal) m ρ)

/-- The summed gradient, the step, and the two moments are the reference's, entry by entry. -/
theorem algebraic_AdamBInIdeal_AdamBInRefIdeal : Cert.algebraic_AdamBInIdeal_AdamBInRefIdeal := by
  intro m ρ m' ρ' _ hagree
  refine ⟨_, _, _, _, Cert.AdamBInIdeal.Value.run_blocks (F := Ideal) m ρ, ?_⟩
  refine (θ_run Cert.AdamBInRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamBInRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamBIn t]

end Cert.Proof

end
-- ==== Proof.AdamCf.lean ====
/- The AdamW step of the taps of the convolution module: 8 parts of the gradient, 124 rows of 32. The
   eight devices' parts are summed in the order of the devices; the step is then taken entry by entry, over blocks of rows. -/
module

public import proofs.«01_k».proof.Defs
public import proofs.«01_k».proof.Proof.Gen.AdamCfIdeal.Value
public import proofs.«01_k».proof.Proof.Gen.AdamCfRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamCfIdeal.Gen Cert.AdamCfIdeal

/-- Grid point `t` holds the `t`-th block of rows of every array, and of every part of the gradient. -/
theorem rows_AdamCf : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamCf` terminates and leaves its arguments. -/
theorem quiescent_AdamCfRefIdeal : Cert.quiescent_AdamCfRefIdeal := fun m ρ _ =>
  (θ_run Cert.AdamCfRefIdeal.defs _ _).mono (fun r h => ⟨fun c => (h c).2.2.2.2, sem_eq_zero_of_no_sems (by decide) r.2⟩)
    (Cert.AdamCfRefIdeal.Value.run (F := Ideal) m ρ)

/-- The summed gradient, the step, and the two moments are the reference's, entry by entry. -/
theorem algebraic_AdamCfIdeal_AdamCfRefIdeal : Cert.algebraic_AdamCfIdeal_AdamCfRefIdeal := by
  intro m ρ m' ρ' _ hagree
  refine ⟨_, _, _, _, Cert.AdamCfIdeal.Value.run_blocks (F := Ideal) m ρ, ?_⟩
  refine (θ_run Cert.AdamCfRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamCfRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamCf t]

end Cert.Proof

end
-- ==== Proof.AdamDown.lean ====
/- The AdamW step of the down projection: four layers of 352 rows, each with its own array of the eight devices' parts of the
   gradient. The grid walks the layers and, in each, two halves of its rows; a grid point sums the eight parts of its
   block and takes the step there. -/
module

public import proofs.«01_k».proof.Defs
public import proofs.«01_k».proof.Proof.Gen.AdamDownIdeal.Value
public import proofs.«01_k».proof.Proof.Gen.AdamDownRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamDownRefIdeal.Stack

open Idealize.ShloMosaic Idealize.SL.Sem Cert.AdamDownRefIdeal Cert.AdamDownRefIdeal.Gen

/-- The reference's gradient: the layers' summed parts, one layer below the other. -/
@[irreducible] def grad (p0 p1 p2 p3 : Vec Ideal S8x352x1024 .bf16) : Vec Ideal S1408x1024 .f32 :=
  concatenate S1408x1024 0
    [⟨S352x1024, (Host.reduceAdd (F := Ideal) (extf .f32 p0 bitsLt_bf16_f32) (constant S_ .f32 0x00000000#32)
        reducesTo_S8x352x1024_S352x1024_d0 h_S_ : Vec Ideal S352x1024 .f32)⟩,
      ⟨S352x1024, (Host.reduceAdd (F := Ideal) (extf .f32 p1 bitsLt_bf16_f32) (constant S_ .f32 0x00000000#32)
        reducesTo_S8x352x1024_S352x1024_d0 h_S_ : Vec Ideal S352x1024 .f32)⟩,
      ⟨S352x1024, (Host.reduceAdd (F := Ideal) (extf .f32 p2 bitsLt_bf16_f32) (constant S_ .f32 0x00000000#32)
        reducesTo_S8x352x1024_S352x1024_d0 h_S_ : Vec Ideal S352x1024 .f32)⟩,
      ⟨S352x1024, (Host.reduceAdd (F := Ideal) (extf .f32 p3 bitsLt_bf16_f32) (constant S_ .f32 0x00000000#32)
        reducesTo_S8x352x1024_S352x1024_d0 h_S_ : Vec Ideal S352x1024 .f32)⟩]
    concatenates_S352x1024_S352x1024_S352x1024_S352x1024_S1408x1024_d0

/-- The reference's text for it. -/
theorem grad_eq (p0 p1 p2 p3 : Vec Ideal S8x352x1024 .bf16) :
    concatenate S1408x1024 0
      [⟨S352x1024, (Host.reduceAdd (F := Ideal) (extf .f32 p0 bitsLt_bf16_f32) (constant S_ .f32 0x00000000#32)
        reducesTo_S8x352x1024_S352x1024_d0 h_S_ : Vec Ideal S352x1024 .f32)⟩,
        ⟨S352x1024, (Host.reduceAdd (F := Ideal) (extf .f32 p1 bitsLt_bf16_f32) (constant S_ .f32 0x00000000#32)
        reducesTo_S8x352x1024_S352x1024_d0 h_S_ : Vec Ideal S352x1024 .f32)⟩,
        ⟨S352x1024, (Host.reduceAdd (F := Ideal) (extf .f32 p2 bitsLt_bf16_f32) (constant S_ .f32 0x00000000#32)
        reducesTo_S8x352x1024_S352x1024_d0 h_S_ : Vec Ideal S352x1024 .f32)⟩,
        ⟨S352x1024, (Host.reduceAdd (F := Ideal) (extf .f32 p3 bitsLt_bf16_f32) (constant S_ .f32 0x00000000#32)
        reducesTo_S8x352x1024_S352x1024_d0 h_S_ : Vec Ideal S352x1024 .f32)⟩]
      concatenates_S352x1024_S352x1024_S352x1024_S352x1024_S1408x1024_d0 = grad p0 p1 p2 p3 := by
  unfold grad
  rfl

/-- A row of the gradient, the `i`-th of layer `k`, is the sum of the eight parts' `i`-th rows. -/
theorem grad_apply (p0 p1 p2 p3 : Vec Ideal S8x352x1024 .bf16) (k i : ℕ) (hi : i < 352) (j : S1408x1024.Idx)
    (hk : k < 4) (hj : (j 0).val = k * 352 + i) :
    grad p0 p1 p2 p3 j
      = ∑ d : Fin 8, (if k = 0 then p0 else if k = 1 then p1 else if k = 2 then p2 else p3) (ix3 d ⟨i, hi⟩ (j 1)) := by
  unfold grad
  pointwise
  obtain rfl | rfl | rfl | rfl : k = 0 ∨ k = 1 ∨ k = 2 ∨ k = 3 := by omega
  all_goals
    split_ifs <;> first
      | (exfalso; omega)
      | exact Finset.sum_congr rfl fun d _ => by congr 2; apply Fin.ext; dsimp only; omega

end Cert.AdamDownRefIdeal.Stack

namespace Cert.Proof

open Idealize.ShloMosaic Idealize.SL.Sem Cert.AdamDownIdeal.Gen Cert.AdamDownIdeal

/-- Grid points 0 and 1 read the halves of the first layer's parts and write the first layer's rows. -/
theorem first_AdamDown : ∀ t : Fin cfg0.N, t.val < 2 → win0_0.index t = ![0, t.val, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- Grid points 2 and 3 read the halves of the second layer's parts and write the second layer's rows. -/
theorem second_AdamDown : ∀ t : Fin cfg0.N, t.val / 2 % 4 = 1 → win0_1.index t = ![0, t.val - 2, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- Grid points 4 and 5 read the halves of the third layer's parts and write the third layer's rows. -/
theorem third_AdamDown : ∀ t : Fin cfg0.N, t.val / 2 % 4 = 2 → win0_2.index t = ![0, t.val - 4, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- Grid points 6 and 7 read the halves of the last layer's parts and write the last layer's rows. -/
theorem last_AdamDown : ∀ t : Fin cfg0.N, 6 ≤ t.val → win0_3.index t = ![0, t.val - 6, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- The reference of `AdamDown` runs to its end, keeps its arguments and leaves every counter at zero. -/
theorem quiescent_AdamDownRefIdeal : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

set_option maxHeartbeats 4000000 in
/-- The gradient, the step and the two moments are the reference's, layer by layer and entry by entry. -/
theorem algebraic_AdamDownIdeal_AdamDownRefIdeal : Cert.algebraic_AdamDownIdeal_AdamDownRefIdeal := by
  intro m ρ m' ρ' _ hagree
  refine ⟨_, _, _, _, Cert.AdamDownIdeal.Value.run_blocks (F := Ideal) m ρ, ?_⟩
  refine (θ_run Cert.AdamDownRefIdeal.defs _ _).mono (fun _ h c =>
    ⟨(h c).1.trans (Eq.symm ((dats m 0 c).arrAt_eq_of_covers 7 _ (by decide +kernel) fun t _ y => ?_)),
      (h c).2.1.trans (Eq.symm ((dats m 0 c).arrAt_eq_of_covers 8 _ (by decide +kernel) fun t _ y => ?_)),
      (h c).2.2.1.trans (Eq.symm ((dats m 0 c).arrAt_eq_of_covers 9 _ (by decide +kernel) fun t _ y => ?_)),
      (h c).2.2.2.1.trans (Eq.symm ((dats m 0 c).arrAt_eq_of_covers 10 _ (by decide +kernel) fun t _ y => ?_)),
      (h c).2.2.2.2⟩) (Cert.AdamDownRefIdeal.Value.run (F := Ideal) m' ρ')
  all_goals
    try unfold Cert.AdamDownRefIdeal.Value.res_main_v32
    simp only [hagree c, Cert.AdamDownRefIdeal.Stack.grad_eq]
    blk_simp
    first | rw [after0_7] | rw [after0_8] | rw [after0_9] | rw [after0_10]
    clear h
    have hN : t.val < 8 := t.isLt
    have hb : (y 0).val < 176 := (y 0).isLt
    obtain h0 | h1 | h2 | h3 : t.val < 2 ∨ t.val / 2 % 4 = 1 ∨ t.val / 2 % 4 = 2 ∨ 6 ≤ t.val := by omega
    · rw [outsAt0_A m c t (by omega) (by omega) (by omega) (by omega)]
      frame_out
      unfold_payloads
      pointwise
      rw [Cert.AdamDownRefIdeal.Stack.grad_apply _ _ _ _ 0 (t.val * 176 + (y 0).val) (by omega) _ (by omega) (by blk_simp [first_AdamDown t h0] <;> omega)]
      simp only [Fin.sum_univ_eight]
      blk_point [iblk, V, first_AdamDown t h0]
    · rw [outsAt0_B m c t (by omega) (by omega) (by omega) (by omega)]
      frame_out
      unfold_payloads
      pointwise
      rw [Cert.AdamDownRefIdeal.Stack.grad_apply _ _ _ _ 1 ((t.val - 2) * 176 + (y 0).val) (by omega) _ (by omega) (by blk_simp [second_AdamDown t h1] <;> omega)]
      simp only [Fin.sum_univ_eight]
      blk_point [iblk, V, second_AdamDown t h1]
    · rw [outsAt0_C m c t (by omega) (by omega) (by omega) (by omega)]
      frame_out
      unfold_payloads
      pointwise
      rw [Cert.AdamDownRefIdeal.Stack.grad_apply _ _ _ _ 2 ((t.val - 4) * 176 + (y 0).val) (by omega) _ (by omega) (by blk_simp [third_AdamDown t h2] <;> omega)]
      simp only [Fin.sum_univ_eight]
      blk_point [iblk, V, third_AdamDown t h2]
    · rw [outsAt0_D m c t (by omega) (by omega) (by omega) (by omega)]
      frame_out
      unfold_payloads
      pointwise
      rw [Cert.AdamDownRefIdeal.Stack.grad_apply _ _ _ _ 3 ((t.val - 6) * 176 + (y 0).val) (by omega) _ (by omega) (by blk_simp [last_AdamDown t h3] <;> omega)]
      simp only [Fin.sum_univ_eight]
      blk_point [iblk, V, last_AdamDown t h3]

end Cert.Proof

end
-- ==== Proof.AdamDt.lean ====
/- The AdamW step of the logarithms of the time steps: 8 parts of the gradient, 4 rows of 16. The
   eight devices' parts are summed in the order of the devices; the step is then taken entry by entry, over blocks of rows. -/
module

public import proofs.«01_k».proof.Defs
public import proofs.«01_k».proof.Proof.Gen.AdamDtIdeal.Value
public import proofs.«01_k».proof.Proof.Gen.AdamDtRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamDtIdeal.Gen Cert.AdamDtIdeal

/-- Grid point `t` holds the `t`-th block of rows of every array, and of every part of the gradient. -/
theorem rows_AdamDt : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamDt` terminates and leaves its arguments. -/
theorem quiescent_AdamDtRefIdeal : Cert.quiescent_AdamDtRefIdeal := fun m ρ _ =>
  (θ_run Cert.AdamDtRefIdeal.defs _ _).mono (fun r h => ⟨fun c => (h c).2.2.2.2, sem_eq_zero_of_no_sems (by decide) r.2⟩)
    (Cert.AdamDtRefIdeal.Value.run (F := Ideal) m ρ)

/-- The summed gradient, the step, and the two moments are the reference's, entry by entry. -/
theorem algebraic_AdamDtIdeal_AdamDtRefIdeal : Cert.algebraic_AdamDtIdeal_AdamDtRefIdeal := by
  intro m ρ m' ρ' _ hagree
  refine ⟨_, _, _, _, Cert.AdamDtIdeal.Value.run_blocks (F := Ideal) m ρ, ?_⟩
  refine (θ_run Cert.AdamDtRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamDtRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamDt t]

end Cert.Proof

end
-- ==== Proof.AdamGate.lean ====
/- The AdamW step of the gate or up projection: 1 part of the gradient, 4096 rows of 352. The
   gradient comes as one part; the step is then taken entry by entry, over blocks of rows. -/
module

public import proofs.«01_k».proof.Defs
public import proofs.«01_k».proof.Proof.Gen.AdamGateIdeal.Value
public import proofs.«01_k».proof.Proof.Gen.AdamGateRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamGateIdeal.Gen Cert.AdamGateIdeal

/-- Grid point `t` holds the `t`-th block of rows of every array, and of every part of the gradient. -/
theorem rows_AdamGate : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamGate` terminates and leaves its arguments. -/
theorem quiescent_AdamGateRefIdeal : Cert.quiescent_AdamGateRefIdeal := fun m ρ _ =>
  (θ_run Cert.AdamGateRefIdeal.defs _ _).mono (fun r h => ⟨fun c => (h c).2.2.2.2, sem_eq_zero_of_no_sems (by decide) r.2⟩)
    (Cert.AdamGateRefIdeal.Value.run (F := Ideal) m ρ)

/-- The summed gradient, the step, and the two moments are the reference's, entry by entry. -/
theorem algebraic_AdamGateIdeal_AdamGateRefIdeal : Cert.algebraic_AdamGateIdeal_AdamGateRefIdeal := by
  intro m ρ m' ρ' _ hagree
  refine ⟨_, _, _, _, Cert.AdamGateIdeal.Value.run_blocks (F := Ideal) m ρ, ?_⟩
  refine (θ_run Cert.AdamGateRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamGateRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_one]
    blk_point [iblk, V, rows_AdamGate t]

end Cert.Proof

end
-- ==== Proof.AdamGlu.lean ====
/- The AdamW step of the gated output matrix of the state space: 8 parts of the gradient, 128 rows of 256. The
   eight devices' parts are summed in the order of the devices; the step is then taken entry by entry, over blocks of rows. -/
module

public import proofs.«01_k».proof.Defs
public import proofs.«01_k».proof.Proof.Gen.AdamGluIdeal.Value
public import proofs.«01_k».proof.Proof.Gen.AdamGluRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamGluIdeal.Gen Cert.AdamGluIdeal

/-- Grid point `t` holds the `t`-th block of rows of every array, and of every part of the gradient. -/
theorem rows_AdamGlu : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamGlu` terminates and leaves its arguments. -/
theorem quiescent_AdamGluRefIdeal : Cert.quiescent_AdamGluRefIdeal := fun m ρ _ =>
  (θ_run Cert.AdamGluRefIdeal.defs _ _).mono (fun r h => ⟨fun c => (h c).2.2.2.2, sem_eq_zero_of_no_sems (by decide) r.2⟩)
    (Cert.AdamGluRefIdeal.Value.run (F := Ideal) m ρ)

/-- The summed gradient, the step, and the two moments are the reference's, entry by entry. -/
theorem algebraic_AdamGluIdeal_AdamGluRefIdeal : Cert.algebraic_AdamGluIdeal_AdamGluRefIdeal := by
  intro m ρ m' ρ' _ hagree
  refine ⟨_, _, _, _, Cert.AdamGluIdeal.Value.run_blocks (F := Ideal) m ρ, ?_⟩
  refine (θ_run Cert.AdamGluRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamGluRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamGlu t]

end Cert.Proof

end
-- ==== Proof.AdamIn.lean ====
/- The AdamW step of the input projection: 1 part of the gradient, 4096 rows of 224. The
   gradient comes as one part; the step is then taken entry by entry, over blocks of rows. -/
module

public import proofs.«01_k».proof.Defs
public import proofs.«01_k».proof.Proof.Gen.AdamInIdeal.Value
public import proofs.«01_k».proof.Proof.Gen.AdamInRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamInIdeal.Gen Cert.AdamInIdeal

/-- Grid point `t` holds the `t`-th block of rows of every array, and of every part of the gradient. -/
theorem rows_AdamIn : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamIn` terminates and leaves its arguments. -/
theorem quiescent_AdamInRefIdeal : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The summed gradient, the step, and the two moments are the reference's, entry by entry. -/
theorem algebraic_AdamInIdeal_AdamInRefIdeal : Cert.algebraic_AdamInIdeal_AdamInRefIdeal := by
  intro m ρ m' ρ' _ hagree
  refine ⟨_, _, _, _, Cert.AdamInIdeal.Value.run_blocks (F := Ideal) m ρ, ?_⟩
  refine (θ_run Cert.AdamInRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamInRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_one]
    blk_point [iblk, V, rows_AdamIn t]

end Cert.Proof

end
-- ==== Proof.AdamLam.lean ====
/- The AdamW step of the real and imaginary parts of the eigenvalues: 8 parts of the gradient, 64 rows of 64. The
   eight devices' parts are summed in the order of the devices; the step is then taken entry by entry, over blocks of rows. -/
module

public import proofs.«01_k».proof.Defs
public import proofs.«01_k».proof.Proof.Gen.AdamLamIdeal.Value
public import proofs.«01_k».proof.Proof.Gen.AdamLamRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamLamIdeal.Gen Cert.AdamLamIdeal

/-- Grid point `t` holds the `t`-th block of rows of every array, and of every part of the gradient. -/
theorem rows_AdamLam : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamLam` terminates and leaves its arguments. -/
theorem quiescent_AdamLamRefIdeal : Cert.quiescent_AdamLamRefIdeal := fun m ρ _ =>
  (θ_run Cert.AdamLamRefIdeal.defs _ _).mono (fun r h => ⟨fun c => (h c).2.2.2.2, sem_eq_zero_of_no_sems (by decide) r.2⟩)
    (Cert.AdamLamRefIdeal.Value.run (F := Ideal) m ρ)

/-- The summed gradient, the step, and the two moments are the reference's, entry by entry. -/
theorem algebraic_AdamLamIdeal_AdamLamRefIdeal : Cert.algebraic_AdamLamIdeal_AdamLamRefIdeal := by
  intro m ρ m' ρ' _ hagree
  refine ⟨_, _, _, _, Cert.AdamLamIdeal.Value.run_blocks (F := Ideal) m ρ, ?_⟩
  refine (θ_run Cert.AdamLamRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamLamRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamLam t]

end Cert.Proof

end
-- ==== Proof.AdamLn.lean ====
/- The AdamW step of a gain or bias of a layer norm: 8 parts of the gradient, 4 rows of 1024. The
   eight devices' parts are summed in the order of the devices; the step is then taken entry by entry, over blocks of rows. -/
module

public import proofs.«01_k».proof.Defs
public import proofs.«01_k».proof.Proof.Gen.AdamLnIdeal.Value
public import proofs.«01_k».proof.Proof.Gen.AdamLnRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamLnIdeal.Gen Cert.AdamLnIdeal

/-- Grid point `t` holds the `t`-th block of rows of every array, and of every part of the gradient. -/
theorem rows_AdamLn : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamLn` terminates and leaves its arguments. -/
theorem quiescent_AdamLnRefIdeal : Cert.quiescent_AdamLnRefIdeal := fun m ρ _ =>
  (θ_run Cert.AdamLnRefIdeal.defs _ _).mono (fun r h => ⟨fun c => (h c).2.2.2.2, sem_eq_zero_of_no_sems (by decide) r.2⟩)
    (Cert.AdamLnRefIdeal.Value.run (F := Ideal) m ρ)

/-- The summed gradient, the step, and the two moments are the reference's, entry by entry. -/
theorem algebraic_AdamLnIdeal_AdamLnRefIdeal : Cert.algebraic_AdamLnIdeal_AdamLnRefIdeal := by
  intro m ρ m' ρ' _ hagree
  refine ⟨_, _, _, _, Cert.AdamLnIdeal.Value.run_blocks (F := Ideal) m ρ, ?_⟩
  refine (θ_run Cert.AdamLnRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamLnRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamLn t]

end Cert.Proof

end
-- ==== Proof.AdamO.lean ====
/- The AdamW step of the output projection: four layers of 128 rows, each with its own array of the eight devices' parts of the
   gradient. The grid walks the layers and, in each, two halves of its rows; a grid point sums the eight parts of its
   block and takes the step there. -/
module

public import proofs.«01_k».proof.Defs
public import proofs.«01_k».proof.Proof.Gen.AdamOIdeal.Value
public import proofs.«01_k».proof.Proof.Gen.AdamORefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AdamORefIdeal.Stack

open Idealize.ShloMosaic Idealize.SL.Sem Cert.AdamORefIdeal Cert.AdamORefIdeal.Gen

/-- The reference's gradient: the layers' summed parts, one layer below the other. -/
@[irreducible] def grad (p0 p1 p2 p3 : Vec Ideal S8x128x1024 .bf16) : Vec Ideal S512x1024 .f32 :=
  concatenate S512x1024 0
    [⟨S128x1024, (Host.reduceAdd (F := Ideal) (extf .f32 p0 bitsLt_bf16_f32) (constant S_ .f32 0x00000000#32)
        reducesTo_S8x128x1024_S128x1024_d0 h_S_ : Vec Ideal S128x1024 .f32)⟩,
      ⟨S128x1024, (Host.reduceAdd (F := Ideal) (extf .f32 p1 bitsLt_bf16_f32) (constant S_ .f32 0x00000000#32)
        reducesTo_S8x128x1024_S128x1024_d0 h_S_ : Vec Ideal S128x1024 .f32)⟩,
      ⟨S128x1024, (Host.reduceAdd (F := Ideal) (extf .f32 p2 bitsLt_bf16_f32) (constant S_ .f32 0x00000000#32)
        reducesTo_S8x128x1024_S128x1024_d0 h_S_ : Vec Ideal S128x1024 .f32)⟩,
      ⟨S128x1024, (Host.reduceAdd (F := Ideal) (extf .f32 p3 bitsLt_bf16_f32) (constant S_ .f32 0x00000000#32)
        reducesTo_S8x128x1024_S128x1024_d0 h_S_ : Vec Ideal S128x1024 .f32)⟩]
    concatenates_S128x1024_S128x1024_S128x1024_S128x1024_S512x1024_d0

/-- The reference's text for it. -/
theorem grad_eq (p0 p1 p2 p3 : Vec Ideal S8x128x1024 .bf16) :
    concatenate S512x1024 0
      [⟨S128x1024, (Host.reduceAdd (F := Ideal) (extf .f32 p0 bitsLt_bf16_f32) (constant S_ .f32 0x00000000#32)
        reducesTo_S8x128x1024_S128x1024_d0 h_S_ : Vec Ideal S128x1024 .f32)⟩,
        ⟨S128x1024, (Host.reduceAdd (F := Ideal) (extf .f32 p1 bitsLt_bf16_f32) (constant S_ .f32 0x00000000#32)
        reducesTo_S8x128x1024_S128x1024_d0 h_S_ : Vec Ideal S128x1024 .f32)⟩,
        ⟨S128x1024, (Host.reduceAdd (F := Ideal) (extf .f32 p2 bitsLt_bf16_f32) (constant S_ .f32 0x00000000#32)
        reducesTo_S8x128x1024_S128x1024_d0 h_S_ : Vec Ideal S128x1024 .f32)⟩,
        ⟨S128x1024, (Host.reduceAdd (F := Ideal) (extf .f32 p3 bitsLt_bf16_f32) (constant S_ .f32 0x00000000#32)
        reducesTo_S8x128x1024_S128x1024_d0 h_S_ : Vec Ideal S128x1024 .f32)⟩]
      concatenates_S128x1024_S128x1024_S128x1024_S128x1024_S512x1024_d0 = grad p0 p1 p2 p3 := by
  unfold grad
  rfl

/-- A row of the gradient, the `i`-th of layer `k`, is the sum of the eight parts' `i`-th rows. -/
theorem grad_apply (p0 p1 p2 p3 : Vec Ideal S8x128x1024 .bf16) (k i : ℕ) (hi : i < 128) (j : S512x1024.Idx)
    (hk : k < 4) (hj : (j 0).val = k * 128 + i) :
    grad p0 p1 p2 p3 j
      = ∑ d : Fin 8, (if k = 0 then p0 else if k = 1 then p1 else if k = 2 then p2 else p3) (ix3 d ⟨i, hi⟩ (j 1)) := by
  unfold grad
  pointwise
  obtain rfl | rfl | rfl | rfl : k = 0 ∨ k = 1 ∨ k = 2 ∨ k = 3 := by omega
  all_goals
    split_ifs <;> first
      | (exfalso; omega)
      | exact Finset.sum_congr rfl fun d _ => by congr 2; apply Fin.ext; dsimp only; omega

end Cert.AdamORefIdeal.Stack

namespace Cert.Proof

open Idealize.ShloMosaic Idealize.SL.Sem Cert.AdamOIdeal.Gen Cert.AdamOIdeal

/-- Grid points 0 and 1 read the halves of the first layer's parts and write the first layer's rows. -/
theorem first_AdamO : ∀ t : Fin cfg0.N, t.val < 2 → win0_0.index t = ![0, t.val, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- Grid points 2 and 3 read the halves of the second layer's parts and write the second layer's rows. -/
theorem second_AdamO : ∀ t : Fin cfg0.N, t.val / 2 % 4 = 1 → win0_1.index t = ![0, t.val - 2, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- Grid points 4 and 5 read the halves of the third layer's parts and write the third layer's rows. -/
theorem third_AdamO : ∀ t : Fin cfg0.N, t.val / 2 % 4 = 2 → win0_2.index t = ![0, t.val - 4, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- Grid points 6 and 7 read the halves of the last layer's parts and write the last layer's rows. -/
theorem last_AdamO : ∀ t : Fin cfg0.N, 6 ≤ t.val → win0_3.index t = ![0, t.val - 6, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] := by
  decide +kernel

/-- The reference of `AdamO` runs to its end, keeps its arguments and leaves every counter at zero. -/
theorem quiescent_AdamORefIdeal : Cert.quiescent_AdamORefIdeal := fun m ρ _ =>
  (θ_run Cert.AdamORefIdeal.defs _ _).mono (fun r h => ⟨fun c => (h c).2.2.2.2, sem_eq_zero_of_no_sems (by decide) r.2⟩)
    (Cert.AdamORefIdeal.Value.run (F := Ideal) m ρ)

set_option maxHeartbeats 4000000 in
/-- The gradient, the step and the two moments are the reference's, layer by layer and entry by entry. -/
theorem algebraic_AdamOIdeal_AdamORefIdeal : Cert.algebraic_AdamOIdeal_AdamORefIdeal := by
  intro m ρ m' ρ' _ hagree
  refine ⟨_, _, _, _, Cert.AdamOIdeal.Value.run_blocks (F := Ideal) m ρ, ?_⟩
  refine (θ_run Cert.AdamORefIdeal.defs _ _).mono (fun _ h c =>
    ⟨(h c).1.trans (Eq.symm ((dats m 0 c).arrAt_eq_of_covers 7 _ (by decide +kernel) fun t _ y => ?_)),
      (h c).2.1.trans (Eq.symm ((dats m 0 c).arrAt_eq_of_covers 8 _ (by decide +kernel) fun t _ y => ?_)),
      (h c).2.2.1.trans (Eq.symm ((dats m 0 c).arrAt_eq_of_covers 9 _ (by decide +kernel) fun t _ y => ?_)),
      (h c).2.2.2.1.trans (Eq.symm ((dats m 0 c).arrAt_eq_of_covers 10 _ (by decide +kernel) fun t _ y => ?_)),
      (h c).2.2.2.2⟩) (Cert.AdamORefIdeal.Value.run (F := Ideal) m' ρ')
  all_goals
    try unfold Cert.AdamORefIdeal.Value.res_main_v32
    simp only [hagree c, Cert.AdamORefIdeal.Stack.grad_eq]
    blk_simp
    first | rw [after0_7] | rw [after0_8] | rw [after0_9] | rw [after0_10]
    clear h
    have hN : t.val < 8 := t.isLt
    have hb : (y 0).val < 64 := (y 0).isLt
    obtain h0 | h1 | h2 | h3 : t.val < 2 ∨ t.val / 2 % 4 = 1 ∨ t.val / 2 % 4 = 2 ∨ 6 ≤ t.val := by omega
    · rw [outsAt0_A m c t (by omega) (by omega) (by omega) (by omega)]
      frame_out
      unfold_payloads
      pointwise
      rw [Cert.AdamORefIdeal.Stack.grad_apply _ _ _ _ 0 (t.val * 64 + (y 0).val) (by omega) _ (by omega) (by blk_simp [first_AdamO t h0] <;> omega)]
      simp only [Fin.sum_univ_eight]
      blk_point [iblk, V, first_AdamO t h0]
    · rw [outsAt0_B m c t (by omega) (by omega) (by omega) (by omega)]
      frame_out
      unfold_payloads
      pointwise
      rw [Cert.AdamORefIdeal.Stack.grad_apply _ _ _ _ 1 ((t.val - 2) * 64 + (y 0).val) (by omega) _ (by omega) (by blk_simp [second_AdamO t h1] <;> omega)]
      simp only [Fin.sum_univ_eight]
      blk_point [iblk, V, second_AdamO t h1]
    · rw [outsAt0_C m c t (by omega) (by omega) (by omega) (by omega)]
      frame_out
      unfold_payloads
      pointwise
      rw [Cert.AdamORefIdeal.Stack.grad_apply _ _ _ _ 2 ((t.val - 4) * 64 + (y 0).val) (by omega) _ (by omega) (by blk_simp [third_AdamO t h2] <;> omega)]
      simp only [Fin.sum_univ_eight]
      blk_point [iblk, V, third_AdamO t h2]
    · rw [outsAt0_D m c t (by omega) (by omega) (by omega) (by omega)]
      frame_out
      unfold_payloads
      pointwise
      rw [Cert.AdamORefIdeal.Stack.grad_apply _ _ _ _ 3 ((t.val - 6) * 64 + (y 0).val) (by omega) _ (by omega) (by blk_simp [last_AdamO t h3] <;> omega)]
      simp only [Fin.sum_univ_eight]
      blk_point [iblk, V, last_AdamO t h3]

end Cert.Proof

end
-- ==== Proof.AdamPool.lean ====
/- The AdamW step of the pooling blocks, and the two output matrices of the state space: 8 parts of the gradient, 1024 rows of 64. The
   eight devices' parts are summed in the order of the devices; the step is then taken entry by entry, over blocks of rows. -/
module

public import proofs.«01_k».proof.Defs
public import proofs.«01_k».proof.Proof.Gen.AdamPoolIdeal.Value
public import proofs.«01_k».proof.Proof.Gen.AdamPoolRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamPoolIdeal.Gen Cert.AdamPoolIdeal

/-- Grid point `t` holds the `t`-th block of rows of every array, and of every part of the gradient. -/
theorem rows_AdamPool : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamPool` terminates and leaves its arguments. -/
theorem quiescent_AdamPoolRefIdeal : Cert.quiescent_AdamPoolRefIdeal := fun m ρ _ =>
  (θ_run Cert.AdamPoolRefIdeal.defs _ _).mono (fun r h => ⟨fun c => (h c).2.2.2.2, sem_eq_zero_of_no_sems (by decide) r.2⟩)
    (Cert.AdamPoolRefIdeal.Value.run (F := Ideal) m ρ)

/-- The summed gradient, the step, and the two moments are the reference's, entry by entry. -/
theorem algebraic_AdamPoolIdeal_AdamPoolRefIdeal : Cert.algebraic_AdamPoolIdeal_AdamPoolRefIdeal := by
  intro m ρ m' ρ' _ hagree
  refine ⟨_, _, _, _, Cert.AdamPoolIdeal.Value.run_blocks (F := Ideal) m ρ, ?_⟩
  refine (θ_run Cert.AdamPoolRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamPoolRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamPool t]

end Cert.Proof

end
-- ==== Proof.AdamSc.lean ====
/- The AdamW step of the taps of the short convolution: 8 parts of the gradient, 12 rows of 32. The
   eight devices' parts are summed in the order of the devices; the step is then taken entry by entry, over blocks of rows. -/
module

public import proofs.«01_k».proof.Defs
public import proofs.«01_k».proof.Proof.Gen.AdamScIdeal.Value
public import proofs.«01_k».proof.Proof.Gen.AdamScRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamScIdeal.Gen Cert.AdamScIdeal

/-- Grid point `t` holds the `t`-th block of rows of every array, and of every part of the gradient. -/
theorem rows_AdamSc : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamSc` terminates and leaves its arguments. -/
theorem quiescent_AdamScRefIdeal : Cert.quiescent_AdamScRefIdeal := fun m ρ _ =>
  (θ_run Cert.AdamScRefIdeal.defs _ _).mono (fun r h => ⟨fun c => (h c).2.2.2.2, sem_eq_zero_of_no_sems (by decide) r.2⟩)
    (Cert.AdamScRefIdeal.Value.run (F := Ideal) m ρ)

/-- The summed gradient, the step, and the two moments are the reference's, entry by entry. -/
theorem algebraic_AdamScIdeal_AdamScRefIdeal : Cert.algebraic_AdamScIdeal_AdamScRefIdeal := by
  intro m ρ m' ρ' _ hagree
  refine ⟨_, _, _, _, Cert.AdamScIdeal.Value.run_blocks (F := Ideal) m ρ, ?_⟩
  refine (θ_run Cert.AdamScRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamScRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamSc t]

end Cert.Proof

end
-- ==== Proof.AdamVec.lean ====
/- The AdamW step of a layer vector of one channel group: 8 parts of the gradient, 4 rows of 256. The
   eight devices' parts are summed in the order of the devices; the step is then taken entry by entry, over blocks of rows. -/
module

public import proofs.«01_k».proof.Defs
public import proofs.«01_k».proof.Proof.Gen.AdamVecIdeal.Value
public import proofs.«01_k».proof.Proof.Gen.AdamVecRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.AdamVecIdeal.Gen Cert.AdamVecIdeal

/-- Grid point `t` holds the `t`-th block of rows of every array, and of every part of the gradient. -/
theorem rows_AdamVec : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] := by
  decide +kernel

/-- The reference of `AdamVec` terminates and leaves its arguments. -/
theorem quiescent_AdamVecRefIdeal : Cert.quiescent_AdamVecRefIdeal := fun m ρ _ =>
  (θ_run Cert.AdamVecRefIdeal.defs _ _).mono (fun r h => ⟨fun c => (h c).2.2.2.2, sem_eq_zero_of_no_sems (by decide) r.2⟩)
    (Cert.AdamVecRefIdeal.Value.run (F := Ideal) m ρ)

/-- The summed gradient, the step, and the two moments are the reference's, entry by entry. -/
theorem algebraic_AdamVecIdeal_AdamVecRefIdeal : Cert.algebraic_AdamVecIdeal_AdamVecRefIdeal := by
  intro m ρ m' ρ' _ hagree
  refine ⟨_, _, _, _, Cert.AdamVecIdeal.Value.run_blocks (F := Ideal) m ρ, ?_⟩
  refine (θ_run Cert.AdamVecRefIdeal.defs _ _).mono (fun _ h c =>
    ⟨(h c).1.trans (Eq.symm ((dats m 0 c).arrAt_eq_of_covers 4 _ (by decide +kernel) fun t _ y => ?_)),
      (h c).2.1.trans (Eq.symm ((dats m 0 c).arrAt_eq_of_covers 5 _ (by decide +kernel) fun t _ y => ?_)),
      (h c).2.2.1.trans (Eq.symm ((dats m 0 c).arrAt_eq_of_covers 6 _ (by decide +kernel) fun t _ y => ?_)),
      (h c).2.2.2.1.trans (Eq.symm ((dats m 0 c).arrAt_eq_of_covers 7 _ (by decide +kernel) fun t _ y => ?_)),
      (h c).2.2.2.2⟩) (Cert.AdamVecRefIdeal.Value.run (F := Ideal) m' ρ')
  all_goals
    simp only [hagree c]
    blk_simp
    first | rw [after0_4] | rw [after0_5] | rw [after0_6] | rw [after0_7]
    frame_out
    clear h hagree
    unfold_payloads
    pointwise
    try simp only [Fin.sum_univ_eight]
    blk_point [iblk, V, rows_AdamVec t]

end Cert.Proof

end
-- ==== Proof.DownLn0.lean ====
/- The down projection of the first layer, the gated residual on it and the layer norm of the sum. The kernel takes the rows in
   blocks of 512; each row is worked out on its own, as in the reference. -/
module

public import proofs.«01_k».proof.Defs
public import proofs.«01_k».proof.Proof.Gen.DownLn0Ideal.Value
public import proofs.«01_k».proof.Proof.Gen.DownLn0RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.DownLn0Ideal.Gen Cert.DownLn0Ideal

/-- Grid point `t` holds the `t`-th block of rows, the layer's gate and norm parameters, and the matrix whole. -/
theorem rows_DownLn0 : ∀ t : Fin cfg0.N, win0_0.index t = ![t.val, 0] ∧ win0_1.index t = ![0, 0] ∧
    win0_2.index t = ![t.val, 0] ∧ win0_3.index t = ![0, 5, 0, 0] ∧ win0_4.index t = ![0, 0, 0] ∧
    win0_5.index t = ![0, 0, 0] ∧ win0_6.index t = ![t.val, 0] ∧ win0_7.index t = ![t.val, 0] ∧
    win0_8.index t = ![t.val, 0] := by
  decide +kernel

/-- The reference of `DownLn0` terminates and leaves its arguments. -/
theorem quiescent_DownLn0RefIdeal : Cert.quiescent_DownLn0RefIdeal := fun m ρ _ =>
  (θ_run Cert.DownLn0RefIdeal.defs _ _).mono (fun r h => ⟨fun c => (h c).2.2.2, sem_eq_zero_of_no_sems (by decide) r.2⟩)
    (Cert.DownLn0RefIdeal.Value.run (F := Ideal) m ρ)

/-- The projection, the residual sum and its layer norm are the reference's, entry by entry. -/
theorem algebraic_DownLn0Ideal_DownLn0RefIdeal : Cert.algebraic_DownLn0Ideal_DownLn0RefIdeal := by
  intro m ρ m' ρ' _ hagree
  refine ⟨_, _, _, Cert.DownLn0Ideal.Value.run_blocks (F := Ideal) m ρ, ?_⟩
  refine (θ_run Cert.DownLn0RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.DownLn0RefIdeal.Value.run (F := Ideal) m' ρ')
  all_goals
    try unfold Cert.DownLn0RefIdeal.Value.res_main_v38
    simp only [hagree c]
    blk_simp
    first | rw [after0_6] | rw [after0_7] | rw [after0_8]
    frame_out
    clear h hagree
    unfold_payloads
    pointwise
    blk_point [iblk, V, rows_DownLn0 t]

end Cert.Proof

end
-- ==== Proof.DownLn1.lean ====
/- The down projection of the second layer, the gated residual on it and the layer norm of the sum. The kernel takes the rows in
   blocks of 512; each row is worked out on its own, as in the reference. -/
module

public import proofs.«01_k».proof.Defs
public import proofs.«01_k».proof.Proof.Gen.DownLn1Ideal.Value
public import proofs.«01_k».proof.Proof.Gen.DownLn1RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.DownLn1Ideal.Gen Cert.DownLn1Ideal

/-- Grid point `t` holds the `t`-th block of rows, the layer's gate and norm parameters, and the matrix whole. -/
theorem rows_DownLn1 : ∀ t : Fin cfg0.N, win0_0.index t = ![t.val, 0] ∧ win0_1.index t = ![0, 0] ∧
    win0_2.index t = ![t.val, 0] ∧ win0_3.index t = ![1, 5, 0, 0] ∧ win0_4.index t = ![1, 0, 0] ∧
    win0_5.index t = ![1, 0, 0] ∧ win0_6.index t = ![t.val, 0] ∧ win0_7.index t = ![t.val, 0] ∧
    win0_8.index t = ![t.val, 0] := by
  decide +kernel

/-- The reference of `DownLn1` terminates and leaves its arguments. -/
theorem quiescent_DownLn1RefIdeal : Cert.quiescent_DownLn1RefIdeal := fun m ρ _ =>
  (θ_run Cert.DownLn1RefIdeal.defs _ _).mono (fun r h => ⟨fun c => (h c).2.2.2, sem_eq_zero_of_no_sems (by decide) r.2⟩)
    (Cert.DownLn1RefIdeal.Value.run (F := Ideal) m ρ)

/-- The projection, the residual sum and its layer norm are the reference's, entry by entry. -/
theorem algebraic_DownLn1Ideal_DownLn1RefIdeal : Cert.algebraic_DownLn1Ideal_DownLn1RefIdeal := by
  intro m ρ m' ρ' _ hagree
  refine ⟨_, _, _, Cert.DownLn1Ideal.Value.run_blocks (F := Ideal) m ρ, ?_⟩
  refine (θ_run Cert.DownLn1RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.DownLn1RefIdeal.Value.run (F := Ideal) m' ρ')
  all_goals
    try unfold Cert.DownLn1RefIdeal.Value.res_main_v38
    simp only [hagree c]
    blk_simp
    first | rw [after0_6] | rw [after0_7] | rw [after0_8]
    frame_out
    clear h hagree
    unfold_payloads
    pointwise
    blk_point [iblk, V, rows_DownLn1 t]

end Cert.Proof

end
-- ==== Proof.DownLn2.lean ====
/- The down projection of the third layer, the gated residual on it and the layer norm of the sum. The kernel takes the rows in
   blocks of 512; each row is worked out on its own, as in the reference. -/
module

public import proofs.«01_k».proof.Defs
public import proofs.«01_k».proof.Proof.Gen.DownLn2Ideal.Value
public import proofs.«01_k».proof.Proof.Gen.DownLn2RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.DownLn2Ideal.Gen Cert.DownLn2Ideal

/-- Grid point `t` holds the `t`-th block of rows, the layer's gate and norm parameters, and the matrix whole. -/
theorem rows_DownLn2 : ∀ t : Fin cfg0.N, win0_0.index t = ![t.val, 0] ∧ win0_1.index t = ![0, 0] ∧
    win0_2.index t = ![t.val, 0] ∧ win0_3.index t = ![2, 5, 0, 0] ∧ win0_4.index t = ![2, 0, 0] ∧
    win0_5.index t = ![2, 0, 0] ∧ win0_6.index t = ![t.val, 0] ∧ win0_7.index t = ![t.val, 0] ∧
    win0_8.index t = ![t.val, 0] := by
  decide +kernel

/-- The reference of `DownLn2` terminates and leaves its arguments. -/
theorem quiescent_DownLn2RefIdeal : Cert.quiescent_DownLn2RefIdeal := fun m ρ _ =>
  (θ_run Cert.DownLn2RefIdeal.defs _ _).mono (fun r h => ⟨fun c => (h c).2.2.2, sem_eq_zero_of_no_sems (by decide) r.2⟩)
    (Cert.DownLn2RefIdeal.Value.run (F := Ideal) m ρ)

/-- The projection, the residual sum and its layer norm are the reference's, entry by entry. -/
theorem algebraic_DownLn2Ideal_DownLn2RefIdeal : Cert.algebraic_DownLn2Ideal_DownLn2RefIdeal := by
  intro m ρ m' ρ' _ hagree
  refine ⟨_, _, _, Cert.DownLn2Ideal.Value.run_blocks (F := Ideal) m ρ, ?_⟩
  refine (θ_run Cert.DownLn2RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.DownLn2RefIdeal.Value.run (F := Ideal) m' ρ')
  all_goals
    try unfold Cert.DownLn2RefIdeal.Value.res_main_v38
    simp only [hagree c]
    blk_simp
    first | rw [after0_6] | rw [after0_7] | rw [after0_8]
    frame_out
    clear h hagree
    unfold_payloads
    pointwise
    blk_point [iblk, V, rows_DownLn2 t]

end Cert.Proof

end
-- ==== Proof.DownLn3.lean ====
/- The down projection of the last layer, the gated residual on it and the layer norm of the sum. The kernel takes the rows in
   blocks of 512; each row is worked out on its own, as in the reference. -/
module

public import proofs.«01_k».proof.Defs
public import proofs.«01_k».proof.Proof.Gen.DownLn3Ideal.Value
public import proofs.«01_k».proof.Proof.Gen.DownLn3RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.DownLn3Ideal.Gen Cert.DownLn3Ideal

/-- Grid point `t` holds the `t`-th block of rows, the layer's gate and norm parameters, and the matrix whole. -/
theorem rows_DownLn3 : ∀ t : Fin cfg0.N, win0_0.index t = ![t.val, 0] ∧ win0_1.index t = ![0, 0] ∧
    win0_2.index t = ![t.val, 0] ∧ win0_3.index t = ![3, 5, 0, 0] ∧ win0_4.index t = ![3, 0, 0] ∧
    win0_5.index t = ![3, 0, 0] ∧ win0_6.index t = ![t.val, 0] ∧ win0_7.index t = ![t.val, 0] ∧
    win0_8.index t = ![t.val, 0] := by
  decide +kernel

/-- The reference of `DownLn3` terminates and leaves its arguments. -/
theorem quiescent_DownLn3RefIdeal : Cert.quiescent_DownLn3RefIdeal := fun m ρ _ =>
  (θ_run Cert.DownLn3RefIdeal.defs _ _).mono (fun r h => ⟨fun c => (h c).2.2.2, sem_eq_zero_of_no_sems (by decide) r.2⟩)
    (Cert.DownLn3RefIdeal.Value.run (F := Ideal) m ρ)

/-- The projection, the residual sum and its layer norm are the reference's, entry by entry. -/
theorem algebraic_DownLn3Ideal_DownLn3RefIdeal : Cert.algebraic_DownLn3Ideal_DownLn3RefIdeal := by
  intro m ρ m' ρ' _ hagree
  refine ⟨_, _, _, Cert.DownLn3Ideal.Value.run_blocks (F := Ideal) m ρ, ?_⟩
  refine (θ_run Cert.DownLn3RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.DownLn3RefIdeal.Value.run (F := Ideal) m' ρ')
  all_goals
    try unfold Cert.DownLn3RefIdeal.Value.res_main_v38
    simp only [hagree c]
    blk_simp
    first | rw [after0_6] | rw [after0_7] | rw [after0_8]
    frame_out
    clear h hagree
    unfold_payloads
    pointwise
    blk_point [iblk, V, rows_DownLn3 t]

end Cert.Proof

end
-- ==== Proof.DwDown.lean ====
/- The weight gradient `DwDown`: a contraction of the saved activation with the cotangent of the down projection over the 8192 rows. The kernel walks the
   rows in sixteen blocks of 512, keeps the running sum in a scratch it zeroes at the first block, and writes the sum
   out at the last; the reference contracts all the rows at once. Over the extended reals the two are the same sum:
   addition is commutative and associative there, and nothing else is used. -/
module

public import proofs.«01_k».proof.Defs
public import proofs.«01_k».proof.Proof.Gen.DwDownIdeal.Value
public import proofs.«01_k».proof.Proof.Gen.DwDownRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DwDownIdeal.RowSum

open Cert.DwDownIdeal Cert.DwDownIdeal.Gen Cert.DwDownIdeal.Value Idealize.ShloMosaic Idealize.ShloMosaic.TcCoe Idealize.SL.Sem

variable (m : (ℓ : Loc nD τ sig) → Buf (Elt Ideal) ℓ)

/-- What one block adds to the running sum, entry by entry: the products over the block's 512 rows. -/
theorem step_apply (b : Vec Ideal S512x1024 .bf16) (acc : Vec Ideal S2816x1024 .f32) (a : Vec Ideal S512x2816 .bf16)
    (j : S2816x1024.Idx) : k0_pay2 b acc a j = acc j + ∑ k : Fin 512, a (ix2 k (j 0)) * b (ix2 k (j 1)) := by
  pointwise [k0_pay2]

/-- The running sum starts at zero. -/
theorem start_apply (j : S2816x1024.Idx) : k0_pay1 (F := Ideal) j = 0 := by
  pointwise [k0_pay1]

/-- The scratch is read back as what the point before left in it. -/
theorem found_apply (h : scM0_0.IsWhole) (x : Vec Ideal S2816x1024 .f32) (j : S2816x1024.Idx) :
    View.read (Elt Ideal) (View.whole cc0_scratch0) (h.unread x) j = x j :=
  congrFun (read_unread_whole cc0_scratch0 h x) j

/-- Point `t` reads rows `512 t` to `512 t + 511`. -/
theorem where_read : ∀ t : Fin cfg0.N, win0_0.index t = ![t.val, 0] ∧ win0_1.index t = ![t.val, 0] := by
  decide +kernel

/-- The contraction over all 8192 rows. -/
def total (a : Vec Ideal S8192x2816 .bf16) (b : Vec Ideal S8192x1024 .bf16) (j : S2816x1024.Idx) : EReal :=
  ∑ l : Fin 8192, a (ix2 l (j 0)) * b (ix2 l (j 1))

/-- After the last point the scratch holds the contraction over all the rows. -/
theorem scratch_total (c : Dev nD) (t : Fin cfg0.N) (ht : t.val + 1 = 16) (j : S2816x1024.Idx) :
    (outsAt0 m c t.val t.isLt).2 j = total (m ((c : Thread nD τ).loc main_arg0)) (m ((c : Thread nD τ).loc main_arg1)) j := by
  rw [Pipeline.eq_sum_fin_of_reset_step_apply_last (fun n h => (outsAt0 m c n h).2) 16 (fun _ => 0) _
      (fun t h j => by rw [outsAt0_A m c t h (by omega)]; frame_out; rw [step_apply, start_apply])
      (fun t h j => by
        by_cases h1 : t.val % 16 = 15
        · rw [outsAt0_C m c t h h1]; frame_out; rw [step_apply]; exact congrArg (· + _) (found_apply _ _ j)
        · rw [outsAt0_B m c t h h1]; frame_out; rw [step_apply]; exact congrArg (· + _) (found_apply _ _ j))
      (le_of_eq N_0) t ht j]
  rw [zero_add]
  unfold total
  refine Fin.sum_mul_add_congr fun t k hl => ?_
  congr 1 <;> blk_ext [iblk, V, where_read t]

/-- The array the kernel writes is that contraction (rounding to the storage format is the identity here). -/
theorem out_total (c : Dev nD) (j : S2816x1024.Idx) :
    (G2 m c : S2816x1024.Idx → EReal) j = total (m ((c : Thread nD τ).loc main_arg0)) (m ((c : Thread nD τ).loc main_arg1)) j := by
  rw [← scratch_total m c t0_15 rfl, G2_last, ← outsAt0_sweep m c 15 (lt_of_lt_of_eq (by decide) N_0.symm)]
  rw [show outsAt0 m c 15 (lt_of_lt_of_eq (by decide) N_0.symm) = outsAt0 m c t0_15.val t0_15.isLt from rfl]
  rw [outsAt0_C m c t0_15 (by decide) (by decide)]
  frame_out
  rfl

end Cert.DwDownIdeal.RowSum

namespace Cert.Proof

open Idealize.ShloMosaic Idealize.SL.Sem

/-- The reference `DwDownRef` runs to its end, keeps its arguments and leaves every counter at zero. -/
theorem quiescent_DwDownRefIdeal : quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

/-- Over the extended reals kernel and reference write the same gradient, whatever the arguments hold. -/
theorem algebraic_DwDownIdeal_DwDownRefIdeal : algebraic_DwDownIdeal_DwDownRefIdeal := by
  intro m ρ m' ρ' _ hagree
  refine ⟨_, Cert.DwDownIdeal.Value.run (F := Ideal) m ρ, ?_⟩
  refine (θ_run Cert.DwDownRefIdeal.defs _ _).mono (fun _ h c => ⟨?_, (h c).2⟩) (Cert.DwDownRefIdeal.Value.run (F := Ideal) m' ρ')
  rw [(h c).1]
  simp only [hagree c]
  funext j
  refine Eq.trans ?_ (Cert.DwDownIdeal.RowSum.out_total m c j).symm
  unfold Cert.DwDownIdeal.RowSum.total
  pointwise
  exact Finset.sum_congr rfl fun k _ => mul_comm _ _

end Cert.Proof

end
-- ==== Proof.DwGate.lean ====
/- The weight gradient `DwGate`: a contraction of the cotangent of the gate projection with the modulated hidden state over the 8192 rows. The kernel walks the
   rows in sixteen blocks of 512, keeps the running sum in a scratch it zeroes at the first block, and writes the sum
   out at the last; the reference contracts all the rows at once. Over the extended reals the two are the same sum:
   addition is commutative and associative there, and nothing else is used. -/
module

public import proofs.«01_k».proof.Defs
public import proofs.«01_k».proof.Proof.Gen.DwGateIdeal.Value
public import proofs.«01_k».proof.Proof.Gen.DwGateRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DwGateIdeal.RowSum

open Cert.DwGateIdeal Cert.DwGateIdeal.Gen Cert.DwGateIdeal.Value Idealize.ShloMosaic Idealize.ShloMosaic.TcCoe Idealize.SL.Sem

variable (m : (ℓ : Loc nD τ sig) → Buf (Elt Ideal) ℓ)

/-- What one block adds to the running sum, entry by entry: the products over the block's 512 rows. -/
theorem step_apply (b : Vec Ideal S512x1024 .f32) (s h : Vec Ideal S1x1x1x1024 .f32) (acc : Vec Ideal S2816x1024 .f32) (a : Vec Ideal S512x2816 .bf16)
    (j : S2816x1024.Idx) : k0_pay2 b s h acc a j = acc j + ∑ k : Fin 512, a (ix2 k (j 0)) * (b (ix2 k (j 1)) * (1 + s (ix4 0 0 0 (j 1))) + h (ix4 0 0 0 (j 1))) := by
  pointwise [k0_pay2]

/-- The running sum starts at zero. -/
theorem start_apply (j : S2816x1024.Idx) : k0_pay1 (F := Ideal) j = 0 := by
  pointwise [k0_pay1]

/-- The scratch is read back as what the point before left in it. -/
theorem found_apply (h : scM0_0.IsWhole) (x : Vec Ideal S2816x1024 .f32) (j : S2816x1024.Idx) :
    View.read (Elt Ideal) (View.whole cc0_scratch0) (h.unread x) j = x j :=
  congrFun (read_unread_whole cc0_scratch0 h x) j

/-- Point `t` reads rows `512 t` to `512 t + 511`, and the layer's scale and shift. -/
theorem where_read : ∀ t : Fin cfg0.N, win0_0.index t = ![t.val, 0] ∧ win0_1.index t = ![t.val, 0] ∧
    win0_2.index t = ![3, 4, 0, 0] ∧ win0_3.index t = ![3, 3, 0, 0] := by
  decide +kernel

/-- The contraction over all 8192 rows. -/
def total (a : Vec Ideal S8192x2816 .bf16) (b : Vec Ideal S8192x1024 .f32) (μ : Vec Ideal S4x6x1x1024 .f32) (j : S2816x1024.Idx) : EReal :=
  ∑ l : Fin 8192, a (ix2 l (j 0)) * (b (ix2 l (j 1)) * (1 + μ (ix4 3 4 0 (j 1))) + μ (ix4 3 3 0 (j 1)))

/-- After the last point the scratch holds the contraction over all the rows. -/
theorem scratch_total (c : Dev nD) (t : Fin cfg0.N) (ht : t.val + 1 = 16) (j : S2816x1024.Idx) :
    (outsAt0 m c t.val t.isLt).2 j = total (m ((c : Thread nD τ).loc main_arg0)) (m ((c : Thread nD τ).loc main_arg1)) (m ((c : Thread nD τ).loc main_arg2)) j := by
  rw [Pipeline.eq_sum_fin_of_reset_step_apply_last (fun n h => (outsAt0 m c n h).2) 16 (fun _ => 0) _
      (fun t h j => by rw [outsAt0_A m c t h (by omega)]; frame_out; rw [step_apply, start_apply])
      (fun t h j => by
        by_cases h1 : t.val % 16 = 15
        · rw [outsAt0_C m c t h h1]; frame_out; rw [step_apply]; exact congrArg (· + _) (found_apply _ _ j)
        · rw [outsAt0_B m c t h h1]; frame_out; rw [step_apply]; exact congrArg (· + _) (found_apply _ _ j))
      (le_of_eq N_0) t ht j]
  rw [zero_add]
  unfold total
  refine Fin.sum_mul_add_congr fun t k hl => ?_
  blk_point [iblk, V, where_read t]

/-- The array the kernel writes is that contraction (rounding to the storage format is the identity here). -/
theorem out_total (c : Dev nD) (j : S2816x1024.Idx) :
    (G4 m c : S2816x1024.Idx → EReal) j = total (m ((c : Thread nD τ).loc main_arg0)) (m ((c : Thread nD τ).loc main_arg1)) (m ((c : Thread nD τ).loc main_arg2)) j := by
  rw [← scratch_total m c t0_15 rfl, G4_last, ← outsAt0_sweep m c 15 (lt_of_lt_of_eq (by decide) N_0.symm)]
  rw [show outsAt0 m c 15 (lt_of_lt_of_eq (by decide) N_0.symm) = outsAt0 m c t0_15.val t0_15.isLt from rfl]
  rw [outsAt0_C m c t0_15 (by decide) (by decide)]
  frame_out
  rfl

end Cert.DwGateIdeal.RowSum

namespace Cert.Proof

open Idealize.ShloMosaic Idealize.SL.Sem

/-- The reference `DwGateRef` runs to its end, keeps its arguments and leaves every counter at zero. -/
theorem quiescent_DwGateRefIdeal : quiescent_DwGateRefIdeal := fun m ρ _ =>
  (θ_run Cert.DwGateRefIdeal.defs _ _).mono (fun r h => ⟨fun c => (h c).2, sem_eq_zero_of_no_sems (by decide) r.2⟩)
    (Cert.DwGateRefIdeal.Value.run (F := Ideal) m ρ)

/-- Over the extended reals kernel and reference write the same gradient, whatever the arguments hold. -/
theorem algebraic_DwGateIdeal_DwGateRefIdeal : algebraic_DwGateIdeal_DwGateRefIdeal := by
  intro m ρ m' ρ' _ hagree
  refine ⟨_, Cert.DwGateIdeal.Value.run (F := Ideal) m ρ, ?_⟩
  refine (θ_run Cert.DwGateRefIdeal.defs _ _).mono (fun _ h c => ⟨?_, (h c).2⟩) (Cert.DwGateRefIdeal.Value.run (F := Ideal) m' ρ')
  rw [(h c).1]
  simp only [hagree c]
  funext j
  refine Eq.trans ?_ (Cert.DwGateIdeal.RowSum.out_total m c j).symm
  unfold Cert.DwGateIdeal.RowSum.total
  pointwise

end Cert.Proof

end
-- ==== Proof.DwIn.lean ====
/- The weight gradient `DwIn`: a contraction of the cotangent of the mixer input with the modulated hidden state over the 8192 rows. The kernel walks the
   rows in sixteen blocks of 512, keeps the running sum in a scratch it zeroes at the first block, and writes the sum
   out at the last; the reference contracts all the rows at once. Over the extended reals the two are the same sum:
   addition is commutative and associative there, and nothing else is used. -/
module

public import proofs.«01_k».proof.Defs
public import proofs.«01_k».proof.Proof.Gen.DwInIdeal.Value
public import proofs.«01_k».proof.Proof.Gen.DwInRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DwInIdeal.RowSum

open Cert.DwInIdeal Cert.DwInIdeal.Gen Cert.DwInIdeal.Value Idealize.ShloMosaic Idealize.ShloMosaic.TcCoe Idealize.SL.Sem

variable (m : (ℓ : Loc nD τ sig) → Buf (Elt Ideal) ℓ)

/-- What one block adds to the running sum, entry by entry: the products over the block's 512 rows. -/
theorem step_apply (b : Vec Ideal S512x1024 .f32) (s h : Vec Ideal S1x1x1x1024 .f32) (acc : Vec Ideal S1792x1024 .f32) (a : Vec Ideal S512x1792 .bf16)
    (j : S1792x1024.Idx) : k0_pay2 b s h acc a j = acc j + ∑ k : Fin 512, a (ix2 k (j 0)) * (b (ix2 k (j 1)) * (1 + s (ix4 0 0 0 (j 1))) + h (ix4 0 0 0 (j 1))) := by
  pointwise [k0_pay2]

/-- The running sum starts at zero. -/
theorem start_apply (j : S1792x1024.Idx) : k0_pay1 (F := Ideal) j = 0 := by
  pointwise [k0_pay1]

/-- The scratch is read back as what the point before left in it. -/
theorem found_apply (h : scM0_0.IsWhole) (x : Vec Ideal S1792x1024 .f32) (j : S1792x1024.Idx) :
    View.read (Elt Ideal) (View.whole cc0_scratch0) (h.unread x) j = x j :=
  congrFun (read_unread_whole cc0_scratch0 h x) j

/-- Point `t` reads rows `512 t` to `512 t + 511`, and the layer's scale and shift. -/
theorem where_read : ∀ t : Fin cfg0.N, win0_0.index t = ![t.val, 0] ∧ win0_1.index t = ![t.val, 0] ∧
    win0_2.index t = ![3, 1, 0, 0] ∧ win0_3.index t = ![3, 0, 0, 0] := by
  decide +kernel

/-- The contraction over all 8192 rows. -/
def total (a : Vec Ideal S8192x1792 .bf16) (b : Vec Ideal S8192x1024 .f32) (μ : Vec Ideal S4x6x1x1024 .f32) (j : S1792x1024.Idx) : EReal :=
  ∑ l : Fin 8192, a (ix2 l (j 0)) * (b (ix2 l (j 1)) * (1 + μ (ix4 3 1 0 (j 1))) + μ (ix4 3 0 0 (j 1)))

/-- After the last point the scratch holds the contraction over all the rows. -/
theorem scratch_total (c : Dev nD) (t : Fin cfg0.N) (ht : t.val + 1 = 16) (j : S1792x1024.Idx) :
    (outsAt0 m c t.val t.isLt).2 j = total (m ((c : Thread nD τ).loc main_arg0)) (m ((c : Thread nD τ).loc main_arg1)) (m ((c : Thread nD τ).loc main_arg2)) j := by
  rw [Pipeline.eq_sum_fin_of_reset_step_apply_last (fun n h => (outsAt0 m c n h).2) 16 (fun _ => 0) _
      (fun t h j => by rw [outsAt0_A m c t h (by omega)]; frame_out; rw [step_apply, start_apply])
      (fun t h j => by
        by_cases h1 : t.val % 16 = 15
        · rw [outsAt0_C m c t h h1]; frame_out; rw [step_apply]; exact congrArg (· + _) (found_apply _ _ j)
        · rw [outsAt0_B m c t h h1]; frame_out; rw [step_apply]; exact congrArg (· + _) (found_apply _ _ j))
      (le_of_eq N_0) t ht j]
  rw [zero_add]
  unfold total
  refine Fin.sum_mul_add_congr fun t k hl => ?_
  blk_point [iblk, V, where_read t]

/-- The array the kernel writes is that contraction (rounding to the storage format is the identity here). -/
theorem out_total (c : Dev nD) (j : S1792x1024.Idx) :
    (G4 m c : S1792x1024.Idx → EReal) j = total (m ((c : Thread nD τ).loc main_arg0)) (m ((c : Thread nD τ).loc main_arg1)) (m ((c : Thread nD τ).loc main_arg2)) j := by
  rw [← scratch_total m c t0_15 rfl, G4_last, ← outsAt0_sweep m c 15 (lt_of_lt_of_eq (by decide) N_0.symm)]
  rw [show outsAt0 m c 15 (lt_of_lt_of_eq (by decide) N_0.symm) = outsAt0 m c t0_15.val t0_15.isLt from rfl]
  rw [outsAt0_C m c t0_15 (by decide) (by decide)]
  frame_out
  rfl

end Cert.DwInIdeal.RowSum

namespace Cert.Proof

open Idealize.ShloMosaic Idealize.SL.Sem

/-- The reference `DwInRef` runs to its end, keeps its arguments and leaves every counter at zero. -/
theorem quiescent_DwInRefIdeal : quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- Over the extended reals kernel and reference write the same gradient, whatever the arguments hold. -/
theorem algebraic_DwInIdeal_DwInRefIdeal : algebraic_DwInIdeal_DwInRefIdeal := by
  intro m ρ m' ρ' _ hagree
  refine ⟨_, Cert.DwInIdeal.Value.run (F := Ideal) m ρ, ?_⟩
  refine (θ_run Cert.DwInRefIdeal.defs _ _).mono (fun _ h c => ⟨?_, (h c).2⟩) (Cert.DwInRefIdeal.Value.run (F := Ideal) m' ρ')
  rw [(h c).1]
  simp only [hagree c]
  funext j
  refine Eq.trans ?_ (Cert.DwInIdeal.RowSum.out_total m c j).symm
  unfold Cert.DwInIdeal.RowSum.total
  pointwise

end Cert.Proof

end
-- ==== Proof.DwO.lean ====
/- The weight gradient `DwO`: a contraction of the saved mixer output with the cotangent of the output projection over the 8192 rows. The kernel walks the
   rows in sixteen blocks of 512, keeps the running sum in a scratch it zeroes at the first block, and writes the sum
   out at the last; the reference contracts all the rows at once. Over the extended reals the two are the same sum:
   addition is commutative and associative there, and nothing else is used. -/
module

public import proofs.«01_k».proof.Defs
public import proofs.«01_k».proof.Proof.Gen.DwOIdeal.Value
public import proofs.«01_k».proof.Proof.Gen.DwORefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.DwOIdeal.RowSum

open Cert.DwOIdeal Cert.DwOIdeal.Gen Cert.DwOIdeal.Value Idealize.ShloMosaic Idealize.ShloMosaic.TcCoe Idealize.SL.Sem

variable (m : (ℓ : Loc nD τ sig) → Buf (Elt Ideal) ℓ)

/-- What one block adds to the running sum, entry by entry: the products over the block's 512 rows. -/
theorem step_apply (b : Vec Ideal S512x1024 .bf16) (acc : Vec Ideal S1024x1024 .f32) (a : Vec Ideal S512x1024 .bf16)
    (j : S1024x1024.Idx) : k0_pay2 b acc a j = acc j + ∑ k : Fin 512, a (ix2 k (j 0)) * b (ix2 k (j 1)) := by
  pointwise [k0_pay2]

/-- The running sum starts at zero. -/
theorem start_apply (j : S1024x1024.Idx) : k0_pay1 (F := Ideal) j = 0 := by
  pointwise [k0_pay1]

/-- The scratch is read back as what the point before left in it. -/
theorem found_apply (h : scM0_0.IsWhole) (x : Vec Ideal S1024x1024 .f32) (j : S1024x1024.Idx) :
    View.read (Elt Ideal) (View.whole cc0_scratch0) (h.unread x) j = x j :=
  congrFun (read_unread_whole cc0_scratch0 h x) j

/-- Point `t` reads rows `512 t` to `512 t + 511`. -/
theorem where_read : ∀ t : Fin cfg0.N, win0_0.index t = ![t.val, 0] ∧ win0_1.index t = ![t.val, 0] := by
  decide +kernel

/-- The contraction over all 8192 rows. -/
def total (a : Vec Ideal S8192x1024 .bf16) (b : Vec Ideal S8192x1024 .bf16) (j : S1024x1024.Idx) : EReal :=
  ∑ l : Fin 8192, a (ix2 l (j 0)) * b (ix2 l (j 1))

/-- After the last point the scratch holds the contraction over all the rows. -/
theorem scratch_total (c : Dev nD) (t : Fin cfg0.N) (ht : t.val + 1 = 16) (j : S1024x1024.Idx) :
    (outsAt0 m c t.val t.isLt).2 j = total (m ((c : Thread nD τ).loc main_arg0)) (m ((c : Thread nD τ).loc main_arg1)) j := by
  rw [Pipeline.eq_sum_fin_of_reset_step_apply_last (fun n h => (outsAt0 m c n h).2) 16 (fun _ => 0) _
      (fun t h j => by rw [outsAt0_A m c t h (by omega)]; frame_out; rw [step_apply, start_apply])
      (fun t h j => by
        by_cases h1 : t.val % 16 = 15
        · rw [outsAt0_C m c t h h1]; frame_out; rw [step_apply]; exact congrArg (· + _) (found_apply _ _ j)
        · rw [outsAt0_B m c t h h1]; frame_out; rw [step_apply]; exact congrArg (· + _) (found_apply _ _ j))
      (le_of_eq N_0) t ht j]
  rw [zero_add]
  unfold total
  refine Fin.sum_mul_add_congr fun t k hl => ?_
  congr 1 <;> blk_ext [iblk, V, where_read t]

/-- The array the kernel writes is that contraction (rounding to the storage format is the identity here). -/
theorem out_total (c : Dev nD) (j : S1024x1024.Idx) :
    (G2 m c : S1024x1024.Idx → EReal) j = total (m ((c : Thread nD τ).loc main_arg0)) (m ((c : Thread nD τ).loc main_arg1)) j := by
  rw [← scratch_total m c t0_15 rfl, G2_last, ← outsAt0_sweep m c 15 (lt_of_lt_of_eq (by decide) N_0.symm)]
  rw [show outsAt0 m c 15 (lt_of_lt_of_eq (by decide) N_0.symm) = outsAt0 m c t0_15.val t0_15.isLt from rfl]
  rw [outsAt0_C m c t0_15 (by decide) (by decide)]
  frame_out
  rfl

end Cert.DwOIdeal.RowSum

namespace Cert.Proof

open Idealize.ShloMosaic Idealize.SL.Sem

/-- The reference `DwORef` runs to its end, keeps its arguments and leaves every counter at zero. -/
theorem quiescent_DwORefIdeal : quiescent_DwORefIdeal := fun m ρ _ =>
  (θ_run Cert.DwORefIdeal.defs _ _).mono (fun r h => ⟨fun c => (h c).2, sem_eq_zero_of_no_sems (by decide) r.2⟩)
    (Cert.DwORefIdeal.Value.run (F := Ideal) m ρ)

/-- Over the extended reals kernel and reference write the same gradient, whatever the arguments hold. -/
theorem algebraic_DwOIdeal_DwORefIdeal : algebraic_DwOIdeal_DwORefIdeal := by
  intro m ρ m' ρ' _ hagree
  refine ⟨_, Cert.DwOIdeal.Value.run (F := Ideal) m ρ, ?_⟩
  refine (θ_run Cert.DwORefIdeal.defs _ _).mono (fun _ h c => ⟨?_, (h c).2⟩) (Cert.DwORefIdeal.Value.run (F := Ideal) m' ρ')
  rw [(h c).1]
  simp only [hagree c]
  funext j
  refine Eq.trans ?_ (Cert.DwOIdeal.RowSum.out_total m c j).symm
  unfold Cert.DwOIdeal.RowSum.total
  pointwise
  exact Finset.sum_congr rfl fun k _ => mul_comm _ _

end Cert.Proof

end
-- ==== Proof.Gate.lean ====
/- The gated product's derivative on the extended reals: for a real cotangent the two ways of writing it agree at every gate. -/
module

public import proofs.«01_k».proof.Defs
public import Idealize.ShloMosaic.Lib.Pointwise

@[expose] public section

noncomputable section

namespace Cert.Gate

open Idealize.ShloMosaic

/-- The sigmoid. -/
def sig (g : EReal) : EReal := Ideal.div 1 (1 + Ideal.exp (-g))

/-- The sigmoid is a real number at every gate, the infinities among them, and not negative. -/
theorem sig_real (g : EReal) : ∃ s : ℝ, 0 ≤ s ∧ sig g = s := by
  change ∃ s : ℝ, 0 ≤ s ∧ Ideal.logistic g = s
  induction g using EReal.rec with
  | bot => exact ⟨0, le_refl _, Ideal.logistic_bot⟩
  | top => exact ⟨1, zero_le_one, Ideal.logistic_top⟩
  | coe r => exact ⟨_, by positivity, Ideal.logistic_coe (r := r)⟩

/-- The entry is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} (f : Fin n → EReal) (h : ∀ k, IsReal (f k)) : IsReal (∑ k : Fin n, f k) := by
  refine Finset.sum_induction f IsReal ?_ ⟨0, rfl⟩ fun k _ => h k
  rintro x y ⟨a, rfl⟩ ⟨b, rfl⟩
  exact ⟨a + b, (EReal.coe_add a b).symm⟩

/-- What is nought less itself is real. -/
theorem IsReal.of_sub_self {x : EReal} (h : x - x = 0) : IsReal x := by
  induction x using EReal.rec with
  | bot => exact absurd h (by simp)
  | top => exact absurd h (by simp)
  | coe r => exact ⟨r, rfl⟩

theorem IsReal.of_cmp {x : EReal} (h : Ideal.cmp .oeq (x - x) 0 = 1#1) : IsReal x :=
  IsReal.of_sub_self (by
    by_contra hne
    simp [Ideal.cmp, hne] at h)

/-- A real factor passes into a sum with a real summand, whatever the other summand is. -/
theorem mul_add_real (p s : ℝ) (x : EReal) : (p : EReal) * ((s : EReal) + x) = p * s + p * x := by
  induction x using EReal.rec with
  | coe r => exact_mod_cast mul_add p s r
  | bot =>
    rw [EReal.add_bot]
    rcases lt_trichotomy p 0 with h | h | h
    · rw [EReal.coe_mul_bot_of_neg h, ← EReal.coe_mul, EReal.coe_add_top]
    · simp [h]
    · rw [EReal.coe_mul_bot_of_pos h, EReal.add_bot]
  | top =>
    rw [EReal.coe_add_top]
    rcases lt_trichotomy p 0 with h | h | h
    · rw [EReal.coe_mul_top_of_neg h, EReal.add_bot]
    · simp [h]
    · rw [EReal.coe_mul_top_of_pos h, ← EReal.coe_mul, EReal.coe_add_top]

/-- The derivative of `g * sig g`, once as one product and once as the product rule writes it. -/
theorem gate_eq {p : EReal} (hp : IsReal p) (g : EReal) :
    p * sig g + g * p * (sig g * (1 - sig g)) = p * (sig g * (1 + g * (1 - sig g))) := by
  obtain ⟨r, rfl⟩ := hp
  obtain ⟨s, -, hs⟩ := sig_real g
  rw [hs, show (1 : EReal) = ((1 : ℝ) : EReal) from rfl, mul_add_real s 1, mul_comm (s : EReal) ((1 : ℝ) : EReal), EReal.coe_one, one_mul, mul_add_real]
  congr 1
  ac_rfl

end Cert.Gate

end
-- ==== Proof.GateUp0.lean ====
/- The gate and up projections of the first layer: the scaled and shifted rows of the stream against the two matrices, and the
   gated activation. The kernel takes the rows in blocks of 256; each row is worked out on its own, as in the reference. -/
module

public import proofs.«01_k».proof.Defs
public import proofs.«01_k».proof.Proof.Gen.GateUp0Ideal.Value
public import proofs.«01_k».proof.Proof.Gen.GateUp0RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.GateUp0Ideal.Gen Cert.GateUp0Ideal

/-- Grid point `t` holds the `t`-th block of rows, the layer's scale and shift, and the two matrices whole. -/
theorem rows_GateUp0 : ∀ t : Fin cfg0.N, win0_0.index t = ![t.val, 0] ∧ win0_1.index t = ![0, 4, 0, 0] ∧
    win0_2.index t = ![0, 3, 0, 0] ∧ win0_3.index t = ![0, 0] ∧ win0_4.index t = ![0, 0] ∧
    win0_5.index t = ![t.val, 0] ∧ win0_6.index t = ![t.val, 0] ∧ win0_7.index t = ![t.val, 0] := by
  decide +kernel

/-- The reference of `GateUp0` terminates and leaves its arguments. -/
theorem quiescent_GateUp0RefIdeal : Cert.quiescent_GateUp0RefIdeal := fun m ρ _ =>
  (θ_run Cert.GateUp0RefIdeal.defs _ _).mono (fun r h => ⟨fun c => (h c).2.2.2, sem_eq_zero_of_no_sems (by decide) r.2⟩)
    (Cert.GateUp0RefIdeal.Value.run (F := Ideal) m ρ)

/-- The two projections and the activation are the reference's, entry by entry. -/
theorem algebraic_GateUp0Ideal_GateUp0RefIdeal : Cert.algebraic_GateUp0Ideal_GateUp0RefIdeal := by
  intro m ρ m' ρ' _ hagree
  refine ⟨_, _, _, Cert.GateUp0Ideal.Value.run_blocks (F := Ideal) m ρ, ?_⟩
  refine (θ_run Cert.GateUp0RefIdeal.defs _ _).mono (fun _ h c =>
    ⟨(h c).1.trans (Eq.symm ((dats m 0 c).arrAt_eq_of_covers 5 _ (by decide +kernel) fun t _ y => ?_)),
      (h c).2.1.trans (Eq.symm ((dats m 0 c).arrAt_eq_of_covers 6 _ (by decide +kernel) fun t _ y => ?_)),
      (h c).2.2.1.trans (Eq.symm ((dats m 0 c).arrAt_eq_of_covers 7 _ (by decide +kernel) fun t _ y => ?_)),
      (h c).2.2.2⟩) (Cert.GateUp0RefIdeal.Value.run (F := Ideal) m' ρ')
  all_goals
    simp only [hagree c]
    blk_simp
    first | rw [after0_5] | rw [after0_6] | rw [after0_7]
    frame_out
    clear h hagree
    unfold_payloads
    pointwise
    try rw [zero_sub]
    blk_point [iblk, V, rows_GateUp0 t]

end Cert.Proof

end
-- ==== Proof.GateUp1.lean ====
/- The gate and up projections of the second layer: the scaled and shifted rows of the stream against the two matrices, and the
   gated activation. The kernel takes the rows in blocks of 256; each row is worked out on its own, as in the reference. -/
module

public import proofs.«01_k».proof.Defs
public import proofs.«01_k».proof.Proof.Gen.GateUp1Ideal.Value
public import proofs.«01_k».proof.Proof.Gen.GateUp1RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.GateUp1Ideal.Gen Cert.GateUp1Ideal

/-- Grid point `t` holds the `t`-th block of rows, the layer's scale and shift, and the two matrices whole. -/
theorem rows_GateUp1 : ∀ t : Fin cfg0.N, win0_0.index t = ![t.val, 0] ∧ win0_1.index t = ![1, 4, 0, 0] ∧
    win0_2.index t = ![1, 3, 0, 0] ∧ win0_3.index t = ![0, 0] ∧ win0_4.index t = ![0, 0] ∧
    win0_5.index t = ![t.val, 0] ∧ win0_6.index t = ![t.val, 0] ∧ win0_7.index t = ![t.val, 0] := by
  decide +kernel

/-- The reference of `GateUp1` terminates and leaves its arguments. -/
theorem quiescent_GateUp1RefIdeal : Cert.quiescent_GateUp1RefIdeal := fun m ρ _ =>
  (θ_run Cert.GateUp1RefIdeal.defs _ _).mono (fun r h => ⟨fun c => (h c).2.2.2, sem_eq_zero_of_no_sems (by decide) r.2⟩)
    (Cert.GateUp1RefIdeal.Value.run (F := Ideal) m ρ)

/-- The two projections and the activation are the reference's, entry by entry. -/
theorem algebraic_GateUp1Ideal_GateUp1RefIdeal : Cert.algebraic_GateUp1Ideal_GateUp1RefIdeal := by
  intro m ρ m' ρ' _ hagree
  refine ⟨_, _, _, Cert.GateUp1Ideal.Value.run_blocks (F := Ideal) m ρ, ?_⟩
  refine (θ_run Cert.GateUp1RefIdeal.defs _ _).mono (fun _ h c =>
    ⟨(h c).1.trans (Eq.symm ((dats m 0 c).arrAt_eq_of_covers 5 _ (by decide +kernel) fun t _ y => ?_)),
      (h c).2.1.trans (Eq.symm ((dats m 0 c).arrAt_eq_of_covers 6 _ (by decide +kernel) fun t _ y => ?_)),
      (h c).2.2.1.trans (Eq.symm ((dats m 0 c).arrAt_eq_of_covers 7 _ (by decide +kernel) fun t _ y => ?_)),
      (h c).2.2.2⟩) (Cert.GateUp1RefIdeal.Value.run (F := Ideal) m' ρ')
  all_goals
    simp only [hagree c]
    blk_simp
    first | rw [after0_5] | rw [after0_6] | rw [after0_7]
    frame_out
    clear h hagree
    unfold_payloads
    pointwise
    try rw [zero_sub]
    blk_point [iblk, V, rows_GateUp1 t]

end Cert.Proof

end
-- ==== Proof.GateUp2.lean ====
/- The gate and up projections of the third layer: the scaled and shifted rows of the stream against the two matrices, and the
   gated activation. The kernel takes the rows in blocks of 256; each row is worked out on its own, as in the reference. -/
module

public import proofs.«01_k».proof.Defs
public import proofs.«01_k».proof.Proof.Gen.GateUp2Ideal.Value
public import proofs.«01_k».proof.Proof.Gen.GateUp2RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.GateUp2Ideal.Gen Cert.GateUp2Ideal

/-- Grid point `t` holds the `t`-th block of rows, the layer's scale and shift, and the two matrices whole. -/
theorem rows_GateUp2 : ∀ t : Fin cfg0.N, win0_0.index t = ![t.val, 0] ∧ win0_1.index t = ![2, 4, 0, 0] ∧
    win0_2.index t = ![2, 3, 0, 0] ∧ win0_3.index t = ![0, 0] ∧ win0_4.index t = ![0, 0] ∧
    win0_5.index t = ![t.val, 0] ∧ win0_6.index t = ![t.val, 0] ∧ win0_7.index t = ![t.val, 0] := by
  decide +kernel

/-- The reference of `GateUp2` terminates and leaves its arguments. -/
theorem quiescent_GateUp2RefIdeal : Cert.quiescent_GateUp2RefIdeal := fun m ρ _ =>
  (θ_run Cert.GateUp2RefIdeal.defs _ _).mono (fun r h => ⟨fun c => (h c).2.2.2, sem_eq_zero_of_no_sems (by decide) r.2⟩)
    (Cert.GateUp2RefIdeal.Value.run (F := Ideal) m ρ)

/-- The two projections and the activation are the reference's, entry by entry. -/
theorem algebraic_GateUp2Ideal_GateUp2RefIdeal : Cert.algebraic_GateUp2Ideal_GateUp2RefIdeal := by
  intro m ρ m' ρ' _ hagree
  refine ⟨_, _, _, Cert.GateUp2Ideal.Value.run_blocks (F := Ideal) m ρ, ?_⟩
  refine (θ_run Cert.GateUp2RefIdeal.defs _ _).mono (fun _ h c =>
    ⟨(h c).1.trans (Eq.symm ((dats m 0 c).arrAt_eq_of_covers 5 _ (by decide +kernel) fun t _ y => ?_)),
      (h c).2.1.trans (Eq.symm ((dats m 0 c).arrAt_eq_of_covers 6 _ (by decide +kernel) fun t _ y => ?_)),
      (h c).2.2.1.trans (Eq.symm ((dats m 0 c).arrAt_eq_of_covers 7 _ (by decide +kernel) fun t _ y => ?_)),
      (h c).2.2.2⟩) (Cert.GateUp2RefIdeal.Value.run (F := Ideal) m' ρ')
  all_goals
    simp only [hagree c]
    blk_simp
    first | rw [after0_5] | rw [after0_6] | rw [after0_7]
    frame_out
    clear h hagree
    unfold_payloads
    pointwise
    try rw [zero_sub]
    blk_point [iblk, V, rows_GateUp2 t]

end Cert.Proof

end
-- ==== Proof.GateUp3.lean ====
/- The gate and up projections of the last layer: the scaled and shifted rows of the stream against the two matrices, and the
   gated activation. The kernel takes the rows in blocks of 256; each row is worked out on its own, as in the reference. -/
module

public import proofs.«01_k».proof.Defs
public import proofs.«01_k».proof.Proof.Gen.GateUp3Ideal.Value
public import proofs.«01_k».proof.Proof.Gen.GateUp3RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.GateUp3Ideal.Gen Cert.GateUp3Ideal

/-- Grid point `t` holds the `t`-th block of rows, the layer's scale and shift, and the two matrices whole. -/
theorem rows_GateUp3 : ∀ t : Fin cfg0.N, win0_0.index t = ![t.val, 0] ∧ win0_1.index t = ![3, 4, 0, 0] ∧
    win0_2.index t = ![3, 3, 0, 0] ∧ win0_3.index t = ![0, 0] ∧ win0_4.index t = ![0, 0] ∧
    win0_5.index t = ![t.val, 0] ∧ win0_6.index t = ![t.val, 0] ∧ win0_7.index t = ![t.val, 0] := by
  decide +kernel

/-- The reference of `GateUp3` terminates and leaves its arguments. -/
theorem quiescent_GateUp3RefIdeal : Cert.quiescent_GateUp3RefIdeal := fun m ρ _ =>
  (θ_run Cert.GateUp3RefIdeal.defs _ _).mono (fun r h => ⟨fun c => (h c).2.2.2, sem_eq_zero_of_no_sems (by decide) r.2⟩)
    (Cert.GateUp3RefIdeal.Value.run (F := Ideal) m ρ)

/-- The two projections and the activation are the reference's, entry by entry. -/
theorem algebraic_GateUp3Ideal_GateUp3RefIdeal : Cert.algebraic_GateUp3Ideal_GateUp3RefIdeal := by
  intro m ρ m' ρ' _ hagree
  refine ⟨_, _, _, Cert.GateUp3Ideal.Value.run_blocks (F := Ideal) m ρ, ?_⟩
  refine (θ_run Cert.GateUp3RefIdeal.defs _ _).mono (fun _ h c =>
    ⟨(h c).1.trans (Eq.symm ((dats m 0 c).arrAt_eq_of_covers 5 _ (by decide +kernel) fun t _ y => ?_)),
      (h c).2.1.trans (Eq.symm ((dats m 0 c).arrAt_eq_of_covers 6 _ (by decide +kernel) fun t _ y => ?_)),
      (h c).2.2.1.trans (Eq.symm ((dats m 0 c).arrAt_eq_of_covers 7 _ (by decide +kernel) fun t _ y => ?_)),
      (h c).2.2.2⟩) (Cert.GateUp3RefIdeal.Value.run (F := Ideal) m' ρ')
  all_goals
    simp only [hagree c]
    blk_simp
    first | rw [after0_5] | rw [after0_6] | rw [after0_7]
    frame_out
    clear h hagree
    unfold_payloads
    pointwise
    try rw [zero_sub]
    blk_point [iblk, V, rows_GateUp3 t]

end Cert.Proof

end
-- ==== Proof.RowStore.lean ====
/- A buffer of eight rows of 1024 sums that is stored and read back row by row: what a row holds after the stores. -/
module

public import proofs.«01_k».proof.Defs
public import Idealize.ShloMosaic.Lib.Pointwise
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.RowStore

open Idealize.ShloMosaic Idealize.ShloMosaic.TcCoe

/-- The buffer's shape. -/
abbrev Rows : Shape := ⟨2, ![8, 1024]⟩

/-- A row's shape. -/
abbrev Row : Shape := ⟨2, ![1, 1024]⟩

variable (r : ℕ) (inb : ∀ a, (![r, 0] : Fin 2 → ℕ) a + Row.size a ≤ Rows.size a) (w : Vec Ideal Row .f32)
  (L : List (View.Piece (Elt Ideal) Rows .f32)) (p : Fin 8) (q : Fin 1024)

/-- An entry of row `r` is an entry of the row's box. -/
theorem in_row (h : p.val = r) : (Rect.unit (s := Rows) ![r, 0] Row.size inb).emb (ix2 (0 : Fin 1) q) = ix2 p q := by
  funext a
  apply Fin.ext
  fin_cases a
  · show r + 1 * 0 = _
    exact h.symm
  · show 0 + 1 * q.val = q.val
    omega

/-- An entry of another row is not. -/
theorem not_in_row (h : p.val ≠ r) : ix2 p q ∉ (Rect.unit (s := Rows) ![r, 0] Row.size inb).set := fun hm => by
  have h' : r ≤ p.val ∧ p.val < r + 1 := (Rect.mem_set_unit.mp hm) 0
  omega

/-- A row just stored holds what was stored. -/
theorem canon_hit (h : p.val = r) :
    View.canon ((⟨Rect.unit (s := Rows) ![r, 0] Row.size inb, w⟩ : View.Piece (Elt Ideal) Rows .f32) :: L) (ix2 p q) = w (ix2 (0 : Fin 1) q) := by
  have e := View.canon_cons_emb (Val := Elt Ideal) (e := .f32) (Rect.unit (s := Rows) ![r, 0] Row.size inb) w L (ix2 (0 : Fin 1) q)
  rwa [in_row r inb p q h] at e

/-- The other rows hold what they held. -/
theorem canon_miss (h : p.val ≠ r) :
    View.canon ((⟨Rect.unit (s := Rows) ![r, 0] Row.size inb, w⟩ : View.Piece (Elt Ideal) Rows .f32) :: L) (ix2 p q) = View.canon L (ix2 p q) :=
  View.canon_cons_of_not_mem _ L (not_in_row r inb p q h)

/-- After a store of the whole buffer every entry holds what was stored. -/
theorem canon_whole (inb0 : ∀ a, (![0, 0] : Fin 2 → ℕ) a + Rows.size a ≤ Rows.size a) (x : Vec Ideal Rows .f32) :
    View.canon [(⟨Rect.unit (s := Rows) ![0, 0] Rows.size inb0, x⟩ : View.Piece (Elt Ideal) Rows .f32)] (ix2 p q) = x (ix2 p q) := by
  have hy : (Rect.unit (s := Rows) ![0, 0] Rows.size inb0).emb (ix2 p q) = ix2 p q := by
    funext a
    apply Fin.ext
    fin_cases a
    · show 0 + 1 * p.val = p.val
      omega
    · show 0 + 1 * q.val = q.val
      omega
  have e := View.canon_cons_emb (Val := Elt Ideal) (e := .f32) (Rect.unit (s := Rows) ![0, 0] Rows.size inb0) x [] (ix2 p q)
  rwa [hy] at e

variable {sig : RefSig} {κ : Kind} {sp : Space} (M : Memref sig κ sp Rows .f32) (hM : M.IsWhole) (X : Vec Ideal Rows .f32)

/-- The same three over a buffer that held `X`. -/
theorem read_hit (h : p.val = r) :
    View.read (Elt Ideal) M.view (M.view.writes (Elt Ideal) (hM.unread X) ((⟨Rect.unit (s := Rows) ![r, 0] Row.size inb, w⟩ : View.Piece (Elt Ideal) Rows .f32) :: L)) (ix2 p q)
      = w (ix2 (0 : Fin 1) q) :=
  View.read_writes_cons_unit_of_mem (s := Rows) M.view _ inb w L (ix2 p q) (ix2 (0 : Fin 1) q) rfl (by
    intro a
    fin_cases a
    · exact h
    · exact (Nat.zero_add _).symm)

theorem read_miss (h : p.val ≠ r) :
    View.read (Elt Ideal) M.view (M.view.writes (Elt Ideal) (hM.unread X) ((⟨Rect.unit (s := Rows) ![r, 0] Row.size inb, w⟩ : View.Piece (Elt Ideal) Rows .f32) :: L)) (ix2 p q)
      = View.read (Elt Ideal) M.view (M.view.writes (Elt Ideal) (hM.unread X) L) (ix2 p q) :=
  View.read_writes_cons_unit_of_not_mem (s := Rows) M.view _ inb w L (ix2 p q) rfl 0 (by
    show p.val < r ∨ r + 1 ≤ p.val
    omega)

theorem read_kept : View.read (Elt Ideal) M.view (M.view.writes (Elt Ideal) (hM.unread X) []) (ix2 p q) = X (ix2 p q) := by
  show M.view.read (Elt Ideal) (hM.unread X) (ix2 p q) = _
  rw [hM.read_unread]

/-- A row read back is the buffer's row. -/
theorem load_row (v : View sig κ sp Rows .f32) (hr : r < 8) (q : Fin 1024) :
    v.readCov L (Rect.unit (s := Rows) ![r, 0] Row.size inb).toLoadRect (ix2 (0 : Fin 1) q) = View.canon L (ix2 (⟨r, hr⟩ : Fin 8) q) := by
  rw [View.readCov_eq_canon']
  exact congrArg (View.canon L) (in_row r inb ⟨r, hr⟩ q rfl)

theorem held_row (hr : r < 8) (q : Fin 1024) :
    View.ld (e' := .f32) X (Rect.unit (s := Rows) ![r, 0] Row.size inb) (ix2 (0 : Fin 1) q) = X (ix2 (⟨r, hr⟩ : Fin 8) q) :=
  congrArg X (in_row r inb ⟨r, hr⟩ q rfl)

end Cert.RowStore

end
-- ==== Proof.InGrad.lean ====
/- The input gradient `InGrad`: the gradient at the first layer's input, and with it the gradients of that layer's shift and
   scale, which the kernel sums over its sixteen blocks of rows. -/
module

public import proofs.«01_k».proof.Defs
public import proofs.«01_k».proof.Proof.RowStore
public import proofs.«01_k».proof.Proof.Gen.InGradIdeal.Value
public import proofs.«01_k».proof.Proof.Gen.InGradRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.ShloMosaic.TcCoe Idealize.SL.Sem Cert.InGradIdeal.Gen Cert.InGradIdeal

/-- Grid point `t` holds the `t`-th block of rows, the weights whole and the layer's scale; the sums stay in place. -/
theorem rows_InGrad : ∀ t : Fin cfg0.N, win0_0.index t = ![t.val, 0] ∧ win0_1.index t = ![0, 0] ∧
    win0_2.index t = ![t.val, 0] ∧ win0_3.index t = ![t.val, 0] ∧ win0_4.index t = ![0, 1, 0, 0] ∧
    win0_5.index t = ![t.val, 0] ∧ win0_6.index t = ![0, 0] := by
  decide +kernel

/-- The reference of `InGrad` terminates and leaves its arguments. -/
theorem quiescent_InGradRefIdeal : Cert.quiescent_InGradRefIdeal := fun m ρ _ =>
  (θ_run Cert.InGradRefIdeal.defs _ _).mono (fun r h => ⟨fun c => (h c).2.2, sem_eq_zero_of_no_sems (by decide) r.2⟩)
    (Cert.InGradRefIdeal.Value.run (F := Ideal) m ρ)

/-- One row of the projection's gradient, for the rows `a` of the cotangent. -/
abbrev dh {n : ℕ} (a : Vec Ideal ⟨2, ![n, 1792]⟩ .bf16) (w : Vec Ideal S1792x1024 .bf16) (k : Fin n) (q : Fin 1024) : EReal :=
  ∑ z : Fin 1792, a (ix2 k z) * w (ix2 z q)

/-- What `n` rows add to the eight rows of sums: to the first the gradient, to the second its product with the stream. -/
def added {n : ℕ} (a : Vec Ideal ⟨2, ![n, 1792]⟩ .bf16) (w : Vec Ideal S1792x1024 .bf16) (x : Vec Ideal ⟨2, ![n, 1024]⟩ .f32) (p : Fin 8) (q : Fin 1024) : EReal :=
  if p.val = 0 then ∑ k : Fin n, dh a w k q else if p.val = 1 then ∑ k : Fin n, dh a w k q * x (ix2 k q) else 0

theorem row0_apply (a : Vec Ideal S512x1792 .bf16) (w : Vec Ideal S1792x1024 .bf16) (r : Vec Ideal S1x1024 .f32) (q : Fin 1024) :
    k0_pay5 a w r (ix2 (0 : Fin 1) q) = r (ix2 (0 : Fin 1) q) + ∑ k : Fin 512, dh a w k q := by
  pointwise [k0_pay5, k0_pay3]

theorem row1_apply (a : Vec Ideal S512x1792 .bf16) (w : Vec Ideal S1792x1024 .bf16) (x : Vec Ideal S512x1024 .f32) (r : Vec Ideal S1x1024 .f32)
    (q : Fin 1024) : k0_pay1 (k0_pay6 r) (k0_pay7 a w x) (ix2 (0 : Fin 1) q) = r (ix2 (0 : Fin 1) q) + ∑ k : Fin 512, dh a w k q * x (ix2 k q) := by
  pointwise [k0_pay1, k0_pay6, k0_pay7, k0_pay3]

theorem zero_apply (j : S8x1024.Idx) : k0_pay2 (F := Ideal) j = 0 := by
  pointwise [k0_pay2]

section

variable (m : (ℓ : Loc nD τ sig) → Buf (Elt Ideal) ℓ) (c : Dev nD)

/-- What grid point `t` adds. -/
abbrev step (t : Fin cfg0.N) (p : Fin 8) (q : Fin 1024) : EReal := added (n := 512) (iblk m c 0 t) (iblk m c 1 t) (iblk m c 3 t) p q

theorem acc_first (t : Fin cfg0.N) (h0 : t.val % 16 = 0) (p : Fin 8) (q : Fin 1024) :
    (outsAt0 m c t.val t.isLt).2 (ix2 p q) = 0 + step m c t p q := by
  rw [outsAt0_A m c t h0]
  frame_out
  unfold step added
  by_cases h1 : p.val = 1
  · rw [RowStore.canon_hit _ _ _ _ _ _ h1, row1_apply, RowStore.load_row 1 _ _ _ (by decide), RowStore.canon_miss _ _ _ _ _ _ (by decide),
      RowStore.canon_whole, zero_apply, if_neg (by omega), if_pos h1]
  · rw [RowStore.canon_miss _ _ _ _ _ _ h1]
    by_cases h2 : p.val = 0
    · rw [RowStore.canon_hit _ _ _ _ _ _ h2, row0_apply, RowStore.load_row 0 _ _ _ (by decide), RowStore.canon_whole, zero_apply, if_pos h2]
    · rw [RowStore.canon_miss _ _ _ _ _ _ h2, RowStore.canon_whole, zero_apply, if_neg h2, if_neg h1, add_zero]

theorem acc_next (t : Fin cfg0.N) (h0 : ¬ t.val % 16 = 0) (p : Fin 8) (q : Fin 1024) :
    (outsAt0 m c t.val t.isLt).2 (ix2 p q) = (outsAt0 m c (t.val - 1) (by omega)).2 (ix2 p q) + step m c t p q := by
  rw [outsAt0_B m c t h0]
  frame_out
  unfold step added
  by_cases h1 : p.val = 1
  · rw [RowStore.read_hit _ _ _ _ _ _ _ _ _ h1, row1_apply, RowStore.held_row 1 _ _ (by decide), if_neg (by omega), if_pos h1,
      show (⟨1, by decide⟩ : Fin 8) = p from Fin.ext h1.symm]
  · rw [RowStore.read_miss _ _ _ _ _ _ _ _ _ h1]
    by_cases h2 : p.val = 0
    · rw [RowStore.read_hit _ _ _ _ _ _ _ _ _ h2, row0_apply, RowStore.held_row 0 _ _ (by decide), if_pos h2,
        show (⟨0, by decide⟩ : Fin 8) = p from Fin.ext h2.symm]
    · rw [RowStore.read_miss _ _ _ _ _ _ _ _ _ h2, RowStore.read_kept, if_neg h2, if_neg h1, add_zero]

/-- After the last point the sums are over all 8192 rows. -/
theorem acc_total (t : Fin cfg0.N) (ht : t.val + 1 = 16) (p : Fin 8) (q : Fin 1024) :
    (outsAt0 m c t.val t.isLt).2 (ix2 p q) = added (n := 8192) (m ((c : Thread nD τ).loc main_arg0)) (m ((c : Thread nD τ).loc main_arg1))
      (m ((c : Thread nD τ).loc main_arg3)) p q := by
  rw [Pipeline.eq_sum_fin_of_reset_step_apply_last (fun n h (q : Fin 1024) => (outsAt0 m c n h).2 (ix2 p q)) 16 (fun _ => 0) (fun t => step m c t p)
      (fun t h q => acc_first m c t h p q) (fun t h q => acc_next m c t h p q) (le_of_eq N_0) t ht q, zero_add]
  unfold step added
  by_cases h2 : p.val = 0
  · simp only [if_pos h2]
    refine Fin.sum_mul_add_congr fun t k hl => Finset.sum_congr rfl fun z _ => ?_
    congr 1 <;> blk_ext [iblk, V, rows_InGrad t]
  · simp only [if_neg h2]
    by_cases h1 : p.val = 1
    · simp only [if_pos h1]
      refine Fin.sum_mul_add_congr fun t k hl => ?_
      congr 1
      · refine Finset.sum_congr rfl fun z _ => ?_
        congr 1 <;> blk_ext [iblk, V, rows_InGrad t]
      · blk_ext [iblk, V, rows_InGrad t]
    · simp only [if_neg h1, Finset.sum_const_zero]

end

/-- The gradients are the reference's, entry by entry. -/
theorem algebraic_InGradIdeal_InGradRefIdeal : Cert.algebraic_InGradIdeal_InGradRefIdeal := by
  intro m ρ m' ρ' _ hagree
  refine ⟨_, _, Cert.InGradIdeal.Value.run_blocks (F := Ideal) m ρ, ?_⟩
  refine (θ_run Cert.InGradRefIdeal.defs _ _).mono (fun _ h c =>
    ⟨(h c).1.trans (Eq.symm ((dats m 0 c).arrAt_eq_of_covers 5 _ (by decide +kernel) fun t _ y => ?_)),
      (h c).2.1.trans (Eq.symm ((dats m 0 c).arrAt_eq_of_after_last 6 ⟨15, by decide +kernel⟩ (by decide +kernel) _ fun j => ?_)),
      (h c).2.2⟩) (Cert.InGradRefIdeal.Value.run (F := Ideal) m' ρ')
  · simp only [hagree c]
    blk_simp
    rw [after0_5]
    clear h hagree
    by_cases h0 : t.val % 16 = 0
    · rw [outsAt0_A m c t h0]
      frame_out
      unfold_payloads
      pointwise
      rw [add_comm]
      blk_point [iblk, V, rows_InGrad t]
    · rw [outsAt0_B m c t h0]
      frame_out
      unfold_payloads
      pointwise
      rw [add_comm]
      blk_point [iblk, V, rows_InGrad t]
  · simp only [hagree c]
    rw [after0_6]
    have hj : (fun a => ⟨(j a).val, (j a).isLt⟩ : S8x1024.Idx) = ix2 (⟨(j 0).val, (j 0).isLt⟩ : Fin 8) (⟨(j 1).val, (j 1).isLt⟩ : Fin 1024) := by
      funext a
      fin_cases a <;> rfl
    refine (congrArg (outsAt0 m c 15 (lt_of_lt_of_eq (by decide) N_0.symm)).2 hj).trans ((acc_total m c ⟨15, by decide +kernel⟩ rfl _ _).trans ?_)
    rw [show (View.whole main_v0_1).emb j = ix2 (⟨(j 0).val, (j 0).isLt⟩ : Fin 8) (⟨(j 1).val, (j 1).isLt⟩ : Fin 1024) from hj]
    generalize (⟨(j 0).val, (j 0).isLt⟩ : Fin 8) = p
    generalize (⟨(j 1).val, (j 1).isLt⟩ : Fin 1024) = q
    unfold added dh
    by_cases h0 : p.val = 0
    · obtain rfl : p = 0 := Fin.ext h0
      pointwise
    · by_cases h1 : p.val = 1
      · obtain rfl : p = 1 := Fin.ext h1
        pointwise
        exact Finset.sum_congr rfl fun k _ => mul_comm _ _
      · rw [if_neg h0, if_neg h1]
        obtain ⟨p, hp⟩ := p
        interval_cases p
        · exact absurd rfl h0
        · exact absurd rfl h1
        all_goals pointwise

end Cert.Proof

end
-- ==== Proof.NormSums.lean ====
/- The sums over the rows that the backward pass takes behind a layer norm, as functions of the rows: the gradients at the
   shift, the norm's scale and the norm's bias. -/
module

public import proofs.«01_k».proof.Defs
public import Idealize.ShloMosaic.Lib.Pointwise
public import Idealize.ShloMosaic.Lib.Pipeline.ValueKit

@[expose] public section

noncomputable section

namespace Cert.NormSums

open Idealize.ShloMosaic Idealize.ShloMosaic.TcCoe

variable {n : ℕ}

/-- A row less its mean. -/
def centred (u : Vec Ideal ⟨2, ![n, 1024]⟩ .f32) (k : Fin n) (q : Fin 1024) : EReal :=
  u (ix2 k q) - Ideal.div (∑ z : Fin 1024, u (ix2 k z)) (Ideal.ofBits FTy.f32 1149239296#32)

/-- A row, normalised. -/
def normed (u : Vec Ideal ⟨2, ![n, 1024]⟩ .f32) (k : Fin n) (q : Fin 1024) : EReal :=
  centred u k q * Ideal.rsqrt (Ideal.div (∑ z : Fin 1024, centred u k z * centred u k z) (Ideal.ofBits FTy.f32 1149239296#32)
    + Ideal.ofBits FTy.f32 925353388#32)

/-- The gradient at the norm's result: what came along the stream, and what came through the scale. -/
def through (du : Vec Ideal ⟨2, ![n, 1024]⟩ .f32) (s : Fin 1024 → EReal) (dh : Fin n → Fin 1024 → EReal) (k : Fin n) (q : Fin 1024) : EReal :=
  Ideal.ofBits FTy.f32 1071072509#32 * du (ix2 k q) + dh k q * (1 + s q)

/-- What the rows add to row `p` of the sums, `p` one of 0, 2 and 3. -/
def added (du u : Vec Ideal ⟨2, ![n, 1024]⟩ .f32) (s : Fin 1024 → EReal) (dh : Fin n → Fin 1024 → EReal) (p : Fin 8) (q : Fin 1024) : EReal :=
  if p.val = 0 then ∑ k : Fin n, dh k q
  else if p.val = 2 then ∑ k : Fin n, through du s dh k q * normed u k q
  else ∑ k : Fin n, through du s dh k q

/-- A row's normalisation is the row's own affair. -/
theorem normed_congr {n' : ℕ} (u : Vec Ideal ⟨2, ![n, 1024]⟩ .f32) (u' : Vec Ideal ⟨2, ![n', 1024]⟩ .f32) (k : Fin n) (k' : Fin n')
    (h : ∀ z, u (ix2 k z) = u' (ix2 k' z)) (q : Fin 1024) : normed u k q = normed u' k' q := by
  unfold normed centred
  simp only [h]

/-- The sums of 32 blocks of 256 rows are those of all the rows. -/
theorem added_blocks (du u : Vec Ideal ⟨2, ![8192, 1024]⟩ .f32) (s : Fin 1024 → EReal) (dh : Fin 8192 → Fin 1024 → EReal)
    (du' u' : Fin 32 → Vec Ideal ⟨2, ![256, 1024]⟩ .f32) (s' : Fin 32 → Fin 1024 → EReal) (dh' : Fin 32 → Fin 256 → Fin 1024 → EReal)
    (hdu : ∀ t k q (hl : t.val * 256 + k.val < 8192), du' t (ix2 k q) = du (ix2 ⟨_, hl⟩ q))
    (hu : ∀ t k q (hl : t.val * 256 + k.val < 8192), u' t (ix2 k q) = u (ix2 ⟨_, hl⟩ q))
    (hdh : ∀ t k q (hl : t.val * 256 + k.val < 8192), dh' t k q = dh ⟨_, hl⟩ q)
    (hs : ∀ t, s' t = s) (p : Fin 8) (q : Fin 1024) : ∑ t : Fin 32, added (du' t) (u' t) (s' t) (dh' t) p q = added du u s dh p q := by
  unfold added through
  split_ifs
  · exact Fin.sum_mul_add_congr fun t k hl => hdh t k q hl
  · refine Fin.sum_mul_add_congr fun t k hl => ?_
    rw [hdu t k q hl, hdh t k q hl, hs, normed_congr _ u k _ (fun z => hu t k z hl)]
  · refine Fin.sum_mul_add_congr fun t k hl => ?_
    rw [hdu t k q hl, hdh t k q hl, hs]

/-- The order of the factors and of the summands. -/
theorem swap (a b c : EReal) : a * (b + c) = (c + b) * a := by rw [mul_comm, add_comm]

/-- The rows whose bit is set in the mask `row = 0 or row = 2 or row = 3`. -/
theorem rows_of_mask : ∀ p : Fin 8, IntOp.ori (IntOp.ori (IntOp.cmpi .eq (BitVec.ofNat 32 p.val) 0#32) (IntOp.cmpi .eq (BitVec.ofNat 32 p.val) 2#32))
    (IntOp.cmpi .eq (BitVec.ofNat 32 p.val) 3#32) = 1#1 → p = 0 ∨ p = 2 ∨ p = 3 := by
  decide

end Cert.NormSums

end
-- ==== Proof.InLn.lean ====
/- The gradients of the layer norm's weights `InLn`, behind the input projection. -/
module

public import proofs.«01_k».proof.Defs
public import proofs.«01_k».proof.Proof.RowStore
public import proofs.«01_k».proof.Proof.NormSums
public import proofs.«01_k».proof.Proof.Gen.InLnIdeal.Value
public import proofs.«01_k».proof.Proof.Gen.InLnRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.InLn

open Idealize.ShloMosaic Idealize.ShloMosaic.TcCoe Idealize.SL.Sem Cert.InLnIdeal.Gen Cert.InLnIdeal

/-- Grid point `t` holds the `t`-th block of rows, the weights whole, and the blocks of the layer's vectors. -/
theorem rows : ∀ t : Fin cfg0.N, win0_0.index t = ![t.val, 0] ∧ win0_1.index t = ![0, 0] ∧ win0_2.index t = ![t.val, 0] ∧
    win0_3.index t = ![3, 1, 0, 0] ∧ win0_4.index t = ![t.val, 0] := by
  decide +kernel

/-- One row of the projection's gradient, for the rows `a` of the cotangent. -/
def dh {n : ℕ} (a : Vec Ideal ⟨2, ![n, 1792]⟩ .bf16) (w : Vec Ideal S1792x1024 .bf16) (k : Fin n) (q : Fin 1024) : EReal :=
  ∑ z : Fin 1792, a (ix2 k z) * w (ix2 z q)

theorem dh_apply (a : Vec Ideal S256x1792 .bf16) (w : Vec Ideal S1792x1024 .bf16) (k : Fin 256) (q : Fin 1024) :
    k0_pay2 a w (ix2 k q) = dh a w k q := by
  unfold dh
  pointwise [k0_pay2]

theorem through_apply (a : Vec Ideal S256x1792 .bf16) (w : Vec Ideal S1792x1024 .bf16) (x : Vec Ideal S256x1024 .f32) (s : Vec Ideal S1x1x1x1024 .f32)
    (k : Fin 256) (q : Fin 1024) : k0_pay3 a w x s (ix2 k q) = NormSums.through x (fun q => s (ix4 (0 : Fin 1) (0 : Fin 1) (0 : Fin 1) q)) (dh a w) k q := by
  unfold NormSums.through
  rw [← dh_apply]
  pointwise [k0_pay3]

theorem normed_apply (x : Vec Ideal S256x1024 .f32) (k : Fin 256) (q : Fin 1024) : k0_pay6 x (ix2 k q) = NormSums.normed x k q := by
  unfold NormSums.normed NormSums.centred
  pointwise [k0_pay6, k0_pay5, k0_pay4]

theorem row0_apply (a : Vec Ideal S256x1792 .bf16) (w : Vec Ideal S1792x1024 .bf16) (r : Vec Ideal S1x1024 .f32) (q : Fin 1024) :
    k0_pay8 (k0_pay7 a w) r (ix2 (0 : Fin 1) q) = r (ix2 (0 : Fin 1) q) + ∑ k : Fin 256, k0_pay2 a w (ix2 k q) := by
  pointwise [k0_pay8, k0_pay7]

theorem row2_apply (x y : Vec Ideal S256x1024 .f32) (r : Vec Ideal S1x1024 .f32) (q : Fin 1024) :
    k0_pay13 x y r (ix2 (0 : Fin 1) q) = r (ix2 (0 : Fin 1) q) + ∑ k : Fin 256, x (ix2 k q) * y (ix2 k q) := by
  pointwise [k0_pay13]

theorem row3_apply (x : Vec Ideal S256x1024 .f32) (r : Vec Ideal S1x1024 .f32) (q : Fin 1024) :
    k0_pay14 x r (ix2 (0 : Fin 1) q) = r (ix2 (0 : Fin 1) q) + ∑ k : Fin 256, x (ix2 k q) := by
  pointwise [k0_pay14]

theorem zero_apply (j : S8x1024.Idx) : k0_pay1 (F := Ideal) j = 0 := by
  pointwise [k0_pay1]

variable (m : (ℓ : Loc nD τ sig) → Buf (Elt Ideal) ℓ) (c : Dev nD)

/-- What grid point `t` adds. -/
abbrev step (t : Fin cfg0.N) : Fin 8 → Fin 1024 → EReal :=
  NormSums.added (n := 256) (iblk m c 2 t) (iblk m c 4 t) (fun q => (iblk m c 3 t : Vec Ideal S1x1x1x1024 .f32) (ix4 (0 : Fin 1) (0 : Fin 1) (0 : Fin 1) q))
    (dh (iblk m c 0 t : Vec Ideal S256x1792 .bf16) (iblk m c 1 t))

theorem acc_first (t : Fin cfg0.N) (h0 : t.val % 32 = 0) (p : Fin 8) (hp : p = 0 ∨ p = 2 ∨ p = 3) (q : Fin 1024) :
    (outsAt0 m c t.val t.isLt).2.2 (ix2 p q) = 0 + step m c t p q := by
  rw [outsAt0_A m c t h0]
  frame_out
  unfold step NormSums.added
  rcases hp with rfl | rfl | rfl
  · rw [RowStore.canon_miss _ _ _ _ _ _ (by decide), RowStore.canon_miss _ _ _ _ _ _ (by decide), RowStore.canon_miss _ _ _ _ _ _ (by decide),
      RowStore.canon_miss _ _ _ _ _ _ (by decide), RowStore.canon_hit 0 _ _ _ _ _ rfl, row0_apply, RowStore.load_row 0 _ _ _ (by decide),
      RowStore.canon_whole, zero_apply, if_pos (by decide)]
    simp only [dh_apply]
  · rw [RowStore.canon_miss _ _ _ _ _ _ (by decide), RowStore.canon_miss _ _ _ _ _ _ (by decide), RowStore.canon_hit 2 _ _ _ _ _ rfl, row2_apply,
      RowStore.load_row 2 _ _ _ (by decide), RowStore.canon_miss _ _ _ _ _ _ (by decide), RowStore.canon_miss _ _ _ _ _ _ (by decide),
      RowStore.canon_whole, zero_apply, if_neg (by decide), if_pos (by decide)]
    simp only [through_apply, normed_apply]
  · rw [RowStore.canon_miss _ _ _ _ _ _ (by decide), RowStore.canon_hit 3 _ _ _ _ _ rfl, row3_apply,
      RowStore.load_row 3 _ _ _ (by decide), RowStore.canon_miss _ _ _ _ _ _ (by decide), RowStore.canon_miss _ _ _ _ _ _ (by decide),
      RowStore.canon_miss _ _ _ _ _ _ (by decide), RowStore.canon_whole, zero_apply, if_neg (by decide), if_neg (by decide)]
    simp only [through_apply]

theorem acc_next (t : Fin cfg0.N) (h0 : ¬ t.val % 32 = 0) (p : Fin 8) (hp : p = 0 ∨ p = 2 ∨ p = 3) (q : Fin 1024) :
    (outsAt0 m c t.val t.isLt).2.2 (ix2 p q) = (outsAt0 m c (t.val - 1) (by omega)).2.2 (ix2 p q) + step m c t p q := by
  rw [outsAt0_B m c t h0]
  frame_out
  unfold step NormSums.added
  rcases hp with rfl | rfl | rfl
  · rw [RowStore.read_miss _ _ _ _ _ _ _ _ _ (by decide), RowStore.read_miss _ _ _ _ _ _ _ _ _ (by decide), RowStore.read_miss _ _ _ _ _ _ _ _ _ (by decide),
      RowStore.read_miss _ _ _ _ _ _ _ _ _ (by decide), RowStore.read_hit 0 _ _ _ _ _ _ _ _ rfl, row0_apply, RowStore.held_row 0 _ _ (by decide), if_pos (by decide)]
    simp only [dh_apply]
    rfl
  · rw [RowStore.read_miss _ _ _ _ _ _ _ _ _ (by decide), RowStore.read_miss _ _ _ _ _ _ _ _ _ (by decide), RowStore.read_hit 2 _ _ _ _ _ _ _ _ rfl, row2_apply,
      RowStore.held_row 2 _ _ (by decide), if_neg (by decide), if_pos (by decide)]
    simp only [through_apply, normed_apply]
    rfl
  · rw [RowStore.read_miss _ _ _ _ _ _ _ _ _ (by decide), RowStore.read_hit 3 _ _ _ _ _ _ _ _ rfl, row3_apply,
      RowStore.held_row 3 _ _ (by decide), if_neg (by decide), if_neg (by decide)]
    simp only [through_apply]
    rfl

/-- After the last point the sums are over all 8192 rows. -/
theorem acc_total (t : Fin cfg0.N) (ht : t.val + 1 = 32) (p : Fin 8) (hp : p = 0 ∨ p = 2 ∨ p = 3) (q : Fin 1024) :
    (outsAt0 m c t.val t.isLt).2.2 (ix2 p q) = NormSums.added (n := 8192) (m ((c : Thread nD τ).loc main_arg2)) (m ((c : Thread nD τ).loc main_arg4))
      (fun q => (m ((c : Thread nD τ).loc main_arg3) : Vec Ideal S4x6x1x1024 .f32) (ix4 (3 : Fin 4) (1 : Fin 6) (0 : Fin 1) q))
      (dh (m ((c : Thread nD τ).loc main_arg0) : Vec Ideal S8192x1792 .bf16) (m ((c : Thread nD τ).loc main_arg1))) p q := by
  rw [Pipeline.eq_sum_fin_of_reset_step_apply_last (fun n h (q : Fin 1024) => (outsAt0 m c n h).2.2 (ix2 p q)) 32 (fun _ => 0) (fun t => step m c t p)
      (fun t h q => acc_first m c t h p hp q) (fun t h q => acc_next m c t h p hp q) (le_of_eq N_0) t ht q, zero_add]
  refine NormSums.added_blocks _ _ _ _ _ _ _ _ (fun t k q hl => ?_) (fun t k q hl => ?_) (fun t k q hl => ?_) (fun t => ?_) p q
  · blk_ext [iblk, V, rows t]
  · blk_ext [iblk, V, rows t]
  · unfold dh
    refine Finset.sum_congr rfl fun z _ => ?_
    congr 1 <;> blk_ext [iblk, V, rows t]
  · funext q
    blk_ext [iblk, V, rows t]

end Cert.Proof.InLn

namespace Cert.Proof

open Idealize.ShloMosaic Idealize.ShloMosaic.TcCoe Idealize.SL.Sem Cert.InLnIdeal.Gen Cert.InLnIdeal

/-- The side condition of the mask of rows. -/
instance facts_On_norm_rows : Cert.On_norm_rows.Facts where
  bcast_S_S8x1024 := by decide

/-- The rows the mask names. -/
theorem norm_rows_cases (a0 : FVec Ideal S8192x1792 .bf16) (a1 : FVec Ideal S1792x1024 .bf16) (a2 : FVec Ideal S8192x1024 .f32)
    (a3 : FVec Ideal S4x6x1x1024 .f32) (a4 : FVec Ideal S8192x1024 .f32) (a5 : FVec Ideal S8192x1024 .bf16) (a6 a7 : FVec Ideal S4x1x1024 .f32)
    (p : Fin 8) (q : Fin 1024) (h : Cert.On_norm_rows.fn (F := Ideal) a0 a1 a2 a3 a4 a5 a6 a7 (ix2 p q) = 1#1) : p = 0 ∨ p = 2 ∨ p = 3 := by
  revert h
  unfold Cert.On_norm_rows.fn
  pointwise
  exact NormSums.rows_of_mask p

/-- The reference of `InLn` terminates and leaves its arguments. -/
theorem quiescent_InLnRefIdeal : Cert.quiescent_InLnRefIdeal := fun m ρ _ =>
  (θ_run Cert.InLnRefIdeal.defs _ _).mono (fun r h => ⟨fun c => (h c).2, sem_eq_zero_of_no_sems (by decide) r.2⟩)
    (Cert.InLnRefIdeal.Value.run (F := Ideal) m ρ)

/-- The array the kernel writes is what the last point leaves. -/
theorem InLn_array (m : (ℓ : Loc nD τ sig) → Buf (Elt Ideal) ℓ) (c : Dev nD) :
    (dats m 0 c).arrAt 11 cfg0.N = ((outsAt0 m c 31 (lt_of_lt_of_eq (by decide) N_0.symm)).2.2 : Vec Ideal S8x1024 .f32) := by
  refine (dats m 0 c).arrAt_eq_of_after_last 11 ⟨31, by decide +kernel⟩ (by decide +kernel) _ fun j => ?_
  rw [after0_11]
  rfl

/-- On the rows of the mask the sums are the reference's. -/
theorem algebraic_InLnIdeal_InLnRefIdeal_on_norm_rows : Cert.algebraic_InLnIdeal_InLnRefIdeal_on_norm_rows := by
  intro m ρ m' ρ' _ hagree
  refine ⟨_, (θ_run Cert.InLnIdeal.defs _ _).mono (fun _ h c => ⟨fun i _ => congrFun (h c).2.2.1 i, (h c).2.2.2⟩)
    (Cert.InLnIdeal.Value.run_blocks (F := Ideal) m ρ), ?_⟩
  refine (θ_run Cert.InLnRefIdeal.defs _ _).mono (fun _ h c => ⟨fun i hi => ?_, (h c).2⟩) (Cert.InLnRefIdeal.Value.run (F := Ideal) m' ρ')
  obtain ⟨p, q, rfl⟩ : ∃ (p : Fin 8) (q : Fin 1024), i = ix2 p q := ⟨_, _, eq_ix2 i⟩
  have hp := norm_rows_cases _ _ _ _ _ _ _ _ p q hi
  refine (congrFun (h c).1 (ix2 p q)).trans ?_
  clear h hi
  refine Eq.trans ?_ (congrFun (InLn_array m c) (ix2 p q)).symm
  refine Eq.trans ?_ (InLn.acc_total m c ⟨31, by decide +kernel⟩ rfl p hp q).symm
  unfold Cert.InLnRefIdeal.Value.res_main_v56
  simp only [hagree c]
  unfold NormSums.added NormSums.through NormSums.normed NormSums.centred InLn.dh
  rcases hp with rfl | rfl | rfl
  · pointwise
  · pointwise
    exact Finset.sum_congr (M := EReal) rfl fun k _ => NormSums.swap _ _ _
  · pointwise
    exact Finset.sum_congr (M := EReal) rfl fun k _ => add_comm (G := EReal) _ _

end Cert.Proof

end
-- ==== Proof.Loss.lean ====
/- The loss head `Loss`: the sum of the squared errors, and behind the last layer norm the gradients of its scale and bias. -/
module

public import proofs.«01_k».proof.Defs
public import proofs.«01_k».proof.Proof.RowStore
public import proofs.«01_k».proof.Proof.NormSums
public import proofs.«01_k».proof.Proof.Gen.LossIdeal.Value
public import proofs.«01_k».proof.Proof.Gen.LossRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.Loss

open Idealize.ShloMosaic Idealize.ShloMosaic.TcCoe Idealize.SL.Sem Cert.LossIdeal.Gen Cert.LossIdeal

/-- Grid point `t` holds the `t`-th block of rows. -/
theorem rows : ∀ t : Fin cfg0.N, win0_0.index t = ![t.val, 0] ∧ win0_1.index t = ![t.val, 0] ∧ win0_2.index t = ![t.val, 0] := by
  decide +kernel

section

variable {n : ℕ} (x y u : Vec Ideal ⟨2, ![n, 1024]⟩ .f32)

/-- The error. -/
def err (k : Fin n) (q : Fin 1024) : EReal := x (ix2 k q) - y (ix2 k q)

/-- The cotangent of the last layer's result. -/
def dy (k : Fin n) (q : Fin 1024) : EReal := err x y k q * Ideal.ofBits FTy.f32 981467136#32

/-- What the rows add to row `p` of the sums, `p` one of 0, 1 and 3. -/
def added (p : Fin 8) (q : Fin 1024) : EReal :=
  if p.val = 0 then ∑ k : Fin n, dy x y k q * NormSums.normed u k q
  else if p.val = 1 then ∑ k : Fin n, dy x y k q
  else ∑ k : Fin n, ∑ z : Fin 1024, err x y k z * err x y k z

end

section

variable (x y u : Vec Ideal S512x1024 .f32) (r : Vec Ideal S1x1024 .f32) (k : Fin 512) (q : Fin 1024)

theorem dy_apply : k0_pay9 x y (ix2 k q) = dy x y k q := by
  unfold dy err
  pointwise [k0_pay9, k0_pay7]

theorem normed_apply : k0_pay6 u (ix2 k q) = NormSums.normed u k q := by
  unfold NormSums.normed NormSums.centred
  pointwise [k0_pay6, k0_pay5, k0_pay4]

theorem row0_apply : k0_pay12 x y r (ix2 (0 : Fin 1) q) = r (ix2 (0 : Fin 1) q) + ∑ k : Fin 512, y (ix2 k q) * x (ix2 k q) := by
  pointwise [k0_pay12]

theorem row1_apply : k0_pay1 x r (ix2 (0 : Fin 1) q) = r (ix2 (0 : Fin 1) q) + ∑ k : Fin 512, x (ix2 k q) := by
  pointwise [k0_pay1]

theorem row3_apply : k0_pay8 x y r (ix2 (0 : Fin 1) q) = r (ix2 (0 : Fin 1) q) + ∑ k : Fin 512, ∑ z : Fin 1024, err x y k z * err x y k z := by
  unfold err
  pointwise [k0_pay8, k0_pay7]

end

theorem zero_apply (j : S8x1024.Idx) : k0_pay3 (F := Ideal) j = 0 := by
  pointwise [k0_pay3]

variable (m : (ℓ : Loc nD τ sig) → Buf (Elt Ideal) ℓ) (c : Dev nD)

/-- What grid point `t` adds. -/
abbrev step (t : Fin cfg0.N) : Fin 8 → Fin 1024 → EReal := added (n := 512) (iblk m c 0 t) (iblk m c 1 t) (iblk m c 2 t)

theorem acc_first (t : Fin cfg0.N) (h0 : t.val % 16 = 0) (p : Fin 8) (hp : p = 0 ∨ p = 1 ∨ p = 3) (q : Fin 1024) :
    (outsAt0 m c t.val t.isLt).2.2 (ix2 p q) = 0 + step m c t p q := by
  rw [outsAt0_A m c t h0]
  frame_out
  unfold step added
  rcases hp with rfl | rfl | rfl
  · rw [RowStore.canon_miss _ _ _ _ _ _ (by decide), RowStore.canon_miss _ _ _ _ _ _ (by decide), RowStore.canon_hit 0 _ _ _ _ _ rfl, row0_apply,
      RowStore.load_row 0 _ _ _ (by decide), RowStore.canon_miss _ _ _ _ _ _ (by decide), RowStore.canon_whole, zero_apply, if_pos (by decide)]
    simp only [dy_apply, normed_apply]
  · rw [RowStore.canon_miss _ _ _ _ _ _ (by decide), RowStore.canon_hit 1 _ _ _ _ _ rfl, row1_apply,
      RowStore.load_row 1 _ _ _ (by decide), RowStore.canon_miss _ _ _ _ _ _ (by decide), RowStore.canon_miss _ _ _ _ _ _ (by decide),
      RowStore.canon_whole, zero_apply, if_neg (by decide), if_pos (by decide)]
    simp only [dy_apply]
  · rw [RowStore.canon_miss _ _ _ _ _ _ (by decide), RowStore.canon_miss _ _ _ _ _ _ (by decide), RowStore.canon_miss _ _ _ _ _ _ (by decide),
      RowStore.canon_hit 3 _ _ _ _ _ rfl, row3_apply, RowStore.load_row 3 _ _ _ (by decide), RowStore.canon_whole, zero_apply,
      if_neg (by decide), if_neg (by decide)]

theorem acc_next (t : Fin cfg0.N) (h0 : ¬ t.val % 16 = 0) (p : Fin 8) (hp : p = 0 ∨ p = 1 ∨ p = 3) (q : Fin 1024) :
    (outsAt0 m c t.val t.isLt).2.2 (ix2 p q) = (outsAt0 m c (t.val - 1) (by omega)).2.2 (ix2 p q) + step m c t p q := by
  rw [outsAt0_B m c t h0]
  frame_out
  unfold step added
  rcases hp with rfl | rfl | rfl
  · rw [RowStore.read_miss _ _ _ _ _ _ _ _ _ (by decide), RowStore.read_miss _ _ _ _ _ _ _ _ _ (by decide), RowStore.read_hit 0 _ _ _ _ _ _ _ _ rfl, row0_apply,
      RowStore.held_row 0 _ _ (by decide), if_pos (by decide)]
    simp only [dy_apply, normed_apply]
    rfl
  · rw [RowStore.read_miss _ _ _ _ _ _ _ _ _ (by decide), RowStore.read_hit 1 _ _ _ _ _ _ _ _ rfl, row1_apply,
      RowStore.held_row 1 _ _ (by decide), if_neg (by decide), if_pos (by decide)]
    simp only [dy_apply]
    rfl
  · rw [RowStore.read_miss _ _ _ _ _ _ _ _ _ (by decide), RowStore.read_miss _ _ _ _ _ _ _ _ _ (by decide), RowStore.read_miss _ _ _ _ _ _ _ _ _ (by decide),
      RowStore.read_hit 3 _ _ _ _ _ _ _ _ rfl, row3_apply, RowStore.held_row 3 _ _ (by decide), if_neg (by decide), if_neg (by decide)]
    rfl

/-- After the last point the sums are over all 8192 rows. -/
theorem acc_total (t : Fin cfg0.N) (ht : t.val + 1 = 16) (p : Fin 8) (hp : p = 0 ∨ p = 1 ∨ p = 3) (q : Fin 1024) :
    (outsAt0 m c t.val t.isLt).2.2 (ix2 p q) = added (n := 8192) (m ((c : Thread nD τ).loc main_arg0)) (m ((c : Thread nD τ).loc main_arg1))
      (m ((c : Thread nD τ).loc main_arg2)) p q := by
  rw [Pipeline.eq_sum_fin_of_reset_step_apply_last (fun n h (q : Fin 1024) => (outsAt0 m c n h).2.2 (ix2 p q)) 16 (fun _ => 0) (fun t => step m c t p)
      (fun t h q => acc_first m c t h p hp q) (fun t h q => acc_next m c t h p hp q) (le_of_eq N_0) t ht q, zero_add]
  have he : ∀ (t : Fin cfg0.N) (k : Fin 512) (q : Fin 1024) (hl : t.val * 512 + k.val < 8192),
      err (n := 512) (iblk m c 0 t) (iblk m c 1 t) k q
        = err (n := 8192) (m ((c : Thread nD τ).loc main_arg0)) (m ((c : Thread nD τ).loc main_arg1)) ⟨_, hl⟩ q := fun t k q hl => by
    unfold err
    refine congrArg₂ (fun x y : EReal => x - y) ?_ ?_ <;> blk_ext [iblk, V, rows t]
  unfold step added dy
  split_ifs
  · refine Fin.sum_mul_add_congr fun t k hl => ?_
    rw [he t k q hl, NormSums.normed_congr (n := 512) (n' := 8192) _ (m ((c : Thread nD τ).loc main_arg2)) k ⟨_, hl⟩ (fun z => by blk_ext [iblk, V, rows t])]
  · refine Fin.sum_mul_add_congr fun t k hl => ?_
    rw [he t k q hl]
  · refine Fin.sum_mul_add_congr fun t k hl => Finset.sum_congr rfl fun z _ => ?_
    rw [he t k z hl]

set_option maxHeartbeats 2000000 in
theorem acc_array :
    (dats m 0 c).arrAt 8 cfg0.N = ((outsAt0 m c 15 (lt_of_lt_of_eq (by decide) N_0.symm)).2.2 : Vec Ideal S8x1024 .f32) := by
  refine (dats m 0 c).arrAt_eq_of_after_last 8 ⟨15, by decide +kernel⟩ (by decide +kernel) _ fun j => ?_
  rw [after0_8]
  rfl

/-- The rows whose bit is set in the mask `row = 0 or row = 1 or row = 3`. -/
theorem rows_of_mask : ∀ p : Fin 8, IntOp.ori (IntOp.ori (IntOp.cmpi .eq (BitVec.ofNat 32 p.val) 0#32) (IntOp.cmpi .eq (BitVec.ofNat 32 p.val) 1#32))
    (IntOp.cmpi .eq (BitVec.ofNat 32 p.val) 3#32) = 1#1 → p = 0 ∨ p = 1 ∨ p = 3 := by
  decide

/-! ### The constants, and a scale taken out of a sum -/

theorem ofBits_half : Ideal.ofBits .f32 1056964608#32 = (((1 / 2 : ℝ)) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_width : Ideal.ofBits .f32 1149239296#32 = ((1024 : ℝ) : EReal) := by
  simp [Ideal.ofBits, Ideal.ieee, -EReal.coe_mul]; norm_num

theorem ofBits_twice_width : Ideal.ofBits .f32 1157627904#32 = ((2048 : ℝ) : EReal) := by
  simp [Ideal.ofBits, Ideal.ieee, -EReal.coe_mul]; norm_num

theorem ofBits_inv_width : Ideal.ofBits .f32 981467136#32 = ((1 / 1024 : ℝ) : EReal) := by
  simp [Ideal.ofBits, Ideal.ieee, -EReal.coe_mul]; norm_num

theorem div_width (x : EReal) : Ideal.div x (Ideal.ofBits .f32 1149239296#32) = x * ((1 / 1024 : ℝ) : EReal) := by
  have h : ((1024 : ℝ) : EReal) ≠ 0 := by
    rw [← EReal.coe_zero, Ne, EReal.coe_eq_coe_iff]
    norm_num
  rw [ofBits_width, Ideal.div, if_neg h, ← EReal.coe_inv, one_div]

theorem sum_mul_coe {n : ℕ} (f : Fin n → EReal) (a : ℝ) (ha : 0 ≤ a) : ∑ k, f k * (a : EReal) = (∑ k, f k) * (a : EReal) := by
  refine Finset.induction_on (Finset.univ : Finset (Fin n)) (by simp) fun k s hk ih => ?_
  rw [Finset.sum_insert hk, Finset.sum_insert hk, ih,
    EReal.right_distrib_of_nonneg_of_ne_top (EReal.coe_nonneg.mpr ha) (EReal.coe_ne_top a)]

/-- The cotangent's constants make `1 / 1024`. -/
theorem cotangent (e : EReal) : Ideal.div (Ideal.ofBits .f32 1056964608#32) (Ideal.ofBits .f32 1149239296#32) * (Ideal.ofBits .f32 1073741824#32 * e)
    = e * Ideal.ofBits .f32 981467136#32 := by
  rw [div_width, ofBits_half, ofBits_two, ofBits_inv_width, ← mul_assoc, ← EReal.coe_mul, ← EReal.coe_mul, mul_comm]
  norm_num

/-- Half the sum of the means, times `2 · 1024`, is the sum. -/
theorem half_mean {n : ℕ} (f : Fin n → EReal) :
    Ideal.ofBits .f32 1056964608#32 * (∑ k, Ideal.div (f k) (Ideal.ofBits .f32 1149239296#32)) * Ideal.ofBits .f32 1157627904#32 = ∑ k, f k := by
  simp only [div_width]
  rw [sum_mul_coe f _ (by norm_num), ofBits_half, ofBits_twice_width, mul_comm, ← mul_assoc, mul_comm, mul_assoc, ← EReal.coe_mul, ← EReal.coe_mul]
  norm_num

end Cert.Proof.Loss

namespace Cert.Proof

open Idealize.ShloMosaic Idealize.ShloMosaic.TcCoe Idealize.SL.Sem Cert.LossIdeal.Gen Cert.LossIdeal

/-- The side condition of the mask of rows. -/
instance facts_On_loss_rows : Cert.On_loss_rows.Facts where
  bcast_S_S8x1024 := by decide

/-- The rows the mask names. -/
theorem loss_rows_cases (a0 a1 a2 : FVec Ideal S8192x1024 .f32) (a3 : FVec Ideal S8192x1024 .bf16) (a4 : FVec Ideal S4x1x1024 .f32)
    (a5 : FVec Ideal S4x6x1x1024 .f32) (p : Fin 8) (q : Fin 1024)
    (h : Cert.On_loss_rows.fn (F := Ideal) a0 a1 a2 a3 a4 a5 (ix2 p q) = 1#1) : p = 0 ∨ p = 1 ∨ p = 3 := by
  revert h
  unfold Cert.On_loss_rows.fn
  pointwise
  exact Loss.rows_of_mask p

/-- The reference of `Loss` terminates and leaves its arguments. -/
theorem quiescent_LossRefIdeal : Cert.quiescent_LossRefIdeal := fun m ρ _ =>
  (θ_run Cert.LossRefIdeal.defs _ _).mono (fun r h => ⟨fun c => (h c).2, sem_eq_zero_of_no_sems (by decide) r.2⟩)
    (Cert.LossRefIdeal.Value.run (F := Ideal) m ρ)

/-- On the rows of the mask the sums are the reference's. -/
theorem algebraic_LossIdeal_LossRefIdeal_on_loss_rows : Cert.algebraic_LossIdeal_LossRefIdeal_on_loss_rows := by
  intro m ρ m' ρ' _ hagree
  refine ⟨_, (θ_run Cert.LossIdeal.defs _ _).mono (fun _ h c => ⟨fun i _ => congrFun (h c).2.2.1 i, (h c).2.2.2⟩)
    (Cert.LossIdeal.Value.run_blocks (F := Ideal) m ρ), ?_⟩
  refine (θ_run Cert.LossRefIdeal.defs _ _).mono (fun _ h c => ⟨fun i hi => ?_, (h c).2⟩) (Cert.LossRefIdeal.Value.run (F := Ideal) m' ρ')
  obtain ⟨p, q, rfl⟩ : ∃ (p : Fin 8) (q : Fin 1024), i = ix2 p q := ⟨_, _, eq_ix2 i⟩
  have hp := loss_rows_cases _ _ _ _ _ _ p q hi
  refine (congrFun (h c).1 (ix2 p q)).trans ?_
  clear h hi
  refine Eq.trans ?_ (congrFun (Loss.acc_array m c) (ix2 p q)).symm
  refine Eq.trans ?_ (Loss.acc_total m c ⟨15, by decide +kernel⟩ rfl p hp q).symm
  simp only [hagree c]
  unfold Loss.added Loss.dy Loss.err NormSums.normed NormSums.centred
  rcases hp with rfl | rfl | rfl
  · pointwise
    refine Finset.sum_congr (M := EReal) rfl fun k _ => ?_
    rw [Loss.cotangent]
    exact mul_comm (G := EReal) _ _
  · pointwise
    exact Finset.sum_congr (M := EReal) rfl fun k _ => Loss.cotangent _
  · pointwise
    exact Loss.half_mean (n := 8192) _

end Cert.Proof

end
-- ==== Proof.Mlp.lean ====
/- The backward pass of the gated product `Mlp`: the gradients at the gate and at the other factor, and behind the layer norm
   the gradients of the layer's vectors. The kernel takes the 2816 columns in two halves. -/
module

public import proofs.«01_k».proof.Defs
public import proofs.«01_k».proof.Proof.RowStore
public import proofs.«01_k».proof.Proof.NormSums
public import proofs.«01_k».proof.Proof.Gate
public import proofs.«01_k».proof.Proof.Gen.MlpIdeal.Value
public import proofs.«01_k».proof.Proof.Gen.MlpRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.Mlp

open Idealize.ShloMosaic Idealize.ShloMosaic.TcCoe Idealize.SL.Sem Cert.MlpIdeal.Gen Cert.MlpIdeal

/-- Grid point `t` holds the `t`-th block of rows, the weights whole, and the block of the layer's scale. -/
theorem rows : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![0, 0] ∧ win0_6.index t = ![t.val, 0] ∧
    win0_7.index t = ![3, 4, 0, 0] ∧ win0_8.index t = ![t.val, 0] ∧ win0_13.index t = ![t.val, 0] ∧ win0_14.index t = ![t.val, 0] := by
  decide +kernel

/-! ### The mathematics, for `n` rows and `f` columns -/

section

variable {n f : ℕ} (a : Vec Ideal ⟨2, ![n, 1024]⟩ .bf16) (w : Vec Ideal ⟨2, ![f, 1024]⟩ .bf16) (g u : Vec Ideal ⟨2, ![n, f]⟩ .bf16)
  (wg wu : Vec Ideal ⟨2, ![f, 1024]⟩ .bf16)

/-- The cotangent of the gated product. -/
def dact (k : Fin n) (y : Fin f) : EReal := ∑ z : Fin 1024, a (ix2 k z) * w (ix2 y z)

/-- The gradient at the gate. -/
def dgate (k : Fin n) (y : Fin f) : EReal :=
  (dact a w k y * u (ix2 k y)) * (Gate.sig (g (ix2 k y)) * (1 + g (ix2 k y) * (1 - Gate.sig (g (ix2 k y)))))

/-- The gradient at the other factor. -/
def dup (k : Fin n) (y : Fin f) : EReal := dact a w k y * (g (ix2 k y) * Gate.sig (g (ix2 k y)))

/-- The gradient before the two products. -/
def dh (k : Fin n) (q : Fin 1024) : EReal :=
  (∑ y : Fin f, dgate a w g u k y * wg (ix2 y q)) + ∑ y : Fin f, dup a w g k y * wu (ix2 y q)

end

/-! ### The halves -/

/-- A column of the first half. -/
def lo (y : Fin 1408) : Fin 2816 := ⟨y.val, by omega⟩

/-- A column of the second half. -/
def hi (y : Fin 1408) : Fin 2816 := ⟨1408 + y.val, by omega⟩

theorem lo_or_hi (y : Fin 2816) : (∃ x, y = lo x) ∨ ∃ x, y = hi x := by
  by_cases h : y.val < 1408
  · exact Or.inl ⟨⟨y.val, h⟩, rfl⟩
  · exact Or.inr ⟨⟨y.val - 1408, by omega⟩, Fin.ext (by show y.val = 1408 + (y.val - 1408); omega)⟩

theorem sum_halves (F : Fin 2816 → EReal) : ∑ y : Fin 2816, F y = (∑ y : Fin 1408, F (lo y)) + ∑ y : Fin 1408, F (hi y) :=
  Fin.sum_univ_add (a := 1408) (b := 1408) F

abbrev leftRect := Rect.unit (s := S256x2816) ![0, 0] ![256, 1408] inb_S256x2816_S256x1408_0_0
abbrev rightRect := Rect.unit (s := S256x2816) ![0, 1408] ![256, 1408] inb_S256x2816_S256x1408_0_1408
abbrev topRect := Rect.unit (s := S2816x1024) ![0, 0] ![1408, 1024] inb_S2816x1024_S1408x1024_0_0
abbrev bottomRect := Rect.unit (s := S2816x1024) ![1408, 0] ![1408, 1024] inb_S2816x1024_S1408x1024_1408_0

theorem left_emb (k : Fin 256) (y : Fin 1408) : leftRect.idx (ix2 k y) = ix2 k (lo y) := by
  funext a
  apply Fin.ext
  fin_cases a
  · show 0 + 1 * k.val = k.val
    omega
  · show 0 + 1 * y.val = y.val
    omega

theorem right_emb (k : Fin 256) (y : Fin 1408) : rightRect.idx (ix2 k y) = ix2 k (hi y) := by
  funext a
  apply Fin.ext
  fin_cases a
  · show 0 + 1 * k.val = k.val
    omega
  · show 1408 + 1 * y.val = 1408 + y.val
    omega

theorem top_emb (y : Fin 1408) (q : Fin 1024) : topRect.idx (ix2 y q) = ix2 (lo y) q := by
  funext a
  apply Fin.ext
  fin_cases a
  · show 0 + 1 * y.val = y.val
    omega
  · show 0 + 1 * q.val = q.val
    omega

theorem bottom_emb (y : Fin 1408) (q : Fin 1024) : bottomRect.idx (ix2 y q) = ix2 (hi y) q := by
  funext a
  apply Fin.ext
  fin_cases a
  · show 1408 + 1 * y.val = 1408 + y.val
    omega
  · show 0 + 1 * q.val = q.val
    omega

abbrev left (x : Vec Ideal S256x2816 .bf16) : Vec Ideal S256x1408 .bf16 := View.ld (e' := .bf16) x leftRect
abbrev right (x : Vec Ideal S256x2816 .bf16) : Vec Ideal S256x1408 .bf16 := View.ld (e' := .bf16) x rightRect
abbrev top (x : Vec Ideal S2816x1024 .bf16) : Vec Ideal S1408x1024 .bf16 := View.ld (e' := .bf16) x topRect
abbrev bottom (x : Vec Ideal S2816x1024 .bf16) : Vec Ideal S1408x1024 .bf16 := View.ld (e' := .bf16) x bottomRect

theorem left_apply (x : Vec Ideal S256x2816 .bf16) (k : Fin 256) (y : Fin 1408) : left x (ix2 k y) = x (ix2 k (lo y)) := congrArg x (left_emb k y)
theorem right_apply (x : Vec Ideal S256x2816 .bf16) (k : Fin 256) (y : Fin 1408) : right x (ix2 k y) = x (ix2 k (hi y)) := congrArg x (right_emb k y)
theorem top_apply (x : Vec Ideal S2816x1024 .bf16) (y : Fin 1408) (q : Fin 1024) : top x (ix2 y q) = x (ix2 (lo y) q) := congrArg x (top_emb y q)
theorem bottom_apply (x : Vec Ideal S2816x1024 .bf16) (y : Fin 1408) (q : Fin 1024) : bottom x (ix2 y q) = x (ix2 (hi y) q) := congrArg x (bottom_emb y q)

/-- A store of the first half, then one of the second. -/
theorem stored_lo (x y : Vec Ideal S256x1408 .bf16) (k : Fin 256) (z : Fin 1408) :
    View.canon [(⟨rightRect, y⟩ : View.Piece (Elt Ideal) S256x2816 .bf16), ⟨leftRect, x⟩] (ix2 k (lo z)) = x (ix2 k z) := by
  refine (View.canon_cons_of_not_mem _ _ fun hm => ?_).trans ?_
  · have hm' : ix2 k (lo z) ∈ (Rect.unit (s := S256x2816) ![0, 1408] ![256, 1408] inb_S256x2816_S256x1408_0_1408).set := hm
    have h' : 1408 ≤ (lo z).val ∧ (lo z).val < 1408 + 1408 := (Rect.mem_set_unit.mp hm') 1
    have : z.val < 1408 := z.isLt
    have e : (lo z).val = z.val := rfl
    omega
  · have e := View.canon_cons_emb (Val := Elt Ideal) (e := .bf16) leftRect x [] (ix2 k z)
    rwa [show leftRect.emb (ix2 k z) = ix2 k (lo z) from left_emb k z] at e

theorem stored_hi (x y : Vec Ideal S256x1408 .bf16) (k : Fin 256) (z : Fin 1408) :
    View.canon [(⟨rightRect, y⟩ : View.Piece (Elt Ideal) S256x2816 .bf16), ⟨leftRect, x⟩] (ix2 k (hi z)) = y (ix2 k z) := by
  have e := View.canon_cons_emb (Val := Elt Ideal) (e := .bf16) rightRect y [⟨leftRect, x⟩] (ix2 k z)
  rwa [show rightRect.emb (ix2 k z) = ix2 k (hi z) from right_emb k z] at e

section

variable (a : Vec Ideal S256x1024 .bf16) (w : Vec Ideal S2816x1024 .bf16) (g u : Vec Ideal S256x2816 .bf16) (wg wu : Vec Ideal S2816x1024 .bf16)

theorem dgate_lo (k : Fin 256) (y : Fin 1408) : dgate (f := 1408) a (top w) (left g) (left u) k y = dgate (f := 2816) a w g u k (lo y) := by
  unfold dgate dact
  simp only [left, top, View.ld, left_emb, top_emb]

theorem dgate_hi (k : Fin 256) (y : Fin 1408) : dgate (f := 1408) a (bottom w) (right g) (right u) k y = dgate (f := 2816) a w g u k (hi y) := by
  unfold dgate dact
  simp only [right, bottom, View.ld, right_emb, bottom_emb]

theorem dup_lo (k : Fin 256) (y : Fin 1408) : dup (f := 1408) a (top w) (left g) k y = dup (f := 2816) a w g k (lo y) := by
  unfold dup dact
  simp only [left, top, View.ld, left_emb, top_emb]

theorem dup_hi (k : Fin 256) (y : Fin 1408) : dup (f := 1408) a (bottom w) (right g) k y = dup (f := 2816) a w g k (hi y) := by
  unfold dup dact
  simp only [right, bottom, View.ld, right_emb, bottom_emb]

theorem dh_halves (k : Fin 256) (q : Fin 1024) :
    dh (f := 1408) a (top w) (left g) (left u) (top wg) (top wu) k q + dh (f := 1408) a (bottom w) (right g) (right u) (bottom wg) (bottom wu) k q
      = dh (f := 2816) a w g u wg wu k q := by
  unfold dh
  rw [sum_halves, sum_halves, add_add_add_comm]
  simp only [dgate_lo, dgate_hi, dup_lo, dup_hi]
  simp only [top, bottom, View.ld, top_emb, bottom_emb]

end

/-! ### What the body computes -/

section

variable (a : Vec Ideal S256x1024 .bf16) (w : Vec Ideal S1408x1024 .bf16) (g u : Vec Ideal S256x1408 .bf16) (wg wu : Vec Ideal S1408x1024 .bf16)

theorem dgate_apply (k : Fin 256) (y : Fin 1408) : k0_pay9 a w g u (ix2 k y) = dgate a w g u k y := by
  unfold dgate dact Gate.sig
  pointwise [k0_pay9, k0_pay8, k0_pay7, k0_pay6]
  simp only [zero_sub]

theorem dgate_apply' (k : Fin 256) (y : Fin 1408) : k0_pay16 a w g u (ix2 k y) = dgate a w g u k y := by
  unfold dgate dact Gate.sig
  pointwise [k0_pay16, k0_pay15, k0_pay14, k0_pay13]
  simp only [zero_sub]

theorem dup_apply (k : Fin 256) (y : Fin 1408) : k0_pay10 a w g (ix2 k y) = dup a w g k y := by
  unfold dup dact Gate.sig
  pointwise [k0_pay10, k0_pay8, k0_pay7, k0_pay6]
  simp only [zero_sub]

theorem dup_apply' (k : Fin 256) (y : Fin 1408) : k0_pay17 a w g (ix2 k y) = dup a w g k y := by
  unfold dup dact Gate.sig
  pointwise [k0_pay17, k0_pay15, k0_pay14, k0_pay13]
  simp only [zero_sub]

theorem first_apply (k : Fin 256) (q : Fin 1024) : k0_pay12 (k0_pay10 a w g) (k0_pay11 a w g u wg) wu (ix2 k q) = dh a w g u wg wu k q := by
  unfold dh
  simp only [← dgate_apply, ← dup_apply]
  pointwise [k0_pay12, k0_pay11]

theorem both_apply (x : Vec Ideal S256x1024 .f32) (k : Fin 256) (q : Fin 1024) :
    k0_pay19 x (k0_pay17 a w g) (k0_pay18 a w g u wg) wu (ix2 k q) = x (ix2 k q) + dh a w g u wg wu k q := by
  unfold dh
  simp only [← dgate_apply', ← dup_apply']
  pointwise [k0_pay19, k0_pay18]

end

section

variable (v35 : Vec Ideal S256x1024 .f32) (v61 : FVec Ideal S256x1408 .bf16) (v65 : Vec Ideal S256x1024 .f32) (v66 : Vec Ideal S1408x1024 .bf16)

theorem through_apply (x : Vec Ideal S256x1024 .f32) (s : Vec Ideal S1x1x1x1024 .f32) (k : Fin 256) (q : Fin 1024) :
    k0_pay20 v35 v61 v65 v66 x s (ix2 k q)
      = NormSums.through x (fun q => s (ix4 (0 : Fin 1) (0 : Fin 1) (0 : Fin 1) q)) (fun k q => k0_pay19 v35 v61 v65 v66 (ix2 k q)) k q := by
  unfold NormSums.through
  pointwise [k0_pay20]

theorem row0_apply (r : Vec Ideal S1x1024 .f32) (q : Fin 1024) :
    k0_pay25 v35 v61 v65 v66 r (ix2 (0 : Fin 1) q) = r (ix2 (0 : Fin 1) q) + ∑ k : Fin 256, k0_pay19 v35 v61 v65 v66 (ix2 k q) := by
  pointwise [k0_pay25, k0_pay24]

end

theorem normed_apply (x : Vec Ideal S256x1024 .f32) (k : Fin 256) (q : Fin 1024) : k0_pay23 x (ix2 k q) = NormSums.normed x k q := by
  unfold NormSums.normed NormSums.centred
  pointwise [k0_pay23, k0_pay22, k0_pay21]

theorem row2_apply (x y : Vec Ideal S256x1024 .f32) (r : Vec Ideal S1x1024 .f32) (q : Fin 1024) :
    k0_pay2 x y r (ix2 (0 : Fin 1) q) = r (ix2 (0 : Fin 1) q) + ∑ k : Fin 256, x (ix2 k q) * y (ix2 k q) := by
  pointwise [k0_pay2]

theorem row3_apply (x : Vec Ideal S256x1024 .f32) (r : Vec Ideal S1x1024 .f32) (q : Fin 1024) :
    k0_pay3 x r (ix2 (0 : Fin 1) q) = r (ix2 (0 : Fin 1) q) + ∑ k : Fin 256, x (ix2 k q) := by
  pointwise [k0_pay3]

theorem zero_apply (j : S8x1024.Idx) : k0_pay5 (F := Ideal) j = 0 := by
  pointwise [k0_pay5]

/-! ### The blocks -/

variable (m : (ℓ : Loc nD τ sig) → Buf (Elt Ideal) ℓ) (c : Dev nD)

theorem out_dgate (t : Fin cfg0.N) (k : Fin 256) (y : Fin 2816) : (outsAt0 m c t.val t.isLt).1 (ix2 k y)
    = dgate (n := 256) (f := 2816) (iblk m c 0 t) (iblk m c 1 t) (iblk m c 2 t) (iblk m c 3 t) k y := by
  by_cases h0 : t.val % 32 = 0
  · rw [outsAt0_A m c t h0]
    frame_out
    rcases lo_or_hi y with ⟨x, rfl⟩ | ⟨x, rfl⟩
    · exact (stored_lo _ _ k x).trans ((dgate_apply _ _ _ _ k x).trans (dgate_lo _ _ _ _ k x))
    · exact (stored_hi _ _ k x).trans ((dgate_apply' _ _ _ _ k x).trans (dgate_hi _ _ _ _ k x))
  · rw [outsAt0_B m c t h0]
    frame_out
    rcases lo_or_hi y with ⟨x, rfl⟩ | ⟨x, rfl⟩
    · exact (stored_lo _ _ k x).trans ((dgate_apply _ _ _ _ k x).trans (dgate_lo _ _ _ _ k x))
    · exact (stored_hi _ _ k x).trans ((dgate_apply' _ _ _ _ k x).trans (dgate_hi _ _ _ _ k x))

theorem out_dup (t : Fin cfg0.N) (k : Fin 256) (y : Fin 2816) : (outsAt0 m c t.val t.isLt).2.1 (ix2 k y)
    = dup (n := 256) (f := 2816) (iblk m c 0 t) (iblk m c 1 t) (iblk m c 2 t) k y := by
  by_cases h0 : t.val % 32 = 0
  · rw [outsAt0_A m c t h0]
    frame_out
    rcases lo_or_hi y with ⟨x, rfl⟩ | ⟨x, rfl⟩
    · exact (stored_lo _ _ k x).trans ((dup_apply _ _ _ k x).trans (dup_lo _ _ _ k x))
    · exact (stored_hi _ _ k x).trans ((dup_apply' _ _ _ k x).trans (dup_hi _ _ _ k x))
  · rw [outsAt0_B m c t h0]
    frame_out
    rcases lo_or_hi y with ⟨x, rfl⟩ | ⟨x, rfl⟩
    · exact (stored_lo _ _ k x).trans ((dup_apply _ _ _ k x).trans (dup_lo _ _ _ k x))
    · exact (stored_hi _ _ k x).trans ((dup_apply' _ _ _ k x).trans (dup_hi _ _ _ k x))

/-- What grid point `t` adds. -/
abbrev step (t : Fin cfg0.N) : Fin 8 → Fin 1024 → EReal :=
  NormSums.added (n := 256) (iblk m c 6 t) (iblk m c 8 t) (fun q => (iblk m c 7 t : Vec Ideal S1x1x1x1024 .f32) (ix4 (0 : Fin 1) (0 : Fin 1) (0 : Fin 1) q))
    (dh (n := 256) (f := 2816) (iblk m c 0 t) (iblk m c 1 t) (iblk m c 2 t) (iblk m c 3 t) (iblk m c 4 t) (iblk m c 5 t))

theorem acc_first (t : Fin cfg0.N) (h0 : t.val % 32 = 0) (p : Fin 8) (hp : p = 0 ∨ p = 2 ∨ p = 3) (q : Fin 1024) :
    (outsAt0 m c t.val t.isLt).2.2.2.2 (ix2 p q) = 0 + step m c t p q := by
  rw [outsAt0_A m c t h0]
  frame_out
  unfold step NormSums.added
  rcases hp with rfl | rfl | rfl
  · rw [RowStore.canon_miss _ _ _ _ _ _ (by decide), RowStore.canon_miss _ _ _ _ _ _ (by decide), RowStore.canon_miss _ _ _ _ _ _ (by decide),
      RowStore.canon_miss _ _ _ _ _ _ (by decide), RowStore.canon_hit 0 _ _ _ _ _ rfl, row0_apply, RowStore.load_row 0 _ _ _ (by decide),
      RowStore.canon_whole, zero_apply, if_pos (by decide)]
    simp only [both_apply, first_apply, dh_halves]
  · rw [RowStore.canon_miss _ _ _ _ _ _ (by decide), RowStore.canon_miss _ _ _ _ _ _ (by decide), RowStore.canon_hit 2 _ _ _ _ _ rfl, row2_apply,
      RowStore.load_row 2 _ _ _ (by decide), RowStore.canon_miss _ _ _ _ _ _ (by decide), RowStore.canon_miss _ _ _ _ _ _ (by decide),
      RowStore.canon_whole, zero_apply, if_neg (by decide), if_pos (by decide)]
    simp only [through_apply, normed_apply, both_apply, first_apply, dh_halves]
  · rw [RowStore.canon_miss _ _ _ _ _ _ (by decide), RowStore.canon_hit 3 _ _ _ _ _ rfl, row3_apply,
      RowStore.load_row 3 _ _ _ (by decide), RowStore.canon_miss _ _ _ _ _ _ (by decide), RowStore.canon_miss _ _ _ _ _ _ (by decide),
      RowStore.canon_miss _ _ _ _ _ _ (by decide), RowStore.canon_whole, zero_apply, if_neg (by decide), if_neg (by decide)]
    simp only [through_apply, both_apply, first_apply, dh_halves]

theorem acc_next (t : Fin cfg0.N) (h0 : ¬ t.val % 32 = 0) (p : Fin 8) (hp : p = 0 ∨ p = 2 ∨ p = 3) (q : Fin 1024) :
    (outsAt0 m c t.val t.isLt).2.2.2.2 (ix2 p q) = (outsAt0 m c (t.val - 1) (by omega)).2.2.2.2 (ix2 p q) + step m c t p q := by
  rw [outsAt0_B m c t h0]
  frame_out
  unfold step NormSums.added
  rcases hp with rfl | rfl | rfl
  · rw [RowStore.read_miss _ _ _ _ _ _ _ _ _ (by decide), RowStore.read_miss _ _ _ _ _ _ _ _ _ (by decide), RowStore.read_miss _ _ _ _ _ _ _ _ _ (by decide),
      RowStore.read_miss _ _ _ _ _ _ _ _ _ (by decide), RowStore.read_hit 0 _ _ _ _ _ _ _ _ rfl, row0_apply, RowStore.held_row 0 _ _ (by decide), if_pos (by decide)]
    simp only [both_apply, first_apply, dh_halves]
    rfl
  · rw [RowStore.read_miss _ _ _ _ _ _ _ _ _ (by decide), RowStore.read_miss _ _ _ _ _ _ _ _ _ (by decide), RowStore.read_hit 2 _ _ _ _ _ _ _ _ rfl, row2_apply,
      RowStore.held_row 2 _ _ (by decide), if_neg (by decide), if_pos (by decide)]
    simp only [through_apply, normed_apply, both_apply, first_apply, dh_halves]
    rfl
  · rw [RowStore.read_miss _ _ _ _ _ _ _ _ _ (by decide), RowStore.read_hit 3 _ _ _ _ _ _ _ _ rfl, row3_apply,
      RowStore.held_row 3 _ _ (by decide), if_neg (by decide), if_neg (by decide)]
    simp only [through_apply, both_apply, first_apply, dh_halves]
    rfl

/-! ### The arrays -/

/-- The gradient at the gate, of the whole arrays. -/
abbrev dgateOf : Fin 8192 → Fin 2816 → EReal :=
  dgate (n := 8192) (f := 2816) (m ((c : Thread nD τ).loc main_arg0)) (m ((c : Thread nD τ).loc main_arg1)) (m ((c : Thread nD τ).loc main_arg2))
    (m ((c : Thread nD τ).loc main_arg3))

/-- The gradient at the other factor, of the whole arrays. -/
abbrev dupOf : Fin 8192 → Fin 2816 → EReal :=
  dup (n := 8192) (f := 2816) (m ((c : Thread nD τ).loc main_arg0)) (m ((c : Thread nD τ).loc main_arg1)) (m ((c : Thread nD τ).loc main_arg2))

/-- The gradient before the two products, of the whole arrays. -/
abbrev dhOf : Fin 8192 → Fin 1024 → EReal :=
  dh (n := 8192) (f := 2816) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem dgate_block (t : Fin cfg0.N) (k : Fin 256) (hl : t.val * 256 + k.val < 8192) (y : Fin 2816) :
    dgate (n := 256) (f := 2816) (iblk m c 0 t) (iblk m c 1 t) (iblk m c 2 t) (iblk m c 3 t) k y = dgateOf m c ⟨_, hl⟩ y := by
  have hg : (iblk m c 2 t : Vec Ideal S256x2816 .bf16) (ix2 k y) = (m ((c : Thread nD τ).loc main_arg2) : Vec Ideal S8192x2816 .bf16) (ix2 (⟨_, hl⟩ : Fin 8192) y) := by
    blk_ext [iblk, V, rows t]
  have hu : (iblk m c 3 t : Vec Ideal S256x2816 .bf16) (ix2 k y) = (m ((c : Thread nD τ).loc main_arg3) : Vec Ideal S8192x2816 .bf16) (ix2 (⟨_, hl⟩ : Fin 8192) y) := by
    blk_ext [iblk, V, rows t]
  unfold dgateOf dgate dact
  rw [hg, hu]
  congr 2
  refine Finset.sum_congr rfl fun z _ => ?_
  congr 1 <;> blk_ext [iblk, V, rows t]

theorem dup_block (t : Fin cfg0.N) (k : Fin 256) (hl : t.val * 256 + k.val < 8192) (y : Fin 2816) :
    dup (n := 256) (f := 2816) (iblk m c 0 t) (iblk m c 1 t) (iblk m c 2 t) k y = dupOf m c ⟨_, hl⟩ y := by
  have hg : (iblk m c 2 t : Vec Ideal S256x2816 .bf16) (ix2 k y) = (m ((c : Thread nD τ).loc main_arg2) : Vec Ideal S8192x2816 .bf16) (ix2 (⟨_, hl⟩ : Fin 8192) y) := by
    blk_ext [iblk, V, rows t]
  unfold dupOf dup dact
  rw [hg]
  congr 1
  refine Finset.sum_congr rfl fun z _ => ?_
  congr 1 <;> blk_ext [iblk, V, rows t]

theorem dh_block (t : Fin cfg0.N) (k : Fin 256) (hl : t.val * 256 + k.val < 8192) (q : Fin 1024) :
    dh (n := 256) (f := 2816) (iblk m c 0 t) (iblk m c 1 t) (iblk m c 2 t) (iblk m c 3 t) (iblk m c 4 t) (iblk m c 5 t) k q = dhOf m c ⟨_, hl⟩ q := by
  unfold dhOf dh
  refine congrArg₂ (fun x y : EReal => x + y) (Finset.sum_congr rfl fun y _ => ?_) (Finset.sum_congr rfl fun y _ => ?_)
  · refine congrArg₂ (fun x y : EReal => x * y) (dgate_block m c t k hl y) ?_
    blk_ext [iblk, V, rows t]
  · refine congrArg₂ (fun x y : EReal => x * y) (dup_block m c t k hl y) ?_
    blk_ext [iblk, V, rows t]

/-- After the last point the sums are over all 8192 rows. -/
theorem acc_total (t : Fin cfg0.N) (ht : t.val + 1 = 32) (p : Fin 8) (hp : p = 0 ∨ p = 2 ∨ p = 3) (q : Fin 1024) :
    (outsAt0 m c t.val t.isLt).2.2.2.2 (ix2 p q) = NormSums.added (n := 8192) (m ((c : Thread nD τ).loc main_arg6)) (m ((c : Thread nD τ).loc main_arg8))
      (fun q => (m ((c : Thread nD τ).loc main_arg7) : Vec Ideal S4x6x1x1024 .f32) (ix4 (3 : Fin 4) (4 : Fin 6) (0 : Fin 1) q)) (dhOf m c) p q := by
  rw [Pipeline.eq_sum_fin_of_reset_step_apply_last (fun n h (q : Fin 1024) => (outsAt0 m c n h).2.2.2.2 (ix2 p q)) 32 (fun _ => 0) (fun t => step m c t p)
      (fun t h q => acc_first m c t h p hp q) (fun t h q => acc_next m c t h p hp q) (le_of_eq N_0) t ht q, zero_add]
  refine NormSums.added_blocks _ _ _ _ _ _ _ _ (fun t k q hl => ?_) (fun t k q hl => ?_) (fun t k q hl => dh_block m c t k hl q) (fun t => ?_) p q
  · blk_ext [iblk, V, rows t]
  · blk_ext [iblk, V, rows t]
  · funext q
    blk_ext [iblk, V, rows t]

set_option maxHeartbeats 2000000 in
theorem acc_array :
    (dats m 0 c).arrAt 17 cfg0.N = ((outsAt0 m c 31 (lt_of_lt_of_eq (by decide) N_0.symm)).2.2.2.2 : Vec Ideal S8x1024 .f32) := by
  refine (dats m 0 c).arrAt_eq_of_after_last 17 ⟨31, by decide +kernel⟩ (by decide +kernel) _ fun j => ?_
  rw [after0_17]
  rfl

theorem dgate_array (W : Vec Ideal S8192x2816 .bf16) (hW : ∀ k y, W (ix2 k y) = dgateOf m c k y) : (dats m 0 c).arrAt 13 cfg0.N = W := by
  refine (dats m 0 c).arrAt_eq_of_covers 13 _ (by decide +kernel) fun t _ y => ?_
  blk_simp
  rw [after0_13]
  obtain ⟨k, z, rfl⟩ : ∃ (k : Fin 256) (z : Fin 2816), y = ix2 k z := ⟨_, _, eq_ix2 y⟩
  have hl : t.val * 256 + k.val < 8192 := by
    have : t.val < 32 := lt_of_lt_of_eq t.isLt N_0
    omega
  refine (out_dgate m c t k z).trans ((dgate_block m c t k hl z).trans ((hW _ _).symm.trans ?_))
  blk_ext [rows t]

theorem dup_array (W : Vec Ideal S8192x2816 .bf16) (hW : ∀ k y, W (ix2 k y) = dupOf m c k y) : (dats m 0 c).arrAt 14 cfg0.N = W := by
  refine (dats m 0 c).arrAt_eq_of_covers 14 _ (by decide +kernel) fun t _ y => ?_
  blk_simp
  rw [after0_14]
  obtain ⟨k, z, rfl⟩ : ∃ (k : Fin 256) (z : Fin 2816), y = ix2 k z := ⟨_, _, eq_ix2 y⟩
  have hl : t.val * 256 + k.val < 8192 := by
    have : t.val < 32 := lt_of_lt_of_eq t.isLt N_0
    omega
  refine (out_dup m c t k z).trans ((dup_block m c t k hl z).trans ((hW _ _).symm.trans ?_))
  blk_ext [rows t]

/-! ### The reference -/

section

variable {n f : ℕ} (a : Vec Ideal ⟨2, ![n, 1024]⟩ .bf16) (w : Vec Ideal ⟨2, ![f, 1024]⟩ .bf16) (g u : Vec Ideal ⟨2, ![n, f]⟩ .bf16)
  (wg wu : Vec Ideal ⟨2, ![f, 1024]⟩ .bf16)

/-- The product rule's form of the gradient at the gate. -/
theorem dgate_rule (k : Fin n) (y : Fin f) (h : Gate.IsReal (dact a w k y * u (ix2 k y))) :
    dact a w k y * u (ix2 k y) * Gate.sig (g (ix2 k y))
      + g (ix2 k y) * (dact a w k y * u (ix2 k y)) * (Gate.sig (g (ix2 k y)) * (1 - Gate.sig (g (ix2 k y)))) = dgate a w g u k y :=
  Gate.gate_eq h _

theorem dup_rule (k : Fin n) (y : Fin f) : g (ix2 k y) * Gate.sig (g (ix2 k y)) * dact a w k y = dup a w g k y :=
  mul_comm _ _

/-- The gradient before the two products, as the reference adds it. -/
theorem dh_rule (k : Fin n) (q : Fin 1024) (h : ∀ y, Gate.IsReal (dact a w k y * u (ix2 k y))) :
    (∑ y : Fin f, g (ix2 k y) * Gate.sig (g (ix2 k y)) * dact a w k y * wu (ix2 y q))
      + (∑ y : Fin f, (dact a w k y * u (ix2 k y) * Gate.sig (g (ix2 k y))
        + g (ix2 k y) * (dact a w k y * u (ix2 k y)) * (Gate.sig (g (ix2 k y)) * (1 - Gate.sig (g (ix2 k y))))) * wg (ix2 y q))
      = dh a w g u wg wu k q := by
  unfold dh
  rw [add_comm]
  refine congrArg₂ (fun x y : EReal => x + y) (Finset.sum_congr rfl fun y _ => ?_) (Finset.sum_congr rfl fun y _ => ?_)
  · rw [dgate_rule a w g u k y (h y)]
  · rw [dup_rule a w g k y]

end

/-- The reference's order of what comes through the scale. -/
theorem through_rule {d d' : EReal} (h : d = d') (b e : EReal) : d * b + e = e + d' * b := by rw [h, add_comm]

theorem scaled_rule {d d' : EReal} (h : d = d') (x b e : EReal) : x * (d * b + e) = (e + d' * b) * x := by rw [h, add_comm, mul_comm]

end Cert.Proof.Mlp

namespace Cert.Proof

open Idealize.ShloMosaic Idealize.ShloMosaic.TcCoe Idealize.SL.Sem Cert.MlpIdeal.Gen Cert.MlpIdeal

/-- The side conditions of the mask. -/
instance facts_On_mlp_results : Cert.On_mlp_results.Facts where
  bcast_S_S8192x2816 := by decide
  bcast_S_S8x1024 := by decide

/-- The side conditions of the precondition. -/
instance facts_Pre_mlp_finite : Cert.Pre_mlp_finite.Facts where
  bcast_S_S8192x1024 := by decide
  bcast_S_S2816x1024 := by decide
  bcast_S_S8192x2816 := by decide
  bitsLt_bf16_f32 := by decide

/-- The rows the mask names. -/
theorem mlp_results_cases (a0 : FVec Ideal S8192x1024 .bf16) (a1 : FVec Ideal S2816x1024 .bf16) (a2 a3 : FVec Ideal S8192x2816 .bf16)
    (a4 a5 : FVec Ideal S2816x1024 .bf16) (a6 : FVec Ideal S8192x1024 .f32) (a7 : FVec Ideal S4x6x1x1024 .f32) (a8 : FVec Ideal S8192x1024 .f32)
    (a9 : FVec Ideal S8192x1024 .bf16) (a10 a11 : FVec Ideal S4x1x1024 .f32) (p : Fin 8) (q : Fin 1024)
    (h : (Cert.On_mlp_results.fn (F := Ideal) a0 a1 a2 a3 a4 a5 a6 a7 a8 a9 a10 a11).2.2 (ix2 p q) = 1#1) : p = 0 ∨ p = 2 ∨ p = 3 := by
  revert h
  unfold Cert.On_mlp_results.fn
  pointwise
  exact NormSums.rows_of_mask p

/-- Under the precondition what the gate's gradient is made from is real. -/
theorem mlp_finite_real (m : (ℓ : Loc nD τ sig) → Buf (Elt Ideal) ℓ) (c : Dev nD) (h : Cert.Pre_MlpIdeal_mlp_finite m) (k : Fin 8192) (y : Fin 2816) :
    Gate.IsReal (Mlp.dact (n := 8192) (f := 2816) (m ((c : Thread nD τ).loc main_arg0)) (m ((c : Thread nD τ).loc main_arg1)) k y
      * (m ((c : Thread nD τ).loc main_arg3) : Vec Ideal S8192x2816 .bf16) (ix2 k y)) := by
  obtain ⟨h0, h1, h3⟩ := h c
  refine Gate.IsReal.mul (Gate.IsReal.sum _ fun z => Gate.IsReal.mul ?_ ?_) ?_
  · have e := congrFun h0 (ix2 k z)
    revert e
    unfold Cert.Pre_mlp_finite.fn
    pointwise
    exact Gate.IsReal.of_cmp
  · have e := congrFun h1 (ix2 y z)
    revert e
    unfold Cert.Pre_mlp_finite.fn
    pointwise
    exact Gate.IsReal.of_cmp
  · have e := congrFun h3 (ix2 k y)
    revert e
    unfold Cert.Pre_mlp_finite.fn
    pointwise
    exact Gate.IsReal.of_cmp

/-- The reference of `Mlp` terminates and leaves its arguments. -/
theorem quiescent_MlpRefIdeal : Cert.quiescent_MlpRefIdeal := fun m ρ _ =>
  (θ_run Cert.MlpRefIdeal.defs _ _).mono (fun r h => ⟨fun c => (h c).2.2.2, sem_eq_zero_of_no_sems (by decide) r.2⟩)
    (Cert.MlpRefIdeal.Value.run (F := Ideal) m ρ)

/-- The same under the precondition, which it does not need. -/
theorem quiescent_MlpRefIdeal_pre_mlp_finite : Cert.quiescent_MlpRefIdeal_pre_mlp_finite := fun m ρ _ =>
  quiescent_MlpRefIdeal m ρ trivial

/-- The gradients at the gate and at the other factor are the reference's everywhere, the sums on the rows of the mask. -/
theorem algebraic_MlpIdeal_MlpRefIdeal_on_mlp_results_pre_mlp_finite :
    Cert.algebraic_MlpIdeal_MlpRefIdeal_on_mlp_results_pre_mlp_finite := by
  intro m ρ m' ρ' hpre hagree
  refine ⟨_, _, _, (θ_run Cert.MlpIdeal.defs _ _).mono
    (fun _ h c => ⟨fun i _ => congrFun (h c).1 i, fun i _ => congrFun (h c).2.1 i, fun i _ => congrFun (h c).2.2.2.2.1 i, (h c).2.2.2.2.2⟩)
    (Cert.MlpIdeal.Value.run_blocks (F := Ideal) m ρ), ?_⟩
  refine (θ_run Cert.MlpRefIdeal.defs _ _).mono (fun _ h c => ⟨fun i _ => ?_, fun i _ => ?_, fun i hi => ?_, (h c).2.2.2⟩)
    (Cert.MlpRefIdeal.Value.run (F := Ideal) m' ρ')
  · refine (congrFun (h c).1 i).trans (congrFun (Mlp.dgate_array m c _ fun k y => ?_).symm i)
    simp only [hagree c]
    pointwise
    exact Mlp.dgate_rule _ _ _ _ k y (mlp_finite_real m c hpre k y)
  · refine (congrFun (h c).2.1 i).trans (congrFun (Mlp.dup_array m c _ fun k y => ?_).symm i)
    simp only [hagree c]
    pointwise
    exact Mlp.dup_rule _ _ _ k y
  · obtain ⟨p, q, rfl⟩ : ∃ (p : Fin 8) (q : Fin 1024), i = ix2 p q := ⟨_, _, eq_ix2 i⟩
    have hp := mlp_results_cases _ _ _ _ _ _ _ _ _ _ _ _ p q hi
    refine (congrFun (h c).2.2.1 (ix2 p q)).trans ?_
    clear h hi
    refine Eq.trans ?_ (congrFun (Mlp.acc_array m c) (ix2 p q)).symm
    refine Eq.trans ?_ (Mlp.acc_total m c ⟨31, by decide +kernel⟩ rfl p hp q).symm
    unfold Cert.MlpRefIdeal.Value.res_main_v74
    simp only [hagree c]
    unfold NormSums.added NormSums.through NormSums.normed NormSums.centred
    rcases hp with rfl | rfl | rfl
    · pointwise
      exact Finset.sum_congr (M := EReal) rfl fun k _ => Mlp.dh_rule _ _ _ _ _ _ k q (mlp_finite_real m c hpre k)
    · pointwise
      exact Finset.sum_congr (M := EReal) rfl fun k _ => Mlp.scaled_rule (Mlp.dh_rule _ _ _ _ _ _ k q (mlp_finite_real m c hpre k)) _ _ _
    · pointwise
      exact Finset.sum_congr (M := EReal) rfl fun k _ => Mlp.through_rule (Mlp.dh_rule _ _ _ _ _ _ k q (mlp_finite_real m c hpre k)) _ _

end Cert.Proof

end
-- ==== Proof.OutLn0.lean ====
/- The output projection of the first layer, the gated residual on it and the layer norm of the sum. The kernel takes the rows in
   blocks of 512; each row is worked out on its own, as in the reference. -/
module

public import proofs.«01_k».proof.Defs
public import proofs.«01_k».proof.Proof.Gen.OutLn0Ideal.Value
public import proofs.«01_k».proof.Proof.Gen.OutLn0RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.OutLn0Ideal.Gen Cert.OutLn0Ideal

/-- Grid point `t` holds the `t`-th block of rows, the layer's gate and norm parameters, and the matrix whole. -/
theorem rows_OutLn0 : ∀ t : Fin cfg0.N, win0_0.index t = ![t.val, 0] ∧ win0_1.index t = ![0, 0] ∧
    win0_2.index t = ![t.val, 0] ∧ win0_3.index t = ![0, 2, 0, 0] ∧ win0_4.index t = ![0, 0, 0] ∧
    win0_5.index t = ![0, 0, 0] ∧ win0_6.index t = ![t.val, 0] ∧ win0_7.index t = ![t.val, 0] ∧
    win0_8.index t = ![t.val, 0] := by
  decide +kernel

/-- The reference of `OutLn0` terminates and leaves its arguments. -/
theorem quiescent_OutLn0RefIdeal : Cert.quiescent_OutLn0RefIdeal := fun m ρ _ =>
  (θ_run Cert.OutLn0RefIdeal.defs _ _).mono (fun r h => ⟨fun c => (h c).2.2.2, sem_eq_zero_of_no_sems (by decide) r.2⟩)
    (Cert.OutLn0RefIdeal.Value.run (F := Ideal) m ρ)

/-- The projection, the residual sum and its layer norm are the reference's, entry by entry. -/
theorem algebraic_OutLn0Ideal_OutLn0RefIdeal : Cert.algebraic_OutLn0Ideal_OutLn0RefIdeal := by
  intro m ρ m' ρ' _ hagree
  refine ⟨_, _, _, Cert.OutLn0Ideal.Value.run_blocks (F := Ideal) m ρ, ?_⟩
  refine (θ_run Cert.OutLn0RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.OutLn0RefIdeal.Value.run (F := Ideal) m' ρ')
  all_goals
    try unfold Cert.OutLn0RefIdeal.Value.res_main_v38
    simp only [hagree c]
    blk_simp
    first | rw [after0_6] | rw [after0_7] | rw [after0_8]
    frame_out
    clear h hagree
    unfold_payloads
    pointwise
    blk_point [iblk, V, rows_OutLn0 t]

end Cert.Proof

end
-- ==== Proof.OutLn1.lean ====
/- The output projection of the second layer, the gated residual on it and the layer norm of the sum. The kernel takes the rows in
   blocks of 512; each row is worked out on its own, as in the reference. -/
module

public import proofs.«01_k».proof.Defs
public import proofs.«01_k».proof.Proof.Gen.OutLn1Ideal.Value
public import proofs.«01_k».proof.Proof.Gen.OutLn1RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.OutLn1Ideal.Gen Cert.OutLn1Ideal

/-- Grid point `t` holds the `t`-th block of rows, the layer's gate and norm parameters, and the matrix whole. -/
theorem rows_OutLn1 : ∀ t : Fin cfg0.N, win0_0.index t = ![t.val, 0] ∧ win0_1.index t = ![0, 0] ∧
    win0_2.index t = ![t.val, 0] ∧ win0_3.index t = ![1, 2, 0, 0] ∧ win0_4.index t = ![1, 0, 0] ∧
    win0_5.index t = ![1, 0, 0] ∧ win0_6.index t = ![t.val, 0] ∧ win0_7.index t = ![t.val, 0] ∧
    win0_8.index t = ![t.val, 0] := by
  decide +kernel

/-- The reference of `OutLn1` terminates and leaves its arguments. -/
theorem quiescent_OutLn1RefIdeal : Cert.quiescent_OutLn1RefIdeal := fun m ρ _ =>
  (θ_run Cert.OutLn1RefIdeal.defs _ _).mono (fun r h => ⟨fun c => (h c).2.2.2, sem_eq_zero_of_no_sems (by decide) r.2⟩)
    (Cert.OutLn1RefIdeal.Value.run (F := Ideal) m ρ)

/-- The projection, the residual sum and its layer norm are the reference's, entry by entry. -/
theorem algebraic_OutLn1Ideal_OutLn1RefIdeal : Cert.algebraic_OutLn1Ideal_OutLn1RefIdeal := by
  intro m ρ m' ρ' _ hagree
  refine ⟨_, _, _, Cert.OutLn1Ideal.Value.run_blocks (F := Ideal) m ρ, ?_⟩
  refine (θ_run Cert.OutLn1RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.OutLn1RefIdeal.Value.run (F := Ideal) m' ρ')
  all_goals
    try unfold Cert.OutLn1RefIdeal.Value.res_main_v38
    simp only [hagree c]
    blk_simp
    first | rw [after0_6] | rw [after0_7] | rw [after0_8]
    frame_out
    clear h hagree
    unfold_payloads
    pointwise
    blk_point [iblk, V, rows_OutLn1 t]

end Cert.Proof

end
-- ==== Proof.OutLn2.lean ====
/- The output projection of the third layer, the gated residual on it and the layer norm of the sum. The kernel takes the rows in
   blocks of 512; each row is worked out on its own, as in the reference. -/
module

public import proofs.«01_k».proof.Defs
public import proofs.«01_k».proof.Proof.Gen.OutLn2Ideal.Value
public import proofs.«01_k».proof.Proof.Gen.OutLn2RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.OutLn2Ideal.Gen Cert.OutLn2Ideal

/-- Grid point `t` holds the `t`-th block of rows, the layer's gate and norm parameters, and the matrix whole. -/
theorem rows_OutLn2 : ∀ t : Fin cfg0.N, win0_0.index t = ![t.val, 0] ∧ win0_1.index t = ![0, 0] ∧
    win0_2.index t = ![t.val, 0] ∧ win0_3.index t = ![2, 2, 0, 0] ∧ win0_4.index t = ![2, 0, 0] ∧
    win0_5.index t = ![2, 0, 0] ∧ win0_6.index t = ![t.val, 0] ∧ win0_7.index t = ![t.val, 0] ∧
    win0_8.index t = ![t.val, 0] := by
  decide +kernel

/-- The reference of `OutLn2` terminates and leaves its arguments. -/
theorem quiescent_OutLn2RefIdeal : Cert.quiescent_OutLn2RefIdeal := fun m ρ _ =>
  (θ_run Cert.OutLn2RefIdeal.defs _ _).mono (fun r h => ⟨fun c => (h c).2.2.2, sem_eq_zero_of_no_sems (by decide) r.2⟩)
    (Cert.OutLn2RefIdeal.Value.run (F := Ideal) m ρ)

/-- The projection, the residual sum and its layer norm are the reference's, entry by entry. -/
theorem algebraic_OutLn2Ideal_OutLn2RefIdeal : Cert.algebraic_OutLn2Ideal_OutLn2RefIdeal := by
  intro m ρ m' ρ' _ hagree
  refine ⟨_, _, _, Cert.OutLn2Ideal.Value.run_blocks (F := Ideal) m ρ, ?_⟩
  refine (θ_run Cert.OutLn2RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.OutLn2RefIdeal.Value.run (F := Ideal) m' ρ')
  all_goals
    try unfold Cert.OutLn2RefIdeal.Value.res_main_v38
    simp only [hagree c]
    blk_simp
    first | rw [after0_6] | rw [after0_7] | rw [after0_8]
    frame_out
    clear h hagree
    unfold_payloads
    pointwise
    blk_point [iblk, V, rows_OutLn2 t]

end Cert.Proof

end
-- ==== Proof.OutLn3.lean ====
/- The output projection of the last layer, the gated residual on it and the layer norm of the sum. The kernel takes the rows in
   blocks of 512; each row is worked out on its own, as in the reference. -/
module

public import proofs.«01_k».proof.Defs
public import proofs.«01_k».proof.Proof.Gen.OutLn3Ideal.Value
public import proofs.«01_k».proof.Proof.Gen.OutLn3RefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof

open Idealize.ShloMosaic Idealize.SL.Sem Cert.OutLn3Ideal.Gen Cert.OutLn3Ideal

/-- Grid point `t` holds the `t`-th block of rows, the layer's gate and norm parameters, and the matrix whole. -/
theorem rows_OutLn3 : ∀ t : Fin cfg0.N, win0_0.index t = ![t.val, 0] ∧ win0_1.index t = ![0, 0] ∧
    win0_2.index t = ![t.val, 0] ∧ win0_3.index t = ![3, 2, 0, 0] ∧ win0_4.index t = ![3, 0, 0] ∧
    win0_5.index t = ![3, 0, 0] ∧ win0_6.index t = ![t.val, 0] ∧ win0_7.index t = ![t.val, 0] ∧
    win0_8.index t = ![t.val, 0] := by
  decide +kernel

/-- The reference of `OutLn3` terminates and leaves its arguments. -/
theorem quiescent_OutLn3RefIdeal : Cert.quiescent_OutLn3RefIdeal := fun m ρ _ =>
  (θ_run Cert.OutLn3RefIdeal.defs _ _).mono (fun r h => ⟨fun c => (h c).2.2.2, sem_eq_zero_of_no_sems (by decide) r.2⟩)
    (Cert.OutLn3RefIdeal.Value.run (F := Ideal) m ρ)

/-- The projection, the residual sum and its layer norm are the reference's, entry by entry. -/
theorem algebraic_OutLn3Ideal_OutLn3RefIdeal : Cert.algebraic_OutLn3Ideal_OutLn3RefIdeal := by
  intro m ρ m' ρ' _ hagree
  refine ⟨_, _, _, Cert.OutLn3Ideal.Value.run_blocks (F := Ideal) m ρ, ?_⟩
  refine (θ_run Cert.OutLn3RefIdeal.defs _ _).mono (fun _ h c =>
    ⟨(h c).1.trans (Eq.symm ((dats m 0 c).arrAt_eq_of_covers 6 _ (by decide +kernel) fun t _ y => ?_)),
      (h c).2.1.trans (Eq.symm ((dats m 0 c).arrAt_eq_of_covers 7 _ (by decide +kernel) fun t _ y => ?_)),
      (h c).2.2.1.trans (Eq.symm ((dats m 0 c).arrAt_eq_of_covers 8 _ (by decide +kernel) fun t _ y => ?_)),
      (h c).2.2.2⟩) (Cert.OutLn3RefIdeal.Value.run (F := Ideal) m' ρ')
  all_goals
    try unfold Cert.OutLn3RefIdeal.Value.res_main_v38
    simp only [hagree c]
    blk_simp
    first | rw [after0_6] | rw [after0_7] | rw [after0_8]
    frame_out
    clear h hagree
    unfold_payloads
    pointwise
    blk_point [iblk, V, rows_OutLn3 t]

end Cert.Proof

end
-- ==== Proof.SumGate.lean ====
/- The sum over the devices of the parts of the gate or up projection's gradient, layer by layer: the grid walks the four layers and,
   in each, the two halves of its 352 rows; a grid point sums the eight parts of its layer's block. -/
module

public import proofs.«01_k».proof.Defs
public import proofs.«01_k».proof.Proof.Gen.SumGateIdeal.Value
public import proofs.«01_k».proof.Proof.Gen.SumGateRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.SumGateRefIdeal.Stack

open Idealize.ShloMosaic Idealize.SL.Sem Cert.SumGateRefIdeal Cert.SumGateRefIdeal.Gen

/-- The reference's stack of four slabs, read in slab `k`. -/
theorem slab (a b c d : Vec Ideal S1x352x1024 .f32) (k : ℕ) (j : S4x352x1024.Idx) (hj : (j 0).val = k) :
    concatenate S4x352x1024 0 [⟨S1x352x1024, a⟩, ⟨S1x352x1024, b⟩, ⟨S1x352x1024, c⟩, ⟨S1x352x1024, d⟩]
      concatenates_S1x352x1024_S1x352x1024_S1x352x1024_S1x352x1024_S4x352x1024_d0 j
    = (if k = 0 then a else if k = 1 then b else if k = 2 then c else d) (ix3 0 (j 1) (j 2)) := by
  subst hj
  have hk : (j 0).val < 4 := (j 0).isLt
  pointwise
  obtain h | h | h | h : (j 0).val = 0 ∨ (j 0).val = 1 ∨ (j 0).val = 2 ∨ (j 0).val = 3 := by omega
  all_goals simp [h]

end Cert.SumGateRefIdeal.Stack

namespace Cert.Proof

open Idealize.ShloMosaic Idealize.SL.Sem Cert.SumGateIdeal.Gen Cert.SumGateIdeal

/-- Grid points 0 and 1 read the halves of the first layer's parts and write the first layer's rows. -/
theorem first_SumGate : ∀ t : Fin cfg0.N, t.val < 2 → win0_0.index t = ![0, t.val, 0] ∧
    win0_4.index t = ![0, t.val, 0] := by
  decide +kernel

/-- Grid points 2 and 3 read the halves of the second layer's parts and write the second layer's rows. -/
theorem second_SumGate : ∀ t : Fin cfg0.N, t.val / 2 % 4 = 1 → win0_1.index t = ![0, t.val - 2, 0] ∧
    win0_4.index t = ![1, t.val - 2, 0] := by
  decide +kernel

/-- Grid points 4 and 5 read the halves of the third layer's parts and write the third layer's rows. -/
theorem third_SumGate : ∀ t : Fin cfg0.N, t.val / 2 % 4 = 2 → win0_2.index t = ![0, t.val - 4, 0] ∧
    win0_4.index t = ![2, t.val - 4, 0] := by
  decide +kernel

/-- Grid points 6 and 7 read the halves of the last layer's parts and write the last layer's rows. -/
theorem last_SumGate : ∀ t : Fin cfg0.N, 6 ≤ t.val → win0_3.index t = ![0, t.val - 6, 0] ∧
    win0_4.index t = ![3, t.val - 6, 0] := by
  decide +kernel

/-- The reference of `SumGate` runs to its end, keeps its arguments and leaves every counter at zero. -/
theorem quiescent_SumGateRefIdeal : Cert.quiescent_SumGateRefIdeal := fun m ρ _ =>
  (θ_run Cert.SumGateRefIdeal.defs _ _).mono (fun r h => ⟨fun c => (h c).2, sem_eq_zero_of_no_sems (by decide) r.2⟩)
    (Cert.SumGateRefIdeal.Value.run (F := Ideal) m ρ)

/-- The sums are the reference's, layer by layer and entry by entry. -/
theorem algebraic_SumGateIdeal_SumGateRefIdeal : Cert.algebraic_SumGateIdeal_SumGateRefIdeal := by
  intro m ρ m' ρ' _ hagree
  refine ⟨_, Cert.SumGateIdeal.Value.run_blocks (F := Ideal) m ρ, ?_⟩
  refine (θ_run Cert.SumGateRefIdeal.defs _ _).mono (fun _ h c =>
    ⟨(h c).1.trans (Eq.symm ((dats m 0 c).arrAt_eq_of_covers 4 _ (by decide +kernel) fun t _ y => ?_)), (h c).2⟩)
    (Cert.SumGateRefIdeal.Value.run (F := Ideal) m' ρ')
  simp only [hagree c]
  blk_simp
  rw [after0_4]
  have hN : t.val < 8 := t.isLt
  have hb : (y 0).val < 1 := (y 0).isLt
  obtain h0 | h1 | h2 | h3 : t.val < 2 ∨ t.val / 2 % 4 = 1 ∨ t.val / 2 % 4 = 2 ∨ 6 ≤ t.val := by omega
  · rw [outsAt0_A m c t (by omega) (by omega) (by omega) (by omega)]
    refine Eq.trans ?_ (Cert.SumGateRefIdeal.Stack.slab _ _ _ _ 0 _ (by blk_simp [first_SumGate t h0]; try omega)).symm
    frame_out
    unfold_payloads
    pointwise
    simp only [Fin.sum_univ_eight]
    blk_point [iblk, V, first_SumGate t h0]
  · rw [outsAt0_B m c t (by omega) (by omega) (by omega) (by omega)]
    refine Eq.trans ?_ (Cert.SumGateRefIdeal.Stack.slab _ _ _ _ 1 _ (by blk_simp [second_SumGate t h1]; try omega)).symm
    frame_out
    unfold_payloads
    pointwise
    simp only [Fin.sum_univ_eight]
    blk_point [iblk, V, second_SumGate t h1]
  · rw [outsAt0_C m c t (by omega) (by omega) (by omega) (by omega)]
    refine Eq.trans ?_ (Cert.SumGateRefIdeal.Stack.slab _ _ _ _ 2 _ (by blk_simp [third_SumGate t h2]; try omega)).symm
    frame_out
    unfold_payloads
    pointwise
    simp only [Fin.sum_univ_eight]
    blk_point [iblk, V, third_SumGate t h2]
  · rw [outsAt0_D m c t (by omega) (by omega) (by omega) (by omega)]
    refine Eq.trans ?_ (Cert.SumGateRefIdeal.Stack.slab _ _ _ _ 3 _ (by blk_simp [last_SumGate t h3]; try omega)).symm
    frame_out
    unfold_payloads
    pointwise
    simp only [Fin.sum_univ_eight]
    blk_point [iblk, V, last_SumGate t h3]

end Cert.Proof

end
-- ==== Proof.SumIn.lean ====
/- The sum over the devices of the parts of the input projection's gradient, layer by layer: the grid walks the four layers and,
   in each, the two halves of its 224 rows; a grid point sums the eight parts of its layer's block. -/
module

public import proofs.«01_k».proof.Defs
public import proofs.«01_k».proof.Proof.Gen.SumInIdeal.Value
public import proofs.«01_k».proof.Proof.Gen.SumInRefIdeal.Run
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.SumInRefIdeal.Stack

open Idealize.ShloMosaic Idealize.SL.Sem Cert.SumInRefIdeal Cert.SumInRefIdeal.Gen

/-- The reference's stack of four slabs, read in slab `k`. -/
theorem slab (a b c d : Vec Ideal S1x224x1024 .f32) (k : ℕ) (j : S4x224x1024.Idx) (hj : (j 0).val = k) :
    concatenate S4x224x1024 0 [⟨S1x224x1024, a⟩, ⟨S1x224x1024, b⟩, ⟨S1x224x1024, c⟩, ⟨S1x224x1024, d⟩]
      concatenates_S1x224x1024_S1x224x1024_S1x224x1024_S1x224x1024_S4x224x1024_d0 j
    = (if k = 0 then a else if k = 1 then b else if k = 2 then c else d) (ix3 0 (j 1) (j 2)) := by
  subst hj
  have hk : (j 0).val < 4 := (j 0).isLt
  pointwise
  obtain h | h | h | h : (j 0).val = 0 ∨ (j 0).val = 1 ∨ (j 0).val = 2 ∨ (j 0).val = 3 := by omega
  all_goals simp [h]

end Cert.SumInRefIdeal.Stack

namespace Cert.Proof

open Idealize.ShloMosaic Idealize.SL.Sem Cert.SumInIdeal.Gen Cert.SumInIdeal

/-- Grid points 0 and 1 read the halves of the first layer's parts and write the first layer's rows. -/
theorem first_SumIn : ∀ t : Fin cfg0.N, t.val < 2 → win0_0.index t = ![0, t.val, 0] ∧
    win0_4.index t = ![0, t.val, 0] := by
  decide +kernel

/-- Grid points 2 and 3 read the halves of the second layer's parts and write the second layer's rows. -/
theorem second_SumIn : ∀ t : Fin cfg0.N, t.val / 2 % 4 = 1 → win0_1.index t = ![0, t.val - 2, 0] ∧
    win0_4.index t = ![1, t.val - 2, 0] := by
  decide +kernel

/-- Grid points 4 and 5 read the halves of the third layer's parts and write the third layer's rows. -/
theorem third_SumIn : ∀ t : Fin cfg0.N, t.val / 2 % 4 = 2 → win0_2.index t = ![0, t.val - 4, 0] ∧
    win0_4.index t = ![2, t.val - 4, 0] := by
  decide +kernel

/-- Grid points 6 and 7 read the halves of the last layer's parts and write the last layer's rows. -/
theorem last_SumIn : ∀ t : Fin cfg0.N, 6 ≤ t.val → win0_3.index t = ![0, t.val - 6, 0] ∧
    win0_4.index t = ![3, t.val - 6, 0] := by
  decide +kernel

/-- The reference of `SumIn` runs to its end, keeps its arguments and leaves every counter at zero. -/
theorem quiescent_SumInRefIdeal : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

/-- The sums are the reference's, layer by layer and entry by entry. -/
theorem algebraic_SumInIdeal_SumInRefIdeal : Cert.algebraic_SumInIdeal_SumInRefIdeal := by
  intro m ρ m' ρ' _ hagree
  refine ⟨_, Cert.SumInIdeal.Value.run_blocks (F := Ideal) m ρ, ?_⟩
  refine (θ_run Cert.SumInRefIdeal.defs _ _).mono (fun _ h c =>
    ⟨(h c).1.trans (Eq.symm ((dats m 0 c).arrAt_eq_of_covers 4 _ (by decide +kernel) fun t _ y => ?_)), (h c).2⟩)
    (Cert.SumInRefIdeal.Value.run (F := Ideal) m' ρ')
  simp only [hagree c]
  blk_simp
  rw [after0_4]
  have hN : t.val < 8 := t.isLt
  have hb : (y 0).val < 1 := (y 0).isLt
  obtain h0 | h1 | h2 | h3 : t.val < 2 ∨ t.val / 2 % 4 = 1 ∨ t.val / 2 % 4 = 2 ∨ 6 ≤ t.val := by omega
  · rw [outsAt0_A m c t (by omega) (by omega) (by omega) (by omega)]
    refine Eq.trans ?_ (Cert.SumInRefIdeal.Stack.slab _ _ _ _ 0 _ (by blk_simp [first_SumIn t h0]; try omega)).symm
    frame_out
    unfold_payloads
    pointwise
    simp only [Fin.sum_univ_eight]
    blk_point [iblk, V, first_SumIn t h0]
  · rw [outsAt0_B m c t (by omega) (by omega) (by omega) (by omega)]
    refine Eq.trans ?_ (Cert.SumInRefIdeal.Stack.slab _ _ _ _ 1 _ (by blk_simp [second_SumIn t h1]; try omega)).symm
    frame_out
    unfold_payloads
    pointwise
    simp only [Fin.sum_univ_eight]
    blk_point [iblk, V, second_SumIn t h1]
  · rw [outsAt0_C m c t (by omega) (by omega) (by omega) (by omega)]
    refine Eq.trans ?_ (Cert.SumInRefIdeal.Stack.slab _ _ _ _ 2 _ (by blk_simp [third_SumIn t h2]; try omega)).symm
    frame_out
    unfold_payloads
    pointwise
    simp only [Fin.sum_univ_eight]
    blk_point [iblk, V, third_SumIn t h2]
  · rw [outsAt0_D m c t (by omega) (by omega) (by omega) (by omega)]
    refine Eq.trans ?_ (Cert.SumInRefIdeal.Stack.slab _ _ _ _ 3 _ (by blk_simp [last_SumIn t h3]; try omega)).symm
    frame_out
    unfold_payloads
    pointwise
    simp only [Fin.sum_univ_eight]
    blk_point [iblk, V, last_SumIn t h3]

end Cert.Proof

end
-- ==== Proof.lean ====
/- The certificate: every claim `Cert.Claim` states. The kernels' frames are the generated ones, those of a program and
   its idealization alike, the idealizations rewrite nothing, and each value claim is proved in the module of its program, together with its reference's frame. -/
module

public import proofs.«01_k».proof.Defs
public import proofs.«01_k».proof.Proof.Gen.InGrad.Frame
public import proofs.«01_k».proof.Proof.Gen.InGradIdeal.Frame
public import proofs.«01_k».proof.Proof.Gen.InGradIdeal.Value
public import proofs.«01_k».proof.Proof.Gen.InGradRefIdeal.Run
public import proofs.«01_k».proof.Proof.Gen.InLn.Frame
public import proofs.«01_k».proof.Proof.Gen.InLnIdeal.Frame
public import proofs.«01_k».proof.Proof.Gen.InLnIdeal.Value
public import proofs.«01_k».proof.Proof.Gen.InLnRefIdeal.Run
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwGate.Frame
public import proofs.«01_k».proof.Proof.Gen.DwGateIdeal.Frame
public import proofs.«01_k».proof.Proof.Gen.DwGateIdeal.Value
public import proofs.«01_k».proof.Proof.Gen.DwGateRefIdeal.Run
public import proofs.«01_k».proof.Proof.Gen.DwO.Frame
public import proofs.«01_k».proof.Proof.Gen.DwOIdeal.Frame
public import proofs.«01_k».proof.Proof.Gen.DwOIdeal.Value
public import proofs.«01_k».proof.Proof.Gen.DwORefIdeal.Run
public import proofs.«01_k».proof.Proof.Gen.DwIn.Frame
public import proofs.«01_k».proof.Proof.Gen.DwInIdeal.Frame
public import proofs.«01_k».proof.Proof.Gen.DwInIdeal.Value
public import proofs.«01_k».proof.Proof.Gen.DwInRefIdeal.Run
public import proofs.«01_k».proof.Proof.Gen.AdamVec.Frame
public import proofs.«01_k».proof.Proof.Gen.AdamVecIdeal.Frame
public import proofs.«01_k».proof.Proof.Gen.AdamVecIdeal.Value
public import proofs.«01_k».proof.Proof.Gen.AdamVecRefIdeal.Run
public import proofs.«01_k».proof.Proof.Gen.AdamBAda.Frame
public import proofs.«01_k».proof.Proof.Gen.AdamBAdaIdeal.Frame
public import proofs.«01_k».proof.Proof.Gen.AdamBAdaIdeal.Value
public import proofs.«01_k».proof.Proof.Gen.AdamBAdaRefIdeal.Run
public import proofs.«01_k».proof.Proof.Gen.AdamBIn.Frame
public import proofs.«01_k».proof.Proof.Gen.AdamBInIdeal.Frame
public import proofs.«01_k».proof.Proof.Gen.AdamBInIdeal.Value
public import proofs.«01_k».proof.Proof.Gen.AdamBInRefIdeal.Run
public import proofs.«01_k».proof.Proof.Gen.AdamPool.Frame
public import proofs.«01_k».proof.Proof.Gen.AdamPoolIdeal.Frame
public import proofs.«01_k».proof.Proof.Gen.AdamPoolIdeal.Value
public import proofs.«01_k».proof.Proof.Gen.AdamPoolRefIdeal.Run
public import proofs.«01_k».proof.Proof.Gen.AdamLam.Frame
public import proofs.«01_k».proof.Proof.Gen.AdamLamIdeal.Frame
public import proofs.«01_k».proof.Proof.Gen.AdamLamIdeal.Value
public import proofs.«01_k».proof.Proof.Gen.AdamLamRefIdeal.Run
public import proofs.«01_k».proof.Proof.Gen.AdamDt.Frame
public import proofs.«01_k».proof.Proof.Gen.AdamDtIdeal.Frame
public import proofs.«01_k».proof.Proof.Gen.AdamDtIdeal.Value
public import proofs.«01_k».proof.Proof.Gen.AdamDtRefIdeal.Run
public import proofs.«01_k».proof.Proof.Gen.AdamB.Frame
public import proofs.«01_k».proof.Proof.Gen.AdamBIdeal.Frame
public import proofs.«01_k».proof.Proof.Gen.AdamBIdeal.Value
public import proofs.«01_k».proof.Proof.Gen.AdamBRefIdeal.Run
public import proofs.«01_k».proof.Proof.Gen.AdamLn.Frame
public import proofs.«01_k».proof.Proof.Gen.AdamLnIdeal.Frame
public import proofs.«01_k».proof.Proof.Gen.AdamLnIdeal.Value
public import proofs.«01_k».proof.Proof.Gen.AdamLnRefIdeal.Run
public import proofs.«01_k».proof.Proof.Gen.AdamSc.Frame
public import proofs.«01_k».proof.Proof.Gen.AdamScIdeal.Frame
public import proofs.«01_k».proof.Proof.Gen.AdamScIdeal.Value
public import proofs.«01_k».proof.Proof.Gen.AdamScRefIdeal.Run
public import proofs.«01_k».proof.Proof.Gen.AdamCf.Frame
public import proofs.«01_k».proof.Proof.Gen.AdamCfIdeal.Frame
public import proofs.«01_k».proof.Proof.Gen.AdamCfIdeal.Value
public import proofs.«01_k».proof.Proof.Gen.AdamCfRefIdeal.Run
public import proofs.«01_k».proof.Proof.Gen.AdamGlu.Frame
public import proofs.«01_k».proof.Proof.Gen.AdamGluIdeal.Frame
public import proofs.«01_k».proof.Proof.Gen.AdamGluIdeal.Value
public import proofs.«01_k».proof.Proof.Gen.AdamGluRefIdeal.Run
public import proofs.«01_k».proof.Proof.Gen.AdamAda.Frame
public import proofs.«01_k».proof.Proof.Gen.AdamAdaIdeal.Frame
public import proofs.«01_k».proof.Proof.Gen.AdamAdaIdeal.Value
public import proofs.«01_k».proof.Proof.Gen.AdamAdaRefIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamGate.Frame
public import proofs.«01_k».proof.Proof.Gen.AdamGateIdeal.Frame
public import proofs.«01_k».proof.Proof.Gen.AdamGateIdeal.Value
public import proofs.«01_k».proof.Proof.Gen.AdamGateRefIdeal.Run
public import proofs.«01_k».proof.Proof.Gen.SumIn.Frame
public import proofs.«01_k».proof.Proof.Gen.SumInIdeal.Frame
public import proofs.«01_k».proof.Proof.Gen.SumInIdeal.Value
public import proofs.«01_k».proof.Proof.Gen.SumInRefIdeal.Run
public import proofs.«01_k».proof.Proof.Gen.SumGate.Frame
public import proofs.«01_k».proof.Proof.Gen.SumGateIdeal.Frame
public import proofs.«01_k».proof.Proof.Gen.SumGateIdeal.Value
public import proofs.«01_k».proof.Proof.Gen.SumGateRefIdeal.Run
public import proofs.«01_k».proof.Proof.Gen.AdamO.Frame
public import proofs.«01_k».proof.Proof.Gen.AdamOIdeal.Frame
public import proofs.«01_k».proof.Proof.Gen.AdamOIdeal.Value
public import proofs.«01_k».proof.Proof.Gen.AdamORefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.GateUp0.Frame
public import proofs.«01_k».proof.Proof.Gen.GateUp0Ideal.Frame
public import proofs.«01_k».proof.Proof.Gen.GateUp0Ideal.Value
public import proofs.«01_k».proof.Proof.Gen.GateUp0RefIdeal.Run
public import proofs.«01_k».proof.Proof.Gen.GateUp1.Frame
public import proofs.«01_k».proof.Proof.Gen.GateUp1Ideal.Frame
public import proofs.«01_k».proof.Proof.Gen.GateUp1Ideal.Value
public import proofs.«01_k».proof.Proof.Gen.GateUp1RefIdeal.Run
public import proofs.«01_k».proof.Proof.Gen.GateUp2.Frame
public import proofs.«01_k».proof.Proof.Gen.GateUp2Ideal.Frame
public import proofs.«01_k».proof.Proof.Gen.GateUp2Ideal.Value
public import proofs.«01_k».proof.Proof.Gen.GateUp2RefIdeal.Run
public import proofs.«01_k».proof.Proof.Gen.GateUp3.Frame
public import proofs.«01_k».proof.Proof.Gen.GateUp3Ideal.Frame
public import proofs.«01_k».proof.Proof.Gen.GateUp3Ideal.Value
public import proofs.«01_k».proof.Proof.Gen.GateUp3RefIdeal.Run
public import proofs.«01_k».proof.Proof.Gen.DownLn0.Frame
public import proofs.«01_k».proof.Proof.Gen.DownLn0Ideal.Frame
public import proofs.«01_k».proof.Proof.Gen.DownLn0Ideal.Value
public import proofs.«01_k».proof.Proof.Gen.DownLn0RefIdeal.Run
public import proofs.«01_k».proof.Proof.Gen.DownLn1.Frame
public import proofs.«01_k».proof.Proof.Gen.DownLn1Ideal.Frame
public import proofs.«01_k».proof.Proof.Gen.DownLn1Ideal.Value
public import proofs.«01_k».proof.Proof.Gen.DownLn1RefIdeal.Run
public import proofs.«01_k».proof.Proof.Gen.DownLn2.Frame
public import proofs.«01_k».proof.Proof.Gen.DownLn2Ideal.Frame
public import proofs.«01_k».proof.Proof.Gen.DownLn2Ideal.Value
public import proofs.«01_k».proof.Proof.Gen.DownLn2RefIdeal.Run
public import proofs.«01_k».proof.Proof.Gen.DownLn3.Frame
public import proofs.«01_k».proof.Proof.Gen.DownLn3Ideal.Frame
public import proofs.«01_k».proof.Proof.Gen.DownLn3Ideal.Value
public import proofs.«01_k».proof.Proof.Gen.DownLn3RefIdeal.Run
public import proofs.«01_k».proof.Proof.Gen.OutLn0.Frame
public import proofs.«01_k».proof.Proof.Gen.OutLn0Ideal.Frame
public import proofs.«01_k».proof.Proof.Gen.OutLn0Ideal.Value
public import proofs.«01_k».proof.Proof.Gen.OutLn0RefIdeal.Run
public import proofs.«01_k».proof.Proof.Gen.OutLn1.Frame
public import proofs.«01_k».proof.Proof.Gen.OutLn1Ideal.Frame
public import proofs.«01_k».proof.Proof.Gen.OutLn1Ideal.Value
public import proofs.«01_k».proof.Proof.Gen.OutLn1RefIdeal.Run
public import proofs.«01_k».proof.Proof.Gen.OutLn2.Frame
public import proofs.«01_k».proof.Proof.Gen.OutLn2Ideal.Frame
public import proofs.«01_k».proof.Proof.Gen.OutLn2Ideal.Value
public import proofs.«01_k».proof.Proof.Gen.OutLn2RefIdeal.Run
public import proofs.«01_k».proof.Proof.Gen.OutLn3.Frame
public import proofs.«01_k».proof.Proof.Gen.OutLn3Ideal.Frame
public import proofs.«01_k».proof.Proof.Gen.OutLn3Ideal.Value
public import proofs.«01_k».proof.Proof.Gen.OutLn3RefIdeal.Run
public import proofs.«01_k».proof.Proof.AdamAda
public import proofs.«01_k».proof.Proof.AdamB
public import proofs.«01_k».proof.Proof.AdamBAda
public import proofs.«01_k».proof.Proof.AdamBIn
public import proofs.«01_k».proof.Proof.AdamCf
public import proofs.«01_k».proof.Proof.AdamDown
public import proofs.«01_k».proof.Proof.AdamDt
public import proofs.«01_k».proof.Proof.AdamGate
public import proofs.«01_k».proof.Proof.AdamGlu
public import proofs.«01_k».proof.Proof.AdamIn
public import proofs.«01_k».proof.Proof.AdamLam
public import proofs.«01_k».proof.Proof.AdamLn
public import proofs.«01_k».proof.Proof.AdamO
public import proofs.«01_k».proof.Proof.AdamPool
public import proofs.«01_k».proof.Proof.AdamSc
public import proofs.«01_k».proof.Proof.AdamVec
public import proofs.«01_k».proof.Proof.DownLn0
public import proofs.«01_k».proof.Proof.DownLn1
public import proofs.«01_k».proof.Proof.DownLn2
public import proofs.«01_k».proof.Proof.DownLn3
public import proofs.«01_k».proof.Proof.DwDown
public import proofs.«01_k».proof.Proof.DwGate
public import proofs.«01_k».proof.Proof.DwIn
public import proofs.«01_k».proof.Proof.DwO
public import proofs.«01_k».proof.Proof.Gate
public import proofs.«01_k».proof.Proof.GateUp0
public import proofs.«01_k».proof.Proof.GateUp1
public import proofs.«01_k».proof.Proof.GateUp2
public import proofs.«01_k».proof.Proof.GateUp3
public import proofs.«01_k».proof.Proof.InGrad
public import proofs.«01_k».proof.Proof.InLn
public import proofs.«01_k».proof.Proof.Loss
public import proofs.«01_k».proof.Proof.Mlp
public import proofs.«01_k».proof.Proof.NormSums
public import proofs.«01_k».proof.Proof.OutLn0
public import proofs.«01_k».proof.Proof.OutLn1
public import proofs.«01_k».proof.Proof.OutLn2
public import proofs.«01_k».proof.Proof.OutLn3
public import proofs.«01_k».proof.Proof.RowStore
public import proofs.«01_k».proof.Proof.SumGate
public import proofs.«01_k».proof.Proof.SumIn
public import Idealize.ShloMosaic.Adequacy
public import Idealize.ShloMosaic.Init

@[expose] public section

noncomputable section

namespace Cert.Proof

open Idealize.ShloMosaic Idealize.SL.Sem

/-- Every stated claim holds: the side conditions of the programs, then the claims in the order stated. -/
theorem claim : Cert.Claim :=
  ⟨Cert.InGrad.Gen.facts, Cert.InGradIdeal.Gen.facts, Cert.InGradRefIdeal.Gen.facts, Cert.InLn.Gen.facts, Cert.InLnIdeal.Gen.facts, Cert.InLnRefIdeal.Gen.facts, Cert.Mlp.Gen.facts, Cert.MlpIdeal.Gen.facts, Cert.MlpRefIdeal.Gen.facts, Cert.Loss.Gen.facts, Cert.LossIdeal.Gen.facts, Cert.LossRefIdeal.Gen.facts, Cert.DwDown.Gen.facts, Cert.DwDownIdeal.Gen.facts, Cert.DwDownRefIdeal.Gen.facts, Cert.DwGate.Gen.facts, Cert.DwGateIdeal.Gen.facts, Cert.DwGateRefIdeal.Gen.facts, Cert.DwO.Gen.facts, Cert.DwOIdeal.Gen.facts, Cert.DwORefIdeal.Gen.facts, Cert.DwIn.Gen.facts, Cert.DwInIdeal.Gen.facts, Cert.DwInRefIdeal.Gen.facts, Cert.AdamVec.Gen.facts, Cert.AdamVecIdeal.Gen.facts, Cert.AdamVecRefIdeal.Gen.facts, Cert.AdamBAda.Gen.facts, Cert.AdamBAdaIdeal.Gen.facts, Cert.AdamBAdaRefIdeal.Gen.facts, Cert.AdamBIn.Gen.facts, Cert.AdamBInIdeal.Gen.facts, Cert.AdamBInRefIdeal.Gen.facts, Cert.AdamPool.Gen.facts, Cert.AdamPoolIdeal.Gen.facts, Cert.AdamPoolRefIdeal.Gen.facts, Cert.AdamLam.Gen.facts, Cert.AdamLamIdeal.Gen.facts, Cert.AdamLamRefIdeal.Gen.facts, Cert.AdamDt.Gen.facts, Cert.AdamDtIdeal.Gen.facts, Cert.AdamDtRefIdeal.Gen.facts, Cert.AdamB.Gen.facts, Cert.AdamBIdeal.Gen.facts, Cert.AdamBRefIdeal.Gen.facts, Cert.AdamLn.Gen.facts, Cert.AdamLnIdeal.Gen.facts, Cert.AdamLnRefIdeal.Gen.facts, Cert.AdamSc.Gen.facts, Cert.AdamScIdeal.Gen.facts, Cert.AdamScRefIdeal.Gen.facts, Cert.AdamCf.Gen.facts, Cert.AdamCfIdeal.Gen.facts, Cert.AdamCfRefIdeal.Gen.facts, Cert.AdamGlu.Gen.facts, Cert.AdamGluIdeal.Gen.facts, Cert.AdamGluRefIdeal.Gen.facts, Cert.AdamAda.Gen.facts, Cert.AdamAdaIdeal.Gen.facts, Cert.AdamAdaRefIdeal.Gen.facts, Cert.AdamIn.Gen.facts, Cert.AdamInIdeal.Gen.facts, Cert.AdamInRefIdeal.Gen.facts, Cert.AdamGate.Gen.facts, Cert.AdamGateIdeal.Gen.facts, Cert.AdamGateRefIdeal.Gen.facts, Cert.SumIn.Gen.facts, Cert.SumInIdeal.Gen.facts, Cert.SumInRefIdeal.Gen.facts, Cert.SumGate.Gen.facts, Cert.SumGateIdeal.Gen.facts, Cert.SumGateRefIdeal.Gen.facts, Cert.AdamO.Gen.facts, Cert.AdamOIdeal.Gen.facts, Cert.AdamORefIdeal.Gen.facts, Cert.AdamDown.Gen.facts, Cert.AdamDownIdeal.Gen.facts, Cert.AdamDownRefIdeal.Gen.facts, Cert.GateUp0.Gen.facts, Cert.GateUp0Ideal.Gen.facts, Cert.GateUp0RefIdeal.Gen.facts, Cert.GateUp1.Gen.facts, Cert.GateUp1Ideal.Gen.facts, Cert.GateUp1RefIdeal.Gen.facts, Cert.GateUp2.Gen.facts, Cert.GateUp2Ideal.Gen.facts, Cert.GateUp2RefIdeal.Gen.facts, Cert.GateUp3.Gen.facts, Cert.GateUp3Ideal.Gen.facts, Cert.GateUp3RefIdeal.Gen.facts, Cert.DownLn0.Gen.facts, Cert.DownLn0Ideal.Gen.facts, Cert.DownLn0RefIdeal.Gen.facts, Cert.DownLn1.Gen.facts, Cert.DownLn1Ideal.Gen.facts, Cert.DownLn1RefIdeal.Gen.facts, Cert.DownLn2.Gen.facts, Cert.DownLn2Ideal.Gen.facts, Cert.DownLn2RefIdeal.Gen.facts, Cert.DownLn3.Gen.facts, Cert.DownLn3Ideal.Gen.facts, Cert.DownLn3RefIdeal.Gen.facts, Cert.OutLn0.Gen.facts, Cert.OutLn0Ideal.Gen.facts, Cert.OutLn0RefIdeal.Gen.facts, Cert.OutLn1.Gen.facts, Cert.OutLn1Ideal.Gen.facts, Cert.OutLn1RefIdeal.Gen.facts, Cert.OutLn2.Gen.facts, Cert.OutLn2Ideal.Gen.facts, Cert.OutLn2RefIdeal.Gen.facts, Cert.OutLn3.Gen.facts, Cert.OutLn3Ideal.Gen.facts, Cert.OutLn3RefIdeal.Gen.facts, facts_Pre_mlp_finite, facts_On_norm_rows, facts_On_mlp_results, facts_On_loss_rows,
    fun m ρ _ => Cert.InGrad.Gen.frame m ρ,
    fun m ρ _ => Cert.InGradIdeal.Gen.frame m ρ,
    quiescent_InGradRefIdeal,
    fun m ρ _ => Cert.InLn.Gen.frame m ρ,
    fun m ρ _ => Cert.InLnIdeal.Gen.frame m ρ,
    quiescent_InLnRefIdeal,
    fun m ρ _ => Cert.Mlp.Gen.frame m ρ,
    fun m ρ _ => Cert.MlpIdeal.Gen.frame m ρ,
    fun m ρ _ => Cert.MlpIdeal.Gen.frame m ρ,
    quiescent_MlpRefIdeal,
    quiescent_MlpRefIdeal_pre_mlp_finite,
    fun m ρ _ => Cert.Loss.Gen.frame m ρ,
    fun m ρ _ => Cert.LossIdeal.Gen.frame m ρ,
    quiescent_LossRefIdeal,
    fun m ρ _ => Cert.DwDown.Gen.frame m ρ,
    fun m ρ _ => Cert.DwDownIdeal.Gen.frame m ρ,
    quiescent_DwDownRefIdeal,
    fun m ρ _ => Cert.DwGate.Gen.frame m ρ,
    fun m ρ _ => Cert.DwGateIdeal.Gen.frame m ρ,
    quiescent_DwGateRefIdeal,
    fun m ρ _ => Cert.DwO.Gen.frame m ρ,
    fun m ρ _ => Cert.DwOIdeal.Gen.frame m ρ,
    quiescent_DwORefIdeal,
    fun m ρ _ => Cert.DwIn.Gen.frame m ρ,
    fun m ρ _ => Cert.DwInIdeal.Gen.frame m ρ,
    quiescent_DwInRefIdeal,
    fun m ρ _ => Cert.AdamVec.Gen.frame m ρ,
    fun m ρ _ => Cert.AdamVecIdeal.Gen.frame m ρ,
    quiescent_AdamVecRefIdeal,
    fun m ρ _ => Cert.AdamBAda.Gen.frame m ρ,
    fun m ρ _ => Cert.AdamBAdaIdeal.Gen.frame m ρ,
    quiescent_AdamBAdaRefIdeal,
    fun m ρ _ => Cert.AdamBIn.Gen.frame m ρ,
    fun m ρ _ => Cert.AdamBInIdeal.Gen.frame m ρ,
    quiescent_AdamBInRefIdeal,
    fun m ρ _ => Cert.AdamPool.Gen.frame m ρ,
    fun m ρ _ => Cert.AdamPoolIdeal.Gen.frame m ρ,
    quiescent_AdamPoolRefIdeal,
    fun m ρ _ => Cert.AdamLam.Gen.frame m ρ,
    fun m ρ _ => Cert.AdamLamIdeal.Gen.frame m ρ,
    quiescent_AdamLamRefIdeal,
    fun m ρ _ => Cert.AdamDt.Gen.frame m ρ,
    fun m ρ _ => Cert.AdamDtIdeal.Gen.frame m ρ,
    quiescent_AdamDtRefIdeal,
    fun m ρ _ => Cert.AdamB.Gen.frame m ρ,
    fun m ρ _ => Cert.AdamBIdeal.Gen.frame m ρ,
    quiescent_AdamBRefIdeal,
    fun m ρ _ => Cert.AdamLn.Gen.frame m ρ,
    fun m ρ _ => Cert.AdamLnIdeal.Gen.frame m ρ,
    quiescent_AdamLnRefIdeal,
    fun m ρ _ => Cert.AdamSc.Gen.frame m ρ,
    fun m ρ _ => Cert.AdamScIdeal.Gen.frame m ρ,
    quiescent_AdamScRefIdeal,
    fun m ρ _ => Cert.AdamCf.Gen.frame m ρ,
    fun m ρ _ => Cert.AdamCfIdeal.Gen.frame m ρ,
    quiescent_AdamCfRefIdeal,
    fun m ρ _ => Cert.AdamGlu.Gen.frame m ρ,
    fun m ρ _ => Cert.AdamGluIdeal.Gen.frame m ρ,
    quiescent_AdamGluRefIdeal,
    fun m ρ _ => Cert.AdamAda.Gen.frame m ρ,
    fun m ρ _ => Cert.AdamAdaIdeal.Gen.frame m ρ,
    quiescent_AdamAdaRefIdeal,
    fun m ρ _ => Cert.AdamIn.Gen.frame m ρ,
    fun m ρ _ => Cert.AdamInIdeal.Gen.frame m ρ,
    quiescent_AdamInRefIdeal,
    fun m ρ _ => Cert.AdamGate.Gen.frame m ρ,
    fun m ρ _ => Cert.AdamGateIdeal.Gen.frame m ρ,
    quiescent_AdamGateRefIdeal,
    fun m ρ _ => Cert.SumIn.Gen.frame m ρ,
    fun m ρ _ => Cert.SumInIdeal.Gen.frame m ρ,
    quiescent_SumInRefIdeal,
    fun m ρ _ => Cert.SumGate.Gen.frame m ρ,
    fun m ρ _ => Cert.SumGateIdeal.Gen.frame m ρ,
    quiescent_SumGateRefIdeal,
    fun m ρ _ => Cert.AdamO.Gen.frame m ρ,
    fun m ρ _ => Cert.AdamOIdeal.Gen.frame m ρ,
    quiescent_AdamORefIdeal,
    fun m ρ _ => Cert.AdamDown.Gen.frame m ρ,
    fun m ρ _ => Cert.AdamDownIdeal.Gen.frame m ρ,
    quiescent_AdamDownRefIdeal,
    fun m ρ _ => Cert.GateUp0.Gen.frame m ρ,
    fun m ρ _ => Cert.GateUp0Ideal.Gen.frame m ρ,
    quiescent_GateUp0RefIdeal,
    fun m ρ _ => Cert.GateUp1.Gen.frame m ρ,
    fun m ρ _ => Cert.GateUp1Ideal.Gen.frame m ρ,
    quiescent_GateUp1RefIdeal,
    fun m ρ _ => Cert.GateUp2.Gen.frame m ρ,
    fun m ρ _ => Cert.GateUp2Ideal.Gen.frame m ρ,
    quiescent_GateUp2RefIdeal,
    fun m ρ _ => Cert.GateUp3.Gen.frame m ρ,
    fun m ρ _ => Cert.GateUp3Ideal.Gen.frame m ρ,
    quiescent_GateUp3RefIdeal,
    fun m ρ _ => Cert.DownLn0.Gen.frame m ρ,
    fun m ρ _ => Cert.DownLn0Ideal.Gen.frame m ρ,
    quiescent_DownLn0RefIdeal,
    fun m ρ _ => Cert.DownLn1.Gen.frame m ρ,
    fun m ρ _ => Cert.DownLn1Ideal.Gen.frame m ρ,
    quiescent_DownLn1RefIdeal,
    fun m ρ _ => Cert.DownLn2.Gen.frame m ρ,
    fun m ρ _ => Cert.DownLn2Ideal.Gen.frame m ρ,
    quiescent_DownLn2RefIdeal,
    fun m ρ _ => Cert.DownLn3.Gen.frame m ρ,
    fun m ρ _ => Cert.DownLn3Ideal.Gen.frame m ρ,
    quiescent_DownLn3RefIdeal,
    fun m ρ _ => Cert.OutLn0.Gen.frame m ρ,
    fun m ρ _ => Cert.OutLn0Ideal.Gen.frame m ρ,
    quiescent_OutLn0RefIdeal,
    fun m ρ _ => Cert.OutLn1.Gen.frame m ρ,
    fun m ρ _ => Cert.OutLn1Ideal.Gen.frame m ρ,
    quiescent_OutLn1RefIdeal,
    fun m ρ _ => Cert.OutLn2.Gen.frame m ρ,
    fun m ρ _ => Cert.OutLn2Ideal.Gen.frame m ρ,
    quiescent_OutLn2RefIdeal,
    fun m ρ _ => Cert.OutLn3.Gen.frame m ρ,
    fun m ρ _ => Cert.OutLn3Ideal.Gen.frame m ρ,
    quiescent_OutLn3RefIdeal,
    (trivial : preserves_InGrad_InGradIdeal),
    algebraic_InGradIdeal_InGradRefIdeal,
    (trivial : preserves_InLn_InLnIdeal),
    algebraic_InLnIdeal_InLnRefIdeal_on_norm_rows,
    (trivial : preserves_Mlp_MlpIdeal),
    algebraic_MlpIdeal_MlpRefIdeal_on_mlp_results_pre_mlp_finite,
    (trivial : preserves_Loss_LossIdeal),
    algebraic_LossIdeal_LossRefIdeal_on_loss_rows,
    (trivial : preserves_DwDown_DwDownIdeal),
    algebraic_DwDownIdeal_DwDownRefIdeal,
    (trivial : preserves_DwGate_DwGateIdeal),
    algebraic_DwGateIdeal_DwGateRefIdeal,
    (trivial : preserves_DwO_DwOIdeal),
    algebraic_DwOIdeal_DwORefIdeal,
    (trivial : preserves_DwIn_DwInIdeal),
    algebraic_DwInIdeal_DwInRefIdeal,
    (trivial : preserves_AdamVec_AdamVecIdeal),
    algebraic_AdamVecIdeal_AdamVecRefIdeal,
    (trivial : preserves_AdamBAda_AdamBAdaIdeal),
    algebraic_AdamBAdaIdeal_AdamBAdaRefIdeal,
    (trivial : preserves_AdamBIn_AdamBInIdeal),
    algebraic_AdamBInIdeal_AdamBInRefIdeal,
    (trivial : preserves_AdamPool_AdamPoolIdeal),
    algebraic_AdamPoolIdeal_AdamPoolRefIdeal,
    (trivial : preserves_AdamLam_AdamLamIdeal),
    algebraic_AdamLamIdeal_AdamLamRefIdeal,
    (trivial : preserves_AdamDt_AdamDtIdeal),
    algebraic_AdamDtIdeal_AdamDtRefIdeal,
    (trivial : preserves_AdamB_AdamBIdeal),
    algebraic_AdamBIdeal_AdamBRefIdeal,
    (trivial : preserves_AdamLn_AdamLnIdeal),
    algebraic_AdamLnIdeal_AdamLnRefIdeal,
    (trivial : preserves_AdamSc_AdamScIdeal),
    algebraic_AdamScIdeal_AdamScRefIdeal,
    (trivial : preserves_AdamCf_AdamCfIdeal),
    algebraic_AdamCfIdeal_AdamCfRefIdeal,
    (trivial : preserves_AdamGlu_AdamGluIdeal),
    algebraic_AdamGluIdeal_AdamGluRefIdeal,
    (trivial : preserves_AdamAda_AdamAdaIdeal),
    algebraic_AdamAdaIdeal_AdamAdaRefIdeal,
    (trivial : preserves_AdamIn_AdamInIdeal),
    algebraic_AdamInIdeal_AdamInRefIdeal,
    (trivial : preserves_AdamGate_AdamGateIdeal),
    algebraic_AdamGateIdeal_AdamGateRefIdeal,
    (trivial : preserves_SumIn_SumInIdeal),
    algebraic_SumInIdeal_SumInRefIdeal,
    (trivial : preserves_SumGate_SumGateIdeal),
    algebraic_SumGateIdeal_SumGateRefIdeal,
    (trivial : preserves_AdamO_AdamOIdeal),
    algebraic_AdamOIdeal_AdamORefIdeal,
    (trivial : preserves_AdamDown_AdamDownIdeal),
    algebraic_AdamDownIdeal_AdamDownRefIdeal,
    (trivial : preserves_GateUp0_GateUp0Ideal),
    algebraic_GateUp0Ideal_GateUp0RefIdeal,
    (trivial : preserves_GateUp1_GateUp1Ideal),
    algebraic_GateUp1Ideal_GateUp1RefIdeal,
    (trivial : preserves_GateUp2_GateUp2Ideal),
    algebraic_GateUp2Ideal_GateUp2RefIdeal,
    (trivial : preserves_GateUp3_GateUp3Ideal),
    algebraic_GateUp3Ideal_GateUp3RefIdeal,
    (trivial : preserves_DownLn0_DownLn0Ideal),
    algebraic_DownLn0Ideal_DownLn0RefIdeal,
    (trivial : preserves_DownLn1_DownLn1Ideal),
    algebraic_DownLn1Ideal_DownLn1RefIdeal,
    (trivial : preserves_DownLn2_DownLn2Ideal),
    algebraic_DownLn2Ideal_DownLn2RefIdeal,
    (trivial : preserves_DownLn3_DownLn3Ideal),
    algebraic_DownLn3Ideal_DownLn3RefIdeal,
    (trivial : preserves_OutLn0_OutLn0Ideal),
    algebraic_OutLn0Ideal_OutLn0RefIdeal,
    (trivial : preserves_OutLn1_OutLn1Ideal),
    algebraic_OutLn1Ideal_OutLn1RefIdeal,
    (trivial : preserves_OutLn2_OutLn2Ideal),
    algebraic_OutLn2Ideal_OutLn2RefIdeal,
    (trivial : preserves_OutLn3_OutLn3Ideal),
    algebraic_OutLn3Ideal_OutLn3RefIdeal⟩

end Cert.Proof

end
